-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_PostLast (m : (ℓ : Loc Cert.PostLast.nD Cert.PostLast.τ Cert.PostLast.sig) → Buf (Elt Bits) ℓ) : Prop :=
  True

def Pre_PostLastIdeal (m : (ℓ : Loc Cert.PostLastIdeal.nD Cert.PostLastIdeal.τ Cert.PostLastIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostMid (m : (ℓ : Loc Cert.PostMid.nD Cert.PostMid.τ Cert.PostMid.sig) → Buf (Elt Bits) ℓ) : Prop :=
  True

def Pre_PostMidIdeal (m : (ℓ : Loc Cert.PostMidIdeal.nD Cert.PostMidIdeal.τ Cert.PostMidIdeal.sig) → Buf (Elt Ideal) ℓ) : Prop :=
  True

def Pre_PostMidRefIdeal (m : (ℓ : Loc Cert.PostMidRefIdeal.nD Cert.PostMidRefIdeal.τ Cert.PostMidRefIdeal.sig) → Buf (Elt Ideal) ℓ) : Prop :=
  True

def Pre_PostFirst (m : (ℓ : Loc Cert.PostFirst.nD Cert.PostFirst.τ Cert.PostFirst.sig) → Buf (Elt Bits) ℓ) : Prop :=
  True

def Pre_PostFirstIdeal (m : (ℓ : Loc Cert.PostFirstIdeal.nD Cert.PostFirstIdeal.τ Cert.PostFirstIdeal.sig) → Buf (Elt Ideal) ℓ) : Prop :=
  True

def Pre_PostFirstRefIdeal (m : (ℓ : Loc Cert.PostFirstRefIdeal.nD Cert.PostFirstRefIdeal.τ Cert.PostFirstRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PostLast [hPostLast : Cert.PostLast.Facts] : Prop :=
  ∀ (m : (ℓ : Loc Cert.PostLast.nD Cert.PostLast.τ Cert.PostLast.sig) → Buf (Elt Bits) ℓ) (g : Dev Cert.PostLast.nD → PrngReg), Pre_PostLast m →
    θ_run (Cert.PostLast.defs (F := Bits)) (onTc (τ := Cert.PostLast.τ) (Cert.PostLast.main (F := Bits))) ⟨m, fun _ => 0, g⟩ (fun r => (∀ c : Dev Cert.PostLast.nD,
      r.2.mem ((c.tc : Thread Cert.PostLast.nD Cert.PostLast.τ).loc Cert.PostLast.main_arg0) = m ((c.tc : Thread Cert.PostLast.nD Cert.PostLast.τ).loc Cert.PostLast.main_arg0)
      ∧ r.2.mem ((c.tc : Thread Cert.PostLast.nD Cert.PostLast.τ).loc Cert.PostLast.main_arg1) = m ((c.tc : Thread Cert.PostLast.nD Cert.PostLast.τ).loc Cert.PostLast.main_arg1)
      ∧ r.2.mem ((c.tc : Thread Cert.PostLast.nD Cert.PostLast.τ).loc Cert.PostLast.main_arg2) = m ((c.tc : Thread Cert.PostLast.nD Cert.PostLast.τ).loc Cert.PostLast.main_arg2)
      ∧ r.2.mem ((c.tc : Thread Cert.PostLast.nD Cert.PostLast.τ).loc Cert.PostLast.main_arg3) = m ((c.tc : Thread Cert.PostLast.nD Cert.PostLast.τ).loc Cert.PostLast.main_arg3)
      ∧ r.2.mem ((c.tc : Thread Cert.PostLast.nD Cert.PostLast.τ).loc Cert.PostLast.main_arg4) = m ((c.tc : Thread Cert.PostLast.nD Cert.PostLast.τ).loc Cert.PostLast.main_arg4)
      ∧ r.2.mem ((c.tc : Thread Cert.PostLast.nD Cert.PostLast.τ).loc Cert.PostLast.main_arg5) = m ((c.tc : Thread Cert.PostLast.nD Cert.PostLast.τ).loc Cert.PostLast.main_arg5)
      ∧ r.2.mem ((c.tc : Thread Cert.PostLast.nD Cert.PostLast.τ).loc Cert.PostLast.main_arg6) = m ((c.tc : Thread Cert.PostLast.nD Cert.PostLast.τ).loc Cert.PostLast.main_arg6)
      ∧ r.2.mem ((c.tc : Thread Cert.PostLast.nD Cert.PostLast.τ).loc Cert.PostLast.main_arg7) = m ((c.tc : Thread Cert.PostLast.nD Cert.PostLast.τ).loc Cert.PostLast.main_arg7)
      ∧ r.2.mem ((c.tc : Thread Cert.PostLast.nD Cert.PostLast.τ).loc Cert.PostLast.main_arg8) = m ((c.tc : Thread Cert.PostLast.nD Cert.PostLast.τ).loc Cert.PostLast.main_arg8))
      ∧ r.2.sem = fun _ => 0)

def quiescent_PostLastIdeal [hPostLastIdeal : Cert.PostLastIdeal.Facts] : Prop :=
  ∀ (m : (ℓ : Loc Cert.PostLastIdeal.nD Cert.PostLastIdeal.τ Cert.PostLastIdeal.sig) → Buf (Elt Ideal) ℓ) (g : Dev Cert.PostLastIdeal.nD → PrngReg), Pre_PostLastIdeal m →
    θ_run (Cert.PostLastIdeal.defs (F := Ideal)) (onTc (τ := Cert.PostLastIdeal.τ) (Cert.PostLastIdeal.main (F := Ideal))) ⟨m, fun _ => 0, g⟩ (fun r => (∀ c : Dev Cert.PostLastIdeal.nD,
      r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
      ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
      ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2)
      ∧ r.2.mem ((c.tc : Thread Cert.PostLastIdeal.nD Cert.PostLastIdeal.τ).loc Cert.PostLastIdeal.main_arg3) = m ((c.tc : Thread Cert.PostLastIdeal.nD Cert.PostLastIdeal.τ).loc Cert.PostLastIdeal.main_arg3)
      ∧ r.2.mem ((c.tc : Thread Cert.PostLastIdeal.nD Cert.PostLastIdeal.τ).loc Cert.PostLastIdeal.main_arg4) = m ((c.tc : Thread Cert.PostLastIdeal.nD Cert.PostLastIdeal.τ).loc Cert.PostLastIdeal.main_arg4)
      ∧ r.2.mem ((c.tc : Thread Cert.PostLastIdeal.nD Cert.PostLastIdeal.τ).loc Cert.PostLastIdeal.main_arg5) = m ((c.tc : Thread Cert.PostLastIdeal.nD Cert.PostLastIdeal.τ).loc Cert.PostLastIdeal.main_arg5)
      ∧ r.2.mem ((c.tc : Thread Cert.PostLastIdeal.nD Cert.PostLastIdeal.τ).loc Cert.PostLastIdeal.main_arg6) = m ((c.tc : Thread Cert.PostLastIdeal.nD Cert.PostLastIdeal.τ).loc Cert.PostLastIdeal.main_arg6)
      ∧ r.2.mem ((c.tc : Thread Cert.PostLastIdeal.nD Cert.PostLastIdeal.τ).loc Cert.PostLastIdeal.main_arg7) = m ((c.tc : Thread Cert.PostLastIdeal.nD Cert.PostLastIdeal.τ).loc Cert.PostLastIdeal.main_arg7)
      ∧ r.2.mem ((c.tc : Thread Cert.PostLastIdeal.nD Cert.PostLastIdeal.τ).loc Cert.PostLastIdeal.main_arg8) = m ((c.tc : Thread Cert.PostLastIdeal.nD Cert.PostLastIdeal.τ).loc Cert.PostLastIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_PostMid [hPostMid : Cert.PostMid.Facts] : Prop :=
  ∀ (m : (ℓ : Loc Cert.PostMid.nD Cert.PostMid.τ Cert.PostMid.sig) → Buf (Elt Bits) ℓ) (g : Dev Cert.PostMid.nD → PrngReg), Pre_PostMid m →
    θ_run (Cert.PostMid.defs (F := Bits)) (onTc (τ := Cert.PostMid.τ) (Cert.PostMid.main (F := Bits))) ⟨m, fun _ => 0, g⟩ (fun r => (∀ c : Dev Cert.PostMid.nD,
      r.2.mem ((c.tc : Thread Cert.PostMid.nD Cert.PostMid.τ).loc Cert.PostMid.main_arg0) = m ((c.tc : Thread Cert.PostMid.nD Cert.PostMid.τ).loc Cert.PostMid.main_arg0)
      ∧ r.2.mem ((c.tc : Thread Cert.PostMid.nD Cert.PostMid.τ).loc Cert.PostMid.main_arg1) = m ((c.tc : Thread Cert.PostMid.nD Cert.PostMid.τ).loc Cert.PostMid.main_arg1)
      ∧ r.2.mem ((c.tc : Thread Cert.PostMid.nD Cert.PostMid.τ).loc Cert.PostMid.main_arg2) = m ((c.tc : Thread Cert.PostMid.nD Cert.PostMid.τ).loc Cert.PostMid.main_arg2)
      ∧ r.2.mem ((c.tc : Thread Cert.PostMid.nD Cert.PostMid.τ).loc Cert.PostMid.main_arg3) = m ((c.tc : Thread Cert.PostMid.nD Cert.PostMid.τ).loc Cert.PostMid.main_arg3)
      ∧ r.2.mem ((c.tc : Thread Cert.PostMid.nD Cert.PostMid.τ).loc Cert.PostMid.main_arg4) = m ((c.tc : Thread Cert.PostMid.nD Cert.PostMid.τ).loc Cert.PostMid.main_arg4)
      ∧ r.2.mem ((c.tc : Thread Cert.PostMid.nD Cert.PostMid.τ).loc Cert.PostMid.main_arg5) = m ((c.tc : Thread Cert.PostMid.nD Cert.PostMid.τ).loc Cert.PostMid.main_arg5)
      ∧ r.2.mem ((c.tc : Thread Cert.PostMid.nD Cert.PostMid.τ).loc Cert.PostMid.main_arg6) = m ((c.tc : Thread Cert.PostMid.nD Cert.PostMid.τ).loc Cert.PostMid.main_arg6)
      ∧ r.2.mem ((c.tc : Thread Cert.PostMid.nD Cert.PostMid.τ).loc Cert.PostMid.main_arg7) = m ((c.tc : Thread Cert.PostMid.nD Cert.PostMid.τ).loc Cert.PostMid.main_arg7)
      ∧ r.2.mem ((c.tc : Thread Cert.PostMid.nD Cert.PostMid.τ).loc Cert.PostMid.main_arg8) = m ((c.tc : Thread Cert.PostMid.nD Cert.PostMid.τ).loc Cert.PostMid.main_arg8)
      ∧ r.2.mem ((c.tc : Thread Cert.PostMid.nD Cert.PostMid.τ).loc Cert.PostMid.main_arg9) = m ((c.tc : Thread Cert.PostMid.nD Cert.PostMid.τ).loc Cert.PostMid.main_arg9)
      ∧ r.2.mem ((c.tc : Thread Cert.PostMid.nD Cert.PostMid.τ).loc Cert.PostMid.main_arg10) = m ((c.tc : Thread Cert.PostMid.nD Cert.PostMid.τ).loc Cert.PostMid.main_arg10))
      ∧ r.2.sem = fun _ => 0)

def quiescent_PostMidIdeal [hPostMidIdeal : Cert.PostMidIdeal.Facts] : Prop :=
  ∀ (m : (ℓ : Loc Cert.PostMidIdeal.nD Cert.PostMidIdeal.τ Cert.PostMidIdeal.sig) → Buf (Elt Ideal) ℓ) (g : Dev Cert.PostMidIdeal.nD → PrngReg), Pre_PostMidIdeal m →
    θ_run (Cert.PostMidIdeal.defs (F := Ideal)) (onTc (τ := Cert.PostMidIdeal.τ) (Cert.PostMidIdeal.main (F := Ideal))) ⟨m, fun _ => 0, g⟩ (fun r => (∀ c : Dev Cert.PostMidIdeal.nD,
      r.2.mem ((c.tc : Thread Cert.PostMidIdeal.nD Cert.PostMidIdeal.τ).loc Cert.PostMidIdeal.main_arg0) = m ((c.tc : Thread Cert.PostMidIdeal.nD Cert.PostMidIdeal.τ).loc Cert.PostMidIdeal.main_arg0)
      ∧ r.2.mem ((c.tc : Thread Cert.PostMidIdeal.nD Cert.PostMidIdeal.τ).loc Cert.PostMidIdeal.main_arg1) = m ((c.tc : Thread Cert.PostMidIdeal.nD Cert.PostMidIdeal.τ).loc Cert.PostMidIdeal.main_arg1)
      ∧ r.2.mem ((c.tc : Thread Cert.PostMidIdeal.nD Cert.PostMidIdeal.τ).loc Cert.PostMidIdeal.main_arg2) = m ((c.tc : Thread Cert.PostMidIdeal.nD Cert.PostMidIdeal.τ).loc Cert.PostMidIdeal.main_arg2)
      ∧ r.2.mem ((c.tc : Thread Cert.PostMidIdeal.nD Cert.PostMidIdeal.τ).loc Cert.PostMidIdeal.main_arg3) = m ((c.tc : Thread Cert.PostMidIdeal.nD Cert.PostMidIdeal.τ).loc Cert.PostMidIdeal.main_arg3)
      ∧ r.2.mem ((c.tc : Thread Cert.PostMidIdeal.nD Cert.PostMidIdeal.τ).loc Cert.PostMidIdeal.main_arg4) = m ((c.tc : Thread Cert.PostMidIdeal.nD Cert.PostMidIdeal.τ).loc Cert.PostMidIdeal.main_arg4)
      ∧ r.2.mem ((c.tc : Thread Cert.PostMidIdeal.nD Cert.PostMidIdeal.τ).loc Cert.PostMidIdeal.main_arg5) = m ((c.tc : Thread Cert.PostMidIdeal.nD Cert.PostMidIdeal.τ).loc Cert.PostMidIdeal.main_arg5)
      ∧ r.2.mem ((c.tc : Thread Cert.PostMidIdeal.nD Cert.PostMidIdeal.τ).loc Cert.PostMidIdeal.main_arg6) = m ((c.tc : Thread Cert.PostMidIdeal.nD Cert.PostMidIdeal.τ).loc Cert.PostMidIdeal.main_arg6)
      ∧ r.2.mem ((c.tc : Thread Cert.PostMidIdeal.nD Cert.PostMidIdeal.τ).loc Cert.PostMidIdeal.main_arg7) = m ((c.tc : Thread Cert.PostMidIdeal.nD Cert.PostMidIdeal.τ).loc Cert.PostMidIdeal.main_arg7)
      ∧ r.2.mem ((c.tc : Thread Cert.PostMidIdeal.nD Cert.PostMidIdeal.τ).loc Cert.PostMidIdeal.main_arg8) = m ((c.tc : Thread Cert.PostMidIdeal.nD Cert.PostMidIdeal.τ).loc Cert.PostMidIdeal.main_arg8)
      ∧ r.2.mem ((c.tc : Thread Cert.PostMidIdeal.nD Cert.PostMidIdeal.τ).loc Cert.PostMidIdeal.main_arg9) = m ((c.tc : Thread Cert.PostMidIdeal.nD Cert.PostMidIdeal.τ).loc Cert.PostMidIdeal.main_arg9)
      ∧ r.2.mem ((c.tc : Thread Cert.PostMidIdeal.nD Cert.PostMidIdeal.τ).loc Cert.PostMidIdeal.main_arg10) = m ((c.tc : Thread Cert.PostMidIdeal.nD Cert.PostMidIdeal.τ).loc Cert.PostMidIdeal.main_arg10))
      ∧ r.2.sem = fun _ => 0)

def quiescent_PostMidRefIdeal [hPostMidRefIdeal : Cert.PostMidRefIdeal.Facts] : Prop :=
  ∀ (m : (ℓ : Loc Cert.PostMidRefIdeal.nD Cert.PostMidRefIdeal.τ Cert.PostMidRefIdeal.sig) → Buf (Elt Ideal) ℓ) (g : Dev Cert.PostMidRefIdeal.nD → PrngReg), Pre_PostMidRefIdeal m →
    θ_run (Cert.PostMidRefIdeal.defs (F := Ideal)) (onTc (τ := Cert.PostMidRefIdeal.τ) (Cert.PostMidRefIdeal.main (F := Ideal))) ⟨m, fun _ => 0, g⟩ (fun r => (∀ c : Dev Cert.PostMidRefIdeal.nD,
      r.2.mem ((c.tc : Thread Cert.PostMidRefIdeal.nD Cert.PostMidRefIdeal.τ).loc Cert.PostMidRefIdeal.main_arg0) = m ((c.tc : Thread Cert.PostMidRefIdeal.nD Cert.PostMidRefIdeal.τ).loc Cert.PostMidRefIdeal.main_arg0)
      ∧ r.2.mem ((c.tc : Thread Cert.PostMidRefIdeal.nD Cert.PostMidRefIdeal.τ).loc Cert.PostMidRefIdeal.main_arg1) = m ((c.tc : Thread Cert.PostMidRefIdeal.nD Cert.PostMidRefIdeal.τ).loc Cert.PostMidRefIdeal.main_arg1)
      ∧ r.2.mem ((c.tc : Thread Cert.PostMidRefIdeal.nD Cert.PostMidRefIdeal.τ).loc Cert.PostMidRefIdeal.main_arg2) = m ((c.tc : Thread Cert.PostMidRefIdeal.nD Cert.PostMidRefIdeal.τ).loc Cert.PostMidRefIdeal.main_arg2)
      ∧ r.2.mem ((c.tc : Thread Cert.PostMidRefIdeal.nD Cert.PostMidRefIdeal.τ).loc Cert.PostMidRefIdeal.main_arg3) = m ((c.tc : Thread Cert.PostMidRefIdeal.nD Cert.PostMidRefIdeal.τ).loc Cert.PostMidRefIdeal.main_arg3)
      ∧ r.2.mem ((c.tc : Thread Cert.PostMidRefIdeal.nD Cert.PostMidRefIdeal.τ).loc Cert.PostMidRefIdeal.main_arg4) = m ((c.tc : Thread Cert.PostMidRefIdeal.nD Cert.PostMidRefIdeal.τ).loc Cert.PostMidRefIdeal.main_arg4)
      ∧ r.2.mem ((c.tc : Thread Cert.PostMidRefIdeal.nD Cert.PostMidRefIdeal.τ).loc Cert.PostMidRefIdeal.main_arg5) = m ((c.tc : Thread Cert.PostMidRefIdeal.nD Cert.PostMidRefIdeal.τ).loc Cert.PostMidRefIdeal.main_arg5)
      ∧ r.2.mem ((c.tc : Thread Cert.PostMidRefIdeal.nD Cert.PostMidRefIdeal.τ).loc Cert.PostMidRefIdeal.main_arg6) = m ((c.tc : Thread Cert.PostMidRefIdeal.nD Cert.PostMidRefIdeal.τ).loc Cert.PostMidRefIdeal.main_arg6)
      ∧ r.2.mem ((c.tc : Thread Cert.PostMidRefIdeal.nD Cert.PostMidRefIdeal.τ).loc Cert.PostMidRefIdeal.main_arg7) = m ((c.tc : Thread Cert.PostMidRefIdeal.nD Cert.PostMidRefIdeal.τ).loc Cert.PostMidRefIdeal.main_arg7)
      ∧ r.2.mem ((c.tc : Thread Cert.PostMidRefIdeal.nD Cert.PostMidRefIdeal.τ).loc Cert.PostMidRefIdeal.main_arg8) = m ((c.tc : Thread Cert.PostMidRefIdeal.nD Cert.PostMidRefIdeal.τ).loc Cert.PostMidRefIdeal.main_arg8)
      ∧ r.2.mem ((c.tc : Thread Cert.PostMidRefIdeal.nD Cert.PostMidRefIdeal.τ).loc Cert.PostMidRefIdeal.main_arg9) = m ((c.tc : Thread Cert.PostMidRefIdeal.nD Cert.PostMidRefIdeal.τ).loc Cert.PostMidRefIdeal.main_arg9)
      ∧ r.2.mem ((c.tc : Thread Cert.PostMidRefIdeal.nD Cert.PostMidRefIdeal.τ).loc Cert.PostMidRefIdeal.main_arg10) = m ((c.tc : Thread Cert.PostMidRefIdeal.nD Cert.PostMidRefIdeal.τ).loc Cert.PostMidRefIdeal.main_arg10))
      ∧ r.2.sem = fun _ => 0)

def quiescent_PostFirst [hPostFirst : Cert.PostFirst.Facts] : Prop :=
  ∀ (m : (ℓ : Loc Cert.PostFirst.nD Cert.PostFirst.τ Cert.PostFirst.sig) → Buf (Elt Bits) ℓ) (g : Dev Cert.PostFirst.nD → PrngReg), Pre_PostFirst m →
    θ_run (Cert.PostFirst.defs (F := Bits)) (onTc (τ := Cert.PostFirst.τ) (Cert.PostFirst.main (F := Bits))) ⟨m, fun _ => 0, g⟩ (fun r => (∀ c : Dev Cert.PostFirst.nD,
      r.2.mem ((c.tc : Thread Cert.PostFirst.nD Cert.PostFirst.τ).loc Cert.PostFirst.main_arg0) = m ((c.tc : Thread Cert.PostFirst.nD Cert.PostFirst.τ).loc Cert.PostFirst.main_arg0)
      ∧ r.2.mem ((c.tc : Thread Cert.PostFirst.nD Cert.PostFirst.τ).loc Cert.PostFirst.main_arg1) = m ((c.tc : Thread Cert.PostFirst.nD Cert.PostFirst.τ).loc Cert.PostFirst.main_arg1)
      ∧ r.2.mem ((c.tc : Thread Cert.PostFirst.nD Cert.PostFirst.τ).loc Cert.PostFirst.main_arg2) = m ((c.tc : Thread Cert.PostFirst.nD Cert.PostFirst.τ).loc Cert.PostFirst.main_arg2)
      ∧ r.2.mem ((c.tc : Thread Cert.PostFirst.nD Cert.PostFirst.τ).loc Cert.PostFirst.main_arg3) = m ((c.tc : Thread Cert.PostFirst.nD Cert.PostFirst.τ).loc Cert.PostFirst.main_arg3)
      ∧ r.2.mem ((c.tc : Thread Cert.PostFirst.nD Cert.PostFirst.τ).loc Cert.PostFirst.main_arg4) = m ((c.tc : Thread Cert.PostFirst.nD Cert.PostFirst.τ).loc Cert.PostFirst.main_arg4)
      ∧ r.2.mem ((c.tc : Thread Cert.PostFirst.nD Cert.PostFirst.τ).loc Cert.PostFirst.main_arg5) = m ((c.tc : Thread Cert.PostFirst.nD Cert.PostFirst.τ).loc Cert.PostFirst.main_arg5)
      ∧ r.2.mem ((c.tc : Thread Cert.PostFirst.nD Cert.PostFirst.τ).loc Cert.PostFirst.main_arg6) = m ((c.tc : Thread Cert.PostFirst.nD Cert.PostFirst.τ).loc Cert.PostFirst.main_arg6)
      ∧ r.2.mem ((c.tc : Thread Cert.PostFirst.nD Cert.PostFirst.τ).loc Cert.PostFirst.main_arg7) = m ((c.tc : Thread Cert.PostFirst.nD Cert.PostFirst.τ).loc Cert.PostFirst.main_arg7)
      ∧ r.2.mem ((c.tc : Thread Cert.PostFirst.nD Cert.PostFirst.τ).loc Cert.PostFirst.main_arg8) = m ((c.tc : Thread Cert.PostFirst.nD Cert.PostFirst.τ).loc Cert.PostFirst.main_arg8)
      ∧ r.2.mem ((c.tc : Thread Cert.PostFirst.nD Cert.PostFirst.τ).loc Cert.PostFirst.main_arg9) = m ((c.tc : Thread Cert.PostFirst.nD Cert.PostFirst.τ).loc Cert.PostFirst.main_arg9)
      ∧ r.2.mem ((c.tc : Thread Cert.PostFirst.nD Cert.PostFirst.τ).loc Cert.PostFirst.main_arg10) = m ((c.tc : Thread Cert.PostFirst.nD Cert.PostFirst.τ).loc Cert.PostFirst.main_arg10))
      ∧ r.2.sem = fun _ => 0)

def quiescent_PostFirstIdeal [hPostFirstIdeal : Cert.PostFirstIdeal.Facts] : Prop :=
  ∀ (m : (ℓ : Loc Cert.PostFirstIdeal.nD Cert.PostFirstIdeal.τ Cert.PostFirstIdeal.sig) → Buf (Elt Ideal) ℓ) (g : Dev Cert.PostFirstIdeal.nD → PrngReg), Pre_PostFirstIdeal m →
    θ_run (Cert.PostFirstIdeal.defs (F := Ideal)) (onTc (τ := Cert.PostFirstIdeal.τ) (Cert.PostFirstIdeal.main (F := Ideal))) ⟨m, fun _ => 0, g⟩ (fun r => (∀ c : Dev Cert.PostFirstIdeal.nD,
      r.2.mem ((c.tc : Thread Cert.PostFirstIdeal.nD Cert.PostFirstIdeal.τ).loc Cert.PostFirstIdeal.main_arg0) = m ((c.tc : Thread Cert.PostFirstIdeal.nD Cert.PostFirstIdeal.τ).loc Cert.PostFirstIdeal.main_arg0)
      ∧ r.2.mem ((c.tc : Thread Cert.PostFirstIdeal.nD Cert.PostFirstIdeal.τ).loc Cert.PostFirstIdeal.main_arg1) = m ((c.tc : Thread Cert.PostFirstIdeal.nD Cert.PostFirstIdeal.τ).loc Cert.PostFirstIdeal.main_arg1)
      ∧ r.2.mem ((c.tc : Thread Cert.PostFirstIdeal.nD Cert.PostFirstIdeal.τ).loc Cert.PostFirstIdeal.main_arg2) = m ((c.tc : Thread Cert.PostFirstIdeal.nD Cert.PostFirstIdeal.τ).loc Cert.PostFirstIdeal.main_arg2)
      ∧ r.2.mem ((c.tc : Thread Cert.PostFirstIdeal.nD Cert.PostFirstIdeal.τ).loc Cert.PostFirstIdeal.main_arg3) = m ((c.tc : Thread Cert.PostFirstIdeal.nD Cert.PostFirstIdeal.τ).loc Cert.PostFirstIdeal.main_arg3)
      ∧ r.2.mem ((c.tc : Thread Cert.PostFirstIdeal.nD Cert.PostFirstIdeal.τ).loc Cert.PostFirstIdeal.main_arg4) = m ((c.tc : Thread Cert.PostFirstIdeal.nD Cert.PostFirstIdeal.τ).loc Cert.PostFirstIdeal.main_arg4)
      ∧ r.2.mem ((c.tc : Thread Cert.PostFirstIdeal.nD Cert.PostFirstIdeal.τ).loc Cert.PostFirstIdeal.main_arg5) = m ((c.tc : Thread Cert.PostFirstIdeal.nD Cert.PostFirstIdeal.τ).loc Cert.PostFirstIdeal.main_arg5)
      ∧ r.2.mem ((c.tc : Thread Cert.PostFirstIdeal.nD Cert.PostFirstIdeal.τ).loc Cert.PostFirstIdeal.main_arg6) = m ((c.tc : Thread Cert.PostFirstIdeal.nD Cert.PostFirstIdeal.τ).loc Cert.PostFirstIdeal.main_arg6)
      ∧ r.2.mem ((c.tc : Thread Cert.PostFirstIdeal.nD Cert.PostFirstIdeal.τ).loc Cert.PostFirstIdeal.main_arg7) = m ((c.tc : Thread Cert.PostFirstIdeal.nD Cert.PostFirstIdeal.τ).loc Cert.PostFirstIdeal.main_arg7)
      ∧ r.2.mem ((c.tc : Thread Cert.PostFirstIdeal.nD Cert.PostFirstIdeal.τ).loc Cert.PostFirstIdeal.main_arg8) = m ((c.tc : Thread Cert.PostFirstIdeal.nD Cert.PostFirstIdeal.τ).loc Cert.PostFirstIdeal.main_arg8)
      ∧ r.2.mem ((c.tc : Thread Cert.PostFirstIdeal.nD Cert.PostFirstIdeal.τ).loc Cert.PostFirstIdeal.main_arg9) = m ((c.tc : Thread Cert.PostFirstIdeal.nD Cert.PostFirstIdeal.τ).loc Cert.PostFirstIdeal.main_arg9)
      ∧ r.2.mem ((c.tc : Thread Cert.PostFirstIdeal.nD Cert.PostFirstIdeal.τ).loc Cert.PostFirstIdeal.main_arg10) = m ((c.tc : Thread Cert.PostFirstIdeal.nD Cert.PostFirstIdeal.τ).loc Cert.PostFirstIdeal.main_arg10))
      ∧ r.2.sem = fun _ => 0)

def quiescent_PostFirstRefIdeal [hPostFirstRefIdeal : Cert.PostFirstRefIdeal.Facts] : Prop :=
  ∀ (m : (ℓ : Loc Cert.PostFirstRefIdeal.nD Cert.PostFirstRefIdeal.τ Cert.PostFirstRefIdeal.sig) → Buf (Elt Ideal) ℓ) (g : Dev Cert.PostFirstRefIdeal.nD → PrngReg), Pre_PostFirstRefIdeal m →
    θ_run (Cert.PostFirstRefIdeal.defs (F := Ideal)) (onTc (τ := Cert.PostFirstRefIdeal.τ) (Cert.PostFirstRefIdeal.main (F := Ideal))) ⟨m, fun _ => 0, g⟩ (fun r => (∀ c : Dev Cert.PostFirstRefIdeal.nD,
      r.2.mem ((c.tc : Thread Cert.PostFirstRefIdeal.nD Cert.PostFirstRefIdeal.τ).loc Cert.PostFirstRefIdeal.main_arg0) = m ((c.tc : Thread Cert.PostFirstRefIdeal.nD Cert.PostFirstRefIdeal.τ).loc Cert.PostFirstRefIdeal.main_arg0)
      ∧ r.2.mem ((c.tc : Thread Cert.PostFirstRefIdeal.nD Cert.PostFirstRefIdeal.τ).loc Cert.PostFirstRefIdeal.main_arg1) = m ((c.tc : Thread Cert.PostFirstRefIdeal.nD Cert.PostFirstRefIdeal.τ).loc Cert.PostFirstRefIdeal.main_arg1)
      ∧ r.2.mem ((c.tc : Thread Cert.PostFirstRefIdeal.nD Cert.PostFirstRefIdeal.τ).loc Cert.PostFirstRefIdeal.main_arg2) = m ((c.tc : Thread Cert.PostFirstRefIdeal.nD Cert.PostFirstRefIdeal.τ).loc Cert.PostFirstRefIdeal.main_arg2)
      ∧ r.2.mem ((c.tc : Thread Cert.PostFirstRefIdeal.nD Cert.PostFirstRefIdeal.τ).loc Cert.PostFirstRefIdeal.main_arg3) = m ((c.tc : Thread Cert.PostFirstRefIdeal.nD Cert.PostFirstRefIdeal.τ).loc Cert.PostFirstRefIdeal.main_arg3)
      ∧ r.2.mem ((c.tc : Thread Cert.PostFirstRefIdeal.nD Cert.PostFirstRefIdeal.τ).loc Cert.PostFirstRefIdeal.main_arg4) = m ((c.tc : Thread Cert.PostFirstRefIdeal.nD Cert.PostFirstRefIdeal.τ).loc Cert.PostFirstRefIdeal.main_arg4)
      ∧ r.2.mem ((c.tc : Thread Cert.PostFirstRefIdeal.nD Cert.PostFirstRefIdeal.τ).loc Cert.PostFirstRefIdeal.main_arg5) = m ((c.tc : Thread Cert.PostFirstRefIdeal.nD Cert.PostFirstRefIdeal.τ).loc Cert.PostFirstRefIdeal.main_arg5)
      ∧ r.2.mem ((c.tc : Thread Cert.PostFirstRefIdeal.nD Cert.PostFirstRefIdeal.τ).loc Cert.PostFirstRefIdeal.main_arg6) = m ((c.tc : Thread Cert.PostFirstRefIdeal.nD Cert.PostFirstRefIdeal.τ).loc Cert.PostFirstRefIdeal.main_arg6)
      ∧ r.2.mem ((c.tc : Thread Cert.PostFirstRefIdeal.nD Cert.PostFirstRefIdeal.τ).loc Cert.PostFirstRefIdeal.main_arg7) = m ((c.tc : Thread Cert.PostFirstRefIdeal.nD Cert.PostFirstRefIdeal.τ).loc Cert.PostFirstRefIdeal.main_arg7)
      ∧ r.2.mem ((c.tc : Thread Cert.PostFirstRefIdeal.nD Cert.PostFirstRefIdeal.τ).loc Cert.PostFirstRefIdeal.main_arg8) = m ((c.tc : Thread Cert.PostFirstRefIdeal.nD Cert.PostFirstRefIdeal.τ).loc Cert.PostFirstRefIdeal.main_arg8)
      ∧ r.2.mem ((c.tc : Thread Cert.PostFirstRefIdeal.nD Cert.PostFirstRefIdeal.τ).loc Cert.PostFirstRefIdeal.main_arg9) = m ((c.tc : Thread Cert.PostFirstRefIdeal.nD Cert.PostFirstRefIdeal.τ).loc Cert.PostFirstRefIdeal.main_arg9)
      ∧ r.2.mem ((c.tc : Thread Cert.PostFirstRefIdeal.nD Cert.PostFirstRefIdeal.τ).loc Cert.PostFirstRefIdeal.main_arg10) = m ((c.tc : Thread Cert.PostFirstRefIdeal.nD Cert.PostFirstRefIdeal.τ).loc Cert.PostFirstRefIdeal.main_arg10))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "spent" .f32 0x43200000#32 ⊤

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_PostLast_PostLastIdeal : Prop :=
  True

def algebraic_PostLastIdeal_PostRefIdeal [hPostLastIdeal : Cert.PostLastIdeal.Facts] [hPostRefIdeal : Cert.PostRefIdeal.Facts] : Prop :=
  ∀ (m : (ℓ : Loc Cert.PostLastIdeal.nD Cert.PostLastIdeal.τ Cert.PostLastIdeal.sig) → Buf (Elt Ideal) ℓ) (g : Dev Cert.PostLastIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostLastIdeal m →
    (∀ c : Dev Cert.PostLastIdeal.nD,
      m' ((c.tc : Thread Cert.PostRefIdeal.nD Cert.PostRefIdeal.τ).loc Cert.PostRefIdeal.main_arg0) = m ((c.tc : Thread Cert.PostLastIdeal.nD Cert.PostLastIdeal.τ).loc Cert.PostLastIdeal.main_arg0)
      ∧ m' ((c.tc : Thread Cert.PostRefIdeal.nD Cert.PostRefIdeal.τ).loc Cert.PostRefIdeal.main_arg1) = m ((c.tc : Thread Cert.PostLastIdeal.nD Cert.PostLastIdeal.τ).loc Cert.PostLastIdeal.main_arg1)
      ∧ m' ((c.tc : Thread Cert.PostRefIdeal.nD Cert.PostRefIdeal.τ).loc Cert.PostRefIdeal.main_arg2) = m ((c.tc : Thread Cert.PostLastIdeal.nD Cert.PostLastIdeal.τ).loc Cert.PostLastIdeal.main_arg2)
      ∧ m' ((c.tc : Thread Cert.PostRefIdeal.nD Cert.PostRefIdeal.τ).loc Cert.PostRefIdeal.main_arg3) = m ((c.tc : Thread Cert.PostLastIdeal.nD Cert.PostLastIdeal.τ).loc Cert.PostLastIdeal.main_arg3)
      ∧ m' ((c.tc : Thread Cert.PostRefIdeal.nD Cert.PostRefIdeal.τ).loc Cert.PostRefIdeal.main_arg4) = m ((c.tc : Thread Cert.PostLastIdeal.nD Cert.PostLastIdeal.τ).loc Cert.PostLastIdeal.main_arg4)
      ∧ m' ((c.tc : Thread Cert.PostRefIdeal.nD Cert.PostRefIdeal.τ).loc Cert.PostRefIdeal.main_arg5) = m ((c.tc : Thread Cert.PostLastIdeal.nD Cert.PostLastIdeal.τ).loc Cert.PostLastIdeal.main_arg5)
      ∧ m' ((c.tc : Thread Cert.PostRefIdeal.nD Cert.PostRefIdeal.τ).loc Cert.PostRefIdeal.main_arg6) = m ((c.tc : Thread Cert.PostLastIdeal.nD Cert.PostLastIdeal.τ).loc Cert.PostLastIdeal.main_arg6)
      ∧ m' ((c.tc : Thread Cert.PostRefIdeal.nD Cert.PostRefIdeal.τ).loc Cert.PostRefIdeal.main_arg7) = m ((c.tc : Thread Cert.PostLastIdeal.nD Cert.PostLastIdeal.τ).loc Cert.PostLastIdeal.main_arg7)
      ∧ m' ((c.tc : Thread Cert.PostRefIdeal.nD Cert.PostRefIdeal.τ).loc Cert.PostRefIdeal.main_arg8) = m ((c.tc : Thread Cert.PostLastIdeal.nD Cert.PostLastIdeal.τ).loc Cert.PostLastIdeal.main_arg8)) →
    ∃ (v0 : (c : Dev Cert.PostLastIdeal.nD) → Buf (Elt Ideal) ((c.tc : Thread Cert.PostLastIdeal.nD Cert.PostLastIdeal.τ).loc Cert.PostLastIdeal.main_v13)),
      θ_run (Cert.PostLastIdeal.defs (F := Ideal)) (onTc (τ := Cert.PostLastIdeal.τ) (Cert.PostLastIdeal.main (F := Ideal))) ⟨m, fun _ => 0, g⟩ (fun r => ∀ c : Dev Cert.PostLastIdeal.nD,
          r.2.mem ((c.tc : Thread Cert.PostLastIdeal.nD Cert.PostLastIdeal.τ).loc Cert.PostLastIdeal.main_v13) = v0 c
          ∧ r.2.mem ((c.tc : Thread Cert.PostLastIdeal.nD Cert.PostLastIdeal.τ).loc Cert.PostLastIdeal.main_arg0) = m ((c.tc : Thread Cert.PostLastIdeal.nD Cert.PostLastIdeal.τ).loc Cert.PostLastIdeal.main_arg0)
          ∧ r.2.mem ((c.tc : Thread Cert.PostLastIdeal.nD Cert.PostLastIdeal.τ).loc Cert.PostLastIdeal.main_arg1) = m ((c.tc : Thread Cert.PostLastIdeal.nD Cert.PostLastIdeal.τ).loc Cert.PostLastIdeal.main_arg1)
          ∧ r.2.mem ((c.tc : Thread Cert.PostLastIdeal.nD Cert.PostLastIdeal.τ).loc Cert.PostLastIdeal.main_arg2) = m ((c.tc : Thread Cert.PostLastIdeal.nD Cert.PostLastIdeal.τ).loc Cert.PostLastIdeal.main_arg2)
          ∧ r.2.mem ((c.tc : Thread Cert.PostLastIdeal.nD Cert.PostLastIdeal.τ).loc Cert.PostLastIdeal.main_arg3) = m ((c.tc : Thread Cert.PostLastIdeal.nD Cert.PostLastIdeal.τ).loc Cert.PostLastIdeal.main_arg3)
          ∧ r.2.mem ((c.tc : Thread Cert.PostLastIdeal.nD Cert.PostLastIdeal.τ).loc Cert.PostLastIdeal.main_arg4) = m ((c.tc : Thread Cert.PostLastIdeal.nD Cert.PostLastIdeal.τ).loc Cert.PostLastIdeal.main_arg4)
          ∧ r.2.mem ((c.tc : Thread Cert.PostLastIdeal.nD Cert.PostLastIdeal.τ).loc Cert.PostLastIdeal.main_arg5) = m ((c.tc : Thread Cert.PostLastIdeal.nD Cert.PostLastIdeal.τ).loc Cert.PostLastIdeal.main_arg5)
          ∧ r.2.mem ((c.tc : Thread Cert.PostLastIdeal.nD Cert.PostLastIdeal.τ).loc Cert.PostLastIdeal.main_arg6) = m ((c.tc : Thread Cert.PostLastIdeal.nD Cert.PostLastIdeal.τ).loc Cert.PostLastIdeal.main_arg6)
          ∧ r.2.mem ((c.tc : Thread Cert.PostLastIdeal.nD Cert.PostLastIdeal.τ).loc Cert.PostLastIdeal.main_arg7) = m ((c.tc : Thread Cert.PostLastIdeal.nD Cert.PostLastIdeal.τ).loc Cert.PostLastIdeal.main_arg7)
          ∧ r.2.mem ((c.tc : Thread Cert.PostLastIdeal.nD Cert.PostLastIdeal.τ).loc Cert.PostLastIdeal.main_arg8) = m ((c.tc : Thread Cert.PostLastIdeal.nD Cert.PostLastIdeal.τ).loc Cert.PostLastIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v56) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_PostMid_PostMidIdeal : Prop :=
  True

def algebraic_PostMidIdeal_PostMidRefIdeal [hPostMidIdeal : Cert.PostMidIdeal.Facts] [hPostMidRefIdeal : Cert.PostMidRefIdeal.Facts] : Prop :=
  ∀ (m : (ℓ : Loc Cert.PostMidIdeal.nD Cert.PostMidIdeal.τ Cert.PostMidIdeal.sig) → Buf (Elt Ideal) ℓ) (g : Dev Cert.PostMidIdeal.nD → PrngReg)
    (m' : (ℓ : Loc Cert.PostMidRefIdeal.nD Cert.PostMidRefIdeal.τ Cert.PostMidRefIdeal.sig) → Buf (Elt Ideal) ℓ) (g' : Dev Cert.PostMidRefIdeal.nD → PrngReg), Pre_PostMidIdeal m →
    (∀ c : Dev Cert.PostMidIdeal.nD,
      m' ((c.tc : Thread Cert.PostMidRefIdeal.nD Cert.PostMidRefIdeal.τ).loc Cert.PostMidRefIdeal.main_arg0) = m ((c.tc : Thread Cert.PostMidIdeal.nD Cert.PostMidIdeal.τ).loc Cert.PostMidIdeal.main_arg0)
      ∧ m' ((c.tc : Thread Cert.PostMidRefIdeal.nD Cert.PostMidRefIdeal.τ).loc Cert.PostMidRefIdeal.main_arg1) = m ((c.tc : Thread Cert.PostMidIdeal.nD Cert.PostMidIdeal.τ).loc Cert.PostMidIdeal.main_arg1)
      ∧ m' ((c.tc : Thread Cert.PostMidRefIdeal.nD Cert.PostMidRefIdeal.τ).loc Cert.PostMidRefIdeal.main_arg2) = m ((c.tc : Thread Cert.PostMidIdeal.nD Cert.PostMidIdeal.τ).loc Cert.PostMidIdeal.main_arg2)
      ∧ m' ((c.tc : Thread Cert.PostMidRefIdeal.nD Cert.PostMidRefIdeal.τ).loc Cert.PostMidRefIdeal.main_arg3) = m ((c.tc : Thread Cert.PostMidIdeal.nD Cert.PostMidIdeal.τ).loc Cert.PostMidIdeal.main_arg3)
      ∧ m' ((c.tc : Thread Cert.PostMidRefIdeal.nD Cert.PostMidRefIdeal.τ).loc Cert.PostMidRefIdeal.main_arg4) = m ((c.tc : Thread Cert.PostMidIdeal.nD Cert.PostMidIdeal.τ).loc Cert.PostMidIdeal.main_arg4)
      ∧ m' ((c.tc : Thread Cert.PostMidRefIdeal.nD Cert.PostMidRefIdeal.τ).loc Cert.PostMidRefIdeal.main_arg5) = m ((c.tc : Thread Cert.PostMidIdeal.nD Cert.PostMidIdeal.τ).loc Cert.PostMidIdeal.main_arg5)
      ∧ m' ((c.tc : Thread Cert.PostMidRefIdeal.nD Cert.PostMidRefIdeal.τ).loc Cert.PostMidRefIdeal.main_arg6) = m ((c.tc : Thread Cert.PostMidIdeal.nD Cert.PostMidIdeal.τ).loc Cert.PostMidIdeal.main_arg6)
      ∧ m' ((c.tc : Thread Cert.PostMidRefIdeal.nD Cert.PostMidRefIdeal.τ).loc Cert.PostMidRefIdeal.main_arg7) = m ((c.tc : Thread Cert.PostMidIdeal.nD Cert.PostMidIdeal.τ).loc Cert.PostMidIdeal.main_arg7)
      ∧ m' ((c.tc : Thread Cert.PostMidRefIdeal.nD Cert.PostMidRefIdeal.τ).loc Cert.PostMidRefIdeal.main_arg8) = m ((c.tc : Thread Cert.PostMidIdeal.nD Cert.PostMidIdeal.τ).loc Cert.PostMidIdeal.main_arg8)
      ∧ m' ((c.tc : Thread Cert.PostMidRefIdeal.nD Cert.PostMidRefIdeal.τ).loc Cert.PostMidRefIdeal.main_arg9) = m ((c.tc : Thread Cert.PostMidIdeal.nD Cert.PostMidIdeal.τ).loc Cert.PostMidIdeal.main_arg9)
      ∧ m' ((c.tc : Thread Cert.PostMidRefIdeal.nD Cert.PostMidRefIdeal.τ).loc Cert.PostMidRefIdeal.main_arg10) = m ((c.tc : Thread Cert.PostMidIdeal.nD Cert.PostMidIdeal.τ).loc Cert.PostMidIdeal.main_arg10)) →
    ∃ (v0 : (c : Dev Cert.PostMidIdeal.nD) → Buf (Elt Ideal) ((c.tc : Thread Cert.PostMidIdeal.nD Cert.PostMidIdeal.τ).loc Cert.PostMidIdeal.main_v17_0)) (v1 : (c : Dev Cert.PostMidIdeal.nD) → Buf (Elt Ideal) ((c.tc : Thread Cert.PostMidIdeal.nD Cert.PostMidIdeal.τ).loc Cert.PostMidIdeal.main_v17_1)) (v2 : (c : Dev Cert.PostMidIdeal.nD) → Buf (Elt Ideal) ((c.tc : Thread Cert.PostMidIdeal.nD Cert.PostMidIdeal.τ).loc Cert.PostMidIdeal.main_v17_2)),
      θ_run (Cert.PostMidIdeal.defs (F := Ideal)) (onTc (τ := Cert.PostMidIdeal.τ) (Cert.PostMidIdeal.main (F := Ideal))) ⟨m, fun _ => 0, g⟩ (fun r => ∀ c : Dev Cert.PostMidIdeal.nD,
          r.2.mem ((c.tc : Thread Cert.PostMidIdeal.nD Cert.PostMidIdeal.τ).loc Cert.PostMidIdeal.main_v17_0) = v0 c
          ∧ r.2.mem ((c.tc : Thread Cert.PostMidIdeal.nD Cert.PostMidIdeal.τ).loc Cert.PostMidIdeal.main_v17_1) = v1 c
          ∧ r.2.mem ((c.tc : Thread Cert.PostMidIdeal.nD Cert.PostMidIdeal.τ).loc Cert.PostMidIdeal.main_v17_2) = v2 c
          ∧ r.2.mem ((c.tc : Thread Cert.PostMidIdeal.nD Cert.PostMidIdeal.τ).loc Cert.PostMidIdeal.main_arg0) = m ((c.tc : Thread Cert.PostMidIdeal.nD Cert.PostMidIdeal.τ).loc Cert.PostMidIdeal.main_arg0)
          ∧ r.2.mem ((c.tc : Thread Cert.PostMidIdeal.nD Cert.PostMidIdeal.τ).loc Cert.PostMidIdeal.main_arg1) = m ((c.tc : Thread Cert.PostMidIdeal.nD Cert.PostMidIdeal.τ).loc Cert.PostMidIdeal.main_arg1)
          ∧ r.2.mem ((c.tc : Thread Cert.PostMidIdeal.nD Cert.PostMidIdeal.τ).loc Cert.PostMidIdeal.main_arg2) = m ((c.tc : Thread Cert.PostMidIdeal.nD Cert.PostMidIdeal.τ).loc Cert.PostMidIdeal.main_arg2)
          ∧ r.2.mem ((c.tc : Thread Cert.PostMidIdeal.nD Cert.PostMidIdeal.τ).loc Cert.PostMidIdeal.main_arg3) = m ((c.tc : Thread Cert.PostMidIdeal.nD Cert.PostMidIdeal.τ).loc Cert.PostMidIdeal.main_arg3)
          ∧ r.2.mem ((c.tc : Thread Cert.PostMidIdeal.nD Cert.PostMidIdeal.τ).loc Cert.PostMidIdeal.main_arg4) = m ((c.tc : Thread Cert.PostMidIdeal.nD Cert.PostMidIdeal.τ).loc Cert.PostMidIdeal.main_arg4)
          ∧ r.2.mem ((c.tc : Thread Cert.PostMidIdeal.nD Cert.PostMidIdeal.τ).loc Cert.PostMidIdeal.main_arg5) = m ((c.tc : Thread Cert.PostMidIdeal.nD Cert.PostMidIdeal.τ).loc Cert.PostMidIdeal.main_arg5)
          ∧ r.2.mem ((c.tc : Thread Cert.PostMidIdeal.nD Cert.PostMidIdeal.τ).loc Cert.PostMidIdeal.main_arg6) = m ((c.tc : Thread Cert.PostMidIdeal.nD Cert.PostMidIdeal.τ).loc Cert.PostMidIdeal.main_arg6)
          ∧ r.2.mem ((c.tc : Thread Cert.PostMidIdeal.nD Cert.PostMidIdeal.τ).loc Cert.PostMidIdeal.main_arg7) = m ((c.tc : Thread Cert.PostMidIdeal.nD Cert.PostMidIdeal.τ).loc Cert.PostMidIdeal.main_arg7)
          ∧ r.2.mem ((c.tc : Thread Cert.PostMidIdeal.nD Cert.PostMidIdeal.τ).loc Cert.PostMidIdeal.main_arg8) = m ((c.tc : Thread Cert.PostMidIdeal.nD Cert.PostMidIdeal.τ).loc Cert.PostMidIdeal.main_arg8)
          ∧ r.2.mem ((c.tc : Thread Cert.PostMidIdeal.nD Cert.PostMidIdeal.τ).loc Cert.PostMidIdeal.main_arg9) = m ((c.tc : Thread Cert.PostMidIdeal.nD Cert.PostMidIdeal.τ).loc Cert.PostMidIdeal.main_arg9)
          ∧ r.2.mem ((c.tc : Thread Cert.PostMidIdeal.nD Cert.PostMidIdeal.τ).loc Cert.PostMidIdeal.main_arg10) = m ((c.tc : Thread Cert.PostMidIdeal.nD Cert.PostMidIdeal.τ).loc Cert.PostMidIdeal.main_arg10))
      ∧ θ_run (Cert.PostMidRefIdeal.defs (F := Ideal)) (onTc (τ := Cert.PostMidRefIdeal.τ) (Cert.PostMidRefIdeal.main (F := Ideal))) ⟨m', fun _ => 0, g'⟩ (fun r => ∀ c : Dev Cert.PostMidRefIdeal.nD,
          r.2.mem ((c.tc : Thread Cert.PostMidRefIdeal.nD Cert.PostMidRefIdeal.τ).loc Cert.PostMidRefIdeal.main_v61) = v0 c
          ∧ r.2.mem ((c.tc : Thread Cert.PostMidRefIdeal.nD Cert.PostMidRefIdeal.τ).loc Cert.PostMidRefIdeal.main_v62) = v1 c
          ∧ r.2.mem ((c.tc : Thread Cert.PostMidRefIdeal.nD Cert.PostMidRefIdeal.τ).loc Cert.PostMidRefIdeal.main_v63) = v2 c
          ∧ r.2.mem ((c.tc : Thread Cert.PostMidRefIdeal.nD Cert.PostMidRefIdeal.τ).loc Cert.PostMidRefIdeal.main_arg0) = m' ((c.tc : Thread Cert.PostMidRefIdeal.nD Cert.PostMidRefIdeal.τ).loc Cert.PostMidRefIdeal.main_arg0)
          ∧ r.2.mem ((c.tc : Thread Cert.PostMidRefIdeal.nD Cert.PostMidRefIdeal.τ).loc Cert.PostMidRefIdeal.main_arg1) = m' ((c.tc : Thread Cert.PostMidRefIdeal.nD Cert.PostMidRefIdeal.τ).loc Cert.PostMidRefIdeal.main_arg1)
          ∧ r.2.mem ((c.tc : Thread Cert.PostMidRefIdeal.nD Cert.PostMidRefIdeal.τ).loc Cert.PostMidRefIdeal.main_arg2) = m' ((c.tc : Thread Cert.PostMidRefIdeal.nD Cert.PostMidRefIdeal.τ).loc Cert.PostMidRefIdeal.main_arg2)
          ∧ r.2.mem ((c.tc : Thread Cert.PostMidRefIdeal.nD Cert.PostMidRefIdeal.τ).loc Cert.PostMidRefIdeal.main_arg3) = m' ((c.tc : Thread Cert.PostMidRefIdeal.nD Cert.PostMidRefIdeal.τ).loc Cert.PostMidRefIdeal.main_arg3)
          ∧ r.2.mem ((c.tc : Thread Cert.PostMidRefIdeal.nD Cert.PostMidRefIdeal.τ).loc Cert.PostMidRefIdeal.main_arg4) = m' ((c.tc : Thread Cert.PostMidRefIdeal.nD Cert.PostMidRefIdeal.τ).loc Cert.PostMidRefIdeal.main_arg4)
          ∧ r.2.mem ((c.tc : Thread Cert.PostMidRefIdeal.nD Cert.PostMidRefIdeal.τ).loc Cert.PostMidRefIdeal.main_arg5) = m' ((c.tc : Thread Cert.PostMidRefIdeal.nD Cert.PostMidRefIdeal.τ).loc Cert.PostMidRefIdeal.main_arg5)
          ∧ r.2.mem ((c.tc : Thread Cert.PostMidRefIdeal.nD Cert.PostMidRefIdeal.τ).loc Cert.PostMidRefIdeal.main_arg6) = m' ((c.tc : Thread Cert.PostMidRefIdeal.nD Cert.PostMidRefIdeal.τ).loc Cert.PostMidRefIdeal.main_arg6)
          ∧ r.2.mem ((c.tc : Thread Cert.PostMidRefIdeal.nD Cert.PostMidRefIdeal.τ).loc Cert.PostMidRefIdeal.main_arg7) = m' ((c.tc : Thread Cert.PostMidRefIdeal.nD Cert.PostMidRefIdeal.τ).loc Cert.PostMidRefIdeal.main_arg7)
          ∧ r.2.mem ((c.tc : Thread Cert.PostMidRefIdeal.nD Cert.PostMidRefIdeal.τ).loc Cert.PostMidRefIdeal.main_arg8) = m' ((c.tc : Thread Cert.PostMidRefIdeal.nD Cert.PostMidRefIdeal.τ).loc Cert.PostMidRefIdeal.main_arg8)
          ∧ r.2.mem ((c.tc : Thread Cert.PostMidRefIdeal.nD Cert.PostMidRefIdeal.τ).loc Cert.PostMidRefIdeal.main_arg9) = m' ((c.tc : Thread Cert.PostMidRefIdeal.nD Cert.PostMidRefIdeal.τ).loc Cert.PostMidRefIdeal.main_arg9)
          ∧ r.2.mem ((c.tc : Thread Cert.PostMidRefIdeal.nD Cert.PostMidRefIdeal.τ).loc Cert.PostMidRefIdeal.main_arg10) = m' ((c.tc : Thread Cert.PostMidRefIdeal.nD Cert.PostMidRefIdeal.τ).loc Cert.PostMidRefIdeal.main_arg10))

def preserves_PostFirst_PostFirstIdeal : Prop :=
  IdealRules.named_const.Statement Cert.PostFirstIdeal.κ "log2e" .f32 0x3FB8AA3B#32 (((Real.log 2)⁻¹ : ℝ) : EReal)

def algebraic_PostFirstIdeal_PostFirstRefIdeal [hPostFirstIdeal : Cert.PostFirstIdeal.Facts] [hPostFirstRefIdeal : Cert.PostFirstRefIdeal.Facts] : Prop :=
  ∀ (m : (ℓ : Loc Cert.PostFirstIdeal.nD Cert.PostFirstIdeal.τ Cert.PostFirstIdeal.sig) → Buf (Elt Ideal) ℓ) (g : Dev Cert.PostFirstIdeal.nD → PrngReg)
    (m' : (ℓ : Loc Cert.PostFirstRefIdeal.nD Cert.PostFirstRefIdeal.τ Cert.PostFirstRefIdeal.sig) → Buf (Elt Ideal) ℓ) (g' : Dev Cert.PostFirstRefIdeal.nD → PrngReg), Pre_PostFirstIdeal m →
    (∀ c : Dev Cert.PostFirstIdeal.nD,
      m' ((c.tc : Thread Cert.PostFirstRefIdeal.nD Cert.PostFirstRefIdeal.τ).loc Cert.PostFirstRefIdeal.main_arg0) = m ((c.tc : Thread Cert.PostFirstIdeal.nD Cert.PostFirstIdeal.τ).loc Cert.PostFirstIdeal.main_arg0)
      ∧ m' ((c.tc : Thread Cert.PostFirstRefIdeal.nD Cert.PostFirstRefIdeal.τ).loc Cert.PostFirstRefIdeal.main_arg1) = m ((c.tc : Thread Cert.PostFirstIdeal.nD Cert.PostFirstIdeal.τ).loc Cert.PostFirstIdeal.main_arg1)
      ∧ m' ((c.tc : Thread Cert.PostFirstRefIdeal.nD Cert.PostFirstRefIdeal.τ).loc Cert.PostFirstRefIdeal.main_arg2) = m ((c.tc : Thread Cert.PostFirstIdeal.nD Cert.PostFirstIdeal.τ).loc Cert.PostFirstIdeal.main_arg2)
      ∧ m' ((c.tc : Thread Cert.PostFirstRefIdeal.nD Cert.PostFirstRefIdeal.τ).loc Cert.PostFirstRefIdeal.main_arg3) = m ((c.tc : Thread Cert.PostFirstIdeal.nD Cert.PostFirstIdeal.τ).loc Cert.PostFirstIdeal.main_arg3)
      ∧ m' ((c.tc : Thread Cert.PostFirstRefIdeal.nD Cert.PostFirstRefIdeal.τ).loc Cert.PostFirstRefIdeal.main_arg4) = m ((c.tc : Thread Cert.PostFirstIdeal.nD Cert.PostFirstIdeal.τ).loc Cert.PostFirstIdeal.main_arg4)
      ∧ m' ((c.tc : Thread Cert.PostFirstRefIdeal.nD Cert.PostFirstRefIdeal.τ).loc Cert.PostFirstRefIdeal.main_arg5) = m ((c.tc : Thread Cert.PostFirstIdeal.nD Cert.PostFirstIdeal.τ).loc Cert.PostFirstIdeal.main_arg5)
      ∧ m' ((c.tc : Thread Cert.PostFirstRefIdeal.nD Cert.PostFirstRefIdeal.τ).loc Cert.PostFirstRefIdeal.main_arg6) = m ((c.tc : Thread Cert.PostFirstIdeal.nD Cert.PostFirstIdeal.τ).loc Cert.PostFirstIdeal.main_arg6)
      ∧ m' ((c.tc : Thread Cert.PostFirstRefIdeal.nD Cert.PostFirstRefIdeal.τ).loc Cert.PostFirstRefIdeal.main_arg7) = m ((c.tc : Thread Cert.PostFirstIdeal.nD Cert.PostFirstIdeal.τ).loc Cert.PostFirstIdeal.main_arg7)
      ∧ m' ((c.tc : Thread Cert.PostFirstRefIdeal.nD Cert.PostFirstRefIdeal.τ).loc Cert.PostFirstRefIdeal.main_arg8) = m ((c.tc : Thread Cert.PostFirstIdeal.nD Cert.PostFirstIdeal.τ).loc Cert.PostFirstIdeal.main_arg8)
      ∧ m' ((c.tc : Thread Cert.PostFirstRefIdeal.nD Cert.PostFirstRefIdeal.τ).loc Cert.PostFirstRefIdeal.main_arg9) = m ((c.tc : Thread Cert.PostFirstIdeal.nD Cert.PostFirstIdeal.τ).loc Cert.PostFirstIdeal.main_arg9)
      ∧ m' ((c.tc : Thread Cert.PostFirstRefIdeal.nD Cert.PostFirstRefIdeal.τ).loc Cert.PostFirstRefIdeal.main_arg10) = m ((c.tc : Thread Cert.PostFirstIdeal.nD Cert.PostFirstIdeal.τ).loc Cert.PostFirstIdeal.main_arg10)) →
    ∃ (v0 : (c : Dev Cert.PostFirstIdeal.nD) → Buf (Elt Ideal) ((c.tc : Thread Cert.PostFirstIdeal.nD Cert.PostFirstIdeal.τ).loc Cert.PostFirstIdeal.main_v22_0)) (v1 : (c : Dev Cert.PostFirstIdeal.nD) → Buf (Elt Ideal) ((c.tc : Thread Cert.PostFirstIdeal.nD Cert.PostFirstIdeal.τ).loc Cert.PostFirstIdeal.main_v22_1)) (v2 : (c : Dev Cert.PostFirstIdeal.nD) → Buf (Elt Ideal) ((c.tc : Thread Cert.PostFirstIdeal.nD Cert.PostFirstIdeal.τ).loc Cert.PostFirstIdeal.main_v22_2)) (v3 : (c : Dev Cert.PostFirstIdeal.nD) → Buf (Elt Ideal) ((c.tc : Thread Cert.PostFirstIdeal.nD Cert.PostFirstIdeal.τ).loc Cert.PostFirstIdeal.main_v22_3)) (v4 : (c : Dev Cert.PostFirstIdeal.nD) → Buf (Elt Ideal) ((c.tc : Thread Cert.PostFirstIdeal.nD Cert.PostFirstIdeal.τ).loc Cert.PostFirstIdeal.main_v22_4)),
      θ_run (Cert.PostFirstIdeal.defs (F := Ideal)) (onTc (τ := Cert.PostFirstIdeal.τ) (Cert.PostFirstIdeal.main (F := Ideal))) ⟨m, fun _ => 0, g⟩ (fun r => ∀ c : Dev Cert.PostFirstIdeal.nD,
          r.2.mem ((c.tc : Thread Cert.PostFirstIdeal.nD Cert.PostFirstIdeal.τ).loc Cert.PostFirstIdeal.main_v22_0) = v0 c
          ∧ r.2.mem ((c.tc : Thread Cert.PostFirstIdeal.nD Cert.PostFirstIdeal.τ).loc Cert.PostFirstIdeal.main_v22_1) = v1 c
          ∧ r.2.mem ((c.tc : Thread Cert.PostFirstIdeal.nD Cert.PostFirstIdeal.τ).loc Cert.PostFirstIdeal.main_v22_2) = v2 c
          ∧ r.2.mem ((c.tc : Thread Cert.PostFirstIdeal.nD Cert.PostFirstIdeal.τ).loc Cert.PostFirstIdeal.main_v22_3) = v3 c
          ∧ r.2.mem ((c.tc : Thread Cert.PostFirstIdeal.nD Cert.PostFirstIdeal.τ).loc Cert.PostFirstIdeal.main_v22_4) = v4 c
          ∧ r.2.mem ((c.tc : Thread Cert.PostFirstIdeal.nD Cert.PostFirstIdeal.τ).loc Cert.PostFirstIdeal.main_arg0) = m ((c.tc : Thread Cert.PostFirstIdeal.nD Cert.PostFirstIdeal.τ).loc Cert.PostFirstIdeal.main_arg0)
          ∧ r.2.mem ((c.tc : Thread Cert.PostFirstIdeal.nD Cert.PostFirstIdeal.τ).loc Cert.PostFirstIdeal.main_arg1) = m ((c.tc : Thread Cert.PostFirstIdeal.nD Cert.PostFirstIdeal.τ).loc Cert.PostFirstIdeal.main_arg1)
          ∧ r.2.mem ((c.tc : Thread Cert.PostFirstIdeal.nD Cert.PostFirstIdeal.τ).loc Cert.PostFirstIdeal.main_arg2) = m ((c.tc : Thread Cert.PostFirstIdeal.nD Cert.PostFirstIdeal.τ).loc Cert.PostFirstIdeal.main_arg2)
          ∧ r.2.mem ((c.tc : Thread Cert.PostFirstIdeal.nD Cert.PostFirstIdeal.τ).loc Cert.PostFirstIdeal.main_arg3) = m ((c.tc : Thread Cert.PostFirstIdeal.nD Cert.PostFirstIdeal.τ).loc Cert.PostFirstIdeal.main_arg3)
          ∧ r.2.mem ((c.tc : Thread Cert.PostFirstIdeal.nD Cert.PostFirstIdeal.τ).loc Cert.PostFirstIdeal.main_arg4) = m ((c.tc : Thread Cert.PostFirstIdeal.nD Cert.PostFirstIdeal.τ).loc Cert.PostFirstIdeal.main_arg4)
          ∧ r.2.mem ((c.tc : Thread Cert.PostFirstIdeal.nD Cert.PostFirstIdeal.τ).loc Cert.PostFirstIdeal.main_arg5) = m ((c.tc : Thread Cert.PostFirstIdeal.nD Cert.PostFirstIdeal.τ).loc Cert.PostFirstIdeal.main_arg5)
          ∧ r.2.mem ((c.tc : Thread Cert.PostFirstIdeal.nD Cert.PostFirstIdeal.τ).loc Cert.PostFirstIdeal.main_arg6) = m ((c.tc : Thread Cert.PostFirstIdeal.nD Cert.PostFirstIdeal.τ).loc Cert.PostFirstIdeal.main_arg6)
          ∧ r.2.mem ((c.tc : Thread Cert.PostFirstIdeal.nD Cert.PostFirstIdeal.τ).loc Cert.PostFirstIdeal.main_arg7) = m ((c.tc : Thread Cert.PostFirstIdeal.nD Cert.PostFirstIdeal.τ).loc Cert.PostFirstIdeal.main_arg7)
          ∧ r.2.mem ((c.tc : Thread Cert.PostFirstIdeal.nD Cert.PostFirstIdeal.τ).loc Cert.PostFirstIdeal.main_arg8) = m ((c.tc : Thread Cert.PostFirstIdeal.nD Cert.PostFirstIdeal.τ).loc Cert.PostFirstIdeal.main_arg8)
          ∧ r.2.mem ((c.tc : Thread Cert.PostFirstIdeal.nD Cert.PostFirstIdeal.τ).loc Cert.PostFirstIdeal.main_arg9) = m ((c.tc : Thread Cert.PostFirstIdeal.nD Cert.PostFirstIdeal.τ).loc Cert.PostFirstIdeal.main_arg9)
          ∧ r.2.mem ((c.tc : Thread Cert.PostFirstIdeal.nD Cert.PostFirstIdeal.τ).loc Cert.PostFirstIdeal.main_arg10) = m ((c.tc : Thread Cert.PostFirstIdeal.nD Cert.PostFirstIdeal.τ).loc Cert.PostFirstIdeal.main_arg10))
      ∧ θ_run (Cert.PostFirstRefIdeal.defs (F := Ideal)) (onTc (τ := Cert.PostFirstRefIdeal.τ) (Cert.PostFirstRefIdeal.main (F := Ideal))) ⟨m', fun _ => 0, g'⟩ (fun r => ∀ c : Dev Cert.PostFirstRefIdeal.nD,
          r.2.mem ((c.tc : Thread Cert.PostFirstRefIdeal.nD Cert.PostFirstRefIdeal.τ).loc Cert.PostFirstRefIdeal.main_v70) = v0 c
          ∧ r.2.mem ((c.tc : Thread Cert.PostFirstRefIdeal.nD Cert.PostFirstRefIdeal.τ).loc Cert.PostFirstRefIdeal.main_v65) = v1 c
          ∧ r.2.mem ((c.tc : Thread Cert.PostFirstRefIdeal.nD Cert.PostFirstRefIdeal.τ).loc Cert.PostFirstRefIdeal.main_v67) = v2 c
          ∧ r.2.mem ((c.tc : Thread Cert.PostFirstRefIdeal.nD Cert.PostFirstRefIdeal.τ).loc Cert.PostFirstRefIdeal.main_v69) = v3 c
          ∧ r.2.mem ((c.tc : Thread Cert.PostFirstRefIdeal.nD Cert.PostFirstRefIdeal.τ).loc Cert.PostFirstRefIdeal.main_v74) = v4 c
          ∧ r.2.mem ((c.tc : Thread Cert.PostFirstRefIdeal.nD Cert.PostFirstRefIdeal.τ).loc Cert.PostFirstRefIdeal.main_arg0) = m' ((c.tc : Thread Cert.PostFirstRefIdeal.nD Cert.PostFirstRefIdeal.τ).loc Cert.PostFirstRefIdeal.main_arg0)
          ∧ r.2.mem ((c.tc : Thread Cert.PostFirstRefIdeal.nD Cert.PostFirstRefIdeal.τ).loc Cert.PostFirstRefIdeal.main_arg1) = m' ((c.tc : Thread Cert.PostFirstRefIdeal.nD Cert.PostFirstRefIdeal.τ).loc Cert.PostFirstRefIdeal.main_arg1)
          ∧ r.2.mem ((c.tc : Thread Cert.PostFirstRefIdeal.nD Cert.PostFirstRefIdeal.τ).loc Cert.PostFirstRefIdeal.main_arg2) = m' ((c.tc : Thread Cert.PostFirstRefIdeal.nD Cert.PostFirstRefIdeal.τ).loc Cert.PostFirstRefIdeal.main_arg2)
          ∧ r.2.mem ((c.tc : Thread Cert.PostFirstRefIdeal.nD Cert.PostFirstRefIdeal.τ).loc Cert.PostFirstRefIdeal.main_arg3) = m' ((c.tc : Thread Cert.PostFirstRefIdeal.nD Cert.PostFirstRefIdeal.τ).loc Cert.PostFirstRefIdeal.main_arg3)
          ∧ r.2.mem ((c.tc : Thread Cert.PostFirstRefIdeal.nD Cert.PostFirstRefIdeal.τ).loc Cert.PostFirstRefIdeal.main_arg4) = m' ((c.tc : Thread Cert.PostFirstRefIdeal.nD Cert.PostFirstRefIdeal.τ).loc Cert.PostFirstRefIdeal.main_arg4)
          ∧ r.2.mem ((c.tc : Thread Cert.PostFirstRefIdeal.nD Cert.PostFirstRefIdeal.τ).loc Cert.PostFirstRefIdeal.main_arg5) = m' ((c.tc : Thread Cert.PostFirstRefIdeal.nD Cert.PostFirstRefIdeal.τ).loc Cert.PostFirstRefIdeal.main_arg5)
          ∧ r.2.mem ((c.tc : Thread Cert.PostFirstRefIdeal.nD Cert.PostFirstRefIdeal.τ).loc Cert.PostFirstRefIdeal.main_arg6) = m' ((c.tc : Thread Cert.PostFirstRefIdeal.nD Cert.PostFirstRefIdeal.τ).loc Cert.PostFirstRefIdeal.main_arg6)
          ∧ r.2.mem ((c.tc : Thread Cert.PostFirstRefIdeal.nD Cert.PostFirstRefIdeal.τ).loc Cert.PostFirstRefIdeal.main_arg7) = m' ((c.tc : Thread Cert.PostFirstRefIdeal.nD Cert.PostFirstRefIdeal.τ).loc Cert.PostFirstRefIdeal.main_arg7)
          ∧ r.2.mem ((c.tc : Thread Cert.PostFirstRefIdeal.nD Cert.PostFirstRefIdeal.τ).loc Cert.PostFirstRefIdeal.main_arg8) = m' ((c.tc : Thread Cert.PostFirstRefIdeal.nD Cert.PostFirstRefIdeal.τ).loc Cert.PostFirstRefIdeal.main_arg8)
          ∧ r.2.mem ((c.tc : Thread Cert.PostFirstRefIdeal.nD Cert.PostFirstRefIdeal.τ).loc Cert.PostFirstRefIdeal.main_arg9) = m' ((c.tc : Thread Cert.PostFirstRefIdeal.nD Cert.PostFirstRefIdeal.τ).loc Cert.PostFirstRefIdeal.main_arg9)
          ∧ r.2.mem ((c.tc : Thread Cert.PostFirstRefIdeal.nD Cert.PostFirstRefIdeal.τ).loc Cert.PostFirstRefIdeal.main_arg10) = m' ((c.tc : Thread Cert.PostFirstRefIdeal.nD Cert.PostFirstRefIdeal.τ).loc Cert.PostFirstRefIdeal.main_arg10))

def preserves_NormProj_NormProjIdeal : Prop :=
  IdealRules.named_const.Statement Cert.NormProjIdeal.κ "log2e" .f32 0x3FB8AA3B#32 (((Real.log 2)⁻¹ : ℝ) : EReal)

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v10_0)) (v1 : (c : Dev Cert.NormProjIdeal.nD) → Buf (Elt Ideal) ((c.tc : Thread Cert.NormProjIdeal.nD Cert.NormProjIdeal.τ).loc Cert.NormProjIdeal.main_v10_1)) (v2 : (c : Dev Cert.NormProjIdeal.nD) → Buf (Elt Ideal) ((c.tc : Thread Cert.NormProjIdeal.nD Cert.NormProjIdeal.τ).loc Cert.NormProjIdeal.main_v10_2)) (v3 : (c : Dev Cert.NormProjIdeal.nD) → Buf (Elt Ideal) ((c.tc : Thread Cert.NormProjIdeal.nD Cert.NormProjIdeal.τ).loc Cert.NormProjIdeal.main_v10_3)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v10_0) = v0 c
          ∧ r.2.mem ((c.tc : Thread Cert.NormProjIdeal.nD Cert.NormProjIdeal.τ).loc Cert.NormProjIdeal.main_v10_1) = v1 c
          ∧ r.2.mem ((c.tc : Thread Cert.NormProjIdeal.nD Cert.NormProjIdeal.τ).loc Cert.NormProjIdeal.main_v10_2) = v2 c
          ∧ r.2.mem ((c.tc : Thread Cert.NormProjIdeal.nD Cert.NormProjIdeal.τ).loc Cert.NormProjIdeal.main_v10_3) = v3 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v22) = v0 c
          ∧ r.2.mem ((c.tc : Thread Cert.NormProjRefIdeal.nD Cert.NormProjRefIdeal.τ).loc Cert.NormProjRefIdeal.main_v24) = v1 c
          ∧ r.2.mem ((c.tc : Thread Cert.NormProjRefIdeal.nD Cert.NormProjRefIdeal.τ).loc Cert.NormProjRefIdeal.main_v26) = v2 c
          ∧ r.2.mem ((c.tc : Thread Cert.NormProjRefIdeal.nD Cert.NormProjRefIdeal.τ).loc Cert.NormProjRefIdeal.main_v30) = v3 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v17) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def Claim : Prop :=
  ∃ (hKernel : Cert.Kernel.Facts) (hKernelIdeal : Cert.KernelIdeal.Facts) (hReferenceIdeal : Cert.ReferenceIdeal.Facts) (hPostLast : Cert.PostLast.Facts) (hPostLastIdeal : Cert.PostLastIdeal.Facts) (hPostRefIdeal : Cert.PostRefIdeal.Facts) (hPostMid : Cert.PostMid.Facts) (hPostMidIdeal : Cert.PostMidIdeal.Facts) (hPostMidRefIdeal : Cert.PostMidRefIdeal.Facts) (hPostFirst : Cert.PostFirst.Facts) (hPostFirstIdeal : Cert.PostFirstIdeal.Facts) (hPostFirstRefIdeal : Cert.PostFirstRefIdeal.Facts) (hNormProj : Cert.NormProj.Facts) (hNormProjIdeal : Cert.NormProjIdeal.Facts) (hNormProjRefIdeal : Cert.NormProjRefIdeal.Facts) (hMemKv : Cert.MemKv.Facts) (hMemKvIdeal : Cert.MemKvIdeal.Facts) (hMemKvRefIdeal : Cert.MemKvRefIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_PostLast (hPostLast := hPostLast)
    ∧ quiescent_PostLastIdeal (hPostLastIdeal := hPostLastIdeal)
    ∧ quiescent_PostRefIdeal (hPostRefIdeal := hPostRefIdeal)
    ∧ quiescent_PostMid (hPostMid := hPostMid)
    ∧ quiescent_PostMidIdeal (hPostMidIdeal := hPostMidIdeal)
    ∧ quiescent_PostMidRefIdeal (hPostMidRefIdeal := hPostMidRefIdeal)
    ∧ quiescent_PostFirst (hPostFirst := hPostFirst)
    ∧ quiescent_PostFirstIdeal (hPostFirstIdeal := hPostFirstIdeal)
    ∧ quiescent_PostFirstRefIdeal (hPostFirstRefIdeal := hPostFirstRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_PostLast_PostLastIdeal
    ∧ algebraic_PostLastIdeal_PostRefIdeal (hPostLastIdeal := hPostLastIdeal) (hPostRefIdeal := hPostRefIdeal)
    ∧ preserves_PostMid_PostMidIdeal
    ∧ algebraic_PostMidIdeal_PostMidRefIdeal (hPostMidIdeal := hPostMidIdeal) (hPostMidRefIdeal := hPostMidRefIdeal)
    ∧ preserves_PostFirst_PostFirstIdeal
    ∧ algebraic_PostFirstIdeal_PostFirstRefIdeal (hPostFirstIdeal := hPostFirstIdeal) (hPostFirstRefIdeal := hPostFirstRefIdeal)
    ∧ preserves_NormProj_NormProjIdeal
    ∧ algebraic_NormProjIdeal_NormProjRefIdeal (hNormProjIdeal := hNormProjIdeal) (hNormProjRefIdeal := hNormProjRefIdeal)
    ∧ preserves_MemKv_MemKvIdeal
    ∧ algebraic_MemKvIdeal_MemKvRefIdeal (hMemKvIdeal := hMemKvIdeal) (hMemKvRefIdeal := hMemKvRefIdeal)
-- ==== Pre_finite_qk.lean ====
abbrev S2x16384x512 : Shape := ⟨3, ![2, 16384, 512]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel

variable [Facts]

def fn {F : FTy → Type} [FloatOps F] (main_arg0 : FVec F S2x16384x512 .f32) (main_arg1 : FVec F S2x16384x512 .f32) (main_arg2 : FVec F S2x16384x512 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  main_v8
-- ==== Kernel.lean ====
abbrev S2x16384x512 : Shape := ⟨3, ![2, 16384, 512]⟩
abbrev S32768x512 : Shape := ⟨2, ![32768, 512]⟩
abbrev S_ : Shape := ⟨0, ![]⟩
abbrev S512x256 : Shape := ⟨2, ![512, 256]⟩
abbrev S16384x256 : Shape := ⟨2, ![16384, 256]⟩
abbrev S256x256 : Shape := ⟨2, ![256, 256]⟩
abbrev S1024x128 : Shape := ⟨2, ![1024, 128]⟩
abbrev S1024x256 : Shape := ⟨2, ![1024, 256]⟩
abbrev S512x512 : Shape := ⟨2, ![512, 512]⟩
abbrev S1024x1 : Shape := ⟨2, ![1024, 1]⟩
abbrev S512x128 : Shape := ⟨2, ![512, 128]⟩
abbrev S1x128 : Shape := ⟨2, ![1, 128]⟩
abbrev S256x128 : Shape := ⟨2, ![256, 128]⟩
abbrev S256x512 : Shape := ⟨2, ![256, 512]⟩
abbrev S256x1 : Shape := ⟨2, ![256, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 18
  | .vmem => 25
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S32768x512, .f32⟩
  | .hbm, ⟨4, _⟩ => ⟨S_, .f32⟩
  | .hbm, ⟨5, _⟩ => ⟨S32768x512, .f32⟩
  | .hbm, ⟨6, _⟩ => ⟨S32768x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S32768x512, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S512x256, .bf16⟩
  | .local _ .vmem, ⟨7, _⟩ => ⟨S512x256, .bf16⟩
  | .local _ .vmem, ⟨8, _⟩ => ⟨S256x256, .bf16⟩
  | .local _ .vmem, ⟨9, _⟩ => ⟨S1024x128, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S512x512, .bf16⟩
  | .local _ .vmem, ⟨14, _⟩ => ⟨S512x512, .bf16⟩
  | .local _ .vmem, ⟨15, _⟩ => ⟨S1024x1, .f32⟩
  | .local _ .vmem, ⟨16, _⟩ => ⟨S512x128, .f32⟩
  | .local _ .vmem, ⟨17, _⟩ => ⟨S1024x128, .bf16⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S512x512, .bf16⟩
  | .local _ .vmem, ⟨22, _⟩ => ⟨S512x512, .bf16⟩
  | .local _ .vmem, ⟨23, _⟩ => ⟨S1024x1, .f32⟩
  | .local _ .vmem, ⟨24, _⟩ => ⟨S512x128, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_scratch12 : Ref sig .tc := ⟨.vmem, 20, rfl⟩
abbrev cc0_scratch13 : Ref sig .tc := ⟨.vmem, 21, rfl⟩
abbrev cc0_scratch14 : Ref sig .tc := ⟨.vmem, 22, rfl⟩
abbrev cc0_scratch15 : Ref sig .tc := ⟨.vmem, 23, rfl⟩
abbrev cc0_scratch16 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c256_i32_17 : BitVec 32 := 256#32
  let v60 : BitVec 32 := Scalar.addi v0 c256_i32_17
  let c0_i32_18 : BitVec 32 := 0#32
  let v61 : BitVec 32 := Scalar.maxsi v60 c0_i32_18
  v61
def k0_off1 (i : grid0.Coords) (c256_i32_17 : BitVec 32) : Fin 2 → Nat :=
  let arg2 : BitVec 32 := BitVec.ofNat 32 (i 2).val
  let c512_i32 : BitVec 32 := 512#32
  let v0 : BitVec 32 := Scalar.muli arg2 c512_i32
  let v60 : BitVec 32 := Scalar.addi v0 c256_i32_17
  let c0_i32_18 : BitVec 32 := 0#32
  let v61 : BitVec 32 := Scalar.maxsi v60 c0_i32_18
  let v62 : BitVec 32 := v61
  let v67 : Index := Scalar.indexCast v62
  let c0_21 : Index := 0#32
  ![v67.toNat, 0]
def k0_off1_at (r : Fin 3) : BitVec 32 :=
  if r.val < 1 then
    256#32
  else
    if r.val < 2 then
      0#32
    else
      4294967040#32
def k0_mult2 (i : grid0.Coords) : BitVec 32 :=
  let arg2 : BitVec 32 := BitVec.ofNat 32 (i 2).val
  let c512_i32 : BitVec 32 := 512#32
  let v0 : BitVec 32 := Scalar.muli arg2 c512_i32
  let c0_i32_48 : BitVec 32 := 0#32
  let v136 : BitVec 32 := Scalar.addi v0 c0_i32_48
  let c0_i32_49 : BitVec 32 := 0#32
  let v137 : BitVec 32 := Scalar.maxsi v136 c0_i32_49
  v137
def k0_mult3 (i : grid0.Coords) : BitVec 32 :=
  let arg2 : BitVec 32 := BitVec.ofNat 32 (i 2).val
  let c512_i32 : BitVec 32 := 512#32
  let v0 : BitVec 32 := Scalar.muli arg2 c512_i32
  let c_m256_i32 : BitVec 32 := 4294967040#32
  let v199 : BitVec 32 := Scalar.addi v0 c_m256_i32
  let c0_i32_80 : BitVec 32 := 0#32
  let v200 : BitVec 32 := Scalar.maxsi v199 c0_i32_80
  v200
def k0_mult4 (i : grid0.Coords) : BitVec 32 :=
  let arg2 : BitVec 32 := BitVec.ofNat 32 (i 2).val
  let c512_i32 : BitVec 32 := 512#32
  let v0 : BitVec 32 := Scalar.muli arg2 c512_i32
  let c256_i32_103 : BitVec 32 := 256#32
  let v248 : BitVec 32 := Scalar.addi v0 c256_i32_103
  let c0_i32_104 : BitVec 32 := 0#32
  let v249 : BitVec 32 := Scalar.maxsi v248 c0_i32_104
  v249
def k0_off2 (i : grid0.Coords) (c256_i32_103 : BitVec 32) : Fin 2 → Nat :=
  let arg2 : BitVec 32 := BitVec.ofNat 32 (i 2).val
  let c512_i32 : BitVec 32 := 512#32
  let v0 : BitVec 32 := Scalar.muli arg2 c512_i32
  let v248 : BitVec 32 := Scalar.addi v0 c256_i32_103
  let c0_i32_104 : BitVec 32 := 0#32
  let v249 : BitVec 32 := Scalar.maxsi v248 c0_i32_104
  let v250 : BitVec 32 := v249
  let v255 : Index := Scalar.indexCast v250
  let c128_107 : Index := 128#32
  ![v255.toNat, 128]
def k0_off2_at (r : Fin 3) : BitVec 32 :=
  if r.val < 1 then
    256#32
  else
    if r.val < 2 then
      0#32
    else
      4294967040#32
def k0_mult5 (i : grid0.Coords) : BitVec 32 :=
  let arg2 : BitVec 32 := BitVec.ofNat 32 (i 2).val
  let c512_i32 : BitVec 32 := 512#32
  let v0 : BitVec 32 := Scalar.muli arg2 c512_i32
  let c0_i32_137 : BitVec 32 := 0#32
  let v324 : BitVec 32 := Scalar.addi v0 c0_i32_137
  let c0_i32_138 : BitVec 32 := 0#32
  let v325 : BitVec 32 := Scalar.maxsi v324 c0_i32_138
  v325
def k0_mult6 (i : grid0.Coords) : BitVec 32 :=
  let arg2 : BitVec 32 := BitVec.ofNat 32 (i 2).val
  let c512_i32 : BitVec 32 := 512#32
  let v0 : BitVec 32 := Scalar.muli arg2 c512_i32
  let c_m256_i32_170 : BitVec 32 := 4294967040#32
  let v387 : BitVec 32 := Scalar.addi v0 c_m256_i32_170
  let c0_i32_171 : BitVec 32 := 0#32
  let v388 : BitVec 32 := Scalar.maxsi v387 c0_i32_171
  v388
def k0_mult7 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_222 : BitVec 32 := 1#32
  let c2_i32_219 : BitVec 32 := 2#32
  let v457 : BitVec 32 := Scalar.addi arg24 c2_i32_219
  let v459 : BitVec 32 := Scalar.subi c1_i32_222 v457
  let c256_i32_223 : BitVec 32 := 256#32
  let v460 : BitVec 32 := Scalar.muli v459 c256_i32_223
  let v461 : BitVec 32 := Scalar.addi v0 v460
  let c0_i32_224 : BitVec 32 := 0#32
  let v462 : BitVec 32 := Scalar.maxsi v461 c0_i32_224
  v462

def k0_off3 (i : grid0.Coords) (arg24 : BitVec 32) : Fin 2 → Nat :=
  let arg2 : BitVec 32 := BitVec.ofNat 32 (i 2).val
  let c512_i32 : BitVec 32 := 512#32
  let v0 : BitVec 32 := Scalar.muli arg2 c512_i32
  let c1_i32_222 : BitVec 32 := 1#32
  let c2_i32_219 : BitVec 32 := 2#32
  let v457 : BitVec 32 := Scalar.addi arg24 c2_i32_219
  let v459 : BitVec 32 := Scalar.subi c1_i32_222 v457
  let c256_i32_223 : BitVec 32 := 256#32
  let v460 : BitVec 32 := Scalar.muli v459 c256_i32_223
  let v461 : BitVec 32 := Scalar.addi v0 v460
  let c0_i32_224 : BitVec 32 := 0#32
  let v462 : BitVec 32 := Scalar.maxsi v461 c0_i32_224
  let v463 : BitVec 32 := v462
  let v464 : Index := Scalar.indexCast v463
  let c0_225 : Index := 0#32
  ![v464.toNat, 0]
def k0_mult8 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_233 : BitVec 32 := 1#32
  let v473 : BitVec 32 := Scalar.subi c1_i32_233 arg24
  let c256_i32_234 : BitVec 32 := 256#32
  let v474 : BitVec 32 := Scalar.muli v473 c256_i32_234
  let v475 : BitVec 32 := Scalar.addi v0 v474
  let c0_i32_235 : BitVec 32 := 0#32
  let v476 : BitVec 32 := Scalar.maxsi v475 c0_i32_235
  v476
def k0_off4 (i : grid0.Coords) (arg24 : BitVec 32) : Fin 2 → Nat :=
  let arg2 : BitVec 32 := BitVec.ofNat 32 (i 2).val
  let c512_i32 : BitVec 32 := 512#32
  let v0 : BitVec 32 := Scalar.muli arg2 c512_i32
  let c1_i32_233 : BitVec 32 := 1#32
  let v473 : BitVec 32 := Scalar.subi c1_i32_233 arg24
  let c256_i32_234 : BitVec 32 := 256#32
  let v474 : BitVec 32 := Scalar.muli v473 c256_i32_234
  let v475 : BitVec 32 := Scalar.addi v0 v474
  let c0_i32_235 : BitVec 32 := 0#32
  let v476 : BitVec 32 := Scalar.maxsi v475 c0_i32_235
  let v477 : BitVec 32 := v476
  let v478 : Index := Scalar.indexCast v477
  let c0_236 : Index := 0#32
  ![v478.toNat, 0]

def k0_chk1 (i : grid0.Coords) (arg24 : BitVec 32) : Prop :=
  (256 ∣ (k0_mult7 i arg24).toNat) ∧
  (∀ a, (k0_off3 i arg24) a + S256x128.size a ≤ S16384x256.size a) ∧
  (256 ∣ (k0_mult8 i arg24).toNat) ∧
  (∀ a, (k0_off4 i arg24) a + S256x128.size a ≤ S16384x256.size a)
theorem k0_mult7_dvd : ∀ (i : grid0.Coords) (arg24 : BitVec 32) (k0_hw1 : k0_chk1 i arg24), 256 ∣ (k0_mult7 i arg24).toNat := fun i arg24 k0_hw1 => k0_hw1.1
theorem k0_off3_inb : ∀ (i : grid0.Coords) (arg24 : BitVec 32) (k0_hw1 : k0_chk1 i arg24), ∀ a, (k0_off3 i arg24) a + S256x128.size a ≤ S16384x256.size a := fun i arg24 k0_hw1 => k0_hw1.2.1
theorem k0_mult8_dvd : ∀ (i : grid0.Coords) (arg24 : BitVec 32) (k0_hw1 : k0_chk1 i arg24), 256 ∣ (k0_mult8 i arg24).toNat := fun i arg24 k0_hw1 => k0_hw1.2.2.1
theorem k0_off4_inb : ∀ (i : grid0.Coords) (arg24 : BitVec 32) (k0_hw1 : k0_chk1 i arg24), ∀ a, (k0_off4 i arg24) a + S256x128.size a ≤ S16384x256.size a := fun i arg24 k0_hw1 => k0_hw1.2.2.2

def k0_mult9 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_275 : BitVec 32 := 1#32
  let c3_i32 : BitVec 32 := 3#32
  let v550 : BitVec 32 := Scalar.addi arg24 c3_i32
  let v552 : BitVec 32 := Scalar.subi c1_i32_275 v550
  let c256_i32_276 : BitVec 32 := 256#32
  let v553 : BitVec 32 := Scalar.muli v552 c256_i32_276
  let v554 : BitVec 32 := Scalar.addi v0 v553
  let c0_i32_277 : BitVec 32 := 0#32
  let v555 : BitVec 32 := Scalar.maxsi v554 c0_i32_277
  v555
def k0_cond1 (v537 : BitVec 1) : BitVec 1 :=
  let v_true : BitVec 1 := 1#1
  let v538 : BitVec 1 := Scalar.xori v537 v_true
  let v539 : BitVec 32 := Scalar.extui v538
  let c0_i32_266 : BitVec 32 := 0#32
  let v540 : BitVec 1 := Scalar.cmpi .ne v539 c0_i32_266
  v540

def k0_off5 (i : grid0.Coords) (arg24 : BitVec 32) (c3_i32 : BitVec 32) : Fin 2 → Nat :=
  let arg2 : BitVec 32 := BitVec.ofNat 32 (i 2).val
  let c512_i32 : BitVec 32 := 512#32
  let v0 : BitVec 32 := Scalar.muli arg2 c512_i32
  let c1_i32_275 : BitVec 32 := 1#32
  let v550 : BitVec 32 := Scalar.addi arg24 c3_i32
  let v552 : BitVec 32 := Scalar.subi c1_i32_275 v550
  let c256_i32_276 : BitVec 32 := 256#32
  let v553 : BitVec 32 := Scalar.muli v552 c256_i32_276
  let v554 : BitVec 32 := Scalar.addi v0 v553
  let c0_i32_277 : BitVec 32 := 0#32
  let v555 : BitVec 32 := Scalar.maxsi v554 c0_i32_277
  let v556 : BitVec 32 := v555
  let v557 : Index := Scalar.indexCast v556
  let c0_278 : Index := 0#32
  ![v557.toNat, 0]
def k0_mult10 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_287 : BitVec 32 := 1#32
  let c1_i32_282 : BitVec 32 := 1#32
  let v564 : BitVec 32 := Scalar.addi arg24 c1_i32_282
  let v567 : BitVec 32 := Scalar.subi c1_i32_287 v564
  let c256_i32_288 : BitVec 32 := 256#32
  let v568 : BitVec 32 := Scalar.muli v567 c256_i32_288
  let v569 : BitVec 32 := Scalar.addi v0 v568
  let c0_i32_289 : BitVec 32 := 0#32
  let v570 : BitVec 32 := Scalar.maxsi v569 c0_i32_289
  v570

def k0_chk2 (i : grid0.Coords) (arg24 : BitVec 32) (v537 : BitVec 1) : Prop :=
  (∀ (k0_h1 : k0_cond1 v537 = 1#1), 256 ∣ (k0_mult9 i arg24).toNat) ∧
  (∀ (k0_h1 : k0_cond1 v537 = 1#1), ∀ (r : Fin 2), ∀ a, (k0_off5 i arg24 (BitVec.ofNat 32 (1 + 2 * r.val))) a + S256x128.size a ≤ S16384x256.size a) ∧
  (∀ (k0_h1 : k0_cond1 v537 = 1#1), 256 ∣ (k0_mult10 i arg24).toNat)
theorem k0_mult9_dvd : ∀ (i : grid0.Coords) (arg24 : BitVec 32) (v537 : BitVec 1) (k0_hw2 : k0_chk2 i arg24 v537), ∀ (k0_h1 : k0_cond1 v537 = 1#1), 256 ∣ (k0_mult9 i arg24).toNat := fun i arg24 v537 k0_hw2 k0_h1 => k0_hw2.1 k0_h1
theorem k0_off5_inb : ∀ (i : grid0.Coords) (arg24 : BitVec 32) (v537 : BitVec 1) (k0_hw2 : k0_chk2 i arg24 v537), ∀ (k0_h1 : k0_cond1 v537 = 1#1), ∀ (r : Fin 2), ∀ a, (k0_off5 i arg24 (BitVec.ofNat 32 (1 + 2 * r.val))) a + S256x128.size a ≤ S16384x256.size a := fun i arg24 v537 k0_hw2 k0_h1 r => k0_hw2.2.1 k0_h1 r
theorem k0_mult10_dvd : ∀ (i : grid0.Coords) (arg24 : BitVec 32) (v537 : BitVec 1) (k0_hw2 : k0_chk2 i arg24 v537), ∀ (k0_h1 : k0_cond1 v537 = 1#1), 256 ∣ (k0_mult10 i arg24).toNat := fun i arg24 v537 k0_hw2 k0_h1 => k0_hw2.2.2 k0_h1

def k0_mult11 (i : grid0.Coords) (v397_0 : BitVec 32) : BitVec 32 :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v397_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  v462
def k0_cond2 (v397_0 : BitVec 32) : BitVec 1 :=
  let c2_i32_177 : BitVec 32 := 2#32
  let c0_i32_178 : BitVec 32 := 0#32
  let v398 : BitVec 1 := Scalar.cmpi .eq c2_i32_177 c0_i32_178
  let c1_i32_179 : BitVec 32 := 1#32
  let v399 : BitVec 32 := Scalar.select v398 c1_i32_179 c2_i32_177
  let v400 : BitVec 32 := Scalar.remsi v397_0 v399
  let c0_i32_181 : BitVec 32 := 0#32
  let v402 : BitVec 1 := Scalar.cmpi .slt v400 c0_i32_181
  let c0_i32_182 : BitVec 32 := 0#32
  let v403 : BitVec 1 := Scalar.cmpi .slt v399 c0_i32_182
  let v404 : BitVec 1 := Scalar.xori v402 v403
  let c0_i32_180 : BitVec 32 := 0#32
  let v401 : BitVec 1 := Scalar.cmpi .ne v400 c0_i32_180
  let v405 : BitVec 1 := Scalar.andi v404 v401
  let v406 : BitVec 32 := Scalar.addi v400 v399
  let v407 : BitVec 32 := Scalar.select v405 v406 v400
  let c1_i32_183 : BitVec 32 := 1#32
  let v408 : BitVec 1 := Scalar.cmpi .eq v407 c1_i32_183
  let v409 : BitVec 32 := Scalar.extui v408
  let c0_i32_184 : BitVec 32 := 0#32
  let v410 : BitVec 1 := Scalar.cmpi .ne v409 c0_i32_184
  v410

def k0_off6 (i : grid0.Coords) (v397_0 : BitVec 32) : Fin 2 → Nat :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v397_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  let v463 : BitVec 32 := v462
  let v464 : Index := Scalar.indexCast v463
  let c0_226 : Index := 0#32
  ![v464.toNat, 0]
def k0_mult12 (i : grid0.Coords) (v397_0 : BitVec 32) : BitVec 32 :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v397_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  v462
def k0_cond3 (v397_0 : BitVec 32) : BitVec 1 :=
  let c2_i32_185 : BitVec 32 := 2#32
  let c0_i32_186 : BitVec 32 := 0#32
  let v411 : BitVec 1 := Scalar.cmpi .eq c2_i32_185 c0_i32_186
  let c1_i32_187 : BitVec 32 := 1#32
  let v412 : BitVec 32 := Scalar.select v411 c1_i32_187 c2_i32_185
  let v413 : BitVec 32 := Scalar.remsi v397_0 v412
  let c0_i32_189 : BitVec 32 := 0#32
  let v415 : BitVec 1 := Scalar.cmpi .slt v413 c0_i32_189
  let c0_i32_190 : BitVec 32 := 0#32
  let v416 : BitVec 1 := Scalar.cmpi .slt v412 c0_i32_190
  let v417 : BitVec 1 := Scalar.xori v415 v416
  let c0_i32_188 : BitVec 32 := 0#32
  let v414 : BitVec 1 := Scalar.cmpi .ne v413 c0_i32_188
  let v418 : BitVec 1 := Scalar.andi v417 v414
  let v419 : BitVec 32 := Scalar.addi v413 v412
  let v420 : BitVec 32 := Scalar.select v418 v419 v413
  let c0_i32_191 : BitVec 32 := 0#32
  let v421 : BitVec 1 := Scalar.cmpi .eq v420 c0_i32_191
  let v422 : BitVec 32 := Scalar.extui v421
  let c0_i32_192 : BitVec 32 := 0#32
  let v423 : BitVec 1 := Scalar.cmpi .ne v422 c0_i32_192
  v423

def k0_off7 (i : grid0.Coords) (v397_0 : BitVec 32) : Fin 2 → Nat :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v397_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  let v463 : BitVec 32 := v462
  let v464 : Index := Scalar.indexCast v463
  let c0_226 : Index := 0#32
  ![v464.toNat, 0]

def k0_chk3 (i : grid0.Coords) (v397_0 : BitVec 32) : Prop :=
  (∀ (k0_h2 : k0_cond2 v397_0 = 1#1), 256 ∣ (k0_mult11 i v397_0).toNat) ∧
  (∀ (k0_h2 : k0_cond2 v397_0 = 1#1), ∀ a, (k0_off6 i v397_0) a + S256x128.size a ≤ S16384x256.size a) ∧
  (∀ (k0_h3 : k0_cond3 v397_0 = 1#1), 256 ∣ (k0_mult12 i v397_0).toNat) ∧
  (∀ (k0_h3 : k0_cond3 v397_0 = 1#1), ∀ a, (k0_off7 i v397_0) a + S256x128.size a ≤ S16384x256.size a)
theorem k0_mult11_dvd : ∀ (i : grid0.Coords) (v397_0 : BitVec 32) (k0_hw3 : k0_chk3 i v397_0), ∀ (k0_h2 : k0_cond2 v397_0 = 1#1), 256 ∣ (k0_mult11 i v397_0).toNat := fun i v397_0 k0_hw3 k0_h2 => k0_hw3.1 k0_h2
theorem k0_off6_inb : ∀ (i : grid0.Coords) (v397_0 : BitVec 32) (k0_hw3 : k0_chk3 i v397_0), ∀ (k0_h2 : k0_cond2 v397_0 = 1#1), ∀ a, (k0_off6 i v397_0) a + S256x128.size a ≤ S16384x256.size a := fun i v397_0 k0_hw3 k0_h2 => k0_hw3.2.1 k0_h2
theorem k0_mult12_dvd : ∀ (i : grid0.Coords) (v397_0 : BitVec 32) (k0_hw3 : k0_chk3 i v397_0), ∀ (k0_h3 : k0_cond3 v397_0 = 1#1), 256 ∣ (k0_mult12 i v397_0).toNat := fun i v397_0 k0_hw3 k0_h3 => k0_hw3.2.2.1 k0_h3
theorem k0_off7_inb : ∀ (i : grid0.Coords) (v397_0 : BitVec 32) (k0_hw3 : k0_chk3 i v397_0), ∀ (k0_h3 : k0_cond3 v397_0 = 1#1), ∀ a, (k0_off7 i v397_0) a + S256x128.size a ≤ S16384x256.size a := fun i v397_0 k0_hw3 k0_h3 => k0_hw3.2.2.2 k0_h3

def k0_mult13 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_222 : BitVec 32 := 1#32
  let c2_i32_219 : BitVec 32 := 2#32
  let v457 : BitVec 32 := Scalar.addi arg24 c2_i32_219
  let v459 : BitVec 32 := Scalar.subi c1_i32_222 v457
  let c256_i32_223 : BitVec 32 := 256#32
  let v460 : BitVec 32 := Scalar.muli v459 c256_i32_223
  let v461 : BitVec 32 := Scalar.addi v0 v460
  let c0_i32_224 : BitVec 32 := 0#32
  let v462 : BitVec 32 := Scalar.maxsi v461 c0_i32_224
  v462

def k0_off8 (i : grid0.Coords) (arg24 : BitVec 32) : Fin 2 → Nat :=
  let arg2 : BitVec 32 := BitVec.ofNat 32 (i 2).val
  let c512_i32 : BitVec 32 := 512#32
  let v0 : BitVec 32 := Scalar.muli arg2 c512_i32
  let c1_i32_222 : BitVec 32 := 1#32
  let c2_i32_219 : BitVec 32 := 2#32
  let v457 : BitVec 32 := Scalar.addi arg24 c2_i32_219
  let v459 : BitVec 32 := Scalar.subi c1_i32_222 v457
  let c256_i32_223 : BitVec 32 := 256#32
  let v460 : BitVec 32 := Scalar.muli v459 c256_i32_223
  let v461 : BitVec 32 := Scalar.addi v0 v460
  let c0_i32_224 : BitVec 32 := 0#32
  let v462 : BitVec 32 := Scalar.maxsi v461 c0_i32_224
  let v463 : BitVec 32 := v462
  let v464 : Index := Scalar.indexCast v463
  let c128_225 : Index := 128#32
  ![v464.toNat, 128]
def k0_mult14 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_233 : BitVec 32 := 1#32
  let v473 : BitVec 32 := Scalar.subi c1_i32_233 arg24
  let c256_i32_234 : BitVec 32 := 256#32
  let v474 : BitVec 32 := Scalar.muli v473 c256_i32_234
  let v475 : BitVec 32 := Scalar.addi v0 v474
  let c0_i32_235 : BitVec 32 := 0#32
  let v476 : BitVec 32 := Scalar.maxsi v475 c0_i32_235
  v476
def k0_off9 (i : grid0.Coords) (arg24 : BitVec 32) : Fin 2 → Nat :=
  let arg2 : BitVec 32 := BitVec.ofNat 32 (i 2).val
  let c512_i32 : BitVec 32 := 512#32
  let v0 : BitVec 32 := Scalar.muli arg2 c512_i32
  let c1_i32_233 : BitVec 32 := 1#32
  let v473 : BitVec 32 := Scalar.subi c1_i32_233 arg24
  let c256_i32_234 : BitVec 32 := 256#32
  let v474 : BitVec 32 := Scalar.muli v473 c256_i32_234
  let v475 : BitVec 32 := Scalar.addi v0 v474
  let c0_i32_235 : BitVec 32 := 0#32
  let v476 : BitVec 32 := Scalar.maxsi v475 c0_i32_235
  let v477 : BitVec 32 := v476
  let v478 : Index := Scalar.indexCast v477
  let c128_236 : Index := 128#32
  ![v478.toNat, 128]

def k0_chk4 (i : grid0.Coords) (arg24 : BitVec 32) : Prop :=
  (256 ∣ (k0_mult13 i arg24).toNat) ∧
  (∀ a, (k0_off8 i arg24) a + S256x128.size a ≤ S16384x256.size a) ∧
  (256 ∣ (k0_mult14 i arg24).toNat) ∧
  (∀ a, (k0_off9 i arg24) a + S256x128.size a ≤ S16384x256.size a)
theorem k0_mult13_dvd : ∀ (i : grid0.Coords) (arg24 : BitVec 32) (k0_hw4 : k0_chk4 i arg24), 256 ∣ (k0_mult13 i arg24).toNat := fun i arg24 k0_hw4 => k0_hw4.1
theorem k0_off8_inb : ∀ (i : grid0.Coords) (arg24 : BitVec 32) (k0_hw4 : k0_chk4 i arg24), ∀ a, (k0_off8 i arg24) a + S256x128.size a ≤ S16384x256.size a := fun i arg24 k0_hw4 => k0_hw4.2.1
theorem k0_mult14_dvd : ∀ (i : grid0.Coords) (arg24 : BitVec 32) (k0_hw4 : k0_chk4 i arg24), 256 ∣ (k0_mult14 i arg24).toNat := fun i arg24 k0_hw4 => k0_hw4.2.2.1
theorem k0_off9_inb : ∀ (i : grid0.Coords) (arg24 : BitVec 32) (k0_hw4 : k0_chk4 i arg24), ∀ a, (k0_off9 i arg24) a + S256x128.size a ≤ S16384x256.size a := fun i arg24 k0_hw4 => k0_hw4.2.2.2

def k0_mult15 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_275 : BitVec 32 := 1#32
  let c3_i32 : BitVec 32 := 3#32
  let v550 : BitVec 32 := Scalar.addi arg24 c3_i32
  let v552 : BitVec 32 := Scalar.subi c1_i32_275 v550
  let c256_i32_276 : BitVec 32 := 256#32
  let v553 : BitVec 32 := Scalar.muli v552 c256_i32_276
  let v554 : BitVec 32 := Scalar.addi v0 v553
  let c0_i32_277 : BitVec 32 := 0#32
  let v555 : BitVec 32 := Scalar.maxsi v554 c0_i32_277
  v555
def k0_cond4 (v537 : BitVec 1) : BitVec 1 :=
  let v_true : BitVec 1 := 1#1
  let v538 : BitVec 1 := Scalar.xori v537 v_true
  let v539 : BitVec 32 := Scalar.extui v538
  let c0_i32_266 : BitVec 32 := 0#32
  let v540 : BitVec 1 := Scalar.cmpi .ne v539 c0_i32_266
  v540

def k0_off10 (i : grid0.Coords) (arg24 : BitVec 32) (c3_i32 : BitVec 32) : Fin 2 → Nat :=
  let arg2 : BitVec 32 := BitVec.ofNat 32 (i 2).val
  let c512_i32 : BitVec 32 := 512#32
  let v0 : BitVec 32 := Scalar.muli arg2 c512_i32
  let c1_i32_275 : BitVec 32 := 1#32
  let v550 : BitVec 32 := Scalar.addi arg24 c3_i32
  let v552 : BitVec 32 := Scalar.subi c1_i32_275 v550
  let c256_i32_276 : BitVec 32 := 256#32
  let v553 : BitVec 32 := Scalar.muli v552 c256_i32_276
  let v554 : BitVec 32 := Scalar.addi v0 v553
  let c0_i32_277 : BitVec 32 := 0#32
  let v555 : BitVec 32 := Scalar.maxsi v554 c0_i32_277
  let v556 : BitVec 32 := v555
  let v557 : Index := Scalar.indexCast v556
  let c128_278 : Index := 128#32
  ![v557.toNat, 128]
def k0_mult16 (i : grid0.Coords) (arg24 : BitVec 32) : BitVec 32 :=
  let arg2 : BitVec 32 := BitVec.ofNat 32 (i 2).val
  let c512_i32 : BitVec 32 := 512#32
  let v0 : BitVec 32 := Scalar.muli arg2 c512_i32
  let c1_i32_287 : BitVec 32 := 1#32
  let c1_i32_282 : BitVec 32 := 1#32
  let v564 : BitVec 32 := Scalar.addi arg24 c1_i32_282
  let v567 : BitVec 32 := Scalar.subi c1_i32_287 v564
  let c256_i32_288 : BitVec 32 := 256#32
  let v568 : BitVec 32 := Scalar.muli v567 c256_i32_288
  let v569 : BitVec 32 := Scalar.addi v0 v568
  let c0_i32_289 : BitVec 32 := 0#32
  let v570 : BitVec 32 := Scalar.maxsi v569 c0_i32_289
  v570

def k0_chk5 (i : grid0.Coords) (arg24 : BitVec 32) (v537 : BitVec 1) : Prop :=
  (∀ (k0_h4 : k0_cond4 v537 = 1#1), 256 ∣ (k0_mult15 i arg24).toNat) ∧
  (∀ (k0_h4 : k0_cond4 v537 = 1#1), ∀ (r : Fin 2), ∀ a, (k0_off10 i arg24 (BitVec.ofNat 32 (1 + 2 * r.val))) a + S256x128.size a ≤ S16384x256.size a) ∧
  (∀ (k0_h4 : k0_cond4 v537 = 1#1), 256 ∣ (k0_mult16 i arg24).toNat)
theorem k0_mult15_dvd : ∀ (i : grid0.Coords) (arg24 : BitVec 32) (v537 : BitVec 1) (k0_hw5 : k0_chk5 i arg24 v537), ∀ (k0_h4 : k0_cond4 v537 = 1#1), 256 ∣ (k0_mult15 i arg24).toNat := fun i arg24 v537 k0_hw5 k0_h4 => k0_hw5.1 k0_h4
theorem k0_off10_inb : ∀ (i : grid0.Coords) (arg24 : BitVec 32) (v537 : BitVec 1) (k0_hw5 : k0_chk5 i arg24 v537), ∀ (k0_h4 : k0_cond4 v537 = 1#1), ∀ (r : Fin 2), ∀ a, (k0_off10 i arg24 (BitVec.ofNat 32 (1 + 2 * r.val))) a + S256x128.size a ≤ S16384x256.size a := fun i arg24 v537 k0_hw5 k0_h4 r => k0_hw5.2.1 k0_h4 r
theorem k0_mult16_dvd : ∀ (i : grid0.Coords) (arg24 : BitVec 32) (v537 : BitVec 1) (k0_hw5 : k0_chk5 i arg24 v537), ∀ (k0_h4 : k0_cond4 v537 = 1#1), 256 ∣ (k0_mult16 i arg24).toNat := fun i arg24 v537 k0_hw5 k0_h4 => k0_hw5.2.2 k0_h4

def k0_mult17 (i : grid0.Coords) (v427_0 : BitVec 32) : BitVec 32 :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v427_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  v462
def k0_cond5 (v427_0 : BitVec 32) : BitVec 1 :=
  let c2_i32_199 : BitVec 32 := 2#32
  let c0_i32_200 : BitVec 32 := 0#32
  let v428 : BitVec 1 := Scalar.cmpi .eq c2_i32_199 c0_i32_200
  let c1_i32_201 : BitVec 32 := 1#32
  let v429 : BitVec 32 := Scalar.select v428 c1_i32_201 c2_i32_199
  let v430 : BitVec 32 := Scalar.remsi v427_0 v429
  let c0_i32_203 : BitVec 32 := 0#32
  let v432 : BitVec 1 := Scalar.cmpi .slt v430 c0_i32_203
  let c0_i32_204 : BitVec 32 := 0#32
  let v433 : BitVec 1 := Scalar.cmpi .slt v429 c0_i32_204
  let v434 : BitVec 1 := Scalar.xori v432 v433
  let c0_i32_202 : BitVec 32 := 0#32
  let v431 : BitVec 1 := Scalar.cmpi .ne v430 c0_i32_202
  let v435 : BitVec 1 := Scalar.andi v434 v431
  let v436 : BitVec 32 := Scalar.addi v430 v429
  let v437 : BitVec 32 := Scalar.select v435 v436 v430
  let c1_i32_205 : BitVec 32 := 1#32
  let v438 : BitVec 1 := Scalar.cmpi .eq v437 c1_i32_205
  let v439 : BitVec 32 := Scalar.extui v438
  let c0_i32_206 : BitVec 32 := 0#32
  let v440 : BitVec 1 := Scalar.cmpi .ne v439 c0_i32_206
  v440

def k0_off11 (i : grid0.Coords) (v427_0 : BitVec 32) : Fin 2 → Nat :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v427_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  let v463 : BitVec 32 := v462
  let v464 : Index := Scalar.indexCast v463
  let c128_226 : Index := 128#32
  ![v464.toNat, 128]
def k0_mult18 (i : grid0.Coords) (v427_0 : BitVec 32) : BitVec 32 :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v427_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  v462
def k0_cond6 (v427_0 : BitVec 32) : BitVec 1 :=
  let c2_i32_207 : BitVec 32 := 2#32
  let c0_i32_208 : BitVec 32 := 0#32
  let v441 : BitVec 1 := Scalar.cmpi .eq c2_i32_207 c0_i32_208
  let c1_i32_209 : BitVec 32 := 1#32
  let v442 : BitVec 32 := Scalar.select v441 c1_i32_209 c2_i32_207
  let v443 : BitVec 32 := Scalar.remsi v427_0 v442
  let c0_i32_211 : BitVec 32 := 0#32
  let v445 : BitVec 1 := Scalar.cmpi .slt v443 c0_i32_211
  let c0_i32_212 : BitVec 32 := 0#32
  let v446 : BitVec 1 := Scalar.cmpi .slt v442 c0_i32_212
  let v447 : BitVec 1 := Scalar.xori v445 v446
  let c0_i32_210 : BitVec 32 := 0#32
  let v444 : BitVec 1 := Scalar.cmpi .ne v443 c0_i32_210
  let v448 : BitVec 1 := Scalar.andi v447 v444
  let v449 : BitVec 32 := Scalar.addi v443 v442
  let v450 : BitVec 32 := Scalar.select v448 v449 v443
  let c0_i32_213 : BitVec 32 := 0#32
  let v451 : BitVec 1 := Scalar.cmpi .eq v450 c0_i32_213
  let v452 : BitVec 32 := Scalar.extui v451
  let c0_i32_214 : BitVec 32 := 0#32
  let v453 : BitVec 1 := Scalar.cmpi .ne v452 c0_i32_214
  v453

def k0_off12 (i : grid0.Coords) (v427_0 : BitVec 32) : Fin 2 → Nat :=
  let arg2 : BitVec 32 := BitVec.ofNat 32 (i 2).val
  let c512_i32 : BitVec 32 := 512#32
  let v0 : BitVec 32 := Scalar.muli arg2 c512_i32
  let c1_i32_223 : BitVec 32 := 1#32
  let v459 : BitVec 32 := Scalar.subi c1_i32_223 v427_0
  let c256_i32_224 : BitVec 32 := 256#32
  let v460 : BitVec 32 := Scalar.muli v459 c256_i32_224
  let v461 : BitVec 32 := Scalar.addi v0 v460
  let c0_i32_225 : BitVec 32 := 0#32
  let v462 : BitVec 32 := Scalar.maxsi v461 c0_i32_225
  let v463 : BitVec 32 := v462
  let v464 : Index := Scalar.indexCast v463
  let c128_226 : Index := 128#32
  ![v464.toNat, 128]

def k0_chk6 (i : grid0.Coords) (v427_0 : BitVec 32) : Prop :=
  (∀ (k0_h5 : k0_cond5 v427_0 = 1#1), 256 ∣ (k0_mult17 i v427_0).toNat) ∧
  (∀ (k0_h5 : k0_cond5 v427_0 = 1#1), ∀ a, (k0_off11 i v427_0) a + S256x128.size a ≤ S16384x256.size a) ∧
  (∀ (k0_h6 : k0_cond6 v427_0 = 1#1), 256 ∣ (k0_mult18 i v427_0).toNat) ∧
  (∀ (k0_h6 : k0_cond6 v427_0 = 1#1), ∀ a, (k0_off12 i v427_0) a + S256x128.size a ≤ S16384x256.size a)
theorem k0_mult17_dvd : ∀ (i : grid0.Coords) (v427_0 : BitVec 32) (k0_hw6 : k0_chk6 i v427_0), ∀ (k0_h5 : k0_cond5 v427_0 = 1#1), 256 ∣ (k0_mult17 i v427_0).toNat := fun i v427_0 k0_hw6 k0_h5 => k0_hw6.1 k0_h5
theorem k0_off11_inb : ∀ (i : grid0.Coords) (v427_0 : BitVec 32) (k0_hw6 : k0_chk6 i v427_0), ∀ (k0_h5 : k0_cond5 v427_0 = 1#1), ∀ a, (k0_off11 i v427_0) a + S256x128.size a ≤ S16384x256.size a := fun i v427_0 k0_hw6 k0_h5 => k0_hw6.2.1 k0_h5
theorem k0_mult18_dvd : ∀ (i : grid0.Coords) (v427_0 : BitVec 32) (k0_hw6 : k0_chk6 i v427_0), ∀ (k0_h6 : k0_cond6 v427_0 = 1#1), 256 ∣ (k0_mult18 i v427_0).toNat := fun i v427_0 k0_hw6 k0_h6 => k0_hw6.2.2.1 k0_h6
theorem k0_off12_inb : ∀ (i : grid0.Coords) (v427_0 : BitVec 32) (k0_hw6 : k0_chk6 i v427_0), ∀ (k0_h6 : k0_cond6 v427_0 = 1#1), ∀ a, (k0_off12 i v427_0) a + S256x128.size a ≤ S16384x256.size a := fun i v427_0 k0_hw6 k0_h6 => k0_hw6.2.2.2 k0_h6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "spent" => some ⊤
  | _ => none
-- ==== ReferenceIdeal.lean ====
abbrev S2x16384x512 : Shape := ⟨3, ![2, 16384, 512]⟩
abbrev S2x16384x8x64 : Shape := ⟨4, ![2, 16384, 8, 64]⟩
abbrev S2x8x16384x64 : Shape := ⟨4, ![2, 8, 16384, 64]⟩
abbrev S2x8x16384x16384 : Shape := ⟨4, ![2, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S32768x512 : Shape := ⟨2, ![32768, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x8x64, .f32⟩
  | .hbm, ⟨4, _⟩ => ⟨S2x8x16384x64, .f32⟩
  | .hbm, ⟨5, _⟩ => ⟨S2x16384x8x64, .f32⟩
  | .hbm, ⟨6, _⟩ => ⟨S2x8x16384x64, .f32⟩
  | .hbm, ⟨7, _⟩ => ⟨S2x8x16384x16384, .f32⟩
  | .hbm, ⟨8, _⟩ => ⟨S_, .f32⟩
  | .hbm, ⟨9, _⟩ => ⟨S2x8x16384x16384, .f32⟩
  | .hbm, ⟨10, _⟩ => ⟨S2x8x16384x16384, .f32⟩
  | .hbm, ⟨11, _⟩ => ⟨S16384, .i32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S2x8x16384x16384, .f32⟩
  | .hbm, ⟨18, _⟩ => ⟨S2x8x16384x16384, .f32⟩
  | .hbm, ⟨19, _⟩ => ⟨S_, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .i1⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .f32⟩
  | .hbm, ⟨33, _⟩ => ⟨S2x8x16384x16384, .f32⟩
  | .hbm, ⟨34, _⟩ => ⟨S_, .f32⟩
  | .hbm, ⟨35, _⟩ => ⟨S_, .f32⟩
  | .hbm, ⟨36, _⟩ => ⟨S2x8x16384x16384, .i1⟩
  | .hbm, ⟨37, _⟩ => ⟨S2x8x16384x16384, .f32⟩
  | .hbm, ⟨38, _⟩ => ⟨S2x8x16384x16384, .f32⟩
  | .hbm, ⟨39, _⟩ => ⟨S_, .f32⟩
  | .hbm, ⟨40, _⟩ => ⟨S_, .f32⟩
  | .hbm, ⟨41, _⟩ => ⟨S2x8x16384x16384, .f32⟩
  | .hbm, ⟨42, _⟩ => ⟨S2x8x16384x16384, .f32⟩
  | .hbm, ⟨43, _⟩ => ⟨S2x8x16384x16384, .f32⟩
  | .hbm, ⟨44, _⟩ => ⟨S_, .f32⟩
  | .hbm, ⟨45, _⟩ => ⟨S2x8x16384x16384, .f32⟩
  | .hbm, ⟨46, _⟩ => ⟨S2x8x16384x16384, .f32⟩
  | .hbm, ⟨47, _⟩ => ⟨S2x8x16384x16384, .f32⟩
  | .hbm, ⟨48, _⟩ => ⟨S2x8x16384x16384, .f32⟩
  | .hbm, ⟨49, _⟩ => ⟨S2x8x16384x16384, .i1⟩
  | .hbm, ⟨50, _⟩ => ⟨S2x8x16384x16384, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S2x8x16384x16384, .f32⟩
  | .hbm, ⟨60, _⟩ => ⟨S2x8x16384x16384, .f32⟩
  | .hbm, ⟨61, _⟩ => ⟨S_, .f32⟩
  | .hbm, ⟨62, _⟩ => ⟨S_, .f32⟩
  | .hbm, ⟨63, _⟩ => ⟨S2x8x16384x16384, .i1⟩
  | .hbm, ⟨64, _⟩ => ⟨S2x8x16384x16384, .f32⟩
  | .hbm, ⟨65, _⟩ => ⟨S2x8x16384x16384, .f32⟩
  | .hbm, ⟨66, _⟩ => ⟨S2x16384x8x64, .f32⟩
  | .hbm, ⟨67, _⟩ => ⟨S2x8x16384x64, .f32⟩
  | .hbm, ⟨68, _⟩ => ⟨S2x8x16384x64, .f32⟩
  | .hbm, ⟨69, _⟩ => ⟨S2x16384x8x64, .f32⟩
  | .hbm, ⟨70, _⟩ => ⟨S32768x512, .f32⟩
  | .hbm, ⟨71, _⟩ => ⟨S32768x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== PostLast.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S2x256x512 : Shape := ⟨3, ![2, 256, 512]⟩
abbrev S768x1024 : Shape := ⟨2, ![768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768x256 : Shape := ⟨2, ![32768, 256]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x256x512 : Shape := ⟨3, ![1, 256, 512]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩
abbrev S512x768 : Shape := ⟨2, ![512, 768]⟩
abbrev S1024x1024 : Shape := ⟨2, ![1024, 1024]⟩

abbrev nBuf : Space → Nat
  | .hbm => 24
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .f32⟩
  | .hbm, ⟨3, _⟩ => ⟨S2x256x512, .f32⟩
  | .hbm, ⟨4, _⟩ => ⟨S768x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S_, .f32⟩
  | .hbm, ⟨10, _⟩ => ⟨S2x16384x256, .f32⟩
  | .hbm, ⟨11, _⟩ => ⟨S2x16384x256, .f32⟩
  | .hbm, ⟨12, _⟩ => ⟨S2x16384x256, .bf16⟩
  | .hbm, ⟨13, _⟩ => ⟨S32768x256, .bf16⟩
  | .hbm, ⟨14, _⟩ => ⟨S32768x1024, .f32⟩
  | .hbm, ⟨15, _⟩ => ⟨S2x16384x512, .bf16⟩
  | .hbm, ⟨16, _⟩ => ⟨S32768x512, .bf16⟩
  | .hbm, ⟨17, _⟩ => ⟨S2x256x512, .bf16⟩
  | .hbm, ⟨18, _⟩ => ⟨S768x1024, .bf16⟩
  | .hbm, ⟨19, _⟩ => ⟨S1024x4096, .bf16⟩
  | .hbm, ⟨20, _⟩ => ⟨S4096x1024, .bf16⟩
  | .hbm, ⟨21, _⟩ => ⟨S1x1024, .f32⟩
  | .hbm, ⟨22, _⟩ => ⟨S1x1024, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S1x256x512, .bf16⟩
  | .local _ .vmem, ⟨7, _⟩ => ⟨S1x256x512, .bf16⟩
  | .local _ .vmem, ⟨8, _⟩ => ⟨S768x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostRefIdeal.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S2x256x512 : Shape := ⟨3, ![2, 256, 512]⟩
abbrev S768x1024 : Shape := ⟨2, ![768, 1024]⟩
abbrev S1024 : Shape := ⟨1, ![1024]⟩
abbrev S1024x4096 : Shape := ⟨2, ![1024, 4096]⟩
abbrev S4096x1024 : Shape := ⟨2, ![4096, 1024]⟩
abbrev S2x256x256 : Shape := ⟨3, ![2, 256, 256]⟩
abbrev S2x256x4x64 : Shape := ⟨4, ![2, 256, 4, 64]⟩
abbrev S2x16384x4x64 : Shape := ⟨4, ![2, 16384, 4, 64]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x768 : Shape := ⟨3, ![2, 16384, 768]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .f32⟩
  | .hbm, ⟨3, _⟩ => ⟨S2x256x512, .f32⟩
  | .hbm, ⟨4, _⟩ => ⟨S768x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S2x256x256, .f32⟩
  | .hbm, ⟨10, _⟩ => ⟨S2x256x4x64, .f32⟩
  | .hbm, ⟨11, _⟩ => ⟨S2x256x256, .f32⟩
  | .hbm, ⟨12, _⟩ => ⟨S2x256x4x64, .f32⟩
  | .hbm, ⟨13, _⟩ => ⟨S2x16384x4x64, .f32⟩
  | .hbm, ⟨14, _⟩ => ⟨S2x4x16384x256, .f32⟩
  | .hbm, ⟨15, _⟩ => ⟨S_, .f32⟩
  | .hbm, ⟨16, _⟩ => ⟨S2x4x16384x256, .f32⟩
  | .hbm, ⟨17, _⟩ => ⟨S2x4x16384x256, .f32⟩
  | .hbm, ⟨18, _⟩ => ⟨S_, .f32⟩
  | .hbm, ⟨19, _⟩ => ⟨S2x4x16384, .f32⟩
  | .hbm, ⟨20, _⟩ => ⟨S_, .f32⟩
  | .hbm, ⟨21, _⟩ => ⟨S2x4x16384, .f32⟩
  | .hbm, ⟨22, _⟩ => ⟨S2x4x16384, .f32⟩
  | .hbm, ⟨23, _⟩ => ⟨S2x4x16384x1, .f32⟩
  | .hbm, ⟨24, _⟩ => ⟨S2x4x16384x256, .f32⟩
  | .hbm, ⟨25, _⟩ => ⟨S2x4x16384x256, .f32⟩
  | .hbm, ⟨26, _⟩ => ⟨S2x4x16384x256, .f32⟩
  | .hbm, ⟨27, _⟩ => ⟨S_, .f32⟩
  | .hbm, ⟨28, _⟩ => ⟨S2x4x16384, .f32⟩
  | .hbm, ⟨29, _⟩ => ⟨S2x4x16384x1, .f32⟩
  | .hbm, ⟨30, _⟩ => ⟨S2x4x16384x256, .f32⟩
  | .hbm, ⟨31, _⟩ => ⟨S2x4x16384x256, .f32⟩
  | .hbm, ⟨32, _⟩ => ⟨S2x4x64x16384, .f32⟩
  | .hbm, ⟨33, _⟩ => ⟨S2x16384x4x64, .f32⟩
  | .hbm, ⟨34, _⟩ => ⟨S2x16384x256, .f32⟩
  | .hbm, ⟨35, _⟩ => ⟨S2x16384x768, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S_, .f32⟩
  | .hbm, ⟨40, _⟩ => ⟨S2x16384, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S2x16384x1, .f32⟩
  | .hbm, ⟨49, _⟩ => ⟨S2x16384x1024, .f32⟩
  | .hbm, ⟨50, _⟩ => ⟨S2x16384x1024, .f32⟩
  | .hbm, ⟨51, _⟩ => ⟨S1x1x1024, .f32⟩
  | .hbm, ⟨52, _⟩ => ⟨S2x16384x1024, .f32⟩
  | .hbm, ⟨53, _⟩ => ⟨S2x16384x1024, .f32⟩
  | .hbm, ⟨54, _⟩ => ⟨S2x16384x4096, .f32⟩
  | .hbm, ⟨55, _⟩ => ⟨S_, .f32⟩
  | .hbm, ⟨56, _⟩ => ⟨S2x16384x4096, .f32⟩
  | .hbm, ⟨57, _⟩ => ⟨S2x16384x4096, .f32⟩
  | .hbm, ⟨58, _⟩ => ⟨S2x16384x4096, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== PostMid.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S2x256x512 : Shape := ⟨3, ![2, 256, 512]⟩
abbrev S768x1024 : Shape := ⟨2, ![768, 1024]⟩
abbrev S1024 : Shape := ⟨1, ![1024]⟩
abbrev S1024x4096 : Shape := ⟨2, ![1024, 4096]⟩
abbrev S4096x1024 : Shape := ⟨2, ![4096, 1024]⟩
abbrev S1024x768 : Shape := ⟨2, ![1024, 768]⟩
abbrev S_ : Shape := ⟨0, ![]⟩
abbrev S32768x256 : Shape := ⟨2, ![32768, 256]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x256x512 : Shape := ⟨3, ![1, 256, 512]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩
abbrev S512x768 : Shape := ⟨2, ![512, 768]⟩
abbrev S1024x1024 : Shape := ⟨2, ![1024, 1024]⟩

abbrev nBuf : Space → Nat
  | .hbm => 33
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .f32⟩
  | .hbm, ⟨3, _⟩ => ⟨S2x256x512, .f32⟩
  | .hbm, ⟨4, _⟩ => ⟨S768x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x768, .f32⟩
  | .hbm, ⟨11, _⟩ => ⟨S_, .f32⟩
  | .hbm, ⟨12, _⟩ => ⟨S2x16384x256, .f32⟩
  | .hbm, ⟨13, _⟩ => ⟨S2x16384x256, .f32⟩
  | .hbm, ⟨14, _⟩ => ⟨S2x16384x256, .bf16⟩
  | .hbm, ⟨15, _⟩ => ⟨S32768x256, .bf16⟩
  | .hbm, ⟨16, _⟩ => ⟨S_, .f32⟩
  | .hbm, ⟨17, _⟩ => ⟨S1024x768, .f32⟩
  | .hbm, ⟨18, _⟩ => ⟨S1024x768, .f32⟩
  | .hbm, ⟨19, _⟩ => ⟨S1024x768, .bf16⟩
  | .hbm, ⟨20, _⟩ => ⟨S32768x1024, .f32⟩
  | .hbm, ⟨21, _⟩ => ⟨S2x16384x512, .bf16⟩
  | .hbm, ⟨22, _⟩ => ⟨S32768x512, .bf16⟩
  | .hbm, ⟨23, _⟩ => ⟨S2x256x512, .bf16⟩
  | .hbm, ⟨24, _⟩ => ⟨S768x1024, .bf16⟩
  | .hbm, ⟨25, _⟩ => ⟨S1024x4096, .bf16⟩
  | .hbm, ⟨26, _⟩ => ⟨S4096x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S32768x1024, .f32⟩
  | .hbm, ⟨31, _⟩ => ⟨S32768x512, .bf16⟩
  | .hbm, ⟨32, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S1x256x512, .bf16⟩
  | .local _ .vmem, ⟨7, _⟩ => ⟨S1x256x512, .bf16⟩
  | .local _ .vmem, ⟨8, _⟩ => ⟨S768x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x768, .bf16⟩
  | .local _ .vmem, ⟨15, _⟩ => ⟨S512x1024, .f32⟩
  | .local _ .vmem, ⟨16, _⟩ => ⟨S512x1024, .f32⟩
  | .local _ .vmem, ⟨17, _⟩ => ⟨S512x512, .bf16⟩
  | .local _ .vmem, ⟨18, _⟩ => ⟨S512x512, .bf16⟩
  | .local _ .vmem, ⟨19, _⟩ => ⟨S512x256, .bf16⟩
  | .local _ .vmem, ⟨20, _⟩ => ⟨S512x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostMidRefIdeal.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S2x256x512 : Shape := ⟨3, ![2, 256, 512]⟩
abbrev S768x1024 : Shape := ⟨2, ![768, 1024]⟩
abbrev S1024 : Shape := ⟨1, ![1024]⟩
abbrev S1024x4096 : Shape := ⟨2, ![1024, 4096]⟩
abbrev S4096x1024 : Shape := ⟨2, ![4096, 1024]⟩
abbrev S1024x768 : Shape := ⟨2, ![1024, 768]⟩
abbrev S2x256x256 : Shape := ⟨3, ![2, 256, 256]⟩
abbrev S2x256x4x64 : Shape := ⟨4, ![2, 256, 4, 64]⟩
abbrev S2x16384x4x64 : Shape := ⟨4, ![2, 16384, 4, 64]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x768 : Shape := ⟨3, ![2, 16384, 768]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x768 : Shape := ⟨2, ![32768, 768]⟩
abbrev S32768x1024 : Shape := ⟨2, ![32768, 1024]⟩
abbrev S32768x512 : Shape := ⟨2, ![32768, 512]⟩
abbrev S32768x256 : Shape := ⟨2, ![32768, 256]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .f32⟩
  | .hbm, ⟨3, _⟩ => ⟨S2x256x512, .f32⟩
  | .hbm, ⟨4, _⟩ => ⟨S768x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x768, .f32⟩
  | .hbm, ⟨11, _⟩ => ⟨S2x256x256, .f32⟩
  | .hbm, ⟨12, _⟩ => ⟨S2x256x4x64, .f32⟩
  | .hbm, ⟨13, _⟩ => ⟨S2x256x256, .f32⟩
  | .hbm, ⟨14, _⟩ => ⟨S2x256x4x64, .f32⟩
  | .hbm, ⟨15, _⟩ => ⟨S2x16384x4x64, .f32⟩
  | .hbm, ⟨16, _⟩ => ⟨S2x4x16384x256, .f32⟩
  | .hbm, ⟨17, _⟩ => ⟨S_, .f32⟩
  | .hbm, ⟨18, _⟩ => ⟨S2x4x16384x256, .f32⟩
  | .hbm, ⟨19, _⟩ => ⟨S2x4x16384x256, .f32⟩
  | .hbm, ⟨20, _⟩ => ⟨S_, .f32⟩
  | .hbm, ⟨21, _⟩ => ⟨S2x4x16384, .f32⟩
  | .hbm, ⟨22, _⟩ => ⟨S_, .f32⟩
  | .hbm, ⟨23, _⟩ => ⟨S2x4x16384, .f32⟩
  | .hbm, ⟨24, _⟩ => ⟨S2x4x16384, .f32⟩
  | .hbm, ⟨25, _⟩ => ⟨S2x4x16384x1, .f32⟩
  | .hbm, ⟨26, _⟩ => ⟨S2x4x16384x256, .f32⟩
  | .hbm, ⟨27, _⟩ => ⟨S2x4x16384x256, .f32⟩
  | .hbm, ⟨28, _⟩ => ⟨S2x4x16384x256, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x256, .f32⟩
  | .hbm, ⟨33, _⟩ => ⟨S2x4x16384x256, .f32⟩
  | .hbm, ⟨34, _⟩ => ⟨S2x4x64x16384, .f32⟩
  | .hbm, ⟨35, _⟩ => ⟨S2x16384x4x64, .f32⟩
  | .hbm, ⟨36, _⟩ => ⟨S2x16384x256, .f32⟩
  | .hbm, ⟨37, _⟩ => ⟨S2x16384x768, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S2x16384x4096, .f32⟩
  | .hbm, ⟨57, _⟩ => ⟨S_, .f32⟩
  | .hbm, ⟨58, _⟩ => ⟨S2x16384x4096, .f32⟩
  | .hbm, ⟨59, _⟩ => ⟨S2x16384x4096, .f32⟩
  | .hbm, ⟨60, _⟩ => ⟨S2x16384x4096, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S_, .f32⟩
  | .hbm, ⟨65, _⟩ => ⟨S2x16384, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S_, .f32⟩
  | .hbm, ⟨71, _⟩ => ⟨S2x16384x1, .f32⟩
  | .hbm, ⟨72, _⟩ => ⟨S2x16384x1, .f32⟩
  | .hbm, ⟨73, _⟩ => ⟨S2x16384x1, .f32⟩
  | .hbm, ⟨74, _⟩ => ⟨S2x16384x1024, .f32⟩
  | .hbm, ⟨75, _⟩ => ⟨S2x16384x1024, .f32⟩
  | .hbm, ⟨76, _⟩ => ⟨S1x1x1024, .f32⟩
  | .hbm, ⟨77, _⟩ => ⟨S2x16384x1024, .f32⟩
  | .hbm, ⟨78, _⟩ => ⟨S2x16384x1024, .f32⟩
  | .hbm, ⟨79, _⟩ => ⟨S2x16384x768, .f32⟩
  | .hbm, ⟨80, _⟩ => ⟨S_, .f32⟩
  | .hbm, ⟨81, _⟩ => ⟨S2x16384x768, .f32⟩
  | .hbm, ⟨82, _⟩ => ⟨S2x16384x768, .f32⟩
  | .hbm, ⟨83, _⟩ => ⟨S32768x768, .f32⟩
  | .hbm, ⟨84, _⟩ => ⟨S32768x768, .bf16⟩
  | .hbm, ⟨85, _⟩ => ⟨S32768x1024, .f32⟩
  | .hbm, ⟨86, _⟩ => ⟨S32768x512, .bf16⟩
  | .hbm, ⟨87, _⟩ => ⟨S32768x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== PostFirst.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S2x256x512 : Shape := ⟨3, ![2, 256, 512]⟩
abbrev S768x1024 : Shape := ⟨2, ![768, 1024]⟩
abbrev S1024 : Shape := ⟨1, ![1024]⟩
abbrev S1024x4096 : Shape := ⟨2, ![1024, 4096]⟩
abbrev S4096x1024 : Shape := ⟨2, ![4096, 1024]⟩
abbrev S1024x1792 : Shape := ⟨2, ![1024, 1792]⟩
abbrev S_ : Shape := ⟨0, ![]⟩
abbrev S32768x256 : Shape := ⟨2, ![32768, 256]⟩
abbrev S512 : Shape := ⟨1, ![512]⟩
abbrev S256 : Shape := ⟨1, ![256]⟩
abbrev S1792 : Shape := ⟨1, ![1792]⟩
abbrev S1x1792 : Shape := ⟨2, ![1, 1792]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S1x256x512 : Shape := ⟨3, ![1, 256, 512]⟩
abbrev S1x256x256 : Shape := ⟨3, ![1, 256, 256]⟩
abbrev S256x256 : Shape := ⟨2, ![256, 256]⟩
abbrev S1x256 : Shape := ⟨2, ![1, 256]⟩
abbrev S512x1 : Shape := ⟨2, ![512, 1]⟩
abbrev S512x768 : Shape := ⟨2, ![512, 768]⟩
abbrev S1024x1024 : Shape := ⟨2, ![1024, 1024]⟩
abbrev S512x1792 : Shape := ⟨2, ![512, 1792]⟩

abbrev nBuf : Space → Nat
  | .hbm => 42
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .f32⟩
  | .hbm, ⟨3, _⟩ => ⟨S2x256x512, .f32⟩
  | .hbm, ⟨4, _⟩ => ⟨S768x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1792, .f32⟩
  | .hbm, ⟨11, _⟩ => ⟨S_, .f32⟩
  | .hbm, ⟨12, _⟩ => ⟨S2x16384x256, .f32⟩
  | .hbm, ⟨13, _⟩ => ⟨S2x16384x256, .f32⟩
  | .hbm, ⟨14, _⟩ => ⟨S2x16384x256, .bf16⟩
  | .hbm, ⟨15, _⟩ => ⟨S32768x256, .bf16⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S256, .f32⟩
  | .hbm, ⟨22, _⟩ => ⟨S1792, .f32⟩
  | .hbm, ⟨23, _⟩ => ⟨S1x1792, .f32⟩
  | .hbm, ⟨24, _⟩ => ⟨S1024x1792, .f32⟩
  | .hbm, ⟨25, _⟩ => ⟨S1024x1792, .f32⟩
  | .hbm, ⟨26, _⟩ => ⟨S1024x1792, .bf16⟩
  | .hbm, ⟨27, _⟩ => ⟨S32768x1024, .f32⟩
  | .hbm, ⟨28, _⟩ => ⟨S2x16384x512, .bf16⟩
  | .hbm, ⟨29, _⟩ => ⟨S32768x512, .bf16⟩
  | .hbm, ⟨30, _⟩ => ⟨S2x256x512, .bf16⟩
  | .hbm, ⟨31, _⟩ => ⟨S768x1024, .bf16⟩
  | .hbm, ⟨32, _⟩ => ⟨S1024x4096, .bf16⟩
  | .hbm, ⟨33, _⟩ => ⟨S4096x1024, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S32768x1024, .f32⟩
  | .hbm, ⟨38, _⟩ => ⟨S32768x512, .bf16⟩
  | .hbm, ⟨39, _⟩ => ⟨S32768x512, .bf16⟩
  | .hbm, ⟨40, _⟩ => ⟨S32768x512, .bf16⟩
  | .hbm, ⟨41, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S1x256x512, .bf16⟩
  | .local _ .vmem, ⟨7, _⟩ => ⟨S1x256x512, .bf16⟩
  | .local _ .vmem, ⟨8, _⟩ => ⟨S768x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S1024x1792, .bf16⟩
  | .local _ .vmem, ⟨15, _⟩ => ⟨S512x1024, .f32⟩
  | .local _ .vmem, ⟨16, _⟩ => ⟨S512x1024, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x256, .bf16⟩
  | .local _ .vmem, ⟨24, _⟩ => ⟨S512x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev main_v22_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1792 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostFirstIdeal.lean ====
variable {F : FTy → Type} [FloatOps F] [Named F]
def κ : String → Option EReal := fun
  | "log2e" => some (((Real.log 2)⁻¹ : ℝ) : EReal)
  | _ => none
-- ==== PostFirstRefIdeal.lean ====
abbrev S2x16384x1024 : Shape := ⟨3, ![2, 16384, 1024]⟩
abbrev S2x16384x512 : Shape := ⟨3, ![2, 16384, 512]⟩
abbrev S2x16384x256 : Shape := ⟨3, ![2, 16384, 256]⟩
abbrev S2x256x512 : Shape := ⟨3, ![2, 256, 512]⟩
abbrev S768x1024 : Shape := ⟨2, ![768, 1024]⟩
abbrev S1024 : Shape := ⟨1, ![1024]⟩
abbrev S1024x4096 : Shape := ⟨2, ![1024, 4096]⟩
abbrev S4096x1024 : Shape := ⟨2, ![4096, 1024]⟩
abbrev S1024x1792 : Shape := ⟨2, ![1024, 1792]⟩
abbrev S2x256x256 : Shape := ⟨3, ![2, 256, 256]⟩
abbrev S2x256x4x64 : Shape := ⟨4, ![2, 256, 4, 64]⟩
abbrev S2x16384x4x64 : Shape := ⟨4, ![2, 16384, 4, 64]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x768 : Shape := ⟨3, ![2, 16384, 768]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S2x16384x1792 : Shape := ⟨3, ![2, 16384, 1792]⟩
abbrev S32768x1792 : Shape := ⟨2, ![32768, 1792]⟩
abbrev S32768x512 : Shape := ⟨2, ![32768, 512]⟩
abbrev S32768x1024 : Shape := ⟨2, ![32768, 1024]⟩
abbrev S32768x256 : Shape := ⟨2, ![32768, 256]⟩

abbrev nBuf : Space → Nat
  | .hbm => 101
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x256, .f32⟩
  | .hbm, ⟨3, _⟩ => ⟨S2x256x512, .f32⟩
  | .hbm, ⟨4, _⟩ => ⟨S768x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x1792, .f32⟩
  | .hbm, ⟨11, _⟩ => ⟨S2x256x256, .f32⟩
  | .hbm, ⟨12, _⟩ => ⟨S2x256x4x64, .f32⟩
  | .hbm, ⟨13, _⟩ => ⟨S2x256x256, .f32⟩
  | .hbm, ⟨14, _⟩ => ⟨S2x256x4x64, .f32⟩
  | .hbm, ⟨15, _⟩ => ⟨S2x16384x4x64, .f32⟩
  | .hbm, ⟨16, _⟩ => ⟨S2x4x16384x256, .f32⟩
  | .hbm, ⟨17, _⟩ => ⟨S_, .f32⟩
  | .hbm, ⟨18, _⟩ => ⟨S2x4x16384x256, .f32⟩
  | .hbm, ⟨19, _⟩ => ⟨S2x4x16384x256, .f32⟩
  | .hbm, ⟨20, _⟩ => ⟨S_, .f32⟩
  | .hbm, ⟨21, _⟩ => ⟨S2x4x16384, .f32⟩
  | .hbm, ⟨22, _⟩ => ⟨S_, .f32⟩
  | .hbm, ⟨23, _⟩ => ⟨S2x4x16384, .f32⟩
  | .hbm, ⟨24, _⟩ => ⟨S2x4x16384, .f32⟩
  | .hbm, ⟨25, _⟩ => ⟨S2x4x16384x1, .f32⟩
  | .hbm, ⟨26, _⟩ => ⟨S2x4x16384x256, .f32⟩
  | .hbm, ⟨27, _⟩ => ⟨S2x4x16384x256, .f32⟩
  | .hbm, ⟨28, _⟩ => ⟨S2x4x16384x256, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x256, .f32⟩
  | .hbm, ⟨33, _⟩ => ⟨S2x4x16384x256, .f32⟩
  | .hbm, ⟨34, _⟩ => ⟨S2x4x64x16384, .f32⟩
  | .hbm, ⟨35, _⟩ => ⟨S2x16384x4x64, .f32⟩
  | .hbm, ⟨36, _⟩ => ⟨S2x16384x256, .f32⟩
  | .hbm, ⟨37, _⟩ => ⟨S2x16384x768, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S1x1x1024, .f32⟩
  | .hbm, ⟨54, _⟩ => ⟨S2x16384x1024, .f32⟩
  | .hbm, ⟨55, _⟩ => ⟨S2x16384x1024, .f32⟩
  | .hbm, ⟨56, _⟩ => ⟨S2x16384x4096, .f32⟩
  | .hbm, ⟨57, _⟩ => ⟨S_, .f32⟩
  | .hbm, ⟨58, _⟩ => ⟨S2x16384x4096, .f32⟩
  | .hbm, ⟨59, _⟩ => ⟨S2x16384x4096, .f32⟩
  | .hbm, ⟨60, _⟩ => ⟨S2x16384x4096, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S_, .f32⟩
  | .hbm, ⟨65, _⟩ => ⟨S2x16384, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S_, .f32⟩
  | .hbm, ⟨71, _⟩ => ⟨S2x16384x1, .f32⟩
  | .hbm, ⟨72, _⟩ => ⟨S2x16384x1, .f32⟩
  | .hbm, ⟨73, _⟩ => ⟨S2x16384x1, .f32⟩
  | .hbm, ⟨74, _⟩ => ⟨S2x16384x1024, .f32⟩
  | .hbm, ⟨75, _⟩ => ⟨S2x16384x1024, .f32⟩
  | .hbm, ⟨76, _⟩ => ⟨S1x1x1024, .f32⟩
  | .hbm, ⟨77, _⟩ => ⟨S2x16384x1024, .f32⟩
  | .hbm, ⟨78, _⟩ => ⟨S2x16384x1024, .f32⟩
  | .hbm, ⟨79, _⟩ => ⟨S2x16384x1792, .f32⟩
  | .hbm, ⟨80, _⟩ => ⟨S32768x1792, .f32⟩
  | .hbm, ⟨81, _⟩ => ⟨S32768x512, .f32⟩
  | .hbm, ⟨82, _⟩ => ⟨S_, .f32⟩
  | .hbm, ⟨83, _⟩ => ⟨S32768x512, .f32⟩
  | .hbm, ⟨84, _⟩ => ⟨S32768x512, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S32768x512, .f32⟩
  | .hbm, ⟨89, _⟩ => ⟨S32768x512, .f32⟩
  | .hbm, ⟨90, _⟩ => ⟨S32768x512, .bf16⟩
  | .hbm, ⟨91, _⟩ => ⟨S32768x512, .f32⟩
  | .hbm, ⟨92, _⟩ => ⟨S32768x512, .bf16⟩
  | .hbm, ⟨93, _⟩ => ⟨S32768x512, .f32⟩
  | .hbm, ⟨94, _⟩ => ⟨S32768x512, .bf16⟩
  | .hbm, ⟨95, _⟩ => ⟨S32768x1024, .f32⟩
  | .hbm, ⟨96, _⟩ => ⟨S32768x256, .f32⟩
  | .hbm, ⟨97, _⟩ => ⟨S_, .f32⟩
  | .hbm, ⟨98, _⟩ => ⟨S32768x256, .f32⟩
  | .hbm, ⟨99, _⟩ => ⟨S32768x256, .f32⟩
  | .hbm, ⟨100, _⟩ => ⟨S32768x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== NormProj.lean ====
abbrev S2x16384x1024 : Shape := ⟨3, ![2, 16384, 1024]⟩
abbrev S1024 : Shape := ⟨1, ![1024]⟩
abbrev S1024x1792 : Shape := ⟨2, ![1024, 1792]⟩
abbrev S_ : Shape := ⟨0, ![]⟩
abbrev S512 : Shape := ⟨1, ![512]⟩
abbrev S256 : Shape := ⟨1, ![256]⟩
abbrev S1792 : Shape := ⟨1, ![1792]⟩
abbrev S1x1792 : Shape := ⟨2, ![1, 1792]⟩
abbrev S32768x1024 : Shape := ⟨2, ![32768, 1024]⟩
abbrev S1x1024 : Shape := ⟨2, ![1, 1024]⟩
abbrev S32768x512 : Shape := ⟨2, ![32768, 512]⟩
abbrev S32768x256 : Shape := ⟨2, ![32768, 256]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S512x1792 : Shape := ⟨2, ![512, 1792]⟩

abbrev nBuf : Space → Nat
  | .hbm => 20
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x1792, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S256, .f32⟩
  | .hbm, ⟨9, _⟩ => ⟨S1792, .f32⟩
  | .hbm, ⟨10, _⟩ => ⟨S1x1792, .f32⟩
  | .hbm, ⟨11, _⟩ => ⟨S1024x1792, .f32⟩
  | .hbm, ⟨12, _⟩ => ⟨S1024x1792, .f32⟩
  | .hbm, ⟨13, _⟩ => ⟨S1024x1792, .bf16⟩
  | .hbm, ⟨14, _⟩ => ⟨S32768x1024, .f32⟩
  | .hbm, ⟨15, _⟩ => ⟨S1x1024, .f32⟩
  | .hbm, ⟨16, _⟩ => ⟨S32768x512, .bf16⟩
  | .hbm, ⟨17, _⟩ => ⟨S32768x512, .bf16⟩
  | .hbm, ⟨18, _⟩ => ⟨S32768x512, .bf16⟩
  | .hbm, ⟨19, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormProjIdeal.lean ====
variable {F : FTy → Type} [FloatOps F] [Named F]
def κ : String → Option EReal := fun
  | "log2e" => some (((Real.log 2)⁻¹ : ℝ) : EReal)
  | _ => none
-- ==== NormProjRefIdeal.lean ====
abbrev S2x16384x1024 : Shape := ⟨3, ![2, 16384, 1024]⟩
abbrev S1024 : Shape := ⟨1, ![1024]⟩
abbrev S1024x1792 : Shape := ⟨2, ![1024, 1792]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1792 : Shape := ⟨3, ![2, 16384, 1792]⟩
abbrev S32768x1792 : Shape := ⟨2, ![32768, 1792]⟩
abbrev S32768x512 : Shape := ⟨2, ![32768, 512]⟩
abbrev S32768x256 : Shape := ⟨2, ![32768, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x1792, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x1792, .f32⟩
  | .hbm, ⟨20, _⟩ => ⟨S32768x1792, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S32768x512, .bf16⟩
  | .hbm, ⟨31, _⟩ => ⟨S32768x512, .f32⟩
  | .hbm, ⟨32, _⟩ => ⟨S32768x512, .bf16⟩
  | .hbm, ⟨33, _⟩ => ⟨S32768x512, .f32⟩
  | .hbm, ⟨34, _⟩ => ⟨S32768x512, .bf16⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== MemKv.lean ====
abbrev S2x256x1024 : Shape := ⟨3, ![2, 256, 1024]⟩
abbrev S4x1024 : Shape := ⟨2, ![4, 1024]⟩
abbrev S4x1024x512 : Shape := ⟨3, ![4, 1024, 512]⟩
abbrev S512x1024 : Shape := ⟨2, ![512, 1024]⟩
abbrev S4x1x1024 : Shape := ⟨3, ![4, 1, 1024]⟩
abbrev S4x512x512 : Shape := ⟨3, ![4, 512, 512]⟩
abbrev S1x1x1024 : Shape := ⟨3, ![1, 1, 1024]⟩
abbrev S1x1024x512 : Shape := ⟨3, ![1, 1024, 512]⟩
abbrev S1x512x512 : Shape := ⟨3, ![1, 512, 512]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x512, .f32⟩
  | .hbm, ⟨3, _⟩ => ⟨S512x1024, .f32⟩
  | .hbm, ⟨4, _⟩ => ⟨S4x1024x512, .bf16⟩
  | .hbm, ⟨5, _⟩ => ⟨S4x1x1024, .f32⟩
  | .hbm, ⟨6, _⟩ => ⟨S4x512x512, .bf16⟩
  | .local _ .vmem, ⟨0, _⟩ => ⟨S512x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x512x512, .bf16⟩
  | .local _ .vmem, ⟨6, _⟩ => ⟨S1x512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S2x256x1024 : Shape := ⟨3, ![2, 256, 1024]⟩
abbrev S4x1024 : Shape := ⟨2, ![4, 1024]⟩
abbrev S4x1024x512 : Shape := ⟨3, ![4, 1024, 512]⟩
abbrev S_ : Shape := ⟨0, ![]⟩
abbrev S2x256 : Shape := ⟨2, ![2, 256]⟩
abbrev S2x256x1 : Shape := ⟨3, ![2, 256, 1]⟩
abbrev S4x1x1x1024 : Shape := ⟨4, ![4, 1, 1, 1024]⟩
abbrev S1x2x256x1024 : Shape := ⟨4, ![1, 2, 256, 1024]⟩
abbrev S4x2x256x1024 : Shape := ⟨4, ![4, 2, 256, 1024]⟩
abbrev S4x2x256x512 : Shape := ⟨4, ![4, 2, 256, 512]⟩
abbrev S4x512x512 : Shape := ⟨3, ![4, 512, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024, .f32⟩
  | .hbm, ⟨2, _⟩ => ⟨S4x1024x512, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S4x1x1x1024, .f32⟩
  | .hbm, ⟨17, _⟩ => ⟨S1x2x256x1024, .f32⟩
  | .hbm, ⟨18, _⟩ => ⟨S4x2x256x1024, .f32⟩
  | .hbm, ⟨19, _⟩ => ⟨S4x2x256x1024, .f32⟩
  | .hbm, ⟨20, _⟩ => ⟨S4x2x256x1024, .f32⟩
  | .hbm, ⟨21, _⟩ => ⟨S4x2x256x512, .f32⟩
  | .hbm, ⟨22, _⟩ => ⟨S4x512x512, .f32⟩
  | .hbm, ⟨23, _⟩ => ⟨S4x512x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Stick.Sem.lean ====
/-
  The stick-breaking attention call as a function of its blocks, over any float values: one grid point's two pairs of heads, each a
  state (`St`) that a prefix sets up, a loop over blocks of keys steps, and one last product closes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.FrameBody
public import Idealize.ShloMosaic.Lib.Pipeline.Value
public import Idealize.ShloMosaic.Lib.Exec

@[expose] public section

set_option maxRecDepth 16384

noncomputable section

namespace Cert.KernelIdeal.Stick

open Cert.KernelIdeal Cert.KernelIdeal.Gen
open Idealize.ShloMosaic Idealize.ShloMosaic.TcCoe

variable {F : FTy → Type} [FloatOps F] [Named F]

/-- The coordinates whose query tile is `t`. -/
def mk (t : Fin 32) : grid0.Coords := fun | 0 => ⟨0, by decide⟩ | 1 => ⟨0, by decide⟩ | 2 => t

/-- The first row of key block `n` of the query tile: block 0 is the tile's upper half, each further block 256 rows before. -/
def kst (i : grid0.Coords) (n : ℕ) : ℕ := 512 * (i 2).val + 256 - 256 * n

theorem tile_lt (i : grid0.Coords) : (i 2).val < 32 := (i 2).isLt

/-- A key block lies inside the sequence, whichever pair of heads reads it. -/
theorem blk_inb (i : grid0.Coords) (h : Fin 2) (n : ℕ) :
    ∀ a, (![kst i n, 128 * h.val] : Fin 2 → ℕ) a + S256x128.size a ≤ S16384x256.size a := by
  have ht := tile_lt i
  have hh := h.isLt
  intro a; fin_cases a
  · show kst i n + 256 ≤ 16384; unfold kst; omega
  · show 128 * h.val + 128 ≤ 256; omega

/-- Key (or value) block `n` of head pair `h`. -/
def blk (X : Vec F S16384x256 .bf16) (i : grid0.Coords) (h : Fin 2) (n : ℕ) : Vec F S256x128 .bf16 :=
  View.ld X (Rect.unit (s := S16384x256) ![kst i n, 128 * h.val] S256x128.size (blk_inb i h n))

/-- A load at offsets that are a block's is the block. -/
theorem ld_blk (X : Vec F S16384x256 .bf16) (i : grid0.Coords) (h : Fin 2) (n : ℕ) (off : Fin 2 → ℕ)
    (e : off = ![kst i n, 128 * h.val]) (inb : ∀ a, off a + S256x128.size a ≤ S16384x256.size a) :
    View.ld X (Rect.unit (s := S16384x256) off S256x128.size inb) = blk X i h n := by
  subst e; rfl

/-- What one pair of heads carries between key blocks: two slots of logits, two of weights, the sum of the later keys'
    `log2 (1 + 2^z)`, and the output so far. -/
@[ext] structure St (F : FTy → Type) where
  z0 : Vec F S1024x256 .f32
  z1 : Vec F S1024x256 .f32
  w0 : Vec F S512x512 .bf16
  w1 : Vec F S512x512 .bf16
  la : Vec F S1024x1 .f32
  ac : Vec F S512x128 .f32

/-- Whether every row's stick is spent. -/
def spent (la : Vec F S1024x1 .f32) : BitVec 1 :=
  Scalar.cmpf .oge (k0_pay3 la) (Named.named κ "spent" 0x43200000#32)

/-- A trip's first half at block `n`: logits of block `n + 2`, the product of block `n`, the weights of the block between. -/
def half1 (q : Vec F S1024x128 .bf16) (tri : Vec F S256x256 .bf16) (kb vb : ℕ → Vec F S256x128 .bf16) (n : ℕ) (s : St F) : St F where
  z0 := s.z0
  z1 := k0_pay66 q (kb (n + 2))
  w0 := k0_pay71 s.z0 tri (k0_pay69 s.z0 s.la)
  w1 := s.w1
  la := k0_pay2 (k0_pay72 s.z0 tri s.la)
  ac := k0_pay68 (k0_pay67 k0_pay10 k0_pay11 s.ac s.w1 (vb n))

/-- Its second half: the same a block further, the slots exchanged. -/
def half2 (q : Vec F S1024x128 .bf16) (tri : Vec F S256x256 .bf16) (kb vb : ℕ → Vec F S256x128 .bf16) (n : ℕ) (s : St F) : St F where
  z0 := k0_pay59 q (kb (n + 3))
  z1 := s.z1
  w0 := s.w0
  w1 := k0_pay64 s.z1 tri (k0_pay62 s.z1 s.la)
  la := k0_pay4 (k0_pay65 s.z1 tri s.la)
  ac := k0_pay61 (k0_pay60 k0_pay10 k0_pay11 s.ac s.w0 (vb (n + 1)))

/-- The state after a trip. -/
def trip (q : Vec F S1024x128 .bf16) (tri : Vec F S256x256 .bf16) (kb vb : ℕ → Vec F S256x128 .bf16) (n : ℕ) (s : St F) : St F :=
  if spent (half1 q tri kb vb n s).la = 1#1 then half1 q tri kb vb n s else half2 q tri kb vb n (half1 q tri kb vb n s)

/-- The block a trip ends at. -/
def next (q : Vec F S1024x128 .bf16) (tri : Vec F S256x256 .bf16) (kb vb : ℕ → Vec F S256x128 .bf16) (n : ℕ) (s : St F) : ℕ :=
  if spent (half1 q tri kb vb n s).la = 1#1 then n + 1 else n + 2

/-- The loop from block `n`, at most `fuel` trips, up to block `N`: where it ends, and the state there. -/
def loop (q : Vec F S1024x128 .bf16) (tri : Vec F S256x256 .bf16) (kb vb : ℕ → Vec F S256x128 .bf16) (N : ℕ) :
    ℕ → ℕ → BitVec 1 → St F → ℕ × St F
  | 0, n, _, s => (n, s)
  | f + 1, n, b, s =>
    if n < N ∧ b = 0#1 then
      loop q tri kb vb N f (next q tri kb vb n s) (spent (trip q tri kb vb n s).la) (trip q tri kb vb n s)
    else (n, s)

/-- The output once the loop has ended: the last block's product, from the slot its parity names. -/
def finish (vb : ℕ → Vec F S256x128 .bf16) (r : ℕ × St F) : Vec F S512x128 .f32 :=
  if r.1 % 2 = 1 then k0_pay54 k0_pay10 k0_pay11 r.2.ac r.2.w1 (vb r.1)
  else k0_pay55 k0_pay10 k0_pay11 r.2.ac r.2.w0 (vb r.1)

/-! ## The printed offsets and conditions -/

theorem off3_eq (i : grid0.Coords) (n : ℕ) (hn : n < 64) : k0_off3 i (BitVec.ofNat 32 n) = ![kst i (n + 2), 0] := by
  have h : ∀ t : Fin 32, ∀ n : Fin 64, k0_off3 (mk t) (BitVec.ofNat 32 n.val) = ![kst (mk t) (n.val + 2), 0] := by decide +kernel
  exact h (i 2) ⟨n, hn⟩

theorem off4_eq (i : grid0.Coords) (n : ℕ) (hn : n < 64) : k0_off4 i (BitVec.ofNat 32 n) = ![kst i n, 0] := by
  have h : ∀ t : Fin 32, ∀ n : Fin 64, k0_off4 (mk t) (BitVec.ofNat 32 n.val) = ![kst (mk t) n.val, 0] := by decide +kernel
  exact h (i 2) ⟨n, hn⟩

theorem off5a_eq (i : grid0.Coords) (n : ℕ) (hn : n < 64) : k0_off5 i (BitVec.ofNat 32 n) 3#32 = ![kst i (n + 3), 0] := by
  have h : ∀ t : Fin 32, ∀ n : Fin 64, k0_off5 (mk t) (BitVec.ofNat 32 n.val) 3#32 = ![kst (mk t) (n.val + 3), 0] := by decide +kernel
  exact h (i 2) ⟨n, hn⟩

theorem off5b_eq (i : grid0.Coords) (n : ℕ) (hn : n < 64) : k0_off5 i (BitVec.ofNat 32 n) 1#32 = ![kst i (n + 1), 0] := by
  have h : ∀ t : Fin 32, ∀ n : Fin 64, k0_off5 (mk t) (BitVec.ofNat 32 n.val) 1#32 = ![kst (mk t) (n.val + 1), 0] := by decide +kernel
  exact h (i 2) ⟨n, hn⟩

theorem off6_eq (i : grid0.Coords) (n : ℕ) (hn : n < 64) : k0_off6 i (BitVec.ofNat 32 n) = ![kst i n, 0] := by
  have h : ∀ t : Fin 32, ∀ n : Fin 64, k0_off6 (mk t) (BitVec.ofNat 32 n.val) = ![kst (mk t) n.val, 0] := by decide +kernel
  exact h (i 2) ⟨n, hn⟩

theorem off7_eq (i : grid0.Coords) (n : ℕ) (hn : n < 64) : k0_off7 i (BitVec.ofNat 32 n) = ![kst i n, 0] := by
  have h : ∀ t : Fin 32, ∀ n : Fin 64, k0_off7 (mk t) (BitVec.ofNat 32 n.val) = ![kst (mk t) n.val, 0] := by decide +kernel
  exact h (i 2) ⟨n, hn⟩

theorem off8_eq (i : grid0.Coords) (n : ℕ) (hn : n < 64) : k0_off8 i (BitVec.ofNat 32 n) = ![kst i (n + 2), 128] := by
  have h : ∀ t : Fin 32, ∀ n : Fin 64, k0_off8 (mk t) (BitVec.ofNat 32 n.val) = ![kst (mk t) (n.val + 2), 128] := by decide +kernel
  exact h (i 2) ⟨n, hn⟩

theorem off9_eq (i : grid0.Coords) (n : ℕ) (hn : n < 64) : k0_off9 i (BitVec.ofNat 32 n) = ![kst i n, 128] := by
  have h : ∀ t : Fin 32, ∀ n : Fin 64, k0_off9 (mk t) (BitVec.ofNat 32 n.val) = ![kst (mk t) n.val, 128] := by decide +kernel
  exact h (i 2) ⟨n, hn⟩

theorem off10a_eq (i : grid0.Coords) (n : ℕ) (hn : n < 64) : k0_off10 i (BitVec.ofNat 32 n) 3#32 = ![kst i (n + 3), 128] := by
  have h : ∀ t : Fin 32, ∀ n : Fin 64, k0_off10 (mk t) (BitVec.ofNat 32 n.val) 3#32 = ![kst (mk t) (n.val + 3), 128] := by decide +kernel
  exact h (i 2) ⟨n, hn⟩

theorem off10b_eq (i : grid0.Coords) (n : ℕ) (hn : n < 64) : k0_off10 i (BitVec.ofNat 32 n) 1#32 = ![kst i (n + 1), 128] := by
  have h : ∀ t : Fin 32, ∀ n : Fin 64, k0_off10 (mk t) (BitVec.ofNat 32 n.val) 1#32 = ![kst (mk t) (n.val + 1), 128] := by decide +kernel
  exact h (i 2) ⟨n, hn⟩

theorem off11_eq (i : grid0.Coords) (n : ℕ) (hn : n < 64) : k0_off11 i (BitVec.ofNat 32 n) = ![kst i n, 128] := by
  have h : ∀ t : Fin 32, ∀ n : Fin 64, k0_off11 (mk t) (BitVec.ofNat 32 n.val) = ![kst (mk t) n.val, 128] := by decide +kernel
  exact h (i 2) ⟨n, hn⟩

theorem off12_eq (i : grid0.Coords) (n : ℕ) (hn : n < 64) : k0_off12 i (BitVec.ofNat 32 n) = ![kst i n, 128] := by
  have h : ∀ t : Fin 32, ∀ n : Fin 64, k0_off12 (mk t) (BitVec.ofNat 32 n.val) = ![kst (mk t) n.val, 128] := by decide +kernel
  exact h (i 2) ⟨n, hn⟩

theorem off1a_eq (i : grid0.Coords) : k0_off1 i 256#32 = ![kst i 0, 0] := by
  have h : ∀ t : Fin 32, k0_off1 (mk t) 256#32 = ![kst (mk t) 0, 0] := by decide +kernel
  exact h (i 2)

theorem off1b_eq (i : grid0.Coords) : k0_off1 i 0#32 = ![kst i 1, 0] := by
  have h : ∀ t : Fin 32, k0_off1 (mk t) 0#32 = ![kst (mk t) 1, 0] := by decide +kernel
  exact h (i 2)

theorem off1c_eq (i : grid0.Coords) : k0_off1 i 4294967040#32 = ![kst i 2, 0] := by
  have h : ∀ t : Fin 32, k0_off1 (mk t) 4294967040#32 = ![kst (mk t) 2, 0] := by decide +kernel
  exact h (i 2)

theorem off2a_eq (i : grid0.Coords) : k0_off2 i 256#32 = ![kst i 0, 128] := by
  have h : ∀ t : Fin 32, k0_off2 (mk t) 256#32 = ![kst (mk t) 0, 128] := by decide +kernel
  exact h (i 2)

theorem off2b_eq (i : grid0.Coords) : k0_off2 i 0#32 = ![kst i 1, 128] := by
  have h : ∀ t : Fin 32, k0_off2 (mk t) 0#32 = ![kst (mk t) 1, 128] := by decide +kernel
  exact h (i 2)

theorem off2c_eq (i : grid0.Coords) : k0_off2 i 4294967040#32 = ![kst i 2, 128] := by
  have h : ∀ t : Fin 32, k0_off2 (mk t) 4294967040#32 = ![kst (mk t) 2, 128] := by decide +kernel
  exact h (i 2)

theorem chk1 (i : grid0.Coords) (n : ℕ) (hn : n < 64) : k0_chk1 i (BitVec.ofNat 32 n) := by
  have h : ∀ t : Fin 32, ∀ n : Fin 64, k0_chk1 (mk t) (BitVec.ofNat 32 n.val) := by decide +kernel
  exact h (i 2) ⟨n, hn⟩

theorem chk2 (i : grid0.Coords) (n : ℕ) (hn : n < 64) (b : BitVec 1) : k0_chk2 i (BitVec.ofNat 32 n) b := by
  have h : ∀ t : Fin 32, ∀ n : Fin 64, k0_chk2 (mk t) (BitVec.ofNat 32 n.val) 0#1 ∧ k0_chk2 (mk t) (BitVec.ofNat 32 n.val) 1#1 := by
    decide +kernel
  rcases (by decide : ∀ b : BitVec 1, b = 0#1 ∨ b = 1#1) b with rfl | rfl
  · exact (h (i 2) ⟨n, hn⟩).1
  · exact (h (i 2) ⟨n, hn⟩).2

theorem chk3 (i : grid0.Coords) (n : ℕ) (hn : n < 64) : k0_chk3 i (BitVec.ofNat 32 n) := by
  have h : ∀ t : Fin 32, ∀ n : Fin 64, k0_chk3 (mk t) (BitVec.ofNat 32 n.val) := by decide +kernel
  exact h (i 2) ⟨n, hn⟩

theorem chk4 (i : grid0.Coords) (n : ℕ) (hn : n < 64) : k0_chk4 i (BitVec.ofNat 32 n) := by
  have h : ∀ t : Fin 32, ∀ n : Fin 64, k0_chk4 (mk t) (BitVec.ofNat 32 n.val) := by decide +kernel
  exact h (i 2) ⟨n, hn⟩

theorem chk5 (i : grid0.Coords) (n : ℕ) (hn : n < 64) (b : BitVec 1) : k0_chk5 i (BitVec.ofNat 32 n) b := by
  have h : ∀ t : Fin 32, ∀ n : Fin 64, k0_chk5 (mk t) (BitVec.ofNat 32 n.val) 0#1 ∧ k0_chk5 (mk t) (BitVec.ofNat 32 n.val) 1#1 := by
    decide +kernel
  rcases (by decide : ∀ b : BitVec 1, b = 0#1 ∨ b = 1#1) b with rfl | rfl
  · exact (h (i 2) ⟨n, hn⟩).1
  · exact (h (i 2) ⟨n, hn⟩).2

theorem chk6 (i : grid0.Coords) (n : ℕ) (hn : n < 64) : k0_chk6 i (BitVec.ofNat 32 n) := by
  have h : ∀ t : Fin 32, ∀ n : Fin 64, k0_chk6 (mk t) (BitVec.ofNat 32 n.val) := by decide +kernel
  exact h (i 2) ⟨n, hn⟩

theorem cond2_iff (n : ℕ) (hn : n < 64) : k0_cond2 (BitVec.ofNat 32 n) = 1#1 ↔ n % 2 = 1 := by
  have h : ∀ n : Fin 64, k0_cond2 (BitVec.ofNat 32 n.val) = 1#1 ↔ n.val % 2 = 1 := by decide +kernel
  exact h ⟨n, hn⟩

theorem cond3_iff (n : ℕ) (hn : n < 64) : k0_cond3 (BitVec.ofNat 32 n) = 1#1 ↔ ¬ n % 2 = 1 := by
  have h : ∀ n : Fin 64, k0_cond3 (BitVec.ofNat 32 n.val) = 1#1 ↔ ¬ n.val % 2 = 1 := by decide +kernel
  exact h ⟨n, hn⟩

theorem cond5_iff (n : ℕ) (hn : n < 64) : k0_cond5 (BitVec.ofNat 32 n) = 1#1 ↔ n % 2 = 1 := by
  have h : ∀ n : Fin 64, k0_cond5 (BitVec.ofNat 32 n.val) = 1#1 ↔ n.val % 2 = 1 := by decide +kernel
  exact h ⟨n, hn⟩

theorem cond6_iff (n : ℕ) (hn : n < 64) : k0_cond6 (BitVec.ofNat 32 n) = 1#1 ↔ ¬ n % 2 = 1 := by
  have h : ∀ n : Fin 64, k0_cond6 (BitVec.ofNat 32 n.val) = 1#1 ↔ ¬ n.val % 2 = 1 := by decide +kernel
  exact h ⟨n, hn⟩

theorem cond1_iff (b : BitVec 1) : k0_cond1 b = 1#1 ↔ ¬ b = 1#1 := by revert b; decide
theorem cond4_iff (b : BitVec 1) : k0_cond4 b = 1#1 ↔ ¬ b = 1#1 := by revert b; decide

/-- A loop that starts at or before block `N + 1` ends there at the latest. -/
theorem loop_le (q : Vec F S1024x128 .bf16) (tri : Vec F S256x256 .bf16) (kb vb : ℕ → Vec F S256x128 .bf16) (N : ℕ) :
    ∀ f n b s, n ≤ N + 1 → (loop q tri kb vb N f n b s).1 ≤ N + 1
  | 0, n, b, s, h => h
  | f + 1, n, b, s, h => by
    unfold loop
    split
    · refine loop_le q tri kb vb N f _ _ _ ?_
      unfold next; split <;> omega
    · exact h

end Cert.KernelIdeal.Stick

end
-- ==== Proof.Stick.While1.lean ====
/-
  The first pair's loop over key blocks, run: from a state at block `n` it ends at `loop` of that state.
-/
module

public import proofs.«01_k».proof.Proof.Stick.Sem
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loops' variants: the trips still allowed. -/
def 𝒱₀ : Variants := ⟨ℕ, (· < ·), wellFounded_lt⟩

theorem sp_neq {b : BitVec 1} (h : ¬ b = 1#1) : b = 0#1 := by revert b; decide

/-- The number of key blocks a query tile sees, as the kernel computes it. -/
def nblk (arg2 : BitVec 32) : BitVec 32 :=
  let v0 : BitVec 32 := Scalar.muli arg2 512#32
  let v43 : BitVec 1 := Scalar.cmpi .sgt v0 0#32
  let v44 : BitVec 32 := Scalar.extui v43
  let v45 : BitVec 1 := Scalar.cmpi .slt v0 0#32
  let v46 : BitVec 32 := Scalar.extui v45
  let v47 : BitVec 32 := Scalar.subi v44 v46
  let v48 : BitVec 1 := Scalar.cmpi .sgt 256#32 0#32
  let v49 : BitVec 32 := Scalar.extui v48
  let v50 : BitVec 1 := Scalar.cmpi .slt 256#32 0#32
  let v51 : BitVec 32 := Scalar.extui v50
  let v52 : BitVec 32 := Scalar.subi v49 v51
  let v53 : BitVec 1 := Scalar.cmpi .ne v47 v52
  let v54 : BitVec 32 := Scalar.remsi v0 256#32
  let v55 : BitVec 1 := Scalar.cmpi .ne v54 0#32
  let v56 : BitVec 1 := Scalar.andi v53 v55
  let v42 : BitVec 32 := Scalar.divsi v0 256#32
  let v57 : BitVec 32 := Scalar.subi v42 1#32
  let v58 : BitVec 32 := Scalar.select v56 v57 v42
  Scalar.addi 2#32 v58

/-- The loop goes on while a block after the next is left and no stick was found spent. -/
theorem more_iff (i : grid0.Coords) (n : ℕ) (hn : n < 64) (b : BitVec 1) :
    Scalar.andi (Scalar.cmpi .slt (BitVec.ofNat 32 n) (Scalar.subi (nblk (BitVec.ofNat 32 (i 2).val)) 2#32)) (Scalar.xori b 1#1) = 1#1
      ↔ n < 2 * (i 2).val ∧ b = 0#1 := by
  have h : ∀ t : Fin 32, ∀ n : Fin 64, ∀ b : BitVec 1,
      Scalar.andi (Scalar.cmpi .slt (BitVec.ofNat 32 n.val) (Scalar.subi (nblk (BitVec.ofNat 32 t.val)) 2#32)) (Scalar.xori b 1#1) = 1#1
        ↔ n.val < 2 * t.val ∧ b = 0#1 := by
    have h0 : ∀ t : Fin 32, ∀ n : Fin 64, ∀ b : Fin 2,
      Scalar.andi (Scalar.cmpi .slt (BitVec.ofNat 32 n.val) (Scalar.subi (nblk (BitVec.ofNat 32 t.val)) 2#32)) (Scalar.xori (BitVec.ofFin b) 1#1) = 1#1
        ↔ n.val < 2 * t.val ∧ BitVec.ofFin b = 0#1 := by decide +kernel
    exact fun t n b => h0 t n b.toFin
  exact h (i 2) ⟨n, hn⟩ b

theorem hz : (![0, 0] : Fin 2 → ℕ) = fun _ => 0 := by funext a; fin_cases a <;> rfl

/-! A load of a whole buffer is the buffer. -/

theorem ldz (X : Vec F S1024x256 .f32) (inb) : View.ld X (Rect.unit (s := S1024x256) ![0, 0] ![1024, 256] inb) = X := View.ld_unit_zero (S := S1024x256) hz inb X
theorem ldt (X : Vec F S256x256 .bf16) (inb) : View.ld X (Rect.unit (s := S256x256) ![0, 0] ![256, 256] inb) = X := View.ld_unit_zero (S := S256x256) hz inb X
theorem ldl (X : Vec F S1024x1 .f32) (inb) : View.ld X (Rect.unit (s := S1024x1) ![0, 0] ![1024, 1] inb) = X := View.ld_unit_zero (S := S1024x1) hz inb X
theorem ldq (X : Vec F S1024x128 .bf16) (inb) : View.ld X (Rect.unit (s := S1024x128) ![0, 0] ![1024, 128] inb) = X := View.ld_unit_zero (S := S1024x128) hz inb X
theorem lda (X : Vec F S512x128 .f32) (inb) : View.ld X (Rect.unit (s := S512x128) ![0, 0] ![512, 128] inb) = X := View.ld_unit_zero (S := S512x128) hz inb X
theorem ldw (X : Vec F S512x512 .bf16) (inb) : View.ld X (Rect.unit (s := S512x512) ![0, 0] ![512, 512] inb) = X := View.ld_unit_zero (S := S512x512) hz inb X

/-- A buffer whose last write covers it reads that write. -/
theorem rd_top {sp : Space} {S : Shape} {e : EltTy} (w : View sig .tc sp S e) (f : w.ty.Contents (Elt F)) {off : Fin S.rank → ℕ} (h : off = fun _ => 0)
    (inb : ∀ a, off a + S.size a ≤ S.size a) (x : S.Idx → Elt F e) (L : List (View.Piece (Elt F) S e)) :
    w.read (Elt F) (w.writes (Elt F) f ((⟨Rect.unit off S.size inb, x⟩ : View.Piece (Elt F) S e) :: L)) = x := by
  rw [View.read_writes_eq_canon _ _ _ fun y => ⟨_, List.mem_cons_self .., View.mem_set_unit_zero h inb y⟩, View.canon_cons_unit_zero h]

set_option maxHeartbeats 1000000 in
/-- The first pair's loop at block `n` with `f` trips allowed ends at `loop` of the state it starts from. -/
theorem while1_sound (c : Dev nD) (E : Set ℕ) (i : grid0.Coords)
    (arg8 : Memref sig .tc .vmem S1024x128 .bf16) (harg8 : arg8.IsWhole) (arg4 : Memref sig .tc .vmem S16384x256 .bf16) (harg4 : arg4.IsWhole) (arg10 : Memref sig .tc .vmem S1024x256 .f32) (harg10 : arg10.IsWhole) (arg15 : Memref sig .tc .vmem S512x128 .f32) (harg15 : arg15.IsWhole) (arg13 : Memref sig .tc .vmem S512x512 .bf16) (harg13 : arg13.IsWhole) (arg5 : Memref sig .tc .vmem S16384x256 .bf16) (harg5 : arg5.IsWhole) (arg9 : Memref sig .tc .vmem S1024x256 .f32) (harg9 : arg9.IsWhole) (arg14 : Memref sig .tc .vmem S1024x1 .f32) (harg14 : arg14.IsWhole) (arg11 : Memref sig .tc .vmem S1024x256 .f32) (harg11 : arg11.IsWhole) (arg7 : Memref sig .tc .vmem S256x256 .bf16) (harg7 : arg7.IsWhole) (arg12 : Memref sig .tc .vmem S512x512 .bf16) (harg12 : arg12.IsWhole)
    (q : Vec F S1024x128 .bf16) (k v : Vec F S16384x256 .bf16) (tri : Vec F S256x256 .bf16) :
    ∀ (f n : ℕ) (b : BitVec 1) (s : St F) (K : BitVec 32 × BitVec 1 → sProp 𝕄), 2 * (i 2).val ≤ n + f → n ≤ 2 * (i 2).val + 1 →
    iprop(owns (c : Thread nD τ) arg8 fullShare q ∗ owns (c : Thread nD τ) arg4 fullShare k ∗ owns (c : Thread nD τ) arg5 fullShare v
        ∗ owns (c : Thread nD τ) arg7 fullShare tri ∗ owns (c : Thread nD τ) arg9 fullShare s.z0 ∗ owns (c : Thread nD τ) arg10 fullShare s.z1
        ∗ owns (c : Thread nD τ) arg12 fullShare s.w0 ∗ owns (c : Thread nD τ) arg13 fullShare s.w1 ∗ owns (c : Thread nD τ) arg14 fullShare s.la
        ∗ owns (c : Thread nD τ) arg15 fullShare s.ac ∗ (∃ d, owns (c : Thread nD τ) arg11 fullShare d)
        ∗ (∀ b', iprop(owns (c : Thread nD τ) arg8 fullShare q ∗ owns (c : Thread nD τ) arg4 fullShare k ∗ owns (c : Thread nD τ) arg5 fullShare v
            ∗ owns (c : Thread nD τ) arg7 fullShare tri
            ∗ owns (c : Thread nD τ) arg9 fullShare (loop q tri (blk k i 0) (blk v i 0) (2 * (i 2).val) f n b s).2.z0
            ∗ owns (c : Thread nD τ) arg10 fullShare (loop q tri (blk k i 0) (blk v i 0) (2 * (i 2).val) f n b s).2.z1
            ∗ owns (c : Thread nD τ) arg12 fullShare (loop q tri (blk k i 0) (blk v i 0) (2 * (i 2).val) f n b s).2.w0
            ∗ owns (c : Thread nD τ) arg13 fullShare (loop q tri (blk k i 0) (blk v i 0) (2 * (i 2).val) f n b s).2.w1
            ∗ owns (c : Thread nD τ) arg14 fullShare (loop q tri (blk k i 0) (blk v i 0) (2 * (i 2).val) f n b s).2.la
            ∗ owns (c : Thread nD τ) arg15 fullShare (loop q tri (blk k i 0) (blk v i 0) (2 * (i 2).val) f n b s).2.ac
            ∗ (∃ d, owns (c : Thread nD τ) arg11 fullShare d))
          -∗ K (BitVec.ofNat 32 (loop q tri (blk k i 0) (blk v i 0) (2 * (i 2).val) f n b s).1, b')))
      ⊢ wp frame (wpE (defs₀ (F := F)) 𝒱₀ c (some f)) E
          (cc0_while1 i arg8 harg8 arg4 harg4 arg10 harg10 arg15 harg15 arg13 harg13 arg5 harg5 k0_pay10 k0_pay11 arg9 harg9 arg14 harg14 arg11 harg11 arg7 harg7 arg12 harg12 (BitVec.ofNat 32 n) b) K := by
  intro f
  induction f with
  | zero =>
    intro n b s K hf hn
    have ht := tile_lt i
    simp only [cc0_while1_eq_skeleton]; unfold cc0_while1_skel
    show _ ⊢ wp _ _ _ (if Scalar.andi (Scalar.cmpi .slt (BitVec.ofNat 32 n) (Scalar.subi (nblk (BitVec.ofNat 32 (i 2).val)) 2#32)) (Scalar.xori b 1#1) = 1#1 then _ else _) _
    rw [if_neg (fun h => absurd ((more_iff i n (by omega) b).1 h).1 (by omega))]
    simp only [loop]
    iintro ⟨H8, H4, H5, H7, H9, H10, H12, H13, H14, H15, H11, Hk⟩
    sl_step
    iapply Hk $$ %b
    isplitl [H8]; · iexact H8
    isplitl [H4]; · iexact H4
    isplitl [H5]; · iexact H5
    isplitl [H7]; · iexact H7
    isplitl [H9]; · iexact H9
    isplitl [H10]; · iexact H10
    isplitl [H12]; · iexact H12
    isplitl [H13]; · iexact H13
    isplitl [H14]; · iexact H14
    isplitl [H15]; · iexact H15
    iexact H11
  | succ f ih =>
    intro n b s K hf hn
    have ht := tile_lt i
    simp only [cc0_while1_eq_skeleton]; unfold cc0_while1_skel
    show _ ⊢ wp _ _ _ (if Scalar.andi (Scalar.cmpi .slt (BitVec.ofNat 32 n) (Scalar.subi (nblk (BitVec.ofNat 32 (i 2).val)) 2#32)) (Scalar.xori b 1#1) = 1#1 then _ else _) _
    by_cases hc : n < 2 * (i 2).val ∧ b = 0#1
    swap
    · rw [if_neg (fun h => hc ((more_iff i n (by omega) b).1 h))]
      simp only [loop, if_neg hc]
      iintro ⟨H8, H4, H5, H7, H9, H10, H12, H13, H14, H15, H11, Hk⟩
      sl_step
      iapply Hk $$ %b
      isplitl [H8]; · iexact H8
      isplitl [H4]; · iexact H4
      isplitl [H5]; · iexact H5
      isplitl [H7]; · iexact H7
      isplitl [H9]; · iexact H9
      isplitl [H10]; · iexact H10
      isplitl [H12]; · iexact H12
      isplitl [H13]; · iexact H13
      isplitl [H14]; · iexact H14
      isplitl [H15]; · iexact H15
      iexact H11
    rw [if_pos ((more_iff i n (by omega) b).2 hc)]
    simp only [loop, if_pos hc]
    have hk1 := chk1 i n (by omega)
    have hk2 := chk2 i n (by omega)
    simp only [k0_part13_eq_skeleton, k0_part14_eq_skeleton, k0_part15_eq_skeleton, k0_part16_eq_skeleton]
    unfold owns
    iintro ⟨⟨%f8, %hf8, H8⟩, ⟨%f4, %hf4, H4⟩, ⟨%f5, %hf5, H5⟩, ⟨%f7, %hf7, H7⟩, ⟨%f9, %hf9, H9⟩, ⟨%f10, %hf10, H10⟩, ⟨%f12, %hf12, H12⟩, ⟨%f13, %hf13, H13⟩, ⟨%f14, %hf14, H14⟩, ⟨%f15, %hf15, H15⟩, ⟨%d11, %f11, -, H11⟩, Hk⟩
    sl_exec (disch := first | exact hk1 | exact hk2 _)
    have h532 : while1_sound.sl.v532 c arg9 arg14 arg7 f7 f9 f14 = (half1 q tri (blk k i 0) (blk v i 0) n s).la := by
      unfold while1_sound.sl.v532 while1_sound.sl.H14_1
      rw [View.readCov_unit_zero _ hz]
      unfold while1_sound.sl.r_1
      simp only [View.readAt_eq_ld, hf9, hf7, hf14, ldz, ldt, ldl]
      rfl
    have h24 : Scalar.select (Scalar.cmpf CmpFPredicate.oge (k0_pay3 (while1_sound.sl.v532 c arg9 arg14 arg7 f7 f9 f14)) (Named.named κ "spent" 1126170624#32))
        (Scalar.addi (BitVec.ofNat 32 n) 1#32) (Scalar.addi (BitVec.ofNat 32 n) 2#32) = BitVec.ofNat 32 (next q tri (blk k i 0) (blk v i 0) n s) := by
      rw [h532]; unfold next
      show Scalar.select (spent (half1 q tri (blk k i 0) (blk v i 0) n s).la) _ _ = _
      by_cases hs : spent (half1 q tri (blk k i 0) (blk v i 0) n s).la = 1#1
      · rw [if_pos hs, hs]; exact (BitVec.ofNat_add n 1).symm
      · rw [if_neg hs, sp_neq hs]; exact (BitVec.ofNat_add n 2).symm
    have hb3 : ∀ inb, View.ld k (Rect.unit (s := S16384x256) (k0_off3 i (BitVec.ofNat 32 n)) ![256, 128] inb) = blk k i 0 (n + 2) :=
      fun inb => ld_blk k i 0 (n + 2) _ (off3_eq i n (by omega)) inb
    have hb4 : ∀ inb, View.ld v (Rect.unit (s := S16384x256) (k0_off4 i (BitVec.ofNat 32 n)) ![256, 128] inb) = blk v i 0 n :=
      fun inb => ld_blk v i 0 n _ (off4_eq i n (by omega)) inb
    have hb5 : ∀ inb, View.ld k (Rect.unit (s := S16384x256) (k0_off5 i (BitVec.ofNat 32 n) 3#32) ![256, 128] inb) = blk k i 0 (n + 3) :=
      fun inb => ld_blk k i 0 (n + 3) _ (off5a_eq i n (by omega)) inb
    have hb6 : ∀ inb, View.ld v (Rect.unit (s := S16384x256) (k0_off5 i (BitVec.ofNat 32 n) 1#32) ![256, 128] inb) = blk v i 0 (n + 1) :=
      fun inb => ld_blk v i 0 (n + 1) _ (off5b_eq i n (by omega)) inb
    have hv : ∀ u ∈ some (f + 1), 𝒱₀.lt f u := by rintro u ⟨⟩; exact Nat.lt_succ_self f
    have hnx : n + 1 ≤ next q tri (blk k i 0) (blk v i 0) n s ∧ next q tri (blk k i 0) (blk v i 0) n s ≤ n + 2 := by unfold next; split <;> omega
    have IH := ih (next q tri (blk k i 0) (blk v i 0) n s) (spent (trip q tri (blk k i 0) (blk v i 0) n s).la) (trip q tri (blk k i 0) (blk v i 0) n s)
      (fun x => wp frame (wpE (defs₀ (F := F)) 𝒱₀ c (some (f + 1))) E (Prog.ret x) K) (by omega) (by omega)
    unfold owns at IH
    by_cases hC : k0_cond1 (Scalar.cmpf CmpFPredicate.oge (k0_pay3 (while1_sound.sl.v532 c arg9 arg14 arg7 f7 f9 f14)) (Named.named κ "spent" 1126170624#32)) = 1#1
    · simp only [dif_pos hC]
      have hs : ¬ spent (half1 q tri (blk k i 0) (blk v i 0) n s).la = 1#1 := by
        rw [← h532]; exact (cond1_iff _).1 hC
      have htr : trip q tri (blk k i 0) (blk v i 0) n s = half2 q tri (blk k i 0) (blk v i 0) n (half1 q tri (blk k i 0) (blk v i 0) n s) := by
        unfold trip; exact if_neg hs
      have h25 : Scalar.cmpf CmpFPredicate.oge (k0_pay5 (while1_sound.sl.v544 c i arg8 arg4 arg10 arg9 arg14 arg7 n hk1 f8 f4 f7 f9 f14)) (Named.named κ "spent" 1126170624#32)
          = spent (trip q tri (blk k i 0) (blk v i 0) n s).la := by
        rw [htr]
        unfold while1_sound.sl.v544
        simp only [dif_pos hC, View.readAt_eq_ld, ldl]
        rw [rd_top _ _ hz]
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      iapply (wp_call (defs := defs₀ (F := F)) 𝒱₀ (c : Thread nD τ) (some (f + 1)) E f hv)
      show _ ⊢ wp frame (wpE (defs₀ (F := F)) 𝒱₀ c (some f)) E
        (cc0_while1 i arg8 harg8 arg4 harg4 arg10 harg10 arg15 harg15 arg13 harg13 arg5 harg5 k0_pay10 k0_pay11 arg9 harg9 arg14 harg14 arg11 harg11 arg7 harg7 arg12 harg12 _ _) _
      rw [h24, h25]
      refine BIBase.Entails.trans ?_ IH
      iintro ⟨⟨⟨⟨⟨⟨⟨H8, H4⟩, H5⟩, H7⟩, H10⟩, H12⟩, Hk⟩, H9, H13, H14, H15, H11⟩
      isplitl [H8]
      · iexists f8; isplitr
        · ipureintro; exact hf8
        · iexact H8
      isplitl [H4]
      · iexists f4; isplitr
        · ipureintro; exact hf4
        · iexact H4
      isplitl [H5]
      · iexists f5; isplitr
        · ipureintro; exact hf5
        · iexact H5
      isplitl [H7]
      · iexists f7; isplitr
        · ipureintro; exact hf7
        · iexact H7
      isplitl [H9]
      · iexists _; isplitr; swap; · iexact H9
        ipureintro; rw [htr]; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H10]
      · iexists _; isplitr; swap; · iexact H10
        ipureintro; rw [htr]; unfold while1_sound.sl.H10_1; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H12]
      · iexists _; isplitr; swap; · iexact H12
        ipureintro; rw [htr]; unfold while1_sound.sl.H12_1; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H13]
      · iexists _; isplitr; swap; · iexact H13
        ipureintro; rw [htr]; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H14]
      · iexists _; isplitr; swap; · iexact H14
        ipureintro; rw [htr]; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H15]
      · iexists _; isplitr; swap; · iexact H15
        ipureintro; rw [htr]; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H11]
      · iexists _; iexists _; isplitr; swap; · iexact H11
        ipureintro; rfl
      iintro %b' H
      rw [wp_ret]; imodintro
      iapply Hk $$ %b'
      iexact H
    · simp only [dif_neg hC]
      have hs : spent (half1 q tri (blk k i 0) (blk v i 0) n s).la = 1#1 := by
        rw [← h532]; by_contra hx; exact hC ((cond1_iff _).2 hx)
      have htr : trip q tri (blk k i 0) (blk v i 0) n s = half1 q tri (blk k i 0) (blk v i 0) n s := by
        unfold trip; exact if_pos hs
      have h25 : Scalar.cmpf CmpFPredicate.oge (k0_pay5 (while1_sound.sl.v544 c i arg8 arg4 arg10 arg9 arg14 arg7 n hk1 f8 f4 f7 f9 f14)) (Named.named κ "spent" 1126170624#32)
          = spent (trip q tri (blk k i 0) (blk v i 0) n s).la := by
        rw [htr]
        unfold while1_sound.sl.v544
        simp only [dif_neg hC, View.readAt_eq_ld, ldl]
        unfold while1_sound.sl.H14_1
        rw [rd_top _ _ hz]
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      iapply (wp_call (defs := defs₀ (F := F)) 𝒱₀ (c : Thread nD τ) (some (f + 1)) E f hv)
      show _ ⊢ wp frame (wpE (defs₀ (F := F)) 𝒱₀ c (some f)) E
        (cc0_while1 i arg8 harg8 arg4 harg4 arg10 harg10 arg15 harg15 arg13 harg13 arg5 harg5 k0_pay10 k0_pay11 arg9 harg9 arg14 harg14 arg11 harg11 arg7 harg7 arg12 harg12 _ _) _
      rw [h24, h25]
      refine BIBase.Entails.trans ?_ IH
      iintro ⟨⟨⟨⟨⟨⟨⟨H8, H4⟩, H5⟩, H7⟩, H10⟩, H12⟩, Hk⟩, H9, H13, H14, H15, H11⟩
      isplitl [H8]
      · iexists f8; isplitr
        · ipureintro; exact hf8
        · iexact H8
      isplitl [H4]
      · iexists f4; isplitr
        · ipureintro; exact hf4
        · iexact H4
      isplitl [H5]
      · iexists f5; isplitr
        · ipureintro; exact hf5
        · iexact H5
      isplitl [H7]
      · iexists f7; isplitr
        · ipureintro; exact hf7
        · iexact H7
      isplitl [H9]
      · iexists f9; isplitr
        · ipureintro; exact hf9.trans (by rw [htr]; rfl)
        · iexact H9
      isplitl [H10]
      · iexists _; isplitr; swap; · iexact H10
        ipureintro; rw [htr]; unfold while1_sound.sl.H10_1; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H12]
      · iexists _; isplitr; swap; · iexact H12
        ipureintro; rw [htr]; unfold while1_sound.sl.H12_1; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H13]
      · iexists f13; isplitr
        · ipureintro; exact hf13.trans (by rw [htr]; rfl)
        · iexact H13
      isplitl [H14]
      · iexists _; isplitr; swap; · iexact H14
        ipureintro; rw [htr]; unfold while1_sound.sl.H14_1; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H15]
      · iexists _; isplitr; swap; · iexact H15
        ipureintro; rw [htr]; unfold while1_sound.sl.H15_1; refine (rd_top _ _ hz _ _ _).trans ?_
        (try unfold while1_sound.sl.r_2); (try unfold while1_sound.sl.v565); (try unfold while1_sound.sl.v566); (try unfold while1_sound.sl.v573); (try unfold while1_sound.sl.r_3); (try unfold while1_sound.sl.v610); (try unfold while1_sound.sl.H11_2); (try unfold while1_sound.sl.v601); (try unfold while1_sound.sl.v588); (try unfold while1_sound.sl.v558); (try unfold while1_sound.sl.v532); (try unfold while1_sound.sl.H12_1); (try unfold while1_sound.sl.v516); (try unfold while1_sound.sl.H11_1); (try unfold while1_sound.sl.H10_1); (try unfold while1_sound.sl.H14_1); (try unfold while1_sound.sl.H15_1); (try unfold while1_sound.sl.r); (try unfold while1_sound.sl.r_1)
        simp only [View.readCov_cons_toLoadRect, View.readAt_eq_ld, hf8, hf4, hf5, hf7, hf9, hf10, hf12, hf13, hf14, hf15, ldz, ldt, ldl, ldq, lda, ldw, hb3, hb4, hb5, hb6]
        rfl
      isplitl [H11]
      · iexists _; iexists _; isplitr; swap; · iexact H11
        ipureintro; rfl
      iintro %b' H
      rw [wp_ret]; imodintro
      iapply Hk $$ %b'
      iexact H

end Cert.KernelIdeal.Stick

end
-- ==== Proof.Stick.While2.lean ====
/-
  The second pair's loop over key blocks, run: the same as the first pair's, on the second pair's buffers.
-/
module

public import proofs.«01_k».proof.Proof.Stick.While1
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1000000 in
/-- The second pair's loop at block `n` with `f` trips allowed ends at `loop` of the state it starts from. -/
theorem while2_sound (c : Dev nD) (E : Set ℕ) (i : grid0.Coords) (w : BitVec 32) (hw : k0_chk3 i w)
    (arg16 : Memref sig .tc .vmem S1024x128 .bf16) (harg16 : arg16.IsWhole) (arg4 : Memref sig .tc .vmem S16384x256 .bf16) (harg4 : arg4.IsWhole) (arg18 : Memref sig .tc .vmem S1024x256 .f32) (harg18 : arg18.IsWhole) (arg23 : Memref sig .tc .vmem S512x128 .f32) (harg23 : arg23.IsWhole) (arg21 : Memref sig .tc .vmem S512x512 .bf16) (harg21 : arg21.IsWhole) (arg5 : Memref sig .tc .vmem S16384x256 .bf16) (harg5 : arg5.IsWhole) (arg17 : Memref sig .tc .vmem S1024x256 .f32) (harg17 : arg17.IsWhole) (arg22 : Memref sig .tc .vmem S1024x1 .f32) (harg22 : arg22.IsWhole) (arg19 : Memref sig .tc .vmem S1024x256 .f32) (harg19 : arg19.IsWhole) (arg7 : Memref sig .tc .vmem S256x256 .bf16) (harg7 : arg7.IsWhole) (arg20 : Memref sig .tc .vmem S512x512 .bf16) (harg20 : arg20.IsWhole)
    (q : Vec F S1024x128 .bf16) (k v : Vec F S16384x256 .bf16) (tri : Vec F S256x256 .bf16) :
    ∀ (f n : ℕ) (b : BitVec 1) (s : St F) (K : BitVec 32 × BitVec 1 → sProp 𝕄), 2 * (i 2).val ≤ n + f → n ≤ 2 * (i 2).val + 1 →
    iprop(owns (c : Thread nD τ) arg16 fullShare q ∗ owns (c : Thread nD τ) arg4 fullShare k ∗ owns (c : Thread nD τ) arg5 fullShare v
        ∗ owns (c : Thread nD τ) arg7 fullShare tri ∗ owns (c : Thread nD τ) arg17 fullShare s.z0 ∗ owns (c : Thread nD τ) arg18 fullShare s.z1
        ∗ owns (c : Thread nD τ) arg20 fullShare s.w0 ∗ owns (c : Thread nD τ) arg21 fullShare s.w1 ∗ owns (c : Thread nD τ) arg22 fullShare s.la
        ∗ owns (c : Thread nD τ) arg23 fullShare s.ac ∗ (∃ d, owns (c : Thread nD τ) arg19 fullShare d)
        ∗ (∀ b', iprop(owns (c : Thread nD τ) arg16 fullShare q ∗ owns (c : Thread nD τ) arg4 fullShare k ∗ owns (c : Thread nD τ) arg5 fullShare v
            ∗ owns (c : Thread nD τ) arg7 fullShare tri
            ∗ owns (c : Thread nD τ) arg17 fullShare (loop q tri (blk k i 1) (blk v i 1) (2 * (i 2).val) f n b s).2.z0
            ∗ owns (c : Thread nD τ) arg18 fullShare (loop q tri (blk k i 1) (blk v i 1) (2 * (i 2).val) f n b s).2.z1
            ∗ owns (c : Thread nD τ) arg20 fullShare (loop q tri (blk k i 1) (blk v i 1) (2 * (i 2).val) f n b s).2.w0
            ∗ owns (c : Thread nD τ) arg21 fullShare (loop q tri (blk k i 1) (blk v i 1) (2 * (i 2).val) f n b s).2.w1
            ∗ owns (c : Thread nD τ) arg22 fullShare (loop q tri (blk k i 1) (blk v i 1) (2 * (i 2).val) f n b s).2.la
            ∗ owns (c : Thread nD τ) arg23 fullShare (loop q tri (blk k i 1) (blk v i 1) (2 * (i 2).val) f n b s).2.ac
            ∗ (∃ d, owns (c : Thread nD τ) arg19 fullShare d))
          -∗ K (BitVec.ofNat 32 (loop q tri (blk k i 1) (blk v i 1) (2 * (i 2).val) f n b s).1, b')))
      ⊢ wp frame (wpE (defs₀ (F := F)) 𝒱₀ c (some f)) E
          (cc0_while2 i w hw arg16 harg16 arg4 harg4 arg18 harg18 arg23 harg23 arg21 harg21 arg5 harg5 k0_pay10 k0_pay11 arg17 harg17 arg22 harg22 arg19 harg19 arg7 harg7 arg20 harg20 (BitVec.ofNat 32 n) b) K := by
  intro f
  induction f with
  | zero =>
    intro n b s K hf hn
    have ht := tile_lt i
    simp only [cc0_while2_eq_skeleton]; unfold cc0_while2_skel
    show _ ⊢ wp _ _ _ (if Scalar.andi (Scalar.cmpi .slt (BitVec.ofNat 32 n) (Scalar.subi (nblk (BitVec.ofNat 32 (i 2).val)) 2#32)) (Scalar.xori b 1#1) = 1#1 then _ else _) _
    rw [if_neg (fun h => absurd ((more_iff i n (by omega) b).1 h).1 (by omega))]
    simp only [loop]
    iintro ⟨H16, H4, H5, H7, H17, H18, H20, H21, H22, H23, H19, Hk⟩
    sl_step
    iapply Hk $$ %b
    isplitl [H16]; · iexact H16
    isplitl [H4]; · iexact H4
    isplitl [H5]; · iexact H5
    isplitl [H7]; · iexact H7
    isplitl [H17]; · iexact H17
    isplitl [H18]; · iexact H18
    isplitl [H20]; · iexact H20
    isplitl [H21]; · iexact H21
    isplitl [H22]; · iexact H22
    isplitl [H23]; · iexact H23
    iexact H19
  | succ f ih =>
    intro n b s K hf hn
    have ht := tile_lt i
    simp only [cc0_while2_eq_skeleton]; unfold cc0_while2_skel
    show _ ⊢ wp _ _ _ (if Scalar.andi (Scalar.cmpi .slt (BitVec.ofNat 32 n) (Scalar.subi (nblk (BitVec.ofNat 32 (i 2).val)) 2#32)) (Scalar.xori b 1#1) = 1#1 then _ else _) _
    by_cases hc : n < 2 * (i 2).val ∧ b = 0#1
    swap
    · rw [if_neg (fun h => hc ((more_iff i n (by omega) b).1 h))]
      simp only [loop, if_neg hc]
      iintro ⟨H16, H4, H5, H7, H17, H18, H20, H21, H22, H23, H19, Hk⟩
      sl_step
      iapply Hk $$ %b
      isplitl [H16]; · iexact H16
      isplitl [H4]; · iexact H4
      isplitl [H5]; · iexact H5
      isplitl [H7]; · iexact H7
      isplitl [H17]; · iexact H17
      isplitl [H18]; · iexact H18
      isplitl [H20]; · iexact H20
      isplitl [H21]; · iexact H21
      isplitl [H22]; · iexact H22
      isplitl [H23]; · iexact H23
      iexact H19
    rw [if_pos ((more_iff i n (by omega) b).2 hc)]
    simp only [loop, if_pos hc]
    have hk1 := chk4 i n (by omega)
    have hk2 := chk5 i n (by omega)
    simp only [k0_part17_eq_skeleton, k0_part18_eq_skeleton, k0_part19_eq_skeleton, k0_part20_eq_skeleton]
    unfold owns
    iintro ⟨⟨%f16, %hf16, H16⟩, ⟨%f4, %hf4, H4⟩, ⟨%f5, %hf5, H5⟩, ⟨%f7, %hf7, H7⟩, ⟨%f17, %hf17, H17⟩, ⟨%f18, %hf18, H18⟩, ⟨%f20, %hf20, H20⟩, ⟨%f21, %hf21, H21⟩, ⟨%f22, %hf22, H22⟩, ⟨%f23, %hf23, H23⟩, ⟨%d19, %f19, -, H19⟩, Hk⟩
    sl_exec (disch := first | exact hk1 | exact hk2 _)
    have h532 : while2_sound.sl.v532 c arg17 arg22 arg7 f7 f17 f22 = (half1 q tri (blk k i 1) (blk v i 1) n s).la := by
      unfold while2_sound.sl.v532 while2_sound.sl.H22_1
      rw [View.readCov_unit_zero _ hz]
      unfold while2_sound.sl.r_1
      simp only [View.readAt_eq_ld, hf17, hf7, hf22, ldz, ldt, ldl]
      rfl
    have h24 : Scalar.select (Scalar.cmpf CmpFPredicate.oge (k0_pay7 (while2_sound.sl.v532 c arg17 arg22 arg7 f7 f17 f22)) (Named.named κ "spent" 1126170624#32))
        (Scalar.addi (BitVec.ofNat 32 n) 1#32) (Scalar.addi (BitVec.ofNat 32 n) 2#32) = BitVec.ofNat 32 (next q tri (blk k i 1) (blk v i 1) n s) := by
      rw [h532]; unfold next
      show Scalar.select (spent (half1 q tri (blk k i 1) (blk v i 1) n s).la) _ _ = _
      by_cases hs : spent (half1 q tri (blk k i 1) (blk v i 1) n s).la = 1#1
      · rw [if_pos hs, hs]; exact (BitVec.ofNat_add n 1).symm
      · rw [if_neg hs, sp_neq hs]; exact (BitVec.ofNat_add n 2).symm
    have hb3 : ∀ inb, View.ld k (Rect.unit (s := S16384x256) (k0_off8 i (BitVec.ofNat 32 n)) ![256, 128] inb) = blk k i 1 (n + 2) :=
      fun inb => ld_blk k i 1 (n + 2) _ (off8_eq i n (by omega)) inb
    have hb4 : ∀ inb, View.ld v (Rect.unit (s := S16384x256) (k0_off9 i (BitVec.ofNat 32 n)) ![256, 128] inb) = blk v i 1 n :=
      fun inb => ld_blk v i 1 n _ (off9_eq i n (by omega)) inb
    have hb5 : ∀ inb, View.ld k (Rect.unit (s := S16384x256) (k0_off10 i (BitVec.ofNat 32 n) 3#32) ![256, 128] inb) = blk k i 1 (n + 3) :=
      fun inb => ld_blk k i 1 (n + 3) _ (off10a_eq i n (by omega)) inb
    have hb6 : ∀ inb, View.ld v (Rect.unit (s := S16384x256) (k0_off10 i (BitVec.ofNat 32 n) 1#32) ![256, 128] inb) = blk v i 1 (n + 1) :=
      fun inb => ld_blk v i 1 (n + 1) _ (off10b_eq i n (by omega)) inb
    have hv : ∀ u ∈ some (f + 1), 𝒱₀.lt f u := by rintro u ⟨⟩; exact Nat.lt_succ_self f
    have hnx : n + 1 ≤ next q tri (blk k i 1) (blk v i 1) n s ∧ next q tri (blk k i 1) (blk v i 1) n s ≤ n + 2 := by unfold next; split <;> omega
    have IH := ih (next q tri (blk k i 1) (blk v i 1) n s) (spent (trip q tri (blk k i 1) (blk v i 1) n s).la) (trip q tri (blk k i 1) (blk v i 1) n s)
      (fun x => wp frame (wpE (defs₀ (F := F)) 𝒱₀ c (some (f + 1))) E (Prog.ret x) K) (by omega) (by omega)
    unfold owns at IH
    by_cases hC : k0_cond4 (Scalar.cmpf CmpFPredicate.oge (k0_pay7 (while2_sound.sl.v532 c arg17 arg22 arg7 f7 f17 f22)) (Named.named κ "spent" 1126170624#32)) = 1#1
    · simp only [dif_pos hC]
      have hs : ¬ spent (half1 q tri (blk k i 1) (blk v i 1) n s).la = 1#1 := by
        rw [← h532]; exact (cond4_iff _).1 hC
      have htr : trip q tri (blk k i 1) (blk v i 1) n s = half2 q tri (blk k i 1) (blk v i 1) n (half1 q tri (blk k i 1) (blk v i 1) n s) := by
        unfold trip; exact if_neg hs
      have h25 : Scalar.cmpf CmpFPredicate.oge (k0_pay9 (while2_sound.sl.v544 c i arg16 arg4 arg18 arg17 arg22 arg7 n hk1 f16 f4 f7 f17 f22)) (Named.named κ "spent" 1126170624#32)
          = spent (trip q tri (blk k i 1) (blk v i 1) n s).la := by
        rw [htr]
        unfold while2_sound.sl.v544
        simp only [dif_pos hC, View.readAt_eq_ld, ldl]
        rw [rd_top _ _ hz]
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      iapply (wp_call (defs := defs₀ (F := F)) 𝒱₀ (c : Thread nD τ) (some (f + 1)) E f hv)
      show _ ⊢ wp frame (wpE (defs₀ (F := F)) 𝒱₀ c (some f)) E
        (cc0_while2 i w hw arg16 harg16 arg4 harg4 arg18 harg18 arg23 harg23 arg21 harg21 arg5 harg5 k0_pay10 k0_pay11 arg17 harg17 arg22 harg22 arg19 harg19 arg7 harg7 arg20 harg20 _ _) _
      rw [h24, h25]
      refine BIBase.Entails.trans ?_ IH
      iintro ⟨⟨⟨⟨⟨⟨⟨H16, H4⟩, H5⟩, H7⟩, H18⟩, H20⟩, Hk⟩, H17, H21, H22, H23, H19⟩
      isplitl [H16]
      · iexists f16; isplitr
        · ipureintro; exact hf16
        · iexact H16
      isplitl [H4]
      · iexists f4; isplitr
        · ipureintro; exact hf4
        · iexact H4
      isplitl [H5]
      · iexists f5; isplitr
        · ipureintro; exact hf5
        · iexact H5
      isplitl [H7]
      · iexists f7; isplitr
        · ipureintro; exact hf7
        · iexact H7
      isplitl [H17]
      · iexists _; isplitr; swap; · iexact H17
        ipureintro; rw [htr]; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H18]
      · iexists _; isplitr; swap; · iexact H18
        ipureintro; rw [htr]; unfold while2_sound.sl.H18_1; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H20]
      · iexists _; isplitr; swap; · iexact H20
        ipureintro; rw [htr]; unfold while2_sound.sl.H20_1; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H21]
      · iexists _; isplitr; swap; · iexact H21
        ipureintro; rw [htr]; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H22]
      · iexists _; isplitr; swap; · iexact H22
        ipureintro; rw [htr]; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H23]
      · iexists _; isplitr; swap; · iexact H23
        ipureintro; rw [htr]; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H19]
      · iexists _; iexists _; isplitr; swap; · iexact H19
        ipureintro; rfl
      iintro %b' H
      rw [wp_ret]; imodintro
      iapply Hk $$ %b'
      iexact H
    · simp only [dif_neg hC]
      have hs : spent (half1 q tri (blk k i 1) (blk v i 1) n s).la = 1#1 := by
        rw [← h532]; by_contra hx; exact hC ((cond4_iff _).2 hx)
      have htr : trip q tri (blk k i 1) (blk v i 1) n s = half1 q tri (blk k i 1) (blk v i 1) n s := by
        unfold trip; exact if_pos hs
      have h25 : Scalar.cmpf CmpFPredicate.oge (k0_pay9 (while2_sound.sl.v544 c i arg16 arg4 arg18 arg17 arg22 arg7 n hk1 f16 f4 f7 f17 f22)) (Named.named κ "spent" 1126170624#32)
          = spent (trip q tri (blk k i 1) (blk v i 1) n s).la := by
        rw [htr]
        unfold while2_sound.sl.v544
        simp only [dif_neg hC, View.readAt_eq_ld, ldl]
        unfold while2_sound.sl.H22_1
        rw [rd_top _ _ hz]
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      iapply (wp_call (defs := defs₀ (F := F)) 𝒱₀ (c : Thread nD τ) (some (f + 1)) E f hv)
      show _ ⊢ wp frame (wpE (defs₀ (F := F)) 𝒱₀ c (some f)) E
        (cc0_while2 i w hw arg16 harg16 arg4 harg4 arg18 harg18 arg23 harg23 arg21 harg21 arg5 harg5 k0_pay10 k0_pay11 arg17 harg17 arg22 harg22 arg19 harg19 arg7 harg7 arg20 harg20 _ _) _
      rw [h24, h25]
      refine BIBase.Entails.trans ?_ IH
      iintro ⟨⟨⟨⟨⟨⟨⟨H16, H4⟩, H5⟩, H7⟩, H18⟩, H20⟩, Hk⟩, H17, H21, H22, H23, H19⟩
      isplitl [H16]
      · iexists f16; isplitr
        · ipureintro; exact hf16
        · iexact H16
      isplitl [H4]
      · iexists f4; isplitr
        · ipureintro; exact hf4
        · iexact H4
      isplitl [H5]
      · iexists f5; isplitr
        · ipureintro; exact hf5
        · iexact H5
      isplitl [H7]
      · iexists f7; isplitr
        · ipureintro; exact hf7
        · iexact H7
      isplitl [H17]
      · iexists f17; isplitr
        · ipureintro; exact hf17.trans (by rw [htr]; rfl)
        · iexact H17
      isplitl [H18]
      · iexists _; isplitr; swap; · iexact H18
        ipureintro; rw [htr]; unfold while2_sound.sl.H18_1; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H20]
      · iexists _; isplitr; swap; · iexact H20
        ipureintro; rw [htr]; unfold while2_sound.sl.H20_1; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H21]
      · iexists f21; isplitr
        · ipureintro; exact hf21.trans (by rw [htr]; rfl)
        · iexact H21
      isplitl [H22]
      · iexists _; isplitr; swap; · iexact H22
        ipureintro; rw [htr]; unfold while2_sound.sl.H22_1; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H23]
      · iexists _; isplitr; swap; · iexact H23
        ipureintro; rw [htr]; unfold while2_sound.sl.H23_1; refine (rd_top _ _ hz _ _ _).trans ?_
        (try unfold while2_sound.sl.r_2); (try unfold while2_sound.sl.v565); (try unfold while2_sound.sl.v566); (try unfold while2_sound.sl.v573); (try unfold while2_sound.sl.r_3); (try unfold while2_sound.sl.v610); (try unfold while2_sound.sl.H19_2); (try unfold while2_sound.sl.v601); (try unfold while2_sound.sl.v588); (try unfold while2_sound.sl.v558); (try unfold while2_sound.sl.v532); (try unfold while2_sound.sl.H20_1); (try unfold while2_sound.sl.v516); (try unfold while2_sound.sl.H19_1); (try unfold while2_sound.sl.H18_1); (try unfold while2_sound.sl.H22_1); (try unfold while2_sound.sl.H23_1); (try unfold while2_sound.sl.r); (try unfold while2_sound.sl.r_1)
        simp only [View.readCov_cons_toLoadRect, View.readAt_eq_ld, hf16, hf4, hf5, hf7, hf17, hf18, hf20, hf21, hf22, hf23, ldz, ldt, ldl, ldq, lda, ldw, hb3, hb4, hb5, hb6]
        rfl
      isplitl [H19]
      · iexists _; iexists _; isplitr; swap; · iexact H19
        ipureintro; rfl
      iintro %b' H
      rw [wp_ret]; imodintro
      iapply Hk $$ %b'
      iexact H

end Cert.KernelIdeal.Stick

end
-- ==== Proof.Stick.Init.lean ====
/-
  What a grid point of the stick-breaking attention sets up before its loops, and the block it leaves.
-/
module

public import proofs.«01_k».proof.Proof.Stick.Sem

@[expose] public section

set_option maxRecDepth 16384

noncomputable section

namespace Cert.KernelIdeal.Stick

open Cert.KernelIdeal Cert.KernelIdeal.Gen
open Idealize.ShloMosaic Idealize.ShloMosaic.TcCoe

variable {F : FTy → Type} [FloatOps F] [Named F]

/-- The query tile's first row, as the kernel holds it. -/
def row0 (i : grid0.Coords) : BitVec 32 := Scalar.muli (BitVec.ofNat 32 (i 2).val) 512#32

/-- The queries of the first pair of heads, one head's rows after the other's, each with the other head's lanes cleared. -/
def q0 (x : Vec F S512x256 .bf16) : Vec F S1024x128 .bf16 :=
  k0_pay13 (View.ld x (Rect.unit (s := S512x256) ![0, 0] S512x128.size inb_S512x256_S512x128_0_0))

/-- The same for the second pair. -/
def q1 (x : Vec F S512x256 .bf16) : Vec F S1024x128 .bf16 :=
  k0_pay33 k0_pay10 k0_pay11 (View.ld x (Rect.unit (s := S512x256) ![0, 128] S512x128.size inb_S512x256_S512x128_0_128))

/-- In block 0 (the tile's upper half against itself): the sums of `log2 (1 + 2^z)` over the keys from each key on. -/
def diag (i : grid0.Coords) (q : Vec F S1024x128 .bf16) (kb : ℕ → Vec F S256x128 .bf16) : FVec F S512x256 .f32 :=
  k0_pay20 (k0_pay16 q (kb 0)) (k0_pay17 (row0 i)) (iota .tc S512x256 32 [1] iota_S512x256_d1_w32) (k0_pay18 (row0 i)) (k0_pay12 (F := F))

/-- The sum of the later keys' terms after block 0: nothing for the tile's lower half, block 0's sum for the upper half. -/
def later0 (i : grid0.Coords) (q : Vec F S1024x128 .bf16) (kb : ℕ → Vec F S256x128 .bf16) : Vec F S1024x1 .f32 :=
  View.canon (Val := Elt F)
    [⟨Rect.unit (s := S1024x1) ![768, 0] S256x1.size inb_S1024x1_S256x1_768_0,
        k0_pay23 (diag i q kb) fun j => View.canon (Val := Elt F)
          [⟨Rect.unit (s := S1024x1) ![256, 0] S256x1.size inb_S1024x1_S256x1_256_0,
            k0_pay22 (diag i q kb) (View.ld (k0_pay14 (F := F)) (Rect.unit (s := S1024x1) ![256, 0] S256x1.size inb_S1024x1_S256x1_256_0))⟩,
            ⟨Rect.unit (s := S1024x1) ![0, 0] S1024x1.size inb_S1024x1_S1024x1_0_0, k0_pay14⟩]
            ((Rect.unit (s := S1024x1) ![768, 0] S256x1.size inb_S1024x1_S256x1_768_0).emb j)⟩,
      ⟨Rect.unit (s := S1024x1) ![256, 0] S256x1.size inb_S1024x1_S256x1_256_0,
        k0_pay22 (diag i q kb) (View.ld (k0_pay14 (F := F)) (Rect.unit (s := S1024x1) ![256, 0] S256x1.size inb_S1024x1_S256x1_256_0))⟩,
      ⟨Rect.unit (s := S1024x1) ![0, 0] S1024x1.size inb_S1024x1_S1024x1_0_0, k0_pay14⟩]

/-- The output after block 0. -/
def acc0 (i : grid0.Coords) (q : Vec F S1024x128 .bf16) (kb vb : ℕ → Vec F S256x128 .bf16) : Vec F S512x128 .f32 :=
  View.canon (Val := Elt F)
    [⟨Rect.unit (s := S512x128) ![256, 0] S256x128.size inb_S512x128_S256x128_256_0,
        k0_pay21 k0_pay10 k0_pay11 (k0_pay16 q (kb 0)) (k0_pay17 (row0 i)) (iota .tc S512x256 32 [1] iota_S512x256_d1_w32) (k0_pay18 (row0 i))
          (k0_pay12 (F := F))
          (View.ld (k0_pay15 (Scalar.ofBits .f32 0x00000000#32 : F .f32))
            (Rect.unit (s := S512x128) ![256, 0] S256x128.size inb_S512x128_S256x128_256_0)) (vb 0)⟩,
      ⟨Rect.unit (s := S512x128) ![0, 0] S512x128.size inb_S512x128_S512x128_0_0, k0_pay15 (Scalar.ofBits .f32 0x00000000#32 : F .f32)⟩]

/-- The state in which the loop starts: block 0 done, the weights of block 1 (the first below the upper half) ready, the logits of block 2. -/
def init (i : grid0.Coords) (q : Vec F S1024x128 .bf16) (kb vb : ℕ → Vec F S256x128 .bf16) : St F where
  z0 := k0_pay32 q (kb 2)
  z1 := k0_pay24 q (kb 1)
  w0 := k0_pay29 (k0_pay25 (row0 i)) (k0_pay24 q (kb 1)) k0_pay26 k0_pay12 (k0_pay27 (k0_pay24 q (kb 1)) (later0 i q kb))
  w1 := k0_pay29 (k0_pay25 (row0 i)) (k0_pay24 q (kb 1)) k0_pay26 k0_pay12 (k0_pay27 (k0_pay24 q (kb 1)) (later0 i q kb))
  la := k0_pay31 (k0_pay30 (k0_pay25 (row0 i)) (k0_pay24 q (kb 1)) k0_pay26 k0_pay12 (later0 i q kb))
  ac := acc0 i q kb vb

/-- One pair's output: all blocks of keys, from the prefix's state on. -/
def pair (i : grid0.Coords) (q : Vec F S1024x128 .bf16) (kb vb : ℕ → Vec F S256x128 .bf16) : Vec F S512x128 .f32 :=
  finish vb (loop q k0_pay12 kb vb (2 * (i 2).val) 64 1 0#1 (init i q kb vb))

/-- The block a grid point leaves: the first pair's output in the lower lanes, the second's in the upper. -/
def outBlk (i : grid0.Coords) (x : Vec F S512x256 .bf16) (k v : Vec F S16384x256 .bf16) : Vec F S512x256 .bf16 :=
  View.canon (Val := Elt F)
    [⟨Rect.unit (s := S512x256) ![0, 128] S512x128.size inb_S512x256_S512x128_0_128, k0_pay1 (pair i (q1 x) (blk k i 1) (blk v i 1))⟩,
      ⟨Rect.unit (s := S512x256) ![0, 0] S512x128.size inb_S512x256_S512x128_0_0, k0_pay56 (pair i (q0 x) (blk k i 0) (blk v i 0))⟩]

/-- The loop does not depend on the slot of weights that nothing has written yet. -/
theorem finish_loop_w0 (q : Vec F S1024x128 .bf16) (tri : Vec F S256x256 .bf16) (kb vb : ℕ → Vec F S256x128 .bf16) (N f n : ℕ)
    (b : BitVec 1) (s : St F) (w : Vec F S512x512 .bf16) (hn : n % 2 = 1) :
    (loop q tri kb vb N f n b { s with w0 := w }).1 = (loop q tri kb vb N f n b s).1
      ∧ finish vb (loop q tri kb vb N f n b { s with w0 := w }) = finish vb (loop q tri kb vb N f n b s) := by
  have h1 : half1 q tri kb vb n { s with w0 := w } = half1 q tri kb vb n s := rfl
  cases f with
  | zero => unfold loop finish; simp only [if_pos hn, and_self]
  | succ f =>
    unfold loop trip next; rw [h1]
    split
    · exact ⟨rfl, rfl⟩
    · unfold finish; simp only [if_pos hn, and_self]

end Cert.KernelIdeal.Stick

end
-- ==== Proof.Stick.Body.lean ====
/-
  One grid point of the stick-breaking attention call: from its blocks of queries, keys and values, whatever the scratches hold, the
  body ends with the output block `outBlk`.
-/
module

public import proofs.«01_k».proof.Proof.Stick.While2
public import proofs.«01_k».proof.Proof.Stick.Init
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load after a write of the whole buffer reads what was written. -/
theorem rcl (w : View sig .tc .vmem S1024x1 .f32) (X : Vec F S1024x1 .f32) (inb) (L) (B : Rect S1024x1) :
    w.readCov (Val := Elt F) (⟨Rect.unit (s := S1024x1) ![0, 0] ![1024, 1] inb, X⟩ :: L) B.toLoadRect = View.ld X B := by
  rw [View.readCov_eq_canon']; exact congrArg (View.ld · B) (View.canon_cons_unit_zero (S := S1024x1) hz inb X L)

theorem rca (w : View sig .tc .vmem S512x128 .f32) (X : Vec F S512x128 .f32) (inb) (L) (B : Rect S512x128) :
    w.readCov (Val := Elt F) (⟨Rect.unit (s := S512x128) ![0, 0] ![512, 128] inb, X⟩ :: L) B.toLoadRect = View.ld X B := by
  rw [View.readCov_eq_canon']; exact congrArg (View.ld · B) (View.canon_cons_unit_zero (S := S512x128) hz inb X L)

/-- A load of the whole buffer reads what the writes leave. -/
theorem rc1 (w : View sig .tc .vmem S1024x1 .f32) (inb) (L : List (View.Piece (Elt F) S1024x1 .f32)) :
    w.readCov (Val := Elt F) L (Rect.unit (s := S1024x1) ![0, 0] ![1024, 1] inb).toLoadRect = View.canon L := by
  rw [View.readCov_eq_canon']; exact ldl (View.canon L) inb

theorem canl (X : Vec F S1024x1 .f32) (inb) (L) :
    View.canon (Val := Elt F) (⟨Rect.unit (s := S1024x1) ![0, 0] ![1024, 1] inb, X⟩ :: L) = X :=
  View.canon_cons_unit_zero (S := S1024x1) hz inb X L

/-- After a write of the whole output buffer it reads what was written. -/
theorem rda (w : View sig .tc .vmem S512x128 .f32) (f : w.ty.Contents (Elt F)) (X : Vec F S512x128 .f32) (inb) (L) :
    w.read (Elt F) (w.writes (Elt F) f (⟨Rect.unit (s := S512x128) ![0, 0] ![512, 128] inb, X⟩ :: L)) = X :=
  rd_top (S := S512x128) w f hz inb X L

/-- An output buffer is covered once its whole is written, whatever is written over it. -/
theorem cov512 (p w : View.Piece (Elt F) S512x128 .f32) (L : List (View.Piece (Elt F) S512x128 .f32)) (hw : w.1 = Rect.unit (s := S512x128) ![0, 0] S512x128.size inb_S512x128_S512x128_0_0) :
    ∀ y : S512x128.Idx, ∃ q ∈ p :: w :: L, y ∈ q.1.set := fun y =>
  ⟨w, List.mem_cons_of_mem _ (List.mem_cons_self ..), by rw [hw]; exact View.mem_set_unit_zero hz _ y⟩

set_option maxHeartbeats 4000000 in
/-- The body, run on its blocks, leaves `outBlk` in the output block and returns everything else. -/
theorem sound_kernel (c : Dev nD) (E : Set ℕ) (i : grid0.Coords) (arg3 : Memref sig .tc .vmem S512x256 .bf16) (harg3 : arg3.IsWhole) (arg4 : Memref sig .tc .vmem S16384x256 .bf16) (harg4 : arg4.IsWhole) (arg5 : Memref sig .tc .vmem S16384x256 .bf16) (harg5 : arg5.IsWhole) (arg6 : Memref sig .tc .vmem S512x256 .bf16) (harg6 : arg6.IsWhole) (arg7 : Memref sig .tc .vmem S256x256 .bf16) (harg7 : arg7.IsWhole) (arg8 : Memref sig .tc .vmem S1024x128 .bf16) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S512x512 .bf16) (harg12 : arg12.IsWhole) (arg13 : Memref sig .tc .vmem S512x512 .bf16) (harg13 : arg13.IsWhole) (arg14 : Memref sig .tc .vmem S1024x1 .f32) (harg14 : arg14.IsWhole) (arg15 : Memref sig .tc .vmem S512x128 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S1024x1 .f32) (harg22 : arg22.IsWhole) (arg23 : Memref sig .tc .vmem S512x128 .f32) (harg23 : arg23.IsWhole)
    (x : Vec F S512x256 .bf16) (k v : Vec F S16384x256 .bf16) (K : PUnit → sProp 𝕄) :
    iprop(owns (c : Thread nD τ) arg3 fullShare x ∗ owns (c : Thread nD τ) arg4 fullShare k ∗ owns (c : Thread nD τ) arg5 fullShare v ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg3 fullShare x ∗ owns (c : Thread nD τ) arg4 fullShare k ∗ owns (c : Thread nD τ) arg5 fullShare v ∗ owns (c : Thread nD τ) arg6 fullShare (outBlk i x k v) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) 𝒱₀ c none) E (cc0__stick_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__stick_kernel_eq_skeleton]; unfold cc0__stick_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  have hb0 : View.ld k (Rect.unit (s := S16384x256) (k0_off1 i 256#32) ![256, 128] (k0_off1_inb i 0)) = blk k i 0 0 := ld_blk k i 0 0 _ (off1a_eq i) _
  have hb1 : View.ld k (Rect.unit (s := S16384x256) (k0_off1 i 0#32) ![256, 128] (k0_off1_inb i 1)) = blk k i 0 1 := ld_blk k i 0 1 _ (off1b_eq i) _
  have hb2 : View.ld k (Rect.unit (s := S16384x256) (k0_off1 i 4294967040#32) ![256, 128] (k0_off1_inb i 2)) = blk k i 0 2 := ld_blk k i 0 2 _ (off1c_eq i) _
  have hb3 : View.ld k (Rect.unit (s := S16384x256) (k0_off2 i 256#32) ![256, 128] (k0_off2_inb i 0)) = blk k i 1 0 := ld_blk k i 1 0 _ (off2a_eq i) _
  have hb4 : View.ld k (Rect.unit (s := S16384x256) (k0_off2 i 0#32) ![256, 128] (k0_off2_inb i 1)) = blk k i 1 1 := ld_blk k i 1 1 _ (off2b_eq i) _
  have hb5 : View.ld k (Rect.unit (s := S16384x256) (k0_off2 i 4294967040#32) ![256, 128] (k0_off2_inb i 2)) = blk k i 1 2 := ld_blk k i 1 2 _ (off2c_eq i) _
  have hv0 : View.ld v (Rect.unit (s := S16384x256) (k0_off1 i 256#32) ![256, 128] (k0_off1_inb i 0)) = blk v i 0 0 := ld_blk v i 0 0 _ (off1a_eq i) _
  have hv1 : View.ld v (Rect.unit (s := S16384x256) (k0_off2 i 256#32) ![256, 128] (k0_off2_inb i 0)) = blk v i 1 0 := ld_blk v i 1 0 _ (off2a_eq i) _
  have ht := tile_lt i
  sl_exec
  iapply (wp_call (defs := defs₀ (F := F)) 𝒱₀ (c : Thread nD τ) none E (64 : ℕ) (fun u hu => nomatch hu))
  show _ ⊢ wp frame (wpE (defs₀ (F := F)) 𝒱₀ c (some (64 : ℕ))) E (cc0_while1 i arg8 harg8 arg4 harg4 arg10 harg10 arg15 harg15 arg13 harg13 arg5 harg5 k0_pay10 k0_pay11 arg9 harg9 arg14 harg14 arg11 harg11 arg7 harg7 arg12 harg12 (BitVec.ofNat 32 1) 0#1) _
  refine BIBase.Entails.trans ?_ (while1_sound c E i arg8 harg8 arg4 harg4 arg10 harg10 arg15 harg15 arg13 harg13 arg5 harg5 arg9 harg9 arg14 harg14 arg11 harg11 arg7 harg7 arg12 harg12 (q0 x) k v k0_pay12 64 1 0#1 { init i (q0 x) (blk k i 0) (blk v i 0) with w0 := arg12.view.read (Elt F) f12 } _ (by omega) (by omega))
  unfold owns
  iintro ⟨⟨⟨⟨⟨⟨⟨⟨⟨⟨⟨⟨⟨⟨⟨⟨⟨⟨⟨⟨⟨H3, H4⟩, H5⟩, H6⟩, H7⟩, H8⟩, H9⟩, H10⟩, H11⟩, H12⟩, H13⟩, H14⟩, H15⟩, H16⟩, H17⟩, H18⟩, H19⟩, H20⟩, H21⟩, H22⟩, H23⟩, Hk⟩
  isplitl [H8]
  · iexists _; isplitr; swap; · iexact H8
    ipureintro; (try unfold sound_kernel.sl.H8_1); (try unfold sound_kernel.sl.H8_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H4]
  · iexists f4; isplitr
    · ipureintro; exact hf4
    · iexact H4
  isplitl [H5]
  · iexists f5; isplitr
    · ipureintro; exact hf5
    · iexact H5
  isplitl [H7]
  · iexists _; isplitr; swap; · iexact H7
    ipureintro; (try unfold sound_kernel.sl.H7_1); (try unfold sound_kernel.sl.H7_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H9]
  · iexists _; isplitr; swap; · iexact H9
    ipureintro; (try unfold sound_kernel.sl.H9_1); (try unfold sound_kernel.sl.H9_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H10]
  · iexists _; isplitr; swap; · iexact H10
    ipureintro; (try unfold sound_kernel.sl.H10_1); (try unfold sound_kernel.sl.H10_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H12]
  · iexists f12; isplitr
    · ipureintro; rfl
    · iexact H12
  isplitl [H13]
  · iexists _; isplitr; swap; · iexact H13
    ipureintro; (try unfold sound_kernel.sl.H13_1); (try unfold sound_kernel.sl.H13_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H14]
  · iexists _; isplitr; swap; · iexact H14
    ipureintro; (try unfold sound_kernel.sl.H14_1); (try unfold sound_kernel.sl.H14_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H15]
  · iexists _; isplitr; swap; · iexact H15
    ipureintro; (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    (refine (View.read_writes_eq_canon _ _ _ (cov512 _ _ _ rfl)).trans ?_); (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H11]
  · iexists _; iexists _; isplitr; swap; · iexact H11
    ipureintro; exact rfl
  generalize hL : loop (q0 x) k0_pay12 (blk k i 0) (blk v i 0) (2 * (i 2).val) 64 1 0#1 { init i (q0 x) (blk k i 0) (blk v i 0) with w0 := arg12.view.read (Elt F) f12 } = r
  have hr : r.1 < 64 := by
    have h := loop_le (q0 x) k0_pay12 (blk k i 0) (blk v i 0) (2 * (i 2).val) 64 1 0#1 { init i (q0 x) (blk k i 0) (blk v i 0) with w0 := arg12.view.read (Elt F) f12 } (by omega)
    rw [hL] at h; omega
  have hfin : finish (blk v i 0) r = pair i (q0 x) (blk k i 0) (blk v i 0) := by
    rw [← hL]; exact (finish_loop_w0 _ _ _ _ _ _ _ _ _ _ rfl).2
  clear hL
  iintro %b1 ⟨⟨%g8, %hg8, H8⟩, ⟨%g4, %hg4, H4⟩, ⟨%g5, %hg5, H5⟩, ⟨%g7, %hg7, H7⟩, ⟨%g9, -, H9⟩, ⟨%g10, -, H10⟩, ⟨%g12, %hg12, H12⟩, ⟨%g13, %hg13, H13⟩, ⟨%g14, -, H14⟩, ⟨%g15, %hg15, H15⟩, ⟨%d11', %g11, -, H11⟩⟩
  sl_exec (disch := exact chk3 i _ hr)
  iapply (wp_call (defs := defs₀ (F := F)) 𝒱₀ (c : Thread nD τ) none E (64 : ℕ) (fun u hu => nomatch hu))
  show _ ⊢ wp frame (wpE (defs₀ (F := F)) 𝒱₀ c (some (64 : ℕ))) E (cc0_while2 i (BitVec.ofNat 32 r.1) (chk3 i _ hr) arg16 harg16 arg4 harg4 arg18 harg18 arg23 harg23 arg21 harg21 arg5 harg5 k0_pay10 k0_pay11 arg17 harg17 arg22 harg22 arg19 harg19 arg7 harg7 arg20 harg20 (BitVec.ofNat 32 1) 0#1) _
  refine BIBase.Entails.trans ?_ (while2_sound c E i (BitVec.ofNat 32 r.1) (chk3 i _ hr) arg16 harg16 arg4 harg4 arg18 harg18 arg23 harg23 arg21 harg21 arg5 harg5 arg17 harg17 arg22 harg22 arg19 harg19 arg7 harg7 arg20 harg20 (q1 x) k v k0_pay12 64 1 0#1 { init i (q1 x) (blk k i 1) (blk v i 1) with w0 := arg20.view.read (Elt F) f20 } _ (by omega) (by omega))
  unfold owns
  iintro ⟨⟨⟨⟨⟨⟨⟨⟨⟨⟨⟨⟨⟨⟨⟨⟨⟨⟨⟨⟨⟨H3, H6⟩, H16⟩, H17⟩, H18⟩, H19⟩, H20⟩, H21⟩, H22⟩, H23⟩, Hk⟩, H8⟩, H4⟩, H5⟩, H7⟩, H9⟩, H10⟩, H12⟩, H13⟩, H14⟩, H11⟩, H15⟩
  isplitl [H16]
  · iexists _; isplitr; swap; · iexact H16
    ipureintro; (try unfold sound_kernel.sl.H16_1); (try unfold sound_kernel.sl.H16_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H4]
  · iexists g4; isplitr
    · ipureintro; exact hg4
    · iexact H4
  isplitl [H5]
  · iexists g5; isplitr
    · ipureintro; exact hg5
    · iexact H5
  isplitl [H7]
  · iexists g7; isplitr
    · ipureintro; exact hg7
    · iexact H7
  isplitl [H17]
  · iexists _; isplitr; swap; · iexact H17
    ipureintro; (try unfold sound_kernel.sl.H17_1); (try unfold sound_kernel.sl.H17_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H18]
  · iexists _; isplitr; swap; · iexact H18
    ipureintro; (try unfold sound_kernel.sl.H18_1); (try unfold sound_kernel.sl.H18_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H20]
  · iexists f20; isplitr
    · ipureintro; rfl
    · iexact H20
  isplitl [H21]
  · iexists _; isplitr; swap; · iexact H21
    ipureintro; (try unfold sound_kernel.sl.H21_1); (try unfold sound_kernel.sl.H21_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H22]
  · iexists _; isplitr; swap; · iexact H22
    ipureintro; (try unfold sound_kernel.sl.H22_1); (try unfold sound_kernel.sl.H22_1); refine (rd_top _ _ hz _ _ _).trans ?_
    (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H23]
  · iexists _; isplitr; swap; · iexact H23
    ipureintro; (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    (refine (View.read_writes_eq_canon _ _ _ (cov512 _ _ _ rfl)).trans ?_); (repeat (first | unfold sound_kernel.sl.H10_1 | unfold sound_kernel.sl.H11_1 | unfold sound_kernel.sl.H14_1 | unfold sound_kernel.sl.H14_2 | unfold sound_kernel.sl.H14_3 | unfold sound_kernel.sl.H15_1 | unfold sound_kernel.sl.H16_1 | unfold sound_kernel.sl.H18_1 | unfold sound_kernel.sl.H19_1 | unfold sound_kernel.sl.H22_1 | unfold sound_kernel.sl.H22_2 | unfold sound_kernel.sl.H22_3 | unfold sound_kernel.sl.H23_1 | unfold sound_kernel.sl.H7_1 | unfold sound_kernel.sl.H8_1 | unfold sound_kernel.sl.cst_9 | unfold sound_kernel.sl.r | unfold sound_kernel.sl.r_1 | unfold sound_kernel.sl.r_10 | unfold sound_kernel.sl.r_11 | unfold sound_kernel.sl.r_12 | unfold sound_kernel.sl.r_13 | unfold sound_kernel.sl.r_14 | unfold sound_kernel.sl.r_15 | unfold sound_kernel.sl.r_2 | unfold sound_kernel.sl.r_3 | unfold sound_kernel.sl.r_4 | unfold sound_kernel.sl.r_5 | unfold sound_kernel.sl.r_6 | unfold sound_kernel.sl.r_7 | unfold sound_kernel.sl.r_8 | unfold sound_kernel.sl.r_9 | unfold sound_kernel.sl.v0 | unfold sound_kernel.sl.v102 | unfold sound_kernel.sl.v123 | unfold sound_kernel.sl.v129 | unfold sound_kernel.sl.v156 | unfold sound_kernel.sl.v171 | unfold sound_kernel.sl.v180 | unfold sound_kernel.sl.v230 | unfold sound_kernel.sl.v251 | unfold sound_kernel.sl.v290 | unfold sound_kernel.sl.v311 | unfold sound_kernel.sl.v317 | unfold sound_kernel.sl.v344 | unfold sound_kernel.sl.v359 | unfold sound_kernel.sl.v368 | unfold sound_kernel.sl.v387 | unfold sound_kernel.sl.v60 | unfold sound_kernel.sl.v61 | unfold sound_kernel.sl.v63 | unfold sound_kernel.sl.v77 | unfold sound_kernel.sl.v96))
    simp only [View.readCov_cons_toLoadRect, rcl, rca, rc1, View.readAt_eq_ld, hf3, hf4, hf5, ldz, ldt, ldl, ldq, lda, ldw]
    try simp only [View.readCov_eq_canon', canl]
    try simp only [hb0, hb1, hb2, hb3, hb4, hb5, hv0, hv1]
    all_goals rfl
  isplitl [H19]
  · iexists _; iexists _; isplitr; swap; · iexact H19
    ipureintro; exact rfl
  generalize hL2 : loop (q1 x) k0_pay12 (blk k i 1) (blk v i 1) (2 * (i 2).val) 64 1 0#1 { init i (q1 x) (blk k i 1) (blk v i 1) with w0 := arg20.view.read (Elt F) f20 } = r2
  have hr2 : r2.1 < 64 := by
    have h := loop_le (q1 x) k0_pay12 (blk k i 1) (blk v i 1) (2 * (i 2).val) 64 1 0#1 { init i (q1 x) (blk k i 1) (blk v i 1) with w0 := arg20.view.read (Elt F) f20 } (by omega)
    rw [hL2] at h; omega
  have hfin2 : finish (blk v i 1) r2 = pair i (q1 x) (blk k i 1) (blk v i 1) := by
    rw [← hL2]; exact (finish_loop_w0 _ _ _ _ _ _ _ _ _ _ rfl).2
  clear hL2
  iintro %b2 ⟨⟨%e16, %he16, H16⟩, ⟨%e4, %he4, H4⟩, ⟨%e5, %he5, H5⟩, ⟨%e7, %he7, H7⟩, ⟨%e17, -, H17⟩, ⟨%e18, -, H18⟩, ⟨%e20, %he20, H20⟩, ⟨%e21, %he21, H21⟩, ⟨%e22, -, H22⟩, ⟨%e23, %he23, H23⟩, ⟨%d19', %e19, -, H19⟩⟩
  sl_exec (disch := exact chk6 i _ hr2)
  have hv424 : sound_kernel.sl.v424 c i arg5 arg12 arg13 arg15 r hr g5 g12 g13 g15 = pair i (q0 x) (blk k i 0) (blk v i 0) := by
    rw [← hfin]
    have ho : ∀ inb, View.ld v (Rect.unit (s := S16384x256) (k0_off6 i (BitVec.ofNat 32 r.1)) ![256, 128] inb) = blk v i 0 r.1 := fun inb => ld_blk v i 0 _ _ (off6_eq i _ hr) inb
    have ho' : ∀ inb, View.ld v (Rect.unit (s := S16384x256) (k0_off7 i (BitVec.ofNat 32 r.1)) ![256, 128] inb) = blk v i 0 r.1 := fun inb => ld_blk v i 0 _ _ (off7_eq i _ hr) inb
    unfold finish
    by_cases hp : r.1 % 2 = 1
    · have h2 := (cond2_iff _ hr).2 hp
      have h3 := fun h => (cond3_iff _ hr).1 h hp
      (repeat (first | unfold sound_kernel.sl.v424 | unfold sound_kernel.sl.v454 | unfold sound_kernel.sl.v457 | unfold sound_kernel.sl.v457_1))
      simp only [dif_pos h2, dif_neg h3, if_pos hp, rda, View.readAt_eq_ld, hg5, hg12, hg13, hg15, ldz, ldt, ldl, ldq, lda, ldw, ho]
      all_goals rfl
    · have h2 := fun h => hp ((cond2_iff _ hr).1 h)
      have h3 := (cond3_iff _ hr).2 hp
      (repeat (first | unfold sound_kernel.sl.v424 | unfold sound_kernel.sl.v454 | unfold sound_kernel.sl.v457 | unfold sound_kernel.sl.v457_1))
      simp only [dif_pos h3, dif_neg h2, if_neg hp, rda, View.readAt_eq_ld, hg5, hg12, hg13, hg15, ldz, ldt, ldl, ldq, lda, ldw, ho']
      all_goals rfl
  have hv454 : sound_kernel.sl.v454 c i arg5 arg20 arg21 arg23 r2 hr2 e5 e20 e21 e23 = pair i (q1 x) (blk k i 1) (blk v i 1) := by
    rw [← hfin2]
    have ho : ∀ inb, View.ld v (Rect.unit (s := S16384x256) (k0_off11 i (BitVec.ofNat 32 r2.1)) ![256, 128] inb) = blk v i 1 r2.1 := fun inb => ld_blk v i 1 _ _ (off11_eq i _ hr2) inb
    have ho' : ∀ inb, View.ld v (Rect.unit (s := S16384x256) (k0_off12 i (BitVec.ofNat 32 r2.1)) ![256, 128] inb) = blk v i 1 r2.1 := fun inb => ld_blk v i 1 _ _ (off12_eq i _ hr2) inb
    unfold finish
    by_cases hp : r2.1 % 2 = 1
    · have h2 := (cond5_iff _ hr2).2 hp
      have h3 := fun h => (cond6_iff _ hr2).1 h hp
      (repeat (first | unfold sound_kernel.sl.v424 | unfold sound_kernel.sl.v454 | unfold sound_kernel.sl.v457 | unfold sound_kernel.sl.v457_1))
      simp only [dif_pos h2, dif_neg h3, if_pos hp, rda, View.readAt_eq_ld, he5, he20, he21, he23, ldz, ldt, ldl, ldq, lda, ldw, ho]
      all_goals rfl
    · have h2 := fun h => hp ((cond5_iff _ hr2).1 h)
      have h3 := (cond6_iff _ hr2).2 hp
      (repeat (first | unfold sound_kernel.sl.v424 | unfold sound_kernel.sl.v454 | unfold sound_kernel.sl.v457 | unfold sound_kernel.sl.v457_1))
      simp only [dif_pos h3, dif_neg h2, if_neg hp, rda, View.readAt_eq_ld, he5, he20, he21, he23, ldz, ldt, ldl, ldq, lda, ldw, ho']
      all_goals rfl
  sl_step
  iapply Hk
  isplitl [H3]
  · iexists f3; isplitr
    · ipureintro; exact hf3
    · iexact H3
  isplitl [H4]
  · iexists e4; isplitr
    · ipureintro; exact he4
    · iexact H4
  isplitl [H5]
  · iexists e5; isplitr
    · ipureintro; exact he5
    · iexact H5
  isplitl [H6]
  · iexists _; isplitr; swap; · iexact H6
    ipureintro
    rw [hv424, hv454]
    exact View.read_writes_eq_canon _ _ _ (View.cover_of_tiled _ S512x128.size (by rfl))
  isplitl [H7]
  · iexists _; iexists _; isplitr; swap; · iexact H7
    ipureintro; exact rfl
  isplitl [H8]
  · iexists _; iexists _; isplitr; swap; · iexact H8
    ipureintro; exact rfl
  isplitl [H9]
  · iexists _; iexists _; isplitr; swap; · iexact H9
    ipureintro; exact rfl
  isplitl [H10]
  · iexists _; iexists _; isplitr; swap; · iexact H10
    ipureintro; exact rfl
  isplitl [H11]
  · iexists _; iexists _; isplitr; swap; · iexact H11
    ipureintro; exact rfl
  isplitl [H12]
  · iexists _; iexists _; isplitr; swap; · iexact H12
    ipureintro; exact rfl
  isplitl [H13]
  · iexists _; iexists _; isplitr; swap; · iexact H13
    ipureintro; exact rfl
  isplitl [H14]
  · iexists _; iexists _; isplitr; swap; · iexact H14
    ipureintro; exact rfl
  isplitl [H15]
  · iexists _; iexists _; isplitr; swap; · iexact H15
    ipureintro; exact rfl
  isplitl [H16]
  · iexists _; iexists _; isplitr; swap; · iexact H16
    ipureintro; exact rfl
  isplitl [H17]
  · iexists _; iexists _; isplitr; swap; · iexact H17
    ipureintro; exact rfl
  isplitl [H18]
  · iexists _; iexists _; isplitr; swap; · iexact H18
    ipureintro; exact rfl
  isplitl [H19]
  · iexists _; iexists _; isplitr; swap; · iexact H19
    ipureintro; exact rfl
  isplitl [H20]
  · iexists _; iexists _; isplitr; swap; · iexact H20
    ipureintro; exact rfl
  isplitl [H21]
  · iexists _; iexists _; isplitr; swap; · iexact H21
    ipureintro; exact rfl
  isplitl [H22]
  · iexists _; iexists _; isplitr; swap; · iexact H22
    ipureintro; exact rfl
  iexists _; iexists _; isplitr; swap; · iexact H23
  ipureintro; exact rfl

end Cert.KernelIdeal.Stick

end
-- ==== Proof.Stick.Launch.lean ====
/-
  The launch of the stick-breaking attention call: every run of the program terminates with its arguments as they were, the
  machine's counters at zero, and the result array at what the grid points leave block by block.
-/
module

public import proofs.«01_k».proof.Proof.Stick.Body
public import proofs.«01_k».proof.Proof.Gen.KernelIdeal.Points
public import Idealize.ShloMosaic.Lib.Pipeline.FrameBody

@[expose] public section

set_option maxRecDepth 16384

noncomputable section

namespace Cert.KernelIdeal.Stick

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the call finds in each buffer: the launch memory after the host operations before it. -/
abbrev V (c : Dev nD) (b : Ref sig .tc) : Buf (Elt F) ((c : Thread nD τ).loc b) :=
  StableHlo.after hostOps0 (fun b => m (c, b)) b

/-- The host operations write into named buffers only. -/
theorem hostOps0_fresh : (hostOps0 : List (HloOp τ sig (Elt F))).Forall fun op => op.fresh = ∅ := by
  simp only [List.Forall]; repeat' constructor

set_option maxHeartbeats 800000 in
/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- Window `w`'s block at point `t`, of the array the call finds. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What each buffer holds after the body at each point: the inputs their blocks, the output `outBlk` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.ΦA spec0 c
  q _ := fullShare
  owed _ := 0

/-- The arrays are what the call finds. -/
theorem A_eq (c : Dev nD) (w : Fin (cfg0 (F := F)).W) : (dats m 0 c).A w = V m c (Pipeline.arrRef spec0 w) := by
  dsimp only [dats]

/-- Input 0's buffer keeps its block, -/
theorem after_0 (c : Dev nD) (t : Fin (cfg0 (F := F)).N) : (dats m 0 c).after 0 t = iblk m c 0 t := by dsimp only [dats]; rfl
/-- Input 1's buffer keeps its block, -/
theorem after_1 (c : Dev nD) (t : Fin (cfg0 (F := F)).N) : (dats m 0 c).after 1 t = iblk m c 1 t := by dsimp only [dats]; rfl
/-- Input 2's buffer keeps its block, -/
theorem after_2 (c : Dev nD) (t : Fin (cfg0 (F := F)).N) : (dats m 0 c).after 2 t = iblk m c 2 t := by dsimp only [dats]; rfl
/-- the output's buffer gets `outBlk`, -/
theorem after_3 (c : Dev nD) (t : Fin (cfg0 (F := F)).N) :
    (dats m 0 c).after 3 t = outBlk (grid0.coords t) (iblk m c 0 t) (iblk m c 1 t) (iblk m c 2 t) := by dsimp only [dats]; rfl

/-- and input 0's buffer holds its block before the body too. -/
theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- and input 1's buffer holds its block before the body too. -/
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- and input 2's buffer holds its block before the body too. -/
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The scratches of the call and the rest of what the body passes on unread. -/
theorem scratches (c : Dev nD) : (Pipeline.ΦA (U := UR sig nD τ) (Val := Elt F) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d)) ∗ ∃ r, prngReg c r) := by
  unfold Pipeline.ΦA
  rw [scopedRest0_eq]
  simp only [owns_whole]

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 2000000 in
/-- The body at any point of the grid. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, show (dats m 0 c).Φ t.castSucc = Pipeline.ΦA spec0 c from rfl, scratches]
  iintro ⟨⟨⟨S0, S1, S2, S3, S4, S5, S6, S7, S8, S9, S10, S11, S12, S13, S14, S15, S16⟩, Hp⟩, Ho, ⟨%d0, H0⟩, ⟨%d1, H1⟩, ⟨%d2, H2⟩, ⟨%d3, H3⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  iintro ⟨H0, H1, H2, H3, S0, S1, S2, S3, S4, S5, S6, S7, S8, S9, S10, S11, S12, S13, S14, S15, S16⟩
  isplitl [S0 S1 S2 S3 S4 S5 S6 S7 S8 S9 S10 S11 S12 S13 S14 S15 S16 Hp]
  · isplitr [Hp]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    · iexact Hp
  isplitl [Ho]; · iexact Ho
  isplitl [H0]; · iexact H0
  isplitl [H1]; · iexact H1
  isplitl [H2]; · iexact H2
  iexact H3

/-- The body table's row at point `t` is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation on its body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- Every run ends with every array of the call at what the grid leaves, the rest untouched and every counter at zero. -/
theorem run_main : θ_run defs (onTc (τ := τ) (main (F := F))) ⟨m, fun _ => 0, ρ⟩ (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- Such a final state has the arguments as they were. -/
theorem args_of {r : _} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide : ∀ w : Fin 4, (spec0 w).arr.view.ref ≠ main_arg0))).trans (V_main_arg0 m c),
   ((h c).2 main_arg1 (Pipeline.mem_restRefs_of main_arg1 (by decide) (by decide : ∀ w : Fin 4, (spec0 w).arr.view.ref ≠ main_arg1))).trans (V_main_arg1 m c),
   ((h c).2 main_arg2 (Pipeline.mem_restRefs_of main_arg2 (by decide) (by decide : ∀ w : Fin 4, (spec0 w).arr.view.ref ≠ main_arg2))).trans (V_main_arg2 m c)⟩

/-- The frame: every run terminates, its arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_of m h.1, h.2⟩) (run_main m ρ)

end Cert.KernelIdeal.Stick

end
-- ==== Proof.Stick.Math.lean ====
/-
  Stick-breaking attention over the reals: in a row of logits each key before the query takes a share `2^z / (1 + 2^z)` of what
  the later keys have left, so its weight is `2^(z - sum of the terms from this key on)`, a term being `log2 (1 + 2^z)`.
-/
module

public import Idealize.ShloMosaic.Lib.Pointwise
public import Idealize.ShloMosaic.Lib.WordCmp

@[expose] public section

noncomputable section

namespace Cert.Stick

open Idealize.ShloMosaic

/-- A comparison of small words is one of numbers. -/
theorem slt_nat (a b : ℕ) (ha : a < 2 ^ 31) (hb : b < 2 ^ 31) : IntOp.cmpi .slt (BitVec.ofNat 32 a) (BitVec.ofNat 32 b) = if a < b then 1#1 else 0#1 := by
  rw [WordCmp.cmpi_slt_ofNat (by simpa using ha) (by simpa using hb)]
  by_cases h : a < b <;> simp [h]

/-- The larger of two reals, taken among the extended reals. -/
theorem coe_max (x y : ℝ) : ((max x y : ℝ) : EReal) = max (x : EReal) (y : EReal) := EReal.coe_strictMono.monotone.map_max

/-- A key's term: what it takes off the stick, in powers of two. -/
def term (z : ℝ) : ℝ := Real.log (1 + (2 : ℝ) ^ z) / Real.log 2

/-- The term as both programs form it. -/
theorem term_eq (z : ℝ) :
    max (z : EReal) 0 + Ideal.log (1 + Ideal.exp2 (0 - max (z : EReal) (-(z : EReal)))) * (((Real.log 2)⁻¹ : ℝ) : EReal)
      = ((term z : ℝ) : EReal) := by
  have h2 : (0 : ℝ) < Real.log 2 := Real.log_pos (by norm_num)
  have e1 : (0 : EReal) - max (z : EReal) (-(z : EReal)) = ((-|z| : ℝ) : EReal) := by
    rw [← EReal.coe_neg, ← coe_max, zero_sub, ← EReal.coe_neg]; rfl
  have e2 : Ideal.exp2 ((-|z| : ℝ) : EReal) = (((2 : ℝ) ^ (-|z|) : ℝ) : EReal) := rfl
  have hp : (0 : ℝ) < (2 : ℝ) ^ (-|z|) := Real.rpow_pos_of_pos (by norm_num) _
  have e3 : Ideal.log (1 + (((2 : ℝ) ^ (-|z|) : ℝ) : EReal)) = ((Real.log (1 + (2 : ℝ) ^ (-|z|)) : ℝ) : EReal) := by
    rw [← EReal.coe_one, ← EReal.coe_add]
    exact if_neg (not_le.mpr (by positivity))
  rw [e1, e2, e3, ← EReal.coe_mul, ← EReal.coe_zero, ← coe_max, ← EReal.coe_add]
  congr 1
  unfold term
  rcases le_total 0 z with hz | hz
  · rw [max_eq_left hz, abs_of_nonneg hz]
    have : (1 : ℝ) + 2 ^ z = 2 ^ z * (1 + 2 ^ (-z)) := by
      rw [mul_add, ← Real.rpow_add (by norm_num)]; simp; ring
    rw [this, Real.log_mul (by positivity) (by positivity), Real.log_rpow (by norm_num)]
    field_simp
  · rw [max_eq_right hz, abs_of_nonpos hz, neg_neg, zero_add]; rfl

/-- The term of a logit given to base `e`, divided by `log 2`. -/
theorem softplus_eq (z : ℝ) :
    max (z : EReal) 0 + Ideal.log1p (Ideal.exp (-(max (z : EReal) (-(z : EReal))))) = ((term (z / Real.log 2) * Real.log 2 : ℝ) : EReal) := by
  have h2 : (0 : ℝ) < Real.log 2 := Real.log_pos (by norm_num)
  have e1 : -(max (z : EReal) (-(z : EReal))) = ((-|z| : ℝ) : EReal) := by
    rw [← EReal.coe_neg, ← coe_max, ← EReal.coe_neg]; rfl
  have e2 : Ideal.exp ((-|z| : ℝ) : EReal) = ((Real.exp (-|z|) : ℝ) : EReal) := rfl
  have e3 : Ideal.log1p ((Real.exp (-|z|) : ℝ) : EReal) = ((Real.log (1 + Real.exp (-|z|)) : ℝ) : EReal) := by
    unfold Ideal.log1p
    rw [← EReal.coe_one, ← EReal.coe_add]
    exact if_neg (not_le.mpr (by positivity))
  rw [e1, e2, e3, ← EReal.coe_zero, ← coe_max, ← EReal.coe_add]
  congr 1
  have hb : (2 : ℝ) ^ (z / Real.log 2) = Real.exp z := by
    rw [Real.rpow_def_of_pos (by norm_num)]; congr 1; field_simp
  unfold term
  rw [hb, div_mul_cancel₀ _ h2.ne']
  rcases le_total 0 z with hz | hz
  · rw [max_eq_left hz, abs_of_nonneg hz]
    have : (1 : ℝ) + Real.exp z = Real.exp z * (1 + Real.exp (-z)) := by
      rw [mul_add, ← Real.exp_add]; simp; ring
    rw [this, Real.log_mul (by positivity) (by positivity), Real.log_exp]
  · rw [max_eq_right hz, abs_of_nonpos hz, neg_neg, zero_add]

/-- Row data: the logits (to base two) of the keys, and the query's position. -/
def mterm (T : ℕ) (z : ℕ → ℝ) (s : ℕ) : ℝ := if s < T then term (z s) else 0

/-- What the keys from `a` on, up to `b`, take off. -/
def left (T : ℕ) (z : ℕ → ℝ) (a b : ℕ) : ℝ := ∑ s ∈ Finset.Ico a b, mterm T z s

/-- The weight of key `s`, the keys up to `b` counted. -/
def weight (T b : ℕ) (z : ℕ → ℝ) (s : ℕ) : ℝ := if s < T then (2 : ℝ) ^ (z s - left T z s b) else 0

/-- Keys `a` to `b` under their weights. -/
def mix (T b : ℕ) (z : ℕ → ℝ) (v : ℕ → EReal) (a : ℕ) : EReal := ∑ s ∈ Finset.Ico a b, ((weight T b z s : ℝ) : EReal) * v s

theorem left_split (T : ℕ) (z : ℕ → ℝ) (a m b : ℕ) (h1 : a ≤ m) (h2 : m ≤ b) : left T z a b = left T z m b + left T z a m := by
  unfold left; rw [add_comm]; exact (Finset.sum_Ico_consecutive _ h1 h2).symm

theorem mix_split (T b : ℕ) (z : ℕ → ℝ) (v : ℕ → EReal) (a m : ℕ) (h1 : a ≤ m) (h2 : m ≤ b) :
    mix T b z v a = mix T b z v m + ∑ s ∈ Finset.Ico a m, ((weight T b z s : ℝ) : EReal) * v s := by
  unfold mix; rw [add_comm]; exact (Finset.sum_Ico_consecutive _ h1 h2).symm

/-- A sum over an interval of 256 keys, position by position. -/
theorem sum_block {M : Type} [AddCommMonoid M] (f : ℕ → M) (a : ℕ) : ∑ s ∈ Finset.Ico a (a + 256), f s = ∑ c : Fin 256, f (a + c.val) := by
  rw [Finset.sum_Ico_eq_sum_range, Nat.add_sub_cancel_left, Finset.sum_range]

/-- Its part from position `c` on. -/
theorem sum_block_from (f : ℕ → ℝ) (a : ℕ) (c : Fin 256) :
    ∑ x : Fin 256, (if c ≤ x then f (a + x.val) else 0) = ∑ s ∈ Finset.Ico (a + c.val) (a + 256), f s := by
  have h := sum_block (fun s => if a + c.val ≤ s then f s else 0) a
  rw [← Finset.sum_Ico_consecutive _ (Nat.le_add_right a c.val) (by omega : a + c.val ≤ a + 256)] at h
  rw [Finset.sum_eq_zero (fun s hs => if_neg (by have := Finset.mem_Ico.mp hs; omega)), zero_add] at h
  rw [Finset.sum_congr rfl (fun s hs => if_pos (Finset.mem_Ico.mp hs).1)] at h
  rw [h]
  exact Finset.sum_congr rfl fun x _ => by simp only [Fin.le_def, Nat.add_le_add_iff_left]

/-- A finite sum of reals, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Within a block: the terms from position `c` on, as the product with the triangle of ones gives them. -/
theorem within (T : ℕ) (z : ℕ → ℝ) (a : ℕ) (c : Fin 256) :
    ∑ x : Fin 256, ((mterm T z (a + x.val) : ℝ) : EReal) * (if c ≤ x then 1 else 0) = ((left T z (a + c.val) (a + 256) : ℝ) : EReal) := by
  unfold left
  rw [← sum_block_from, coe_sum]
  exact Finset.sum_congr rfl fun x _ => by split <;> simp

end Cert.Stick

end
-- ==== Proof.Stick.Pay.lean ====
/-
  The attention call's steps at an index, over the extended reals.
-/
module

public import proofs.«01_k».proof.Proof.Stick.Init
public import proofs.«01_k».proof.Proof.Stick.Math
public import Idealize.ShloMosaic.Lib.Pointwise
public import Idealize.ShloMosaic.Lib.Pipeline.ValueKit.Basic

@[expose] public section

set_option maxRecDepth 8192

noncomputable section

namespace Cert.KernelIdeal.Stick

open Cert.KernelIdeal Cert.KernelIdeal.Gen Idealize.ShloMosaic Idealize.ShloMosaic.TcCoe Cert.Stick

/-- A choice by a test's bit is a choice by the test. -/
theorem select_bit (p : Prop) [Decidable p] (a b : EReal) : Scalar.select (if p then 1#1 else 0#1) a b = if p then a else b := by
  by_cases h : p <;> simp [h, Scalar.select]

/-- The test whether a lane belongs to the first head of a pair. -/
theorem bitsL : ∀ l : Fin 128, IntOp.andi (IntOp.cmpi .sge (BitVec.ofNat 32 l.val) 0#32) (IntOp.cmpi .slt (BitVec.ofNat 32 l.val) 64#32) = if l.val / 64 = 0 then 1#1 else 0#1 := by
  decide +kernel
/-- The test whether a lane belongs to the second. -/
theorem bitsH : ∀ l : Fin 128, IntOp.andi (IntOp.cmpi .sge (BitVec.ofNat 32 l.val) 64#32) (IntOp.cmpi .slt (BitVec.ofNat 32 l.val) 128#32) = if l.val / 64 = 1 then 1#1 else 0#1 := by
  decide +kernel

/-- The logits of a block of keys. -/
theorem scores24 (q : Vec Ideal S1024x128 .bf16) (k : Vec Ideal S256x128 .bf16) (r : Fin 1024) (c : Fin 256) :
    k0_pay24 q k (ix2 r c) = ∑ d : Fin 128, q (ix2 r d) * k (ix2 c d) := by
  pointwise [k0_pay24]
theorem scores32 (q : Vec Ideal S1024x128 .bf16) (k : Vec Ideal S256x128 .bf16) (r : Fin 1024) (c : Fin 256) :
    k0_pay32 q k (ix2 r c) = ∑ d : Fin 128, q (ix2 r d) * k (ix2 c d) := by
  pointwise [k0_pay32]
theorem scores59 (q : Vec Ideal S1024x128 .bf16) (k : Vec Ideal S256x128 .bf16) (r : Fin 1024) (c : Fin 256) :
    k0_pay59 q k (ix2 r c) = ∑ d : Fin 128, q (ix2 r d) * k (ix2 c d) := by
  pointwise [k0_pay59]
theorem scores66 (q : Vec Ideal S1024x128 .bf16) (k : Vec Ideal S256x128 .bf16) (r : Fin 1024) (c : Fin 256) :
    k0_pay66 q k (ix2 r c) = ∑ d : Fin 128, q (ix2 r d) * k (ix2 c d) := by
  pointwise [k0_pay66]

/-- The triangle of ones. -/
theorem tri_apply (x c : Fin 256) : k0_pay12 (F := Ideal) (ix2 x c) = if c ≤ x then 1 else 0 := by
  pointwise [k0_pay12]
  rw [WordCmp.cmpi_sge_ofNat (by have := x.isLt; simp; omega) (by have := c.isLt; simp; omega)]
  by_cases h : c ≤ x
  · have h' : c.val ≤ x.val := h
    simp [h, h', FloatOps.sitofp]
  · have h' : ¬ c.val ≤ x.val := h
    simp [h, h', FloatOps.sitofp]

/-- The named constant. -/
theorem log2e_eq : (Named.named κ "log2e" 0x3FB8AA3B#32 : Ideal .f32) = (((Real.log 2)⁻¹ : ℝ) : EReal) :=
  IdealRules.named_const.ideal_named_scalar _ _ _ _ rfl

/-- What a spent stick is compared with: nothing real reaches it. -/
theorem spent_eq : (Named.named κ "spent" 0x43200000#32 : Ideal .f32) = (⊤ : EReal) := by
  have h : κ "spent" = some ⊤ := by unfold κ; rfl
  exact IdealRules.named_const.ideal_named_scalar κ "spent" _ _ h

/-- A term as the kernel forms it. -/
theorem term_apply (z : EReal) (x : ℝ) (h : z = (x : EReal)) :
    max z 0 + Ideal.log (1 + FloatOps.exp2 (F := Ideal) (φ := .f32) (0 - FloatOps.absf (F := Ideal) (φ := .f32) z)) * (Named.named κ "log2e" 1069066811#32 : Ideal .f32) = ((term x : ℝ) : EReal) := by
  subst h
  rw [show (Named.named κ "log2e" 1069066811#32 : Ideal .f32) = _ from log2e_eq]
  exact term_eq x

/-- In a block of keys all before the query: the terms from each key on. -/
theorem within63 (z : Vec Ideal S1024x256 .f32) (Z : ℕ → ℝ) (T a : ℕ) (r : Fin 1024) (hz : ∀ x : Fin 256, z (ix2 r x) = ((Z (a + x.val) : ℝ) : EReal)) (hT : a + 256 ≤ T) (c : Fin 256) :
    k0_pay63 z (k0_pay12 (F := Ideal)) (ix2 r c) = ((left T Z (a + c.val) (a + 256) : ℝ) : EReal) := by
  pointwise [k0_pay63]
  refine (Finset.sum_congr rfl fun x _ => ?_).trans (within T Z a c)
  rw [tri_apply, term_apply _ _ (hz x), show mterm T Z (a + x.val) = term (Z (a + x.val)) from if_pos (by have := x.isLt; omega)]

/-- A weight from its logit, the later blocks' terms and its own block's. -/
theorem weight_of (T B : ℕ) (Z : ℕ → ℝ) (a c : ℕ) (hc : c < 256) (hB : a + 256 ≤ B) (hT : a + c < T) :
    FloatOps.exp2 (F := Ideal) (φ := .f32) ((((Z (a + c) : ℝ) : EReal) - ((left T Z (a + 256) B : ℝ) : EReal)) - ((left T Z (a + c) (a + 256) : ℝ) : EReal))
      = ((weight T B Z (a + c) : ℝ) : EReal) := by
  rw [← EReal.coe_sub, ← EReal.coe_sub, weight, if_pos hT, left_split T Z (a + c) (a + 256) B (by omega) hB, sub_sub]
  rfl

/-- The row of the stacked heads that holds row `r` of head `h`. -/
def srow (h : ℕ) (hh : h < 2) (r : Fin 512) : Fin 1024 := ⟨512 * h + r.val, by omega⟩

/-- One weight as the kernel forms it. -/
theorem cell63 (z : Vec Ideal S1024x256 .f32) (la : EReal) (Z : ℕ → ℝ) (T B a : ℕ) (r : Fin 1024) (c : Fin 256)
    (hz : ∀ x : Fin 256, z (ix2 r x) = ((Z (a + x.val) : ℝ) : EReal)) (hl : la = ((left T Z (a + 256) B : ℝ) : EReal))
    (hT : a + 256 ≤ T) (hB : a + 256 ≤ B) :
    FloatOps.exp2 (F := Ideal) (φ := .f32) (z (ix2 r c) - la - k0_pay63 z (k0_pay12 (F := Ideal)) (ix2 r c)) = ((weight T B Z (a + c.val) : ℝ) : EReal) := by
  rw [within63 z Z T a r hz hT c, hz, hl]
  exact weight_of T B Z a c.val c.isLt hB (by have := c.isLt; omega)

/-- The slot of weights filled from a block of keys all before the queries. -/
theorem weights64 (z : Vec Ideal S1024x256 .f32) (la : Vec Ideal S1024x1 .f32) (Z : ℕ → ℕ → ℝ) (T B a : ℕ) (r : Fin 512)
    (hz : ∀ h hh, ∀ x : Fin 256, z (ix2 (srow h hh r) x) = ((Z h (a + x.val) : ℝ) : EReal))
    (hl : ∀ h hh, la (ix2 (srow h hh r) 0) = ((left T (Z h) (a + 256) B : ℝ) : EReal)) (hT : a + 256 ≤ T) (hB : a + 256 ≤ B) (c : Fin 512) :
    k0_pay64 z (k0_pay12 (F := Ideal)) (k0_pay62 z la) (ix2 r c) = ((weight T B (Z (c.val / 256)) (a + c.val % 256) : ℝ) : EReal) := by
  pointwise [k0_pay64, k0_pay62]
  split
  · next h =>
    rw [show (⟨r.val, by omega⟩ : Fin 1024) = srow 0 (by omega) r from Fin.ext (by simp [srow]), Nat.div_eq_of_lt h, Nat.mod_eq_of_lt h]
    exact cell63 z _ (Z 0) T B a _ ⟨c.val, h⟩ (hz 0 _) (hl 0 _) hT hB
  · next h =>
    rw [show (⟨512 + r.val, by omega⟩ : Fin 1024) = srow 1 (by omega) r from Fin.ext (by simp [srow]), show c.val / 256 = 1 by omega, show c.val % 256 = c.val - 256 by omega]
    exact cell63 z _ (Z 1) T B a _ ⟨c.val - 256, by omega⟩ (hz 1 _) (hl 1 _) hT hB

/-- The other half of a trip is the same text. -/
theorem pay70_eq (z : Vec Ideal S1024x256 .f32) (t : Vec Ideal S256x256 .bf16) : k0_pay70 z t = k0_pay63 z t := rfl
theorem weights71 (z zl : Vec Ideal S1024x256 .f32) (t : Vec Ideal S256x256 .bf16) : k0_pay71 z t zl = k0_pay64 z t zl := rfl
theorem minus69 (z : Vec Ideal S1024x256 .f32) (la : Vec Ideal S1024x1 .f32) : k0_pay69 z la = k0_pay62 z la := rfl
theorem later72 (z : Vec Ideal S1024x256 .f32) (t : Vec Ideal S256x256 .bf16) (la : Vec Ideal S1024x1 .f32) : k0_pay2 (k0_pay72 z t la) = k0_pay4 (k0_pay65 z t la) := rfl

/-- The later keys' terms after a block. -/
theorem later65 (z : Vec Ideal S1024x256 .f32) (la : Vec Ideal S1024x1 .f32) (Z : ℕ → ℝ) (T B a : ℕ) (r : Fin 1024)
    (hz : ∀ x : Fin 256, z (ix2 r x) = ((Z (a + x.val) : ℝ) : EReal)) (hl : la (ix2 r 0) = ((left T Z (a + 256) B : ℝ) : EReal))
    (hT : a + 256 ≤ T) (hB : a + 256 ≤ B) :
    k0_pay4 (k0_pay65 z (k0_pay12 (F := Ideal)) la) (ix2 r 0) = ((left T Z a B : ℝ) : EReal) := by
  pointwise [k0_pay4, k0_pay65]
  refine (congrArg₂ (· + ·) hl (within63 z Z T a r hz hT 0)).trans ?_
  rw [← EReal.coe_add, left_split T Z a (a + 256) B (by omega) hB]
  rfl

/-- The values of a block under a slot of weights, from the slot's lanes. -/
theorem values60 (ac : Vec Ideal S512x128 .f32) (w : Vec Ideal S512x512 .bf16) (v : Vec Ideal S256x128 .bf16) (r : Fin 512) (l : Fin 128) :
    k0_pay61 (k0_pay60 k0_pay10 k0_pay11 ac w v) (ix2 r l) = ac (ix2 r l) + ∑ x : Fin 256, w (ix2 r ⟨256 * (l.val / 64) + x.val, by omega⟩) * v (ix2 x l) := by
  pointwise [k0_pay61, k0_pay60, k0_pay10, k0_pay11]
  simp only [bitsL, bitsH, select_bit]
  have h : l.val / 64 = 0 ∨ l.val / 64 = 1 := by omega
  rcases h with h | h
  · simp only [h, if_true, Nat.zero_ne_one, if_false, Finset.sum_const_zero, add_zero]
    refine congrArg (ac (ix2 r l) + ·) (Finset.sum_congr rfl fun x _ => congrArg (· * v (ix2 x l)) (congrArg w (congrArg (ix2 r) (Fin.ext ?_))))
    show x.val = 256 * 0 + x.val
    omega
  · simp only [h, if_true, Nat.one_ne_zero, if_false, Finset.sum_const_zero, zero_add]

theorem values67 (ac : Vec Ideal S512x128 .f32) (w : Vec Ideal S512x512 .bf16) (v : Vec Ideal S256x128 .bf16) :
    k0_pay68 (k0_pay67 k0_pay10 k0_pay11 ac w v) = k0_pay61 (k0_pay60 k0_pay10 k0_pay11 ac w v) := rfl
theorem values54 (ac : Vec Ideal S512x128 .f32) (w : Vec Ideal S512x512 .bf16) (v : Vec Ideal S256x128 .bf16) (r : Fin 512) (l : Fin 128) :
    k0_pay54 k0_pay10 k0_pay11 ac w v (ix2 r l) = ac (ix2 r l) + ∑ x : Fin 256, w (ix2 r ⟨256 * (l.val / 64) + x.val, by omega⟩) * v (ix2 x l) := by
  rw [← values60]
  pointwise [k0_pay54, k0_pay61, k0_pay60]

/-- A slot of weights against a block of values. -/
theorem values_of (T B : ℕ) (Z : ℕ → ℝ) (V : ℕ → EReal) (a : ℕ) (ac : EReal) (w v : Fin 256 → EReal)
    (ha : ac = mix T B Z V (a + 256)) (hw : ∀ x : Fin 256, w x = ((weight T B Z (a + x.val) : ℝ) : EReal)) (hv : ∀ x : Fin 256, v x = V (a + x.val)) (hB : a + 256 ≤ B) :
    ac + ∑ x : Fin 256, w x * v x = mix T B Z V a := by
  rw [mix_split T B Z V a (a + 256) (by omega) hB, sum_block, ha]
  simp only [hw, hv]

/-- A smallest of values one of which is real is not infinite. -/
theorem not_top_le {ι : Type} [Fintype ι] (b : EReal) (f : ι → EReal) (i : ι) (x : ℝ) (h : f i = (x : EReal)) : ¬ ((⊤ : EReal) ≤ Finset.fold min b f Finset.univ) := by
  intro g
  have g1 := ((Finset.le_fold_min (⊤ : EReal)).mp g).2 i (Finset.mem_univ i)
  rw [h] at g1
  exact absurd g1 (not_le.mpr (EReal.coe_lt_top x))

/-- No row's stick is spent while what the keys took off is a real number. -/
theorem not_spent (la : Vec Ideal S1024x1 .f32) (h : ∃ x : ℝ, la (ix2 0 0) = (x : EReal)) : spent la = 0#1 := by
  unfold spent
  pointwise [k0_pay3]
  obtain ⟨x, hx⟩ := h
  rw [spent_eq, decide_eq_false (not_top_le _ _ (⟨0, by omega⟩, ⟨0, by omega⟩) x hx)]
  rfl

end Cert.KernelIdeal.Stick

end
-- ==== Proof.Stick.Mask.lean ====
/-
  The attention call's first two blocks of keys, which hold keys at and after the query: steps under a mask.
-/
module

public import proofs.«01_k».proof.Proof.Stick.Pay

@[expose] public section

set_option maxRecDepth 8192

noncomputable section

namespace Cert.KernelIdeal.Stick

open Cert.KernelIdeal Cert.KernelIdeal.Gen Idealize.ShloMosaic Idealize.ShloMosaic.TcCoe Cert.Stick

/-- A stored rectangle read inside. -/
theorem canon_in {e : EltTy} {A B o p a b : ℕ} (inb : ∀ x, (![o, p] : Fin 2 → ℕ) x + (![a, b] : Fin 2 → ℕ) x ≤ (![A, B] : Fin 2 → ℕ) x)
    (w : Vec Ideal ⟨2, ![a, b]⟩ e) (L : List (View.Piece (Elt Ideal) ⟨2, ![A, B]⟩ e)) (r : Fin A) (l : Fin B) (r' : Fin a) (l' : Fin b)
    (hr : r.val = o + r'.val) (hl : l.val = p + l'.val) :
    View.canon (Val := Elt Ideal) (⟨Rect.unit (s := ⟨2, ![A, B]⟩) ![o, p] ![a, b] inb, w⟩ :: L) (ix2 r l) = w (ix2 r' l') := by
  have : (ix2 r l : (⟨2, ![A, B]⟩ : Shape).Idx) = (Rect.unit (s := ⟨2, ![A, B]⟩) ![o, p] ![a, b] inb).emb (ix2 r' l') := by
    funext x
    refine Fin.ext ?_
    match x with
    | ⟨0, _⟩ => show r.val = o + 1 * r'.val; omega
    | ⟨1, _⟩ => show l.val = p + 1 * l'.val; omega
  rw [this]
  exact View.canon_cons_emb (Rect.unit (s := ⟨2, ![A, B]⟩) ![o, p] ![a, b] inb) w L _

/-- A stored rectangle read outside. -/
theorem canon_out {e : EltTy} {A B o p a b : ℕ} (inb : ∀ x, (![o, p] : Fin 2 → ℕ) x + (![a, b] : Fin 2 → ℕ) x ≤ (![A, B] : Fin 2 → ℕ) x)
    (w : Vec Ideal ⟨2, ![a, b]⟩ e) (L : List (View.Piece (Elt Ideal) ⟨2, ![A, B]⟩ e)) (r : Fin A) (l : Fin B)
    (h : ¬ ((o ≤ r.val ∧ r.val < o + a) ∧ (p ≤ l.val ∧ l.val < p + b))) :
    View.canon (Val := Elt Ideal) (⟨Rect.unit (s := ⟨2, ![A, B]⟩) ![o, p] ![a, b] inb, w⟩ :: L) (ix2 r l) = View.canon (Val := Elt Ideal) L (ix2 r l) := by
  refine View.canon_cons_of_not_mem _ L fun hm => h ?_
  obtain ⟨x, hx⟩ := (Rect.unit (s := ⟨2, ![A, B]⟩) ![o, p] ![a, b] inb).exists_idx_of_mem hm
  have h0 : o + 1 * (x 0).val = r.val := congrArg Fin.val (congrFun hx 0)
  have h1 : p + 1 * (x 1).val = l.val := congrArg Fin.val (congrFun hx 1)
  have b0 : (x 0).val < a := (x 0).isLt
  have b1 : (x 1).val < b := (x 1).isLt
  omega

theorem row0_eq (i : grid0.Coords) : row0 i = BitVec.ofNat 32 (512 * (i 2).val) := by
  have h : ∀ t : Fin 32, row0 (mk t) = BitVec.ofNat 32 (512 * t.val) := by decide +kernel
  exact h (i 2)

theorem and511 : ∀ r : Fin 1024, IntOp.andi (BitVec.ofNat 32 r.val) 511#32 = BitVec.ofNat 32 (r.val % 512) := by decide +kernel
theorem and255 : ∀ r : Fin 512, IntOp.andi (BitVec.ofNat 32 r.val) 255#32 = BitVec.ofNat 32 (r.val % 256) := by decide +kernel
theorem addi_nat (a b : ℕ) : IntOp.addi (BitVec.ofNat 32 a) (BitVec.ofNat 32 b) = BitVec.ofNat 32 (a + b) := (BitVec.ofNat_add a b).symm

/-- Block 1's mask: keys before the query. -/
theorem mask25 (i : grid0.Coords) (r : Fin 1024) (c : Fin 256) :
    k0_pay25 (row0 i) (ix2 r c) = if 512 * (i 2).val + c.val < 512 * (i 2).val + r.val % 512 then 1#1 else 0#1 := by
  have := tile_lt i
  pointwise [k0_pay25]
  rw [row0_eq, and511, addi_nat, show Scalar.addi (BitVec.ofNat 32 (512 * (i 2).val)) 0#32 = BitVec.ofNat 32 (512 * (i 2).val) from addi_nat _ 0, addi_nat]
  exact slt_nat _ _ (by omega) (by omega)

/-- Block 0's mask. -/
theorem mask19 (i : grid0.Coords) (r : Fin 512) (c : Fin 256) :
    k0_pay19 (k0_pay17 (row0 i)) (iota .tc S512x256 32 [1] iota_S512x256_d1_w32) (k0_pay18 (row0 i)) (ix2 r c)
      = if 512 * (i 2).val + 256 + c.val < 512 * (i 2).val + 256 + r.val % 256 then 1#1 else 0#1 := by
  have := tile_lt i
  pointwise [k0_pay19, k0_pay17, k0_pay18]
  have h : ∀ t : Fin 32, Scalar.maxsi (Scalar.addi (row0 (mk t)) 256#32) 0#32 = BitVec.ofNat 32 (512 * t.val + 256) := by decide +kernel
  rw [show Scalar.maxsi (Scalar.addi (row0 i) 256#32) 0#32 = BitVec.ofNat 32 (512 * (i 2).val + 256) from h (i 2)]
  rw [row0_eq, and255, show Scalar.addi (BitVec.ofNat 32 (512 * (i 2).val)) 256#32 = BitVec.ofNat 32 (512 * (i 2).val + 256) from addi_nat _ 256, addi_nat, addi_nat]
  exact slt_nat _ _ (by omega) (by omega)

/-- A masked term under the triangle. -/
theorem mask_term (m : BitVec 1) (p : Prop) [Decidable p] (hm : m = if p then 1#1 else 0#1) (x : EReal) (t : ℝ) (hx : x = (t : EReal)) (g : Prop) [Decidable g] :
    Scalar.select m (x * (if g then 1 else 0)) 0 = (((if p then t else 0 : ℝ)) : EReal) * (if g then 1 else 0) := by
  rw [hm, select_bit, hx]
  by_cases h : p <;> simp [h]

/-- The terms from each key on, in a masked block. -/
theorem within28 (m : IVec S1024x256 1) (z : Vec Ideal S1024x256 .f32) (Z : ℕ → ℝ) (T a : ℕ) (r : Fin 1024) (hz : ∀ x : Fin 256, z (ix2 r x) = ((Z (a + x.val) : ℝ) : EReal))
    (hm : ∀ x : Fin 256, m (ix2 r x) = if a + x.val < T then 1#1 else 0#1) (c : Fin 256) :
    k0_pay28 m z k0_pay26 (k0_pay12 (F := Ideal)) (ix2 r c) = ((left T Z (a + c.val) (a + 256) : ℝ) : EReal) := by
  pointwise [k0_pay28, k0_pay26]
  refine (Finset.sum_congr rfl fun x _ => ?_).trans (within T Z a c)
  rw [tri_apply]
  exact mask_term _ _ (hm x) _ _ (term_apply _ _ (hz x)) _
theorem within20 (m0 m1 m2 : IVec S512x256 32) (z : Vec Ideal S512x256 .f32) (Z : ℕ → ℝ) (T a : ℕ) (r : Fin 512) (hz : ∀ x : Fin 256, z (ix2 r x) = ((Z (a + x.val) : ℝ) : EReal))
    (hm : ∀ x : Fin 256, k0_pay19 m0 m1 m2 (ix2 r x) = if a + x.val < T then 1#1 else 0#1) (c : Fin 256) :
    k0_pay20 (F := Ideal) z m0 m1 m2 (k0_pay12 (F := Ideal)) (ix2 r c) = ((left T Z (a + c.val) (a + 256) : ℝ) : EReal) := by
  pointwise [k0_pay20]
  refine (Finset.sum_congr rfl fun x _ => ?_).trans (within T Z a c)
  rw [tri_apply]
  exact mask_term _ _ (hm x) _ _ (term_apply _ _ (hz x)) _

/-- One weight of a masked block. -/
theorem mask_weight (m : BitVec 1) (z la s : EReal) (Z : ℕ → ℝ) (T B a c : ℕ) (hm : m = if a + c < T then 1#1 else 0#1) (hz : z = ((Z (a + c) : ℝ) : EReal))
    (hl : la = ((left T Z (a + 256) B : ℝ) : EReal)) (hs : s = ((left T Z (a + c) (a + 256) : ℝ) : EReal)) (hc : c < 256) (hB : a + 256 ≤ B) :
    Scalar.select m (FloatOps.exp2 (F := Ideal) (φ := .f32) (z - la - s)) 0 = ((weight T B Z (a + c) : ℝ) : EReal) := by
  rw [hm, select_bit, hz, hl, hs]
  split
  · next h => exact weight_of T B Z a c hc hB h
  · next h => rw [weight, if_neg h]; rfl

/-- Block 1's slot of weights. -/
theorem weights29 (m : IVec S1024x256 1) (z : Vec Ideal S1024x256 .f32) (la : Vec Ideal S1024x1 .f32) (Z : ℕ → ℕ → ℝ) (T B a : ℕ) (r : Fin 512)
    (hz : ∀ h hh, ∀ x : Fin 256, z (ix2 (srow h hh r) x) = ((Z h (a + x.val) : ℝ) : EReal))
    (hm : ∀ h hh, ∀ x : Fin 256, m (ix2 (srow h hh r) x) = if a + x.val < T then 1#1 else 0#1)
    (hl : ∀ h hh, la (ix2 (srow h hh r) 0) = ((left T (Z h) (a + 256) B : ℝ) : EReal)) (hB : a + 256 ≤ B) (c : Fin 512) :
    k0_pay29 m z k0_pay26 (k0_pay12 (F := Ideal)) (k0_pay27 z la) (ix2 r c) = ((weight T B (Z (c.val / 256)) (a + c.val % 256) : ℝ) : EReal) := by
  pointwise [k0_pay29, k0_pay27]
  split
  · next h =>
    rw [show (⟨r.val, by omega⟩ : Fin 1024) = srow 0 (by omega) r from Fin.ext (by simp [srow]), Nat.div_eq_of_lt h, Nat.mod_eq_of_lt h]
    exact mask_weight _ _ _ _ (Z 0) T B a c.val (hm 0 _ ⟨c.val, h⟩) (hz 0 _ ⟨c.val, h⟩) (hl 0 _) (within28 m z (Z 0) T a _ (hz 0 _) (hm 0 _) ⟨c.val, h⟩) h hB
  · next h =>
    rw [show (⟨512 + r.val, by omega⟩ : Fin 1024) = srow 1 (by omega) r from Fin.ext (by simp [srow]), show c.val / 256 = 1 by omega, show c.val % 256 = c.val - 256 by omega]
    exact mask_weight _ _ _ _ (Z 1) T B a (c.val - 256) (hm 1 _ ⟨c.val - 256, by omega⟩) (hz 1 _ ⟨c.val - 256, by omega⟩) (hl 1 _) (within28 m z (Z 1) T a _ (hz 1 _) (hm 1 _) ⟨c.val - 256, by omega⟩) (by omega) hB

/-- The later keys' terms after block 1. -/
theorem later31 (m : IVec S1024x256 1) (z : Vec Ideal S1024x256 .f32) (la : Vec Ideal S1024x1 .f32) (Z : ℕ → ℝ) (T B a : ℕ) (r : Fin 1024)
    (hz : ∀ x : Fin 256, z (ix2 r x) = ((Z (a + x.val) : ℝ) : EReal)) (hm : ∀ x : Fin 256, m (ix2 r x) = if a + x.val < T then 1#1 else 0#1)
    (hl : la (ix2 r 0) = ((left T Z (a + 256) B : ℝ) : EReal)) (hB : a + 256 ≤ B) :
    k0_pay31 (k0_pay30 m z k0_pay26 (k0_pay12 (F := Ideal)) la) (ix2 r 0) = ((left T Z a B : ℝ) : EReal) := by
  pointwise [k0_pay31, k0_pay30]
  refine (congrArg₂ (· + ·) hl (within28 m z Z T a r hz hm 0)).trans ?_
  rw [← EReal.coe_add, left_split T Z a (a + 256) B (by omega) hB]
  rfl

/-- The upper half's rows of the stacked heads. -/
def urow (h : ℕ) (hh : h < 2) (r : Fin 256) : Fin 512 := ⟨256 * h + r.val, by omega⟩

/-- Block 0's logits: the upper half's rows alone. -/
theorem scores16 (q : Vec Ideal S1024x128 .bf16) (k : Vec Ideal S256x128 .bf16) (h : ℕ) (hh : h < 2) (r : Fin 256) (c : Fin 256) :
    k0_pay16 q k (ix2 (urow h hh r) c) = ∑ d : Fin 128, q (ix2 (srow h hh ⟨256 + r.val, by omega⟩) d) * k (ix2 c d) := by
  pointwise [k0_pay16]
  refine Finset.sum_congr rfl fun d _ => congrArg (· * k (ix2 c d)) ?_
  have : h = 0 ∨ h = 1 := by omega
  split
  · next g =>
    have g' : 256 * h + r.val < 256 := g
    exact congrArg q (congrArg (ix2 · d) (Fin.ext (by show 256 + (256 * h + r.val) = 512 * h + (256 + r.val); omega)))
  · next g =>
    have g' : ¬ 256 * h + r.val < 256 := g
    exact congrArg q (congrArg (ix2 · d) (Fin.ext (by show 768 + (256 * h + r.val - 256) = 512 * h + (256 + r.val); omega)))

/-- Block 0's output. -/
theorem values21 (m0 m1 m2 : IVec S512x256 32) (z : Vec Ideal S512x256 .f32) (t : Vec Ideal S256x256 .bf16) (ac : Vec Ideal S256x128 .f32) (v : Vec Ideal S256x128 .bf16)
    (r : Fin 256) (l : Fin 128) (hh : l.val / 64 < 2) :
    k0_pay21 k0_pay10 k0_pay11 z m0 m1 m2 t ac v (ix2 r l)
      = ac (ix2 r l) + ∑ x : Fin 256, Scalar.select (k0_pay19 m0 m1 m2 (ix2 (urow (l.val / 64) hh r) x))
          (FloatOps.exp2 (F := Ideal) (φ := .f32) (z (ix2 (urow (l.val / 64) hh r) x) - k0_pay20 z m0 m1 m2 t (ix2 (urow (l.val / 64) hh r) x))) 0 * v (ix2 x l) := by
  pointwise [k0_pay21, k0_pay10, k0_pay11]
  simp only [bitsL, bitsH, select_bit]
  have h : l.val / 64 = 0 ∨ l.val / 64 = 1 := by omega
  rcases h with h | h
  · simp only [h, if_true, Nat.zero_ne_one, if_false, Finset.sum_const_zero, add_zero]
    rw [show urow 0 (by omega) r = (⟨r.val, by omega⟩ : Fin 512) from Fin.ext (by simp [urow])]
  · simp only [h, if_true, Nat.one_ne_zero, if_false, Finset.sum_const_zero, zero_add]
    rw [show urow 1 (by omega) r = (⟨256 + r.val, by omega⟩ : Fin 512) from Fin.ext (by simp [urow])]

end Cert.KernelIdeal.Stick

end
-- ==== Proof.Stick.Loop.lean ====
/-
  What a pair of heads carries between blocks of keys, as the mathematics of the blocks done so far, and the pair's output.
-/
module

public import proofs.«01_k».proof.Proof.Stick.Mask

@[expose] public section

set_option maxRecDepth 8192

noncomputable section

namespace Cert.KernelIdeal.Stick

open Cert.KernelIdeal Cert.KernelIdeal.Gen Idealize.ShloMosaic Idealize.ShloMosaic.TcCoe Cert.Stick

/-- A query row's logits (by head and key) and a lane's values (by key), as the blocks hold them. -/
structure Data (i : grid0.Coords) (q : Vec Ideal S1024x128 .bf16) (kb vb : ℕ → Vec Ideal S256x128 .bf16)
    (Z : Fin 512 → ℕ → ℕ → ℝ) (V : Fin 128 → ℕ → EReal) : Prop where
  logit : ∀ n h hh r, ∀ c : Fin 256, ∑ d : Fin 128, q (ix2 (srow h hh r) d) * kb n (ix2 c d) = ((Z r h (kst i n + c.val) : ℝ) : EReal)
  value : ∀ n, ∀ (x : Fin 256) l, vb n (ix2 x l) = V l (kst i n + x.val)

/-- The query row's position, and the end of the query tile. -/
def pos (i : grid0.Coords) (r : Fin 512) : ℕ := 512 * (i 2).val + r.val
def top (i : grid0.Coords) : ℕ := 512 * (i 2).val + 512

/-- Before the product of block `n`: logits of block `n + 1`, weights of block `n`, the terms from block `n` on, the output of the blocks before. -/
structure At (i : grid0.Coords) (Z : Fin 512 → ℕ → ℕ → ℝ) (V : Fin 128 → ℕ → EReal) (n : ℕ)
    (z : Vec Ideal S1024x256 .f32) (w : Vec Ideal S512x512 .bf16) (la : Vec Ideal S1024x1 .f32) (ac : Vec Ideal S512x128 .f32) : Prop where
  hz : ∀ r h hh, ∀ x : Fin 256, z (ix2 (srow h hh r) x) = ((Z r h (kst i (n + 1) + x.val) : ℝ) : EReal)
  hw : ∀ r, ∀ c : Fin 512, w (ix2 r c) = ((weight (pos i r) (top i) (Z r (c.val / 256)) (kst i n + c.val % 256) : ℝ) : EReal)
  hl : ∀ r h hh, la (ix2 (srow h hh r) 0) = ((left (pos i r) (Z r h) (kst i n) (top i) : ℝ) : EReal)
  ha : ∀ r, ∀ l : Fin 128, ac (ix2 r l) = mix (pos i r) (top i) (Z r (l.val / 64)) (V l) (kst i n + 256)

variable {i : grid0.Coords} {q : Vec Ideal S1024x128 .bf16} {kb vb : ℕ → Vec Ideal S256x128 .bf16}
  {Z : Fin 512 → ℕ → ℕ → ℝ} {V : Fin 128 → ℕ → EReal}

theorem kst_succ (i : grid0.Coords) (n : ℕ) (hn : n + 1 ≤ 2 * (i 2).val + 1) : kst i (n + 1) + 256 = kst i n := by unfold kst; omega
theorem kst_top (i : grid0.Coords) (n : ℕ) : kst i n + 256 ≤ top i := by unfold kst top; omega
theorem kst_pos (i : grid0.Coords) (n : ℕ) (r : Fin 512) (h1 : 1 ≤ n) (hn : n ≤ 2 * (i 2).val + 1) : kst i n ≤ pos i r := by unfold kst pos; omega

/-- The product of the block whose weights are ready. -/
theorem add_block (D : Data i q kb vb Z V) (n : ℕ) (w : Vec Ideal S512x512 .bf16) (ac : Vec Ideal S512x128 .f32)
    (hw : ∀ r, ∀ c : Fin 512, w (ix2 r c) = ((weight (pos i r) (top i) (Z r (c.val / 256)) (kst i n + c.val % 256) : ℝ) : EReal))
    (ha : ∀ r, ∀ l : Fin 128, ac (ix2 r l) = mix (pos i r) (top i) (Z r (l.val / 64)) (V l) (kst i n + 256)) (r : Fin 512) (l : Fin 128) :
    ac (ix2 r l) + ∑ x : Fin 256, w (ix2 r ⟨256 * (l.val / 64) + x.val, by omega⟩) * vb n (ix2 x l)
      = mix (pos i r) (top i) (Z r (l.val / 64)) (V l) (kst i n) := by
  refine values_of _ _ _ _ _ _ (fun x : Fin 256 => w (ix2 r ⟨256 * (l.val / 64) + x.val, by omega⟩)) (fun x : Fin 256 => vb n (ix2 x l)) (ha r l) (fun x => ?_) (fun x => D.value n x l) (kst_top i n)
  refine (hw r _).trans ?_
  have hx := x.isLt
  rw [show (256 * (l.val / 64) + x.val) / 256 = l.val / 64 by omega, show (256 * (l.val / 64) + x.val) % 256 = x.val by omega]

/-- Half a trip. -/
theorem At.step (D : Data i q kb vb Z V) (n : ℕ) (h1 : 1 ≤ n) (hn : n + 1 ≤ 2 * (i 2).val + 1) {z : Vec Ideal S1024x256 .f32} {w : Vec Ideal S512x512 .bf16}
    {la : Vec Ideal S1024x1 .f32} {ac : Vec Ideal S512x128 .f32} (A : At i Z V n z w la ac) :
    At i Z V (n + 1) (k0_pay59 q (kb (n + 2))) (k0_pay64 z (k0_pay12 (F := Ideal)) (k0_pay62 z la)) (k0_pay4 (k0_pay65 z (k0_pay12 (F := Ideal)) la))
      (k0_pay61 (k0_pay60 k0_pay10 k0_pay11 ac w (vb n))) where
  hz r h hh x := (scores59 q (kb (n + 2)) _ x).trans (D.logit (n + 2) h hh r x)
  hw r c := weights64 z la (Z r) (pos i r) (top i) (kst i (n + 1)) r (fun h hh x => A.hz r h hh x)
    (fun h hh => by rw [kst_succ i n hn]; exact A.hl r h hh) (by rw [kst_succ i n hn]; exact kst_pos i n r h1 (by omega)) (kst_top i _) c
  hl r h hh := later65 z la (Z r h) (pos i r) (top i) (kst i (n + 1)) _ (fun x => A.hz r h hh x)
    (by rw [kst_succ i n hn]; exact A.hl r h hh) (by rw [kst_succ i n hn]; exact kst_pos i n r h1 (by omega)) (kst_top i _)
  ha r l := by
    rw [kst_succ i n hn, values60]
    exact add_block D n w ac A.hw A.ha r l

theorem At.live {n : ℕ} {z : Vec Ideal S1024x256 .f32} {w : Vec Ideal S512x512 .bf16}
    {la : Vec Ideal S1024x1 .f32} {ac : Vec Ideal S512x128 .f32} (A : At i Z V n z w la ac) : spent la = 0#1 :=
  not_spent la ⟨_, A.hl 0 0 (by omega)⟩

theorem At.half1 (D : Data i q kb vb Z V) (n : ℕ) (h1 : 1 ≤ n) (hn : n + 1 ≤ 2 * (i 2).val + 1) {s : St Ideal} (A : At i Z V n s.z0 s.w1 s.la s.ac) :
    At i Z V (n + 1) (half1 q (k0_pay12 (F := Ideal)) kb vb n s).z1 (half1 q (k0_pay12 (F := Ideal)) kb vb n s).w0 (half1 q (k0_pay12 (F := Ideal)) kb vb n s).la (half1 q (k0_pay12 (F := Ideal)) kb vb n s).ac :=
  A.step D n h1 hn

theorem At.half2 (D : Data i q kb vb Z V) (n : ℕ) (hn : n + 2 ≤ 2 * (i 2).val + 1) {s : St Ideal} (A : At i Z V (n + 1) s.z1 s.w0 s.la s.ac) :
    At i Z V (n + 2) (half2 q (k0_pay12 (F := Ideal)) kb vb n s).z0 (half2 q (k0_pay12 (F := Ideal)) kb vb n s).w1 (half2 q (k0_pay12 (F := Ideal)) kb vb n s).la (half2 q (k0_pay12 (F := Ideal)) kb vb n s).ac :=
  A.step D (n + 1) (by omega) hn

/-- A trip. -/
theorem At.trip (D : Data i q kb vb Z V) (n : ℕ) (h1 : 1 ≤ n) (hn : n + 2 ≤ 2 * (i 2).val + 1) {s : St Ideal} (A : At i Z V n s.z0 s.w1 s.la s.ac) :
    next q (k0_pay12 (F := Ideal)) kb vb n s = n + 2
      ∧ At i Z V (n + 2) (trip q (k0_pay12 (F := Ideal)) kb vb n s).z0 (trip q (k0_pay12 (F := Ideal)) kb vb n s).w1 (trip q (k0_pay12 (F := Ideal)) kb vb n s).la (trip q (k0_pay12 (F := Ideal)) kb vb n s).ac := by
  have A1 := A.half1 D n h1 (by omega)
  have hs : ¬ spent (Stick.half1 q (k0_pay12 (F := Ideal)) kb vb n s).la = 1#1 := by rw [A1.live]; decide
  unfold next Stick.trip
  rw [if_neg hs, if_neg hs]
  exact ⟨rfl, A1.half2 D n hn⟩

/-- The loop, from an odd block on: it ends at the last block, its weights ready. -/
theorem At.loop (D : Data i q kb vb Z V) : ∀ (f n : ℕ) (s : St Ideal), n % 2 = 1 → n ≤ 2 * (i 2).val + 1 → 2 * (i 2).val + 1 ≤ n + 2 * f →
    At i Z V n s.z0 s.w1 s.la s.ac →
    (loop q (k0_pay12 (F := Ideal)) kb vb (2 * (i 2).val) f n 0#1 s).1 = 2 * (i 2).val + 1
      ∧ At i Z V (2 * (i 2).val + 1) (loop q (k0_pay12 (F := Ideal)) kb vb (2 * (i 2).val) f n 0#1 s).2.z0 (loop q (k0_pay12 (F := Ideal)) kb vb (2 * (i 2).val) f n 0#1 s).2.w1
          (loop q (k0_pay12 (F := Ideal)) kb vb (2 * (i 2).val) f n 0#1 s).2.la (loop q (k0_pay12 (F := Ideal)) kb vb (2 * (i 2).val) f n 0#1 s).2.ac := by
  intro f
  induction f with
  | zero =>
    intro n s _ h2 h3 A
    have e : n = 2 * (i 2).val + 1 := by omega
    subst e
    exact ⟨rfl, A⟩
  | succ f ih =>
    intro n s ho h2 h3 A
    unfold Stick.loop
    by_cases h : n < 2 * (i 2).val
    · rw [if_pos ⟨h, rfl⟩]
      obtain ⟨e, A'⟩ := A.trip D n (by omega) (by omega)
      rw [e, A'.live]
      exact ih (n + 2) _ (by omega) (by omega) (by omega) A'
    · rw [if_neg fun g => h g.1]
      have e : n = 2 * (i 2).val + 1 := by omega
      subst e
      exact ⟨rfl, A⟩

/-! ## The start -/

theorem logits16 (D : Data i q kb vb Z V) (r : Fin 512) (hr : 256 ≤ r.val) (h : ℕ) (hh : h < 2) (x : Fin 256) :
    k0_pay16 q (kb 0) (ix2 (urow h hh ⟨r.val - 256, by omega⟩) x) = ((Z r h (kst i 0 + x.val) : ℝ) : EReal) := by
  rw [scores16]
  have e : (⟨256 + (r.val - 256), by omega⟩ : Fin 512) = r := Fin.ext (by show 256 + (r.val - 256) = r.val; omega)
  rw [show (⟨256 + (⟨r.val - 256, by omega⟩ : Fin 256).val, by omega⟩ : Fin 512) = r from e]
  exact D.logit 0 h hh r x

theorem bits19 (r : Fin 512) (hr : 256 ≤ r.val) (h : ℕ) (hh : h < 2) (x : Fin 256) :
    k0_pay19 (k0_pay17 (row0 i)) (iota .tc S512x256 32 [1] iota_S512x256_d1_w32) (k0_pay18 (row0 i)) (ix2 (urow h hh ⟨r.val - 256, by omega⟩) x)
      = if kst i 0 + x.val < pos i r then 1#1 else 0#1 := by
  rw [mask19]
  refine if_congr ?_ rfl rfl
  show 512 * (i 2).val + 256 + x.val < 512 * (i 2).val + 256 + (256 * h + (r.val - 256)) % 256 ↔ 512 * (i 2).val + 256 - 256 * 0 + x.val < 512 * (i 2).val + r.val
  omega

/-- Block 0's terms, from each key on. -/
theorem diag_apply (D : Data i q kb vb Z V) (r : Fin 512) (hr : 256 ≤ r.val) (h : ℕ) (hh : h < 2) (c : Fin 256) :
    diag i q kb (ix2 (urow h hh ⟨r.val - 256, by omega⟩) c) = ((left (pos i r) (Z r h) (kst i 0 + c.val) (kst i 0 + 256) : ℝ) : EReal) :=
  within20 _ _ _ _ (Z r h) (pos i r) (kst i 0) _ (fun x => logits16 D r hr h hh x) (fun x => bits19 r hr h hh x) c

theorem zero_bits : (Scalar.ofBits .f32 0x00000000#32 : Ideal .f32) = (0 : EReal) := by
  show Ideal.ofBits .f32 0x00000000#32 = 0
  simp [Ideal.ofBits, Ideal.ieee]

/-- No key of block 0 is before a query of the lower half. -/
theorem left_low (r : Fin 512) (hr : r.val < 256) (z : ℕ → ℝ) : left (pos i r) z (kst i 0) (top i) = 0 :=
  Finset.sum_eq_zero fun s hs => if_neg (by have := (Finset.mem_Ico.mp hs).1; unfold kst at this; unfold pos; omega)

theorem mix_low (r : Fin 512) (hr : r.val < 256) (z : ℕ → ℝ) (v : ℕ → EReal) : mix (pos i r) (top i) z v (kst i 0) = 0 :=
  Finset.sum_eq_zero fun s hs => by
    have h := (Finset.mem_Ico.mp hs).1
    unfold kst at h
    rw [weight, if_neg (by unfold pos; omega), EReal.coe_zero, zero_mul]

theorem top_eq : kst i 0 + 256 = top i := by unfold kst top; omega

theorem pay14_apply (x : S1024x1.Idx) : k0_pay14 (F := Ideal) x = 0 := by
  obtain ⟨r, c, rfl⟩ : ∃ r c, x = ix2 r c := ⟨x 0, x 1, eq_ix2 x⟩
  pointwise [k0_pay14]
theorem pay15_apply (x : S512x128.Idx) : k0_pay15 (Scalar.ofBits .f32 0x00000000#32 : Ideal .f32) x = 0 := by
  obtain ⟨r, c, rfl⟩ : ∃ r c, x = ix2 r c := ⟨x 0, x 1, eq_ix2 x⟩
  pointwise [k0_pay15]

theorem pay22_apply (v : FVec Ideal S512x256 .f32) (w : Vec Ideal S256x1 .f32) (r : Fin 256) : k0_pay22 v w (ix2 r 0) = w (ix2 r 0) + v (ix2 ⟨r.val, by omega⟩ 0) := by
  pointwise [k0_pay22]
theorem pay23_apply (v : FVec Ideal S512x256 .f32) (w : Vec Ideal S256x1 .f32) (r : Fin 256) : k0_pay23 v w (ix2 r 0) = w (ix2 r 0) + v (ix2 ⟨256 + r.val, by omega⟩ 0) := by
  pointwise [k0_pay23]

theorem left_self (T b : ℕ) (z : ℕ → ℝ) : left T z b b = 0 := by unfold left; simp

/-- The later keys' terms after block 0. -/
theorem later0_apply (D : Data i q kb vb Z V) (r : Fin 512) (h : ℕ) (hh : h < 2) :
    later0 i q kb (ix2 (srow h hh r) 0) = ((left (pos i r) (Z r h) (kst i 0) (top i) : ℝ) : EReal) := by
  unfold later0
  have hc : h = 0 ∨ h = 1 := by omega
  have hv : (srow h hh r).val = 512 * h + r.val := rfl
  by_cases hr : 256 ≤ r.val
  · have hd := diag_apply D r hr h hh 0
    rw [top_eq] at hd
    rcases hc with rfl | rfl
    · refine (canon_out (A := 1024) (B := 1) (o := 768) (p := 0) (a := 256) (b := 1) _ _ _ _ _ (by rw [hv]; omega)).trans ?_
      refine (canon_in (A := 1024) (B := 1) (o := 256) (p := 0) (a := 256) (b := 1) _ _ _ _ _ ⟨r.val - 256, by omega⟩ 0 (by rw [hv]; show 512 * 0 + r.val = 256 + (r.val - 256); omega) rfl).trans ?_
      rw [pay22_apply, View.ld, pay14_apply, zero_add, show (⟨(⟨r.val - 256, by omega⟩ : Fin 256).val, by omega⟩ : Fin 512) = urow 0 hh ⟨r.val - 256, by omega⟩ from Fin.ext (by simp [urow])]
      exact hd
    · refine (canon_in (A := 1024) (B := 1) (o := 768) (p := 0) (a := 256) (b := 1) _ _ _ _ _ ⟨r.val - 256, by omega⟩ 0 (by rw [hv]; show 512 * 1 + r.val = 768 + (r.val - 256); omega) rfl).trans ?_
      rw [pay23_apply]
      refine (congrArg (· + _) ?_).trans ((zero_add _).trans ?_)
      · have e : (Rect.unit (s := S1024x1) ![768, 0] S256x1.size inb_S1024x1_S256x1_768_0).emb (ix2 (⟨r.val - 256, by omega⟩ : Fin 256) (0 : Fin 1)) = ix2 (srow 1 hh r) 0 := by
          funext x
          refine Fin.ext ?_
          match x with
          | ⟨0, _⟩ => show 768 + 1 * (r.val - 256) = 512 * 1 + r.val; omega
          | ⟨1, _⟩ => rfl
        rw [e]
        refine (canon_out (A := 1024) (B := 1) (o := 256) (p := 0) (a := 256) (b := 1) _ _ _ _ _ (by rw [hv]; omega)).trans ?_
        exact (canon_in (A := 1024) (B := 1) (o := 0) (p := 0) (a := 1024) (b := 1) _ _ _ _ _ (srow 1 hh r) 0 (by omega) rfl).trans (pay14_apply _)
      · rw [show (⟨256 + (⟨r.val - 256, by omega⟩ : Fin 256).val, by omega⟩ : Fin 512) = urow 1 hh ⟨r.val - 256, by omega⟩ from Fin.ext (by simp [urow])]
        exact hd
  · rw [left_low r (by omega)]
    refine (canon_out (A := 1024) (B := 1) (o := 768) (p := 0) (a := 256) (b := 1) _ _ _ _ _ (by rw [hv]; omega)).trans ?_
    refine (canon_out (A := 1024) (B := 1) (o := 256) (p := 0) (a := 256) (b := 1) _ _ _ _ _ (by rw [hv]; omega)).trans ?_
    exact (canon_in (A := 1024) (B := 1) (o := 0) (p := 0) (a := 1024) (b := 1) _ _ _ _ _ (srow h hh r) 0 (by omega) rfl).trans (pay14_apply _)

/-- The output after block 0. -/
theorem acc0_apply (D : Data i q kb vb Z V) (r : Fin 512) (l : Fin 128) :
    acc0 i q kb vb (ix2 r l) = mix (pos i r) (top i) (Z r (l.val / 64)) (V l) (kst i 0) := by
  unfold acc0
  by_cases hr : 256 ≤ r.val
  · refine (canon_in (A := 512) (B := 128) (o := 256) (p := 0) (a := 256) (b := 128) _ _ _ _ _ ⟨r.val - 256, by omega⟩ l (by show r.val = 256 + (r.val - 256); omega) (by omega)).trans ?_
    have hh : l.val / 64 < 2 := by omega
    rw [values21 _ _ _ _ _ _ _ _ _ hh, View.ld, pay15_apply]
    refine values_of _ _ _ _ (kst i 0) 0 _ (fun x => vb 0 (ix2 x l)) ?_ (fun x => ?_) (fun x => D.value 0 x l) (kst_top i 0)
    · rw [top_eq]; unfold mix; simp
    · have h0 : (0 : EReal) = ((left (pos i r) (Z r (l.val / 64)) (kst i 0 + 256) (top i) : ℝ) : EReal) := by rw [top_eq, left_self]; rfl
      have := mask_weight _ _ 0 _ (Z r (l.val / 64)) (pos i r) (top i) (kst i 0) x.val (bits19 r hr _ hh x) (logits16 D r hr _ hh x) h0 (diag_apply D r hr _ hh x) x.isLt (kst_top i 0)
      rw [sub_zero] at this
      exact this
  · rw [mix_low r (by omega)]
    refine (canon_out (A := 512) (B := 128) (o := 256) (p := 0) (a := 256) (b := 128) _ _ _ _ _ (by omega)).trans ?_
    exact (canon_in (A := 512) (B := 128) (o := 0) (p := 0) (a := 512) (b := 128) _ _ _ _ _ r l (by omega) (by omega)).trans (pay15_apply _)

/-- Block 1's mask by positions. -/
theorem bits25 (r : Fin 512) (h : ℕ) (hh : h < 2) (x : Fin 256) :
    k0_pay25 (row0 i) (ix2 (srow h hh r) x) = if kst i 1 + x.val < pos i r then 1#1 else 0#1 := by
  rw [mask25]
  refine if_congr ?_ rfl rfl
  show 512 * (i 2).val + x.val < 512 * (i 2).val + (512 * h + r.val) % 512 ↔ 512 * (i 2).val + 256 - 256 * 1 + x.val < 512 * (i 2).val + r.val
  omega

/-- The loop's start. -/
theorem At.init (D : Data i q kb vb Z V) : At i Z V 1 (init i q kb vb).z0 (init i q kb vb).w1 (init i q kb vb).la (init i q kb vb).ac where
  hz r h hh x := (scores32 q (kb 2) _ x).trans (D.logit 2 h hh r x)
  hw r c := weights29 _ _ _ (Z r) (pos i r) (top i) (kst i 1) r (fun h hh x => (scores24 q (kb 1) _ x).trans (D.logit 1 h hh r x))
    (fun h hh x => bits25 r h hh x) (fun h hh => by rw [kst_succ i 0 (by omega)]; exact later0_apply D r h hh) (kst_top i 1) c
  hl r h hh := later31 _ _ _ (Z r h) (pos i r) (top i) (kst i 1) _ (fun x => (scores24 q (kb 1) _ x).trans (D.logit 1 h hh r x))
    (fun x => bits25 r h hh x) (by rw [kst_succ i 0 (by omega)]; exact later0_apply D r h hh) (kst_top i 1)
  ha r l := by rw [kst_succ i 0 (by omega)]; exact acc0_apply D r l

/-- A pair's output: all keys before each query, under their weights. -/
theorem pair_apply (D : Data i q kb vb Z V) (r : Fin 512) (l : Fin 128) :
    pair i q kb vb (ix2 r l) = mix (pos i r) (top i) (Z r (l.val / 64)) (V l) 0 := by
  have ht := tile_lt i
  obtain ⟨e, A⟩ := (At.init D).loop D 64 1 _ rfl (by omega) (by omega)
  unfold pair finish
  rw [e, if_pos (by omega), values54, add_block D _ _ _ A.hw A.ha r l, show kst i (2 * (i 2).val + 1) = 0 by unfold kst; omega]

end Cert.KernelIdeal.Stick

end
-- ==== Proof.Stick.Out.lean ====
/-
  The block a grid point of the attention call leaves, over the extended reals, from the entries of its three blocks.
-/
module

public import proofs.«01_k».proof.Proof.Stick.Loop

@[expose] public section

set_option maxRecDepth 8192

noncomputable section

namespace Cert.KernelIdeal.Stick

open Cert.KernelIdeal Cert.KernelIdeal.Gen Idealize.ShloMosaic Idealize.ShloMosaic.TcCoe Cert.Stick

/-- The stacked heads: a head's row keeps its own lanes. -/
theorem stack13 (x : Vec Ideal S512x128 .bf16) (h : ℕ) (hh : h < 2) (r : Fin 512) (d : Fin 128) :
    k0_pay13 x (ix2 (srow h hh r) d) = if d.val / 64 = h then x (ix2 r d) else 0 := by
  pointwise [k0_pay13, k0_pay10, k0_pay11]
  simp only [bitsL, bitsH, select_bit]
  have hc : h = 0 ∨ h = 1 := by omega
  rcases hc with rfl | rfl
  · rw [dif_pos (show (srow 0 hh r).val < 512 by show 512 * 0 + r.val < 512; omega)]
    rw [show (⟨(srow 0 hh r).val, by show 512 * 0 + r.val < 512; omega⟩ : Fin 512) = r from Fin.ext (by show 512 * 0 + r.val = r.val; omega)]
  · rw [dif_neg (show ¬ (srow 1 hh r).val < 512 by show ¬ 512 * 1 + r.val < 512; omega)]
    rw [show (⟨(srow 1 hh r).val - 512, by show 512 * 1 + r.val - 512 < 512; omega⟩ : Fin 512) = r from Fin.ext (by show 512 * 1 + r.val - 512 = r.val; omega)]
theorem stack33 (x : Vec Ideal S512x128 .bf16) : k0_pay33 k0_pay10 k0_pay11 x = k0_pay13 x := rfl

theorem ld_lo (x : Vec Ideal S512x256 .bf16) (r : Fin 512) (d : Fin 128) :
    View.ld x (Rect.unit (s := S512x256) ![0, 0] S512x128.size inb_S512x256_S512x128_0_0) (ix2 r d) = x (ix2 r ⟨d.val, by omega⟩) := by
  refine congrArg x (funext fun a => Fin.ext ?_)
  match a with
  | ⟨0, _⟩ => show 0 + 1 * r.val = r.val; omega
  | ⟨1, _⟩ => show 0 + 1 * d.val = d.val; omega
theorem ld_hi (x : Vec Ideal S512x256 .bf16) (r : Fin 512) (d : Fin 128) :
    View.ld x (Rect.unit (s := S512x256) ![0, 128] S512x128.size inb_S512x256_S512x128_0_128) (ix2 r d) = x (ix2 r ⟨128 + d.val, by omega⟩) := by
  refine congrArg x (funext fun a => Fin.ext ?_)
  match a with
  | ⟨0, _⟩ => show 0 + 1 * r.val = r.val; omega
  | ⟨1, _⟩ => show 128 + 1 * d.val = 128 + d.val; omega

theorem kst_lt (i : grid0.Coords) (n : ℕ) (c : Fin 256) : kst i n + c.val < 16384 := by
  have := tile_lt i
  unfold kst; omega

theorem blk_apply (X : Vec Ideal S16384x256 .bf16) (i : grid0.Coords) (p : Fin 2) (n : ℕ) (c : Fin 256) (d : Fin 128) :
    blk X i p n (ix2 c d) = X (ix2 ⟨kst i n + c.val, kst_lt i n c⟩ ⟨128 * p.val + d.val, by omega⟩) := by
  refine congrArg X (funext fun a => Fin.ext ?_)
  match a with
  | ⟨0, _⟩ => show kst i n + 1 * c.val = kst i n + c.val; omega
  | ⟨1, _⟩ => show 128 * p.val + 1 * d.val = 128 * p.val + d.val; omega

/-- A sum over a pair's lanes that keeps one head's. -/
theorem sum_head (f : ℕ → ℝ) (h : ℕ) (hh : h < 2) : ∑ d : Fin 128, (if d.val / 64 = h then f d.val else 0) = ∑ e : Fin 64, f (64 * h + e.val) := by
  rw [show (∑ d : Fin 128, (if d.val / 64 = h then f d.val else 0)) = ∑ d : Fin (64 + 64), (if d.val / 64 = h then f d.val else 0) from rfl, Fin.sum_univ_add]
  have a0 : ∀ e : Fin 64, e.val / 64 = 0 := fun e => by omega
  have a1 : ∀ e : Fin 64, (64 + e.val) / 64 = 1 := fun e => by omega
  have hc : h = 0 ∨ h = 1 := by omega
  rcases hc with rfl | rfl <;> simp [a0, a1, add_comm]

/-- A pair's rows and values from the blocks' entries. -/
theorem data_of (i : grid0.Coords) (p : Fin 2) (q : Vec Ideal S1024x128 .bf16) (K U : Vec Ideal S16384x256 .bf16) (xr kr : ℕ → ℕ → ℝ) (vr : ℕ → ℕ → EReal)
    (hq : ∀ h hh, ∀ (r : Fin 512) (d : Fin 128), q (ix2 (srow h hh r) d) = if d.val / 64 = h then ((xr r.val (128 * p.val + d.val) : ℝ) : EReal) else 0)
    (hK : ∀ (s : Fin 16384) (l : Fin 256), K (ix2 s l) = ((kr s.val l.val : ℝ) : EReal)) (hU : ∀ (s : Fin 16384) (l : Fin 256), U (ix2 s l) = vr s.val l.val) :
    Data i q (blk K i p) (blk U i p) (fun r h c => ∑ e : Fin 64, xr r.val (128 * p.val + (64 * h + e.val)) * kr c (128 * p.val + (64 * h + e.val)))
      (fun l c => vr c (128 * p.val + l.val)) where
  logit n h hh r c := by
    rw [← sum_head (fun d => xr r.val (128 * p.val + d) * kr (kst i n + c.val) (128 * p.val + d)) h hh, coe_sum]
    refine Finset.sum_congr rfl fun d _ => ?_
    rw [hq, blk_apply, hK]
    split
    · rw [EReal.coe_mul]
    · rw [zero_mul, EReal.coe_zero]
  value n x l := by rw [blk_apply, hU]

/-- The block a point leaves, at a row and a lane. -/
theorem outBlk_apply (i : grid0.Coords) (x : Vec Ideal S512x256 .bf16) (K U : Vec Ideal S16384x256 .bf16) (xr kr : ℕ → ℕ → ℝ) (vr : ℕ → ℕ → EReal)
    (hx : ∀ (r : Fin 512) (l : Fin 256), x (ix2 r l) = ((xr r.val l.val : ℝ) : EReal))
    (hK : ∀ (s : Fin 16384) (l : Fin 256), K (ix2 s l) = ((kr s.val l.val : ℝ) : EReal)) (hU : ∀ (s : Fin 16384) (l : Fin 256), U (ix2 s l) = vr s.val l.val)
    (r : Fin 512) (l : Fin 256) :
    outBlk i x K U (ix2 r l) = mix (pos i r) (top i) (fun c => ∑ e : Fin 64, xr r.val (64 * (l.val / 64) + e.val) * kr c (64 * (l.val / 64) + e.val)) (fun c => vr c l.val) 0 := by
  unfold outBlk
  by_cases hl : l.val < 128
  · refine (canon_out (A := 512) (B := 256) (o := 0) (p := 128) (a := 512) (b := 128) _ _ _ _ _ (by omega)).trans ?_
    refine (canon_in (A := 512) (B := 256) (o := 0) (p := 0) (a := 512) (b := 128) _ _ _ _ _ r ⟨l.val, hl⟩ (by omega) (by show l.val = 0 + l.val; omega)).trans ?_
    refine (pair_apply (data_of i 0 (q0 x) K U xr kr vr (fun h hh r d => ?_) hK hU) r ⟨l.val, hl⟩).trans ?_
    · unfold q0
      rw [stack13, ld_lo, hx]
      show (if d.val / 64 = h then ((xr r.val d.val : ℝ) : EReal) else 0) = if d.val / 64 = h then ((xr r.val (128 * 0 + d.val) : ℝ) : EReal) else 0
      rw [show 128 * 0 + d.val = d.val by omega]
    · show mix (pos i r) (top i) (fun c => ∑ e : Fin 64, xr r.val (128 * 0 + (64 * (l.val / 64) + e.val)) * kr c (128 * 0 + (64 * (l.val / 64) + e.val))) (fun c => vr c (128 * 0 + l.val)) 0 = _
      simp only [Nat.mul_zero, Nat.zero_add]
  · refine (canon_in (A := 512) (B := 256) (o := 0) (p := 128) (a := 512) (b := 128) _ _ _ _ _ r ⟨l.val - 128, by omega⟩ (by omega) (by show l.val = 128 + (l.val - 128); omega)).trans ?_
    refine (pair_apply (data_of i 1 (q1 x) K U xr kr vr (fun h hh r d => ?_) hK hU) r ⟨l.val - 128, by omega⟩).trans ?_
    · unfold q1
      rw [stack33, stack13, ld_hi, hx]
      rfl
    · have e1 : 128 * 1 + (l.val - 128) = l.val := by omega
      have e2 : ∀ e : ℕ, 128 * 1 + (64 * ((l.val - 128) / 64) + e) = 64 * (l.val / 64) + e := fun e => by omega
      show mix (pos i r) (top i) (fun c => ∑ e : Fin 64, xr r.val (128 * 1 + (64 * ((l.val - 128) / 64) + e.val)) * kr c (128 * 1 + (64 * ((l.val - 128) / 64) + e.val))) (fun c => vr c (128 * 1 + (l.val - 128))) 0 = _
      simp only [e1, e2]

/-- The end up to which keys are counted does not matter once it is past the query. -/
theorem mix_end (T b N : ℕ) (z : ℕ → ℝ) (v : ℕ → EReal) (hb : T ≤ b) (hN : b ≤ N) : mix T b z v 0 = mix T N z v 0 := by
  have h0 : left T z b N = 0 := Finset.sum_eq_zero fun s hs => if_neg (by have := (Finset.mem_Ico.mp hs).1; omega)
  rw [mix_split T N z v 0 b (Nat.zero_le _) hN]
  have h1 : mix T N z v b = 0 := Finset.sum_eq_zero fun s hs => by
    rw [weight, if_neg (by have := (Finset.mem_Ico.mp hs).1; omega), EReal.coe_zero, zero_mul]
  rw [h1, zero_add]
  refine Finset.sum_congr rfl fun s hs => ?_
  have : weight T N z s = weight T b z s := by
    unfold weight
    rw [left_split T z s b N (Finset.mem_Ico.mp hs).2.le hN, h0, zero_add]
  rw [this]

end Cert.KernelIdeal.Stick

end
-- ==== Proof.Stick.Final.lean ====
/-
  The attention's result array after its run, over the extended reals: row `R` and lane `l` hold the values of head `l / 64`
  under the weights of the row's logits.
-/
module

public import proofs.«01_k».proof.Proof.Stick.Out
public import proofs.«01_k».proof.Proof.Stick.Launch
public import Idealize.ShloMosaic.Lib.Pipeline.Value

@[expose] public section

set_option maxRecDepth 8192

noncomputable section

namespace Cert.KernelIdeal.Stick

open Cert.KernelIdeal Cert.KernelIdeal.Gen Idealize.ShloMosaic Idealize.ShloMosaic.TcCoe Idealize.SL.Sem Cert.Stick

/-- Batch, and position within it, of a row. -/
def bOf (R : Fin 32768) : Fin 2 := ⟨R.val / 16384, by omega⟩
def sOf (R : Fin 32768) : Fin 16384 := ⟨R.val % 16384, by omega⟩

/-- An argument's entry by natural numbers, zero outside the array. -/
def at3 (x : FVec Ideal S2x16384x512 .f32) (b s l : ℕ) : EReal :=
  if h : b < 2 ∧ s < 16384 ∧ l < 512 then x (ix3 ⟨b, h.1⟩ ⟨s, h.2.1⟩ ⟨l, h.2.2⟩) else 0
theorem at3_ix (x : FVec Ideal S2x16384x512 .f32) (b : Fin 2) (s : Fin 16384) (l : Fin 512) : at3 x b.val s.val l.val = x (ix3 b s l) :=
  dif_pos ⟨b.isLt, s.isLt, l.isLt⟩
/-- The same as a real. -/
def re3 (x : FVec Ideal S2x16384x512 .f32) (b s l : ℕ) : ℝ := (at3 x b s l).toReal

/-- Every entry is a real. -/
def Real3 (x : FVec Ideal S2x16384x512 .f32) : Prop := ∀ i, x i = ((x i).toReal : EReal)
theorem Real3.at3 {x : FVec Ideal S2x16384x512 .f32} (h : Real3 x) (b : Fin 2) (s : Fin 16384) (l : Fin 512) :
    x (ix3 b s l) = ((re3 x b.val s.val l.val : ℝ) : EReal) := by
  unfold re3; rw [at3_ix]; exact h _

/-- Key `c`'s logit, to base two, in the row of query `s` of head `h`. -/
def logit (q k : FVec Ideal S2x16384x512 .f32) (b h s c : ℕ) : ℝ :=
  (∑ e : Fin 64, re3 q b s (64 * h + e.val) * re3 k b c (64 * h + e.val)) * (1 / 8) / Real.log 2

/-- The result: row `R`, lane `l`. -/
def out (q k v : FVec Ideal S2x16384x512 .f32) (R : Fin 32768) (l : Fin 512) : EReal :=
  mix (sOf R).val 16384 (logit q k (bOf R).val (l.val / 64) (sOf R).val) (fun c => at3 v (bOf R).val c l.val) 0

theorem eighth : Ideal.ofBits .f32 0x3E000000#32 = (((1 / 8 : ℝ)) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

variable (m : (ℓ : Loc nD τ sig) → Buf (Elt Ideal) ℓ) (ρ : Dev nD → PrngReg) (c : Dev nD)

/-- The arguments. -/
abbrev aQ : FVec Ideal S2x16384x512 .f32 := m ((c : Thread nD τ).loc main_arg0)
abbrev aK : FVec Ideal S2x16384x512 .f32 := m ((c : Thread nD τ).loc main_arg1)
abbrev aV : FVec Ideal S2x16384x512 .f32 := m ((c : Thread nD τ).loc main_arg2)

theorem V_v7 : V m c main_v7 = (truncf .bf16 (Host.divf (mulf (shapeCast S32768x512 (aQ m c) shapeCasts_S2x16384x512_S32768x512)
    (broadcastInDim S32768x512 ![] bcast_S_S32768x512 (constant S_ .f32 0x3E000000#32)))
    (broadcastInDim S32768x512 ![] bcast_S_S32768x512 (Host.log (constant S_ .f32 0x40000000#32)))) bitsLt_bf16_f32 : FVec Ideal S32768x512 .bf16) := by
  show StableHlo.after hostOps0 _ (Proc.devRef .tc main_v7) = _
  after_results
  rfl
theorem V_v9 : V m c main_v9 = (truncf .bf16 (shapeCast S32768x512 (aK m c) shapeCasts_S2x16384x512_S32768x512) bitsLt_bf16_f32 : FVec Ideal S32768x512 .bf16) := by
  show StableHlo.after hostOps0 _ (Proc.devRef .tc main_v9) = _
  after_results
  rfl
theorem V_v11 : V m c main_v11 = (truncf .bf16 (shapeCast S32768x512 (aV m c) shapeCasts_S2x16384x512_S32768x512) bitsLt_bf16_f32 : FVec Ideal S32768x512 .bf16) := by
  show StableHlo.after hostOps0 _ (Proc.devRef .tc main_v11) = _
  after_results
  rfl

theorem rows7 (x : FVec Ideal S2x16384x512 .f32) (R : Fin 32768) (l : Fin 512) :
    (truncf .bf16 (Host.divf (mulf (shapeCast S32768x512 x shapeCasts_S2x16384x512_S32768x512)
    (broadcastInDim S32768x512 ![] bcast_S_S32768x512 (constant S_ .f32 0x3E000000#32)))
    (broadcastInDim S32768x512 ![] bcast_S_S32768x512 (Host.log (constant S_ .f32 0x40000000#32)))) bitsLt_bf16_f32 : FVec Ideal S32768x512 .bf16) (ix2 R l)
      = Ideal.div (x (ix3 (bOf R) (sOf R) l) * Ideal.ofBits .f32 0x3E000000#32) (Ideal.log (Ideal.ofBits .f32 0x40000000#32)) := by
  pointwise [bOf, sOf]
theorem rows9 (x : FVec Ideal S2x16384x512 .f32) (R : Fin 32768) (l : Fin 512) :
    (truncf .bf16 (shapeCast S32768x512 x shapeCasts_S2x16384x512_S32768x512) bitsLt_bf16_f32 : FVec Ideal S32768x512 .bf16) (ix2 R l) = x (ix3 (bOf R) (sOf R) l) := by
  pointwise [bOf, sOf]

theorem scaled (r : ℝ) : Ideal.div ((r : EReal) * Ideal.ofBits .f32 0x3E000000#32) (Ideal.log (Ideal.ofBits .f32 0x40000000#32)) = ((r * (1 / 8) / Real.log 2 : ℝ) : EReal) := by
  have h2 : (0 : ℝ) < Real.log 2 := Real.log_pos (by norm_num)
  have e : Ideal.log ((2 : ℝ) : EReal) = ((Real.log 2 : ℝ) : EReal) := if_neg (by norm_num)
  rw [eighth, two, e, ← EReal.coe_mul, Ideal.div_coe h2.ne', ← EReal.coe_mul]
  congr 1
  ring

abbrev Pt := Fin (cfg0 (F := Ideal)).N
/-- Point `t`'s row `r`, its key row `s`, its lane `l`. -/
theorem lt128 (t : Pt) : t.val < 128 := by have := t.isLt; have h : (cfg0 (F := Ideal)).N = 128 := N_0; omega
def rowAt (t : Pt) (r : Fin 512) : Fin 32768 := ⟨512 * (32 * (t.val / 64) + t.val % 32) + r.val, by have := lt128 t; omega⟩
def keyAt (t : Pt) (s : Fin 16384) : Fin 32768 := ⟨16384 * (t.val / 64) + s.val, by have := lt128 t; omega⟩
def laneAt (t : Pt) (l : Fin 256) : Fin 512 := ⟨256 * (t.val / 32 % 2) + l.val, by omega⟩

theorem idx0 : ∀ t : Pt, win0_0.index t (0 : Fin 2) = 32 * (t.val / 64) + t.val % 32 ∧ win0_0.index t (1 : Fin 2) = t.val / 32 % 2 := (by decide +kernel : ∀ t : Fin grid0.N, _)
theorem idx1 : ∀ t : Pt, win0_1.index t (0 : Fin 2) = t.val / 64 ∧ win0_1.index t (1 : Fin 2) = t.val / 32 % 2 := (by decide +kernel : ∀ t : Fin grid0.N, _)
theorem idx2 : ∀ t : Pt, win0_2.index t (0 : Fin 2) = t.val / 64 ∧ win0_2.index t (1 : Fin 2) = t.val / 32 % 2 := (by decide +kernel : ∀ t : Fin grid0.N, _)
theorem idx3 : ∀ t : Pt, win0_3.index t (0 : Fin 2) = 32 * (t.val / 64) + t.val % 32 ∧ win0_3.index t (1 : Fin 2) = t.val / 32 % 2 := (by decide +kernel : ∀ t : Fin grid0.N, _)
theorem tile_at : ∀ t : Pt, (grid0.coords t 2).val = t.val % 32 := (by decide +kernel : ∀ t : Fin grid0.N, _)

theorem iblk0_apply (t : Pt) (r : Fin 512) (l : Fin 256) : iblk m c 0 t (ix2 r l) = V m c main_v7 (ix2 (rowAt t r) (laneAt t l)) := by
  show V m c main_v7 ((((cfg0 (F := Ideal)).win 0).blk t).view.emb (ix2 r l)) = _
  refine congrArg (V m c main_v7) (funext fun a => Fin.ext ?_)
  obtain ⟨e0, e1⟩ := idx0 t
  match a with
  | ⟨0, _⟩ => show win0_0.index t (0 : Fin 2) * 512 + 1 * r.val = 512 * (32 * (t.val / 64) + t.val % 32) + r.val; omega
  | ⟨1, _⟩ => show win0_0.index t (1 : Fin 2) * 256 + 1 * l.val = 256 * (t.val / 32 % 2) + l.val; omega
theorem iblk1_apply (t : Pt) (s : Fin 16384) (l : Fin 256) : iblk m c 1 t (ix2 s l) = V m c main_v9 (ix2 (keyAt t s) (laneAt t l)) := by
  show V m c main_v9 ((((cfg0 (F := Ideal)).win 1).blk t).view.emb (ix2 s l)) = _
  refine congrArg (V m c main_v9) (funext fun a => Fin.ext ?_)
  obtain ⟨e0, e1⟩ := idx1 t
  match a with
  | ⟨0, _⟩ => show win0_1.index t (0 : Fin 2) * 16384 + 1 * s.val = 16384 * (t.val / 64) + s.val; omega
  | ⟨1, _⟩ => show win0_1.index t (1 : Fin 2) * 256 + 1 * l.val = 256 * (t.val / 32 % 2) + l.val; omega
theorem iblk2_apply (t : Pt) (s : Fin 16384) (l : Fin 256) : iblk m c 2 t (ix2 s l) = V m c main_v11 (ix2 (keyAt t s) (laneAt t l)) := by
  show V m c main_v11 ((((cfg0 (F := Ideal)).win 2).blk t).view.emb (ix2 s l)) = _
  refine congrArg (V m c main_v11) (funext fun a => Fin.ext ?_)
  obtain ⟨e0, e1⟩ := idx2 t
  match a with
  | ⟨0, _⟩ => show win0_2.index t (0 : Fin 2) * 16384 + 1 * s.val = 16384 * (t.val / 64) + s.val; omega
  | ⟨1, _⟩ => show win0_2.index t (1 : Fin 2) * 256 + 1 * l.val = 256 * (t.val / 32 % 2) + l.val; omega
theorem emb3 (t : Pt) (r : Fin 512) (l : Fin 256) : (((cfg0 (F := Ideal)).win 3).blk t).view.emb (ix2 r l) = ix2 (rowAt t r) (laneAt t l) := by
  refine funext fun a => Fin.ext ?_
  obtain ⟨e0, e1⟩ := idx3 t
  match a with
  | ⟨0, _⟩ => show win0_3.index t (0 : Fin 2) * 512 + 1 * r.val = 512 * (32 * (t.val / 64) + t.val % 32) + r.val; omega
  | ⟨1, _⟩ => show win0_3.index t (1 : Fin 2) * 256 + 1 * l.val = 256 * (t.val / 32 % 2) + l.val; omega

/-- What point `t` writes back. -/
theorem flushed3 (t : Pt) : (dats m 0 c).flushed 3 t = ((cfg0 (F := Ideal)).win 3).cut (grid0.coords t) (outBlk (grid0.coords t) (iblk m c 0 t) (iblk m c 1 t) (iblk m c 2 t)) := by
  show ((cfg0 (F := Ideal)).win 3).cut (grid0.coords t) ((dats m 0 c).after 3 t) = _
  rw [after_3]
theorem idx_inj3 : ∀ t t' : Pt, win0_3.index t = win0_3.index t' → t = t' := fun t t' h => Fin.ext (by
  obtain ⟨e0, e1⟩ := idx3 t
  obtain ⟨f0, f1⟩ := idx3 t'
  have h0 := congrFun h (0 : Fin 2)
  have h1 := congrFun h (1 : Fin 2)
  have := lt128 t
  have := lt128 t'
  omega)
theorem disjoint3 : ∀ t t' : Pt, ((cfg0 (F := Ideal)).win 3).flush t = true → ((cfg0 (F := Ideal)).win 3).flush t' = true → t ≠ t' →
    Disjoint (((cfg0 (F := Ideal)).win 3).blk t).view.set (((cfg0 (F := Ideal)).win 3).blk t').view.set :=
  fun t t' _ _ hne => ((cfg0 (F := Ideal)).win 3).disjoint_blk fun h => hne (idx_inj3 t t' h)
theorem blocks3 (t : Pt) (hf : ((cfg0 (F := Ideal)).win 3).flush t = true) :
    (((cfg0 (F := Ideal)).win 3).blk t).view.read (Elt Ideal) ((dats m 0 c).arrAt 3 (cfg0 (F := Ideal)).N) = (dats m 0 c).flushed 3 t :=
  (dats m 0 c).read_blk_arrAt_eq_flushed 3 disjoint3 (cfg0 (F := Ideal)).N t t.isLt hf

/-- The logit's factors may be taken into the query's entries. -/
theorem logit_eq (f g : Fin 64 → ℝ) : ∑ e, (f e * (1 / 8) / Real.log 2) * g e = (∑ e, f e * g e) * (1 / 8) / Real.log 2 := by
  rw [Finset.sum_mul, Finset.sum_div]
  exact Finset.sum_congr rfl fun e _ => by ring

/-- The result array after the run, at a point's row and lane. -/
theorem final_at (hq : Real3 (aQ m c)) (hk : Real3 (aK m c)) (t : Pt) (r : Fin 512) (l : Fin 256) :
    (dats m 0 c).arrAt 3 (cfg0 (F := Ideal)).N (ix2 (rowAt t r) (laneAt t l)) = out (aQ m c) (aK m c) (aV m c) (rowAt t r) (laneAt t l) := by
  have ht := lt128 t
  have b := congrFun (blocks3 m c t (flush0_3 t)) (ix2 r l)
  rw [flushed3] at b
  have b' : (dats m 0 c).arrAt 3 (cfg0 (F := Ideal)).N ((((cfg0 (F := Ideal)).win 3).blk t).view.emb (ix2 r l))
      = outBlk (grid0.coords t) (iblk m c 0 t) (iblk m c 1 t) (iblk m c 2 t) (ix2 r l) := b
  rw [emb3] at b'
  refine b'.trans ?_
  have hb : ∀ r, (bOf (rowAt t r)).val = t.val / 64 := fun r => by
    show (512 * (32 * (t.val / 64) + t.val % 32) + r.val) / 16384 = t.val / 64; omega
  have hs : ∀ r, (sOf (rowAt t r)).val = 512 * (t.val % 32) + r.val := fun r => by
    show (512 * (32 * (t.val / 64) + t.val % 32) + r.val) % 16384 = 512 * (t.val % 32) + r.val; omega
  have kb : ∀ s, (bOf (keyAt t s)).val = t.val / 64 := fun s => by
    show (16384 * (t.val / 64) + s.val) / 16384 = t.val / 64; omega
  have ks : ∀ s, (sOf (keyAt t s)).val = s.val := fun s => by
    show (16384 * (t.val / 64) + s.val) % 16384 = s.val; omega
  rw [outBlk_apply (grid0.coords t) _ _ _
    (fun r l => re3 (aQ m c) (t.val / 64) (512 * (t.val % 32) + r) (256 * (t.val / 32 % 2) + l) * (1 / 8) / Real.log 2)
    (fun s l => re3 (aK m c) (t.val / 64) s (256 * (t.val / 32 % 2) + l))
    (fun s l => at3 (aV m c) (t.val / 64) s (256 * (t.val / 32 % 2) + l))
    (fun r l => by
      rw [iblk0_apply, congrFun (V_v7 m c) _, rows7, hq.at3, scaled, hb, hs]; rfl)
    (fun s l => by
      rw [iblk1_apply, congrFun (V_v9 m c) _, rows9, hk.at3, kb, ks]; rfl)
    (fun s l => by
      rw [iblk2_apply, congrFun (V_v11 m c) _, rows9, ← at3_ix (aV m c), kb, ks]; rfl)]
  rw [mix_end (pos (grid0.coords t) r) (top (grid0.coords t)) 16384 _ _
    (by unfold pos top; omega) (by have := tile_lt (grid0.coords t); unfold top; omega)]
  unfold out
  rw [hb, hs, show pos (grid0.coords t) r = 512 * (t.val % 32) + r.val by unfold pos; rw [tile_at]]
  congr 1
  funext x
  rw [logit_eq]
  unfold logit
  have e : ∀ e : ℕ, 256 * (t.val / 32 % 2) + (64 * (l.val / 64) + e) = 64 * ((laneAt t l).val / 64) + e := fun e => by
    show _ = 64 * ((256 * (t.val / 32 % 2) + l.val) / 64) + e; omega
  simp only [e]

/-- The result array after the run, at a row and a lane. -/
theorem final_apply (hq : Real3 (aQ m c)) (hk : Real3 (aK m c)) (R : Fin 32768) (L : Fin 512) :
    (dats m 0 c).arrAt 3 (cfg0 (F := Ideal)).N (ix2 R L) = out (aQ m c) (aK m c) (aV m c) R L := by
  have hN : (cfg0 (F := Ideal)).N = 128 := N_0
  have ht : 64 * (R.val / 16384) + 32 * (L.val / 256) + R.val / 512 % 32 < (cfg0 (F := Ideal)).N := by omega
  have hR : R = rowAt ⟨64 * (R.val / 16384) + 32 * (L.val / 256) + R.val / 512 % 32, ht⟩ ⟨R.val % 512, by omega⟩ := Fin.ext (by
    show R.val = 512 * (32 * ((64 * (R.val / 16384) + 32 * (L.val / 256) + R.val / 512 % 32) / 64) + (64 * (R.val / 16384) + 32 * (L.val / 256) + R.val / 512 % 32) % 32) + R.val % 512
    omega)
  have hL : L = laneAt ⟨64 * (R.val / 16384) + 32 * (L.val / 256) + R.val / 512 % 32, ht⟩ ⟨L.val % 256, by omega⟩ := Fin.ext (by
    show L.val = 256 * ((64 * (R.val / 16384) + 32 * (L.val / 256) + R.val / 512 % 32) / 32 % 2) + L.val % 256
    omega)
  have h := final_at m c hq hk ⟨64 * (R.val / 16384) + 32 * (L.val / 256) + R.val / 512 % 32, ht⟩ ⟨R.val % 512, by omega⟩ ⟨L.val % 256, by omega⟩
  rw [← hR, ← hL] at h
  exact h

/-- The run, its result array named. -/
theorem run_blocks : θ_run defs (onTc (τ := τ) (main (F := Ideal))) ⟨m, fun _ => 0, ρ⟩ fun r => ∀ c : Dev nD,
      r.2.mem ((c.tc : Thread nD τ).loc main_v12) = (dats m 0 c).arrAt 3 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3, args_of m h.1 c⟩) (run_main m ρ)

end Cert.KernelIdeal.Stick

end
-- ==== Proof.Stick.Cum.lean ====
/-
  The running sum from the end along the last axis, over the extended reals, and the identity between the reference's weight
  and the kernel's.
-/
module

public import proofs.«01_k».proof.Proof.Stick.Math
public import Idealize.ShloMosaic.Lib.Pointwise

@[expose] public section

noncomputable section

namespace Cert.Stick

open Idealize.ShloMosaic

/-- A left fold by addition is a sum. -/
theorem foldl_add {ι : Type} (g : ι → EReal) : ∀ (l : List ι) (v : EReal), l.foldl (fun r n => r + g n) v = v + (l.map g).sum
  | [], v => (add_zero v).symm
  | a :: l, v => by rw [List.foldl_cons, foldl_add g l, List.map_cons, List.sum_cons, add_assoc]

/-- A sum over the positions of a window that is one long in its first three axes. -/
theorem sum_window {N : ℕ} (g : (⟨4, ![1, 1, 1, N]⟩ : Shape).Idx → EReal) : ∑ i, g i = ∑ n : Fin N, g (ix4 (0 : Fin 1) (0 : Fin 1) (0 : Fin 1) n) := by
  refine (Fintype.sum_equiv
    { toFun := fun n : Fin N => (ix4 (0 : Fin 1) (0 : Fin 1) (0 : Fin 1) n : (⟨4, ![1, 1, 1, N]⟩ : Shape).Idx)
      invFun := fun i => i 3
      left_inv := fun n => rfl
      right_inv := fun i => funext fun a => by
        match a with
        | ⟨0, _⟩ => exact Subsingleton.elim (α := Fin 1) _ _
        | ⟨1, _⟩ => exact Subsingleton.elim (α := Fin 1) _ _
        | ⟨2, _⟩ => exact Subsingleton.elim (α := Fin 1) _ _
        | ⟨3, _⟩ => rfl } _ _ fun n => rfl).symm

/-- The window sum over the rest of the last axis. -/
theorem cum_apply {B H S N M : ℕ} {u : Shape} (x : FVec Ideal ⟨4, ![B, H, S, N]⟩ .f32) (init : FVec Ideal u .f32)
    (h : (⟨4, ![B, H, S, N]⟩ : Shape).ReduceWindows ![1, 1, 1, N] ![1, 1, 1, 1] ![0, 0, 0, 0] ![0, 0, 0, M] ⟨4, ![B, H, S, N]⟩) (hu : 0 < u.numel)
    (h0 : init (Shape.Idx.first hu) = 0) (b : Fin B) (hd : Fin H) (s : Fin S) (j : Fin N) :
    (Host.reduceWindowAdd ![1, 1, 1, N] ![1, 1, 1, 1] ![0, 0, 0, 0] ![0, 0, 0, M] x init h hu : FVec Ideal ⟨4, ![B, H, S, N]⟩ .f32) (ix4 b hd s j)
      = ∑ n : Fin N, if hn : j.val + n.val < N then x (ix4 b hd s ⟨j.val + n.val, hn⟩) else 0 := by
  unfold Host.reduceWindowAdd
  rw [Ideal.hostReduceWindowAdd_def]
  unfold Ideal.hostReduceWindowAdd Host.reduceWindow
  dsimp only
  rw [h0, foldl_add, zero_add, ← List.ofFn_eq_map, List.sum_ofFn]
  have e := Equiv.sum_comp (⟨4, ![1, 1, 1, N]⟩ : Shape).rowMajor.symm
    (fun i => if hn : j.val + (i 3).val < N then x (ix4 b hd s ⟨j.val + (i 3).val, hn⟩) else 0)
  refine Eq.trans (Finset.sum_congr rfl fun n _ => ?_) (e.trans (sum_window _))
  have i0 : ((⟨4, ![1, 1, 1, N]⟩ : Shape).rowMajor.symm n 0).val = 0 := Nat.lt_one_iff.mp ((⟨4, ![1, 1, 1, N]⟩ : Shape).rowMajor.symm n 0).isLt
  have i1 : ((⟨4, ![1, 1, 1, N]⟩ : Shape).rowMajor.symm n 1).val = 0 := Nat.lt_one_iff.mp ((⟨4, ![1, 1, 1, N]⟩ : Shape).rowMajor.symm n 1).isLt
  have i2 : ((⟨4, ![1, 1, 1, N]⟩ : Shape).rowMajor.symm n 2).val = 0 := Nat.lt_one_iff.mp ((⟨4, ![1, 1, 1, N]⟩ : Shape).rowMajor.symm n 2).isLt
  by_cases hn : j.val + ((⟨4, ![1, 1, 1, N]⟩ : Shape).rowMajor.symm n 3).val < N
  · rw [dif_pos hn, dif_pos]
    · refine congrArg x (funext fun a => Fin.ext ?_)
      match a with
      | ⟨0, _⟩ => show b.val * 1 + ((⟨4, ![1, 1, 1, N]⟩ : Shape).rowMajor.symm n 0).val - 0 = b.val; omega
      | ⟨1, _⟩ => show hd.val * 1 + ((⟨4, ![1, 1, 1, N]⟩ : Shape).rowMajor.symm n 1).val - 0 = hd.val; omega
      | ⟨2, _⟩ => show s.val * 1 + ((⟨4, ![1, 1, 1, N]⟩ : Shape).rowMajor.symm n 2).val - 0 = s.val; omega
      | ⟨3, _⟩ => show j.val * 1 + ((⟨4, ![1, 1, 1, N]⟩ : Shape).rowMajor.symm n 3).val - 0 = j.val + ((⟨4, ![1, 1, 1, N]⟩ : Shape).rowMajor.symm n 3).val; omega
    · intro a
      match a with
      | ⟨0, _⟩ => show 0 ≤ b.val * 1 + ((⟨4, ![1, 1, 1, N]⟩ : Shape).rowMajor.symm n 0).val ∧ b.val * 1 + ((⟨4, ![1, 1, 1, N]⟩ : Shape).rowMajor.symm n 0).val - 0 < B; have := b.isLt; omega
      | ⟨1, _⟩ => show 0 ≤ hd.val * 1 + ((⟨4, ![1, 1, 1, N]⟩ : Shape).rowMajor.symm n 1).val ∧ hd.val * 1 + ((⟨4, ![1, 1, 1, N]⟩ : Shape).rowMajor.symm n 1).val - 0 < H; have := hd.isLt; omega
      | ⟨2, _⟩ => show 0 ≤ s.val * 1 + ((⟨4, ![1, 1, 1, N]⟩ : Shape).rowMajor.symm n 2).val ∧ s.val * 1 + ((⟨4, ![1, 1, 1, N]⟩ : Shape).rowMajor.symm n 2).val - 0 < S; have := s.isLt; omega
      | ⟨3, _⟩ => show 0 ≤ j.val * 1 + ((⟨4, ![1, 1, 1, N]⟩ : Shape).rowMajor.symm n 3).val ∧ j.val * 1 + ((⟨4, ![1, 1, 1, N]⟩ : Shape).rowMajor.symm n 3).val - 0 < N; omega
  · rw [dif_neg hn, dif_neg]
    intro hin
    have h3 : j.val * 1 + ((⟨4, ![1, 1, 1, N]⟩ : Shape).rowMajor.symm n 3).val - 0 < N := (hin 3).2
    omega

/-- The same of a row of reals, as a sum over an interval. -/
theorem cum_real {N : ℕ} (f : ℕ → ℝ) (j : Fin N) :
    (∑ n : Fin N, if _hn : j.val + n.val < N then ((f (j.val + n.val) : ℝ) : EReal) else 0) = ((∑ s ∈ Finset.Ico j.val N, f s : ℝ) : EReal) := by
  rw [Finset.sum_Ico_eq_sum_range, coe_sum]
  have e : ∀ n : ℕ, (if _hn : j.val + n < N then ((f (j.val + n) : ℝ) : EReal) else 0) = if j.val + n < N then ((f (j.val + n) : ℝ) : EReal) else 0 := fun n => rfl
  rw [Finset.sum_congr rfl (fun n _ => e n.val), ← Finset.sum_range (fun n => if j.val + n < N then ((f (j.val + n) : ℝ) : EReal) else 0), ← Finset.sum_filter]
  refine Finset.sum_congr (Finset.ext fun n => ?_) fun _ _ => rfl
  rw [Finset.mem_filter, Finset.mem_range, Finset.mem_range]
  omega

theorem term_neg (z : ℝ) : term z - term (-z) = z := by
  have h2 : (0 : ℝ) < Real.log 2 := Real.log_pos (by norm_num)
  have : (1 : ℝ) + 2 ^ z = 2 ^ z * (1 + 2 ^ (-z)) := by
    rw [mul_add, ← Real.rpow_add (by norm_num)]; simp; ring
  have hp : (0 : ℝ) < (2 : ℝ) ^ (-z) := Real.rpow_pos_of_pos (by norm_num) _
  have hq : (0 : ℝ) < (2 : ℝ) ^ z := Real.rpow_pos_of_pos (by norm_num) _
  unfold term
  rw [this, Real.log_mul (by positivity) (by positivity), Real.log_rpow (by norm_num)]
  field_simp
  ring

/-- A key's weight as the reference forms it: its own log-sigmoid, and what the later keys take off. -/
theorem weight_eq (T N : ℕ) (y : ℕ → ℝ) (s : ℕ) (h : s < T) :
    Real.exp (-(term (-y s / Real.log 2) * Real.log 2) + (-(Real.log 2) * left T (fun c => y c / Real.log 2) s N - -(term (y s / Real.log 2) * Real.log 2)))
      = weight T N (fun c => y c / Real.log 2) s := by
  unfold weight
  rw [if_pos h, Real.rpow_def_of_pos (by norm_num)]
  congr 1
  have := term_neg (y s / Real.log 2)
  rw [neg_div]
  linear_combination Real.log 2 * this

end Cert.Stick

end
-- ==== Proof.Stick.Stages.lean ====
/-
  The stages of the attention reference's result.
-/
module

public import proofs.«01_k».proof.Proof.Gen.ReferenceIdeal.Run
public import proofs.«01_k».proof.Proof.Stick.Cum

@[expose] public section

set_option maxRecDepth 8192

noncomputable section

namespace Cert.ReferenceIdeal.Stick

open Cert.ReferenceIdeal Cert.ReferenceIdeal.Gen Idealize.ShloMosaic Idealize.ShloMosaic.TcCoe

/-- An argument, head by head. -/
def vT (x : FVec Ideal S2x16384x512 .f32) : FVec Ideal S2x8x16384x64 .f32 :=
  transpose S2x8x16384x64 [0, 2, 1, 3] (shapeCast _ x shapeCasts_S2x16384x512_S2x16384x8x64) transposes_S2x16384x8x64_S2x8x16384x64_0_2_1_3

/-- The scaled logits. -/
def vZ (q k : FVec Ideal S2x8x16384x64 .f32) : FVec Ideal S2x8x16384x16384 .f32 :=
  mulf (Host.dotGeneral dot_S2x8x16384x64_S2x8x16384x64_S2x8x16384x16384_3_3_2_2_01_01 none q k) (broadcastInDim S2x8x16384x16384 ![] bcast_S_S2x8x16384x16384 (constant S_ .f32 0x3E000000#32))

/-- Zero everywhere. -/
def vO : FVec Ideal S2x8x16384x16384 .f32 := broadcastInDim S2x8x16384x16384 ![] bcast_S_S2x8x16384x16384 (constant S_ .f32 0x00000000#32)

/-- The softplus of an array. -/
def vSp (x : FVec Ideal S2x8x16384x16384 .f32) : FVec Ideal S2x8x16384x16384 .f32 :=
  select (cmpf .une (subf x vO) (subf x vO)) (addf x vO) (addf (maximumf x vO) (Host.log1p (Host.exp (Host.negf (Host.absf (subf x vO))))))

/-- Where a key stands before its query. -/
def vB : IVec S2x8x16384x16384 1 :=
  broadcastInDim S2x8x16384x16384 ![2, 3] bcast_S16384x16384_S2x8x16384x16384_2_3 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- An array there, zero elsewhere. -/
def vW (x : FVec Ideal S2x8x16384x16384 .f32) : FVec Ideal S2x8x16384x16384 .f32 := select vB x vO

/-- The sums from a key on. -/
def vC (x : FVec Ideal S2x8x16384x16384 .f32) : FVec Ideal S2x8x16384x16384 .f32 :=
  Host.reduceWindowAdd ![1, 1, 1, 16384] ![1, 1, 1, 1] ![0, 0, 0, 0] ![0, 0, 0, 16383] x (broadcastInDim S_ ![] bcast_S_S_ (constant S_ .f32 0x00000000#32)) reduceWindows_S2x8x16384x16384_S2x8x16384x16384_w1s1p0_0_w1s1p0_0_w1s1p0_0_w16384s1p0_16383 h_S_

/-- The weights, from the logits and the terms taken off. -/
def vE (z w : FVec Ideal S2x8x16384x16384 .f32) : FVec Ideal S2x8x16384x16384 .f32 :=
  Host.exp (addf (Host.negf (vSp (Host.negf z))) (subf (vC w) w))

/-- The values under the weights, back in rows. -/
def vR (p : FVec Ideal S2x8x16384x16384 .f32) (v : FVec Ideal S2x8x16384x64 .f32) : FVec Ideal S32768x512 .bf16 :=
  truncf .bf16 (shapeCast _ (transpose S2x16384x8x64 [0, 2, 1, 3] (Host.dotGeneral dot_S2x8x16384x16384_S2x8x16384x64_S2x8x16384x64_3_2_2_3_01_01 none p v) transposes_S2x8x16384x64_S2x16384x8x64_0_2_1_3) shapeCasts_S2x16384x8x64_S32768x512) bitsLt_bf16_f32

/-- The whole. -/
def vAll (q k v : FVec Ideal S2x16384x512 .f32) : FVec Ideal S32768x512 .bf16 :=
  vR (vW (vE (vZ (vT q) (vT k)) (vW (Host.negf (vSp (Host.negf (Host.negf (vZ (vT q) (vT k))))))))) (vT v)

variable (m : (ℓ : Loc nD τ sig) → Buf (Elt Ideal) ℓ) (c : Dev nD)

/-- The result, stage by stage. -/
theorem res_eq (q k v : FVec Ideal S2x16384x512 .f32) (h0 : m ((c.tc : Thread nD τ).loc main_arg0) = q)
    (h1 : m ((c.tc : Thread nD τ).loc main_arg1) = k) (h2 : m ((c.tc : Thread nD τ).loc main_arg2) = v) :
    Value.res_main_v27 m c = vAll q k v := by
  subst h0 h1 h2
  rfl

end Cert.ReferenceIdeal.Stick

end
-- ==== Proof.Stick.Ref.lean ====
/-
  The stages of the attention reference's result at an index, over the extended reals.
-/
module

public import proofs.«01_k».proof.Proof.Stick.Stages

@[expose] public section

set_option maxRecDepth 8192

noncomputable section

namespace Cert.ReferenceIdeal.Stick

open Cert.ReferenceIdeal Cert.ReferenceIdeal.Gen Idealize.ShloMosaic Idealize.ShloMosaic.TcCoe Cert.Stick

/-- A head's entry. -/
theorem vT_apply (x : FVec Ideal S2x16384x512 .f32) (b : Fin 2) (h : Fin 8) (s : Fin 16384) (e : Fin 64) :
    vT x (ix4 b h s e) = x (ix3 b s ⟨64 * h.val + e.val, by omega⟩) := by
  pointwise [vT]
  simp only [show h.val * 64 + e.val = 64 * h.val + e.val by omega]

/-- A scaled logit. -/
theorem vZ_apply (q k : FVec Ideal S2x8x16384x64 .f32) (b : Fin 2) (h : Fin 8) (s c : Fin 16384) :
    vZ q k (ix4 b h s c) = (∑ e, q (ix4 b h s e) * k (ix4 b h c e)) * Ideal.ofBits .f32 0x3E000000#32 := by
  pointwise [vZ]

theorem vO_apply (i : S2x8x16384x16384.Idx) : vO i = 0 := by
  show Ideal.ofBits .f32 0x00000000#32 = 0
  simp [Ideal.ofBits, Ideal.ieee]

/-- The softplus of a real. -/
theorem vSp_apply (x : FVec Ideal S2x8x16384x16384 .f32) (i : S2x8x16384x16384.Idx) (y : ℝ) (hx : x i = (y : EReal)) :
    vSp x i = ((term (y / Real.log 2) * Real.log 2 : ℝ) : EReal) := by
  show Scalar.select (Ideal.cmp .une (x i - vO i) (x i - vO i)) (x i + vO i) (max (x i) (vO i) + Ideal.log1p (Ideal.exp (-(max (x i - vO i) (-(x i - vO i)))))) = _
  have hc : Ideal.cmp .une (x i - vO i) (x i - vO i) = 0#1 := by simp [Ideal.cmp]
  rw [hc, vO_apply, hx, sub_zero]
  exact softplus_eq y

/-- Where a key stands before its query. -/
theorem vB_apply (b : Fin 2) (h : Fin 8) (s c : Fin 16384) : vB (ix4 b h s c) = if c.val < s.val then 1#1 else 0#1 := by
  pointwise [vB]
  exact slt_nat _ _ (by omega) (by omega)

theorem vW_apply (x : FVec Ideal S2x8x16384x16384 .f32) (b : Fin 2) (h : Fin 8) (s c : Fin 16384) :
    vW x (ix4 b h s c) = if c.val < s.val then x (ix4 b h s c) else 0 := by
  show Scalar.select (vB (ix4 b h s c)) (x (ix4 b h s c)) (vO (ix4 b h s c)) = _
  rw [vB_apply, vO_apply]
  split <;> rfl

/-- The sums from a key on, of a row of reals. -/
theorem vC_apply (x : FVec Ideal S2x8x16384x16384 .f32) (b : Fin 2) (h : Fin 8) (s j : Fin 16384) (f : ℕ → ℝ)
    (hx : ∀ c : Fin 16384, x (ix4 b h s c) = ((f c.val : ℝ) : EReal)) :
    vC x (ix4 b h s j) = ((∑ c ∈ Finset.Ico j.val 16384, f c : ℝ) : EReal) := by
  unfold vC
  refine (cum_apply x _ _ _ ?_ b h s j).trans ?_
  · show Ideal.ofBits .f32 0x00000000#32 = 0
    simp [Ideal.ofBits, Ideal.ieee]
  · rw [← cum_real]
    refine Finset.sum_congr rfl fun n _ => ?_
    split
    · rw [hx]
    · rfl

/-- The weights at a key before its query. -/
theorem vE_apply (z w : FVec Ideal S2x8x16384x16384 .f32) (b : Fin 2) (h : Fin 8) (s j : Fin 16384) (y f : ℕ → ℝ)
    (hz : ∀ c : Fin 16384, z (ix4 b h s c) = ((y c.val : ℝ) : EReal)) (hw : ∀ c : Fin 16384, w (ix4 b h s c) = ((f c.val : ℝ) : EReal)) :
    vE z w (ix4 b h s j) = ((Real.exp (-(term (-y j.val / Real.log 2) * Real.log 2) + (∑ c ∈ Finset.Ico j.val 16384, f c - f j.val)) : ℝ) : EReal) := by
  show Ideal.exp (-(vSp (Host.negf z) (ix4 b h s j)) + (vC w (ix4 b h s j) - w (ix4 b h s j))) = _
  rw [vC_apply w b h s j f hw, hw, vSp_apply (Host.negf z) _ (-y j.val) (by show -(z (ix4 b h s j)) = _; rw [hz, EReal.coe_neg])]
  rw [← EReal.coe_neg, ← EReal.coe_sub, ← EReal.coe_add]
  rfl

/-- The values under the weights, at a row and a lane. -/
theorem vR_apply (p : FVec Ideal S2x8x16384x16384 .f32) (v : FVec Ideal S2x8x16384x64 .f32) (R : Fin 32768) (l : Fin 512) :
    vR p v (ix2 R l) = ∑ c, p (ix4 ⟨R.val / 16384, by omega⟩ ⟨l.val / 64, by omega⟩ ⟨R.val % 16384, by omega⟩ c) * v (ix4 ⟨R.val / 16384, by omega⟩ ⟨l.val / 64, by omega⟩ c ⟨l.val % 64, by omega⟩) := by
  pointwise [vR]

/-- A key's weight, from the row of logits. -/
theorem weights_apply (z : FVec Ideal S2x8x16384x16384 .f32) (b : Fin 2) (h : Fin 8) (s j : Fin 16384) (y : ℕ → ℝ)
    (hz : ∀ c : Fin 16384, z (ix4 b h s c) = ((y c.val : ℝ) : EReal)) :
    vW (vE z (vW (Host.negf (vSp (Host.negf (Host.negf z)))))) (ix4 b h s j) = ((weight s.val 16384 (fun c => y c / Real.log 2) j.val : ℝ) : EReal) := by
  rw [vW_apply]
  by_cases hj : j.val < s.val
  · rw [if_pos hj, vE_apply z _ b h s j y (fun c => -(Real.log 2) * mterm s.val (fun c => y c / Real.log 2) c) hz]
    · rw [← weight_eq s.val 16384 y j.val hj]
      congr 3
      rw [← Finset.mul_sum]
      unfold left mterm
      rw [if_pos hj]
      ring
    · intro c
      rw [vW_apply]
      unfold mterm
      split
      · show -(vSp (Host.negf (Host.negf z)) (ix4 b h s c)) = _
        rw [vSp_apply _ _ (y c.val) (by show -(-(z (ix4 b h s c))) = _; rw [neg_neg, hz]), ← EReal.coe_neg]
        congr 1
        ring
      · rw [mul_zero, EReal.coe_zero]
  · rw [if_neg hj, weight, if_neg hj, EReal.coe_zero]

end Cert.ReferenceIdeal.Stick

end
-- ==== Proof.Stick.Algebraic.lean ====
/-
  The attention computes its reference's result, over the extended reals, where its queries and keys are finite.
-/
module

public import proofs.«01_k».proof.Defs
public import proofs.«01_k».proof.Proof.Stick.Final
public import proofs.«01_k».proof.Proof.Stick.Ref
public import Idealize.ShloMosaic.Lib.ReduceAll

@[expose] public section

set_option maxRecDepth 8192

noncomputable section

namespace Cert.Pre_finite_qk.Stick

open Cert.Pre_finite_qk Idealize.ShloMosaic

/-- The side conditions of the precondition's operations. -/
instance facts : Cert.Pre_finite_qk.Facts where
  bcast_S_S2x16384x512 := by decide
  reducesTo_S2x16384x512_S_d0_1_2 := by decide
  h_S_ := by decide

theorem both : ∀ a b : BitVec 1, IntOp.andi a b = 1#1 → a = 1#1 ∧ b = 1#1 := by decide

/-- An entry whose magnitude is below infinity is a real. -/
theorem real_of (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have h' : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) fun e => ?_).symm
  · rw [e] at h'; exact absurd h' (by simp)
  · rw [e] at h'; exact absurd h' (by simp)

/-- The precondition says that every query and key is a real. -/
theorem reals (q k v : FVec Ideal S2x16384x512 .f32) (h : fn (F := Ideal) q k v = fun _ => 1#1) :
    (∀ i, q i = ((q i).toReal : EReal)) ∧ ∀ i, k i = ((k i).toReal : EReal) := by
  haveI : Subsingleton S_.Idx := ⟨fun a b => funext fun i => i.elim0⟩
  have h0 := congrFun h (fun i : Fin 0 => i.elim0)
  obtain ⟨ha, hb⟩ := both _ _ h0
  exact ⟨fun i => real_of _ (Host.reduce_andi_all _ _ _ _ _ ha i), fun i => real_of _ (Host.reduce_andi_all _ _ _ _ _ hb i)⟩

end Cert.Pre_finite_qk.Stick

namespace Cert.KernelIdeal.Stick

open Idealize.ShloMosaic Idealize.ShloMosaic.TcCoe Idealize.SL.Sem Cert.Stick

/-- The reference's result at a row and a lane. -/
theorem ref_apply (q k v : FVec Ideal Cert.ReferenceIdeal.S2x16384x512 .f32) (hq : Real3 q) (hk : Real3 k) (R : Fin 32768) (l : Fin 512) :
    Cert.ReferenceIdeal.Stick.vAll q k v (ix2 R l) = out q k v R l := by
  unfold Cert.ReferenceIdeal.Stick.vAll
  rw [Cert.ReferenceIdeal.Stick.vR_apply]
  unfold out mix
  rw [Nat.Ico_zero_eq_range, Finset.sum_range]
  refine Finset.sum_congr rfl fun c _ => ?_
  rw [Cert.ReferenceIdeal.Stick.weights_apply _ _ _ _ _
    (fun c => (∑ e : Fin 64, re3 q (bOf R).val (sOf R).val (64 * (l.val / 64) + e.val) * re3 k (bOf R).val c (64 * (l.val / 64) + e.val)) * (1 / 8))]
  · rw [Cert.ReferenceIdeal.Stick.vT_apply]
    congr 1
    rw [← at3_ix v]
    show at3 v (R.val / 16384) c.val (64 * (l.val / 64) + l.val % 64) = at3 v (R.val / 16384) c.val l.val
    rw [Nat.div_add_mod]
  · intro c
    rw [Cert.ReferenceIdeal.Stick.vZ_apply, eighth, EReal.coe_mul, coe_sum]
    congr 1
    refine Finset.sum_congr rfl fun e _ => ?_
    rw [Cert.ReferenceIdeal.Stick.vT_apply, Cert.ReferenceIdeal.Stick.vT_apply, hq.at3, hk.at3, ← EReal.coe_mul]
    rfl

/-- Both run to equal results. -/
theorem algebraic : Cert.algebraic_KernelIdeal_ReferenceIdeal_pre_finite_qk := by
  intro m g m' g' hpre hm
  refine ⟨fun c => (dats m 0 c).arrAt 3 (Cert.KernelIdeal.cfg0 (F := Ideal)).N, run_blocks m g, ?_⟩
  refine (θ_run Cert.ReferenceIdeal.defs _ _).mono (fun r h c => ⟨(h c).1.trans ?_, (h c).2⟩) (Cert.ReferenceIdeal.Value.run (F := Ideal) m' g')
  obtain ⟨h0, h1, h2⟩ := hm c
  obtain ⟨hq, hk⟩ := Cert.Pre_finite_qk.Stick.reals _ _ _ (hpre c)
  rw [Cert.ReferenceIdeal.Stick.res_eq m' c _ _ _ h0 h1 h2]
  funext i
  obtain ⟨R, l, rfl⟩ : ∃ (R : Fin 32768) (l : Fin 512), i = ix2 R l := ⟨i 0, i 1, by funext a; match a with | ⟨0, _⟩ => rfl | ⟨1, _⟩ => rfl⟩
  exact (ref_apply _ _ _ hq hk R l).trans (final_apply m c hq hk R l).symm

end Cert.KernelIdeal.Stick

end
-- ==== Proof.Post.Math.lean ====
/-
  What the layer's second half computes, row by row over the extended reals: attention over a few memories, the output
  projection with its residual, and the squared-ReLU network between two root-mean-square normalisations.
-/
module

public import Idealize.ShloMosaic.Lib.Pointwise

@[expose] public section

noncomputable section

namespace Cert.Post

open Idealize.ShloMosaic

/-- Lane `d` of head `hd`. -/
def lane (hd : Fin 4) (d : Fin 64) : Fin 256 := ⟨64 * hd.val + d.val, by omega⟩

/-- The head a lane belongs to. -/
def headOf (l : Fin 256) : Fin 4 := ⟨l.val / 64, by omega⟩

/-- A head's logit of memory `x`. -/
def score (q : Fin 256 → EReal) (K : Fin 256 → Fin 256 → EReal) (hd : Fin 4) (x : Fin 256) : EReal :=
  ∑ d : Fin 64, q (lane hd d) * K x (lane hd d)

/-- The softmax of a row of logits, its maximum taken off first. -/
def soft (s : Fin 256 → EReal) (x : Fin 256) : EReal :=
  Ideal.div (Ideal.exp (s x - Finset.fold max (Ideal.ofBits FTy.f32 4286578688#32) (fun y => s y) Finset.univ))
    (∑ z, Ideal.exp (s z - Finset.fold max (Ideal.ofBits FTy.f32 4286578688#32) (fun y => s y) Finset.univ))

/-- The memories' values under head `hd`'s weights, at lane `l`. -/
def mem (q : Fin 256 → EReal) (K W : Fin 256 → Fin 256 → EReal) (hd : Fin 4) (l : Fin 256) : EReal :=
  ∑ x, soft (score q K hd) x * W x l

/-- The residual stream after the output projection of the mixed heads and the memory heads. -/
def merged (h : Fin 1024 → EReal) (mix : Fin 512 → EReal) (mo : Fin 256 → EReal) (wo : Fin 768 → Fin 1024 → EReal)
    (l : Fin 1024) : EReal :=
  h l + (∑ x : Fin 512, mix x * wo ⟨x.val, by omega⟩ l + ∑ x : Fin 256, mo x * wo ⟨512 + x.val, by omega⟩ l)

/-- A row over its root mean square, times a gain. -/
def rms (x g : Fin 1024 → EReal) (l : Fin 1024) : EReal :=
  x l * Ideal.rsqrt (Ideal.div (∑ y, x y * x y) (Ideal.ofBits FTy.f32 1149239296#32) + Ideal.ofBits FTy.f32 897988541#32) * g l

/-- Hidden unit `f`: the square of the positive part. -/
def hidden (x : Fin 1024 → EReal) (w1 : Fin 1024 → Fin 4096 → EReal) (f : Fin 4096) : EReal :=
  max (∑ y, x y * w1 y f) 0 * max (∑ y, x y * w1 y f) 0

/-- The network's output. -/
def mlp (x : Fin 1024 → EReal) (w1 : Fin 1024 → Fin 4096 → EReal) (w2 : Fin 4096 → Fin 1024 → EReal) (l : Fin 1024) : EReal :=
  ∑ f, hidden x w1 f * w2 f l

/-- The whole row. -/
def row (h : Fin 1024 → EReal) (mix : Fin 512 → EReal) (mo : Fin 256 → EReal) (wo : Fin 768 → Fin 1024 → EReal)
    (g2 : Fin 1024 → EReal) (w1 : Fin 1024 → Fin 4096 → EReal) (w2 : Fin 4096 → Fin 1024 → EReal) (gf : Fin 1024 → EReal) :
    Fin 1024 → EReal :=
  rms (fun l => merged h mix mo wo l + mlp (rms (merged h mix mo wo) g2) w1 w2 l) gf

/-- A sum over the lanes, head by head. -/
theorem sum_lanes (f : Fin 256 → EReal) : ∑ x, f x = ∑ hd : Fin 4, ∑ d : Fin 64, f (lane hd d) := by
  rw [Fin.sum_univ_tiles 4 64 rfl]
  refine Finset.sum_congr rfl fun a _ => Finset.sum_congr rfl fun b _ => congrArg f (Fin.ext ?_)
  simp only [lane]; try omega

/-- A sum over the lanes of one head only. -/
theorem sum_head (f : Fin 256 → EReal) (hd : Fin 4) :
    (∑ x, if headOf x = hd then f x else 0) = ∑ d : Fin 64, f (lane hd d) := by
  rw [sum_lanes]
  have h : ∀ a d, headOf (lane a d) = a := fun a d => Fin.ext (by simp only [headOf, lane]; omega)
  simp only [h]
  rw [Finset.sum_eq_single hd (fun b _ hb => by simp [hb]) (fun hn => absurd (Finset.mem_univ _) hn)]
  simp

/-- A constant factor leaves a finite sum over the extended reals when it is a real number above zero. -/
theorem sum_scale {ι : Type} (s : Finset ι) (f : ι → EReal) (r : ℝ) (hr : 0 ≤ r) : (∑ i ∈ s, f i * (r : EReal)) = (∑ i ∈ s, f i) * (r : EReal) := by
  classical
  induction s using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

/-- So queries scaled by a real number give logits scaled by it. -/
theorem score_scale (q : Fin 256 → EReal) (K : Fin 256 → Fin 256 → EReal) (r : ℝ) (hr : 0 ≤ r) (hd : Fin 4) (x : Fin 256) :
    score (fun l => q l * (r : EReal)) K hd x = score q K hd x * (r : EReal) := by
  unfold score
  rw [← sum_scale _ _ r hr]
  exact Finset.sum_congr rfl fun d _ => mul_right_comm _ _ _

/-- One tile of 1024 hidden units, from unit `o` on. -/
def tile (x : Fin 1024 → EReal) (w1 : Fin 1024 → Fin 4096 → EReal) (w2 : Fin 4096 → Fin 1024 → EReal) (o : ℕ) (ho : o + 1024 ≤ 4096)
    (l : Fin 1024) : EReal :=
  ∑ d : Fin 1024, hidden x w1 ⟨o + d.val, by omega⟩ * w2 ⟨o + d.val, by omega⟩ l

/-- The hidden units in four tiles. -/
theorem mlp_tiles (x : Fin 1024 → EReal) (w1 : Fin 1024 → Fin 4096 → EReal) (w2 : Fin 4096 → Fin 1024 → EReal) (l : Fin 1024) :
    mlp x w1 w2 l = tile x w1 w2 0 (by omega) l + tile x w1 w2 1024 (by omega) l + tile x w1 w2 2048 (by omega) l
      + tile x w1 w2 3072 (by omega) l := by
  unfold mlp
  rw [Fin.sum_univ_tiles 4 1024 rfl, Fin.sum_univ_four]
  rfl

end Cert.Post

end
-- ==== Proof.Post.Kernel.lean ====
/-
  What one point of the output block's grid computes from its blocks, over the extended reals: row `r` of its block is
  `Cert.Post.row` of row `r` of the input blocks.
-/
module

public import proofs.«01_k».proof.Proof.Gen.PostLastIdeal.Frame
public import proofs.«01_k».proof.Proof.Gen.PostLastIdeal.Value
public import proofs.«01_k».proof.Proof.Post.Math
public import Idealize.ShloMosaic.Lib.Pipeline.ValueKit.Basic

@[expose] public section

set_option maxRecDepth 8192

noncomputable section

namespace Cert.PostLastIdeal.Post

open Cert.PostLastIdeal Cert.PostLastIdeal.Gen Idealize.ShloMosaic Idealize.ShloMosaic.TcCoe Cert.Post

/-- The test whether a lane belongs to head 0. -/
theorem bits0 : ∀ l : Fin 256, IntOp.andi (IntOp.cmpi .sge (BitVec.ofNat 32 l.val) 0#32) (IntOp.cmpi .slt (BitVec.ofNat 32 l.val) 64#32) = if headOf l = 0 then 1#1 else 0#1 := by
  decide +kernel
/-- The test whether a lane belongs to head 1. -/
theorem bits1 : ∀ l : Fin 256, IntOp.andi (IntOp.cmpi .sge (BitVec.ofNat 32 l.val) 64#32) (IntOp.cmpi .slt (BitVec.ofNat 32 l.val) 128#32) = if headOf l = 1 then 1#1 else 0#1 := by
  decide +kernel
/-- The test whether a lane belongs to head 2. -/
theorem bits2 : ∀ l : Fin 256, IntOp.andi (IntOp.cmpi .sge (BitVec.ofNat 32 l.val) 128#32) (IntOp.cmpi .slt (BitVec.ofNat 32 l.val) 192#32) = if headOf l = 2 then 1#1 else 0#1 := by
  decide +kernel
/-- The test whether a lane belongs to head 3. -/
theorem bits3 : ∀ l : Fin 256, IntOp.andi (IntOp.cmpi .sge (BitVec.ofNat 32 l.val) 192#32) (IntOp.cmpi .slt (BitVec.ofNat 32 l.val) 256#32) = if headOf l = 3 then 1#1 else 0#1 := by
  decide +kernel

/-- A choice by a test's bit is a choice by the test. -/
theorem select_bit (p : Prop) [Decidable p] (a b : EReal) : Scalar.select (if p then 1#1 else 0#1) a b = if p then a else b := by
  by_cases h : p <;> simp [h, Scalar.select]

/-- Logits of queries masked to a head's lanes. -/
theorem masked (q : Fin 256 → EReal) (K : Fin 256 → Fin 256 → EReal) (hd : Fin 4) (y : Fin 256) :
    (∑ x, (if headOf x = hd then q x else 0) * K y x) = score q K hd y := by
  simp only [ite_mul, zero_mul]
  exact sum_head (fun x => q x * K y x) hd

/-- Head 0 at its own lanes. -/
theorem pay6_apply (v0 : Vec Ideal S512x256 .bf16) (v2 v4 : Vec Ideal S1x256x256 .bf16) (r : Fin 512) (l : Fin 256) :
    k0_pay6 v0 v2 v4 (ix2 r l) = if headOf l = 0 then mem (fun l => v0 (ix2 r l)) (fun x l => v2 (ix3 0 x l)) (fun x l => v4 (ix3 0 x l)) 0 l else 0 := by
  pointwise [k0_pay6, k0_pay2, k0_pay3, k0_pay4, k0_pay5]
  simp only [bits0, select_bit]
  simp only [mem, soft, ← masked, ite_mul, zero_mul]

/-- Heads 1 and 2 at theirs, over what stood there. -/
theorem pay9_apply (v1 : FVec Ideal S512x256 .bf16) (v3 v5 : FVec Ideal S256x256 .bf16) (v31 : FVec Ideal S512x256 .f32) (r : Fin 512) (l : Fin 256) :
    k0_pay9 v1 v3 v5 (iota .tc S1x256 32 [1] iota_S1x256_d1_w32) (k0_pay5 (F := Ideal)) v31 k0_pay7 (k0_pay8 v1) (constant S512x256 .f32 0x00000000#32) (ix2 r l)
      = if headOf l = 2 then mem (fun l => v1 (ix2 r l)) (fun x l => v3 (ix2 x l)) (fun x l => v5 (ix2 x l)) 2 l
        else if headOf l = 1 then mem (fun l => v1 (ix2 r l)) (fun x l => v3 (ix2 x l)) (fun x l => v5 (ix2 x l)) 1 l else v31 (ix2 r l) := by
  pointwise [k0_pay9, k0_pay7, k0_pay8, k0_pay2, k0_pay5]
  simp only [bits1, bits2, select_bit]
  simp only [mem, soft, ← masked, ite_mul, zero_mul]

/-- The logits of head 3. -/
theorem pay11_apply (v1 : FVec Ideal S512x256 .bf16) (v3 : FVec Ideal S256x256 .bf16) (r : Fin 512) (x : Fin 256) :
    k0_pay11 v1 v3 (iota .tc S1x256 32 [1] iota_S1x256_d1_w32) (k0_pay5 (F := Ideal)) (ix2 r x) = score (fun l => v1 (ix2 r l)) (fun x l => v3 (ix2 x l)) 3 x := by
  pointwise [k0_pay11, k0_pay10, k0_pay5]
  simp only [bits3, select_bit]
  simp only [← masked, ite_mul, zero_mul]

/-- The stream after the output projection, with head 3 put at its lanes. -/
theorem pay12_apply (v5 : FVec Ideal S256x256 .bf16) (v77 v86 : FVec Ideal S512x256 .f32) (v101 : Vec Ideal S512x512 .bf16) (v105 : Vec Ideal S512x1024 .f32) (v107 : Vec Ideal S768x1024 .bf16) (r : Fin 512) (l : Fin 1024) :
    k0_pay12 v5 v77 (k0_pay10 (iota .tc S1x256 32 [1] iota_S1x256_d1_w32)) v86 v101 v105 v107 (ix2 r l)
      = merged (fun l => v105 (ix2 r l)) (fun l => v101 (ix2 r l))
        (fun l => if headOf l = 3 then ∑ x, soft (fun x => v86 (ix2 r x)) x * v5 (ix2 x l) else v77 (ix2 r l)) (fun x l => v107 (ix2 x l)) l := by
  pointwise [k0_pay12, k0_pay10]
  simp only [bits3, select_bit]
  simp only [merged, soft]

/-- The normalised stream. -/
theorem pay13_apply (v5 : FVec Ideal S256x256 .bf16) (v77 v86 : FVec Ideal S512x256 .f32) (v82 : IVec S1x256 1) (v101 : Vec Ideal S512x512 .bf16) (v105 : Vec Ideal S512x1024 .f32) (v107 : Vec Ideal S768x1024 .bf16) (v111 : Vec Ideal S1x1024 .f32) (r : Fin 512) (l : Fin 1024) :
    k0_pay13 v5 v77 v82 v86 v101 v105 v107 v111 (ix2 r l)
      = rms (fun l => k0_pay12 v5 v77 v82 v86 v101 v105 v107 (ix2 r l)) (fun l => v111 (ix2 0 l)) l := by
  unfold k0_pay13
  generalize k0_pay12 v5 v77 v82 v86 v101 v105 v107 = X
  pointwise [rms]

/-- The first three tiles of the network. -/
theorem pay16_apply (v125 : FVec Ideal S512x1024 .bf16) (v128 v134 v138 v145 v149 v156 : Vec Ideal S1024x1024 .bf16) (r : Fin 512) (l : Fin 1024) :
    k0_pay16 v125 (k0_pay14 (F := Ideal)) (k0_pay15 v128) (constant S512x1024 .f32 0x00000000#32) v134 v138 v145 v149 v156 (ix2 r l)
      = (∑ d, (max (∑ y, v125 (ix2 r y) * v128 (ix2 y d)) 0 * max (∑ y, v125 (ix2 r y) * v128 (ix2 y d)) 0) * v134 (ix2 d l))
        + (∑ d, (max (∑ y, v125 (ix2 r y) * v138 (ix2 y d)) 0 * max (∑ y, v125 (ix2 r y) * v138 (ix2 y d)) 0) * v145 (ix2 d l))
        + (∑ d, (max (∑ y, v125 (ix2 r y) * v149 (ix2 y d)) 0 * max (∑ y, v125 (ix2 r y) * v149 (ix2 y d)) 0) * v156 (ix2 d l)) := by
  pointwise [k0_pay16, k0_pay14, k0_pay15]

/-- The last tile, the residual and the final normalisation. -/
theorem pay1_apply (v110 v159 : FVec Ideal S512x1024 .f32) (v125 : FVec Ideal S512x1024 .bf16) (v160 v167 : Vec Ideal S1024x1024 .bf16) (v172 : Vec Ideal S1x1024 .f32) (r : Fin 512) (l : Fin 1024) :
    k0_pay1 v110 v159 (k0_pay17 v125 v160) v167 v172 (ix2 r l)
      = rms (fun l => v110 (ix2 r l) + (v159 (ix2 r l) + (∑ d, (max (∑ y, v125 (ix2 r y) * v160 (ix2 y d)) 0 * max (∑ y, v125 (ix2 r y) * v160 (ix2 y d)) 0) * v167 (ix2 d l)))) (fun l => v172 (ix2 0 l)) l := by
  pointwise [k0_pay1, k0_pay17, rms]

/-- Reading a tile of the first weights. -/
theorem ld_w1 (x6 : Vec Ideal S1024x4096 .bf16) (y d : Fin 1024) :
    View.ld x6 r0_7 (ix2 y d) = x6 (ix2 y ⟨0 + d.val, by omega⟩) ∧ View.ld x6 r0_9 (ix2 y d) = x6 (ix2 y ⟨1024 + d.val, by omega⟩)
      ∧ View.ld x6 r0_11 (ix2 y d) = x6 (ix2 y ⟨2048 + d.val, by omega⟩) ∧ View.ld x6 r0_13 (ix2 y d) = x6 (ix2 y ⟨3072 + d.val, by omega⟩) := by
  refine ⟨?_, ?_, ?_, ?_⟩ <;> refine congrArg x6 (funext fun a => ?_) <;> match a with | ⟨0, _⟩ => exact Fin.ext (by simp) | ⟨1, _⟩ => exact Fin.ext (by simp)

/-- Reading a tile of the second weights. -/
theorem ld_w2 (x7 : Vec Ideal S4096x1024 .bf16) (d l : Fin 1024) :
    View.ld x7 r0_8 (ix2 d l) = x7 (ix2 ⟨0 + d.val, by omega⟩ l) ∧ View.ld x7 r0_10 (ix2 d l) = x7 (ix2 ⟨1024 + d.val, by omega⟩ l)
      ∧ View.ld x7 r0_12 (ix2 d l) = x7 (ix2 ⟨2048 + d.val, by omega⟩ l) ∧ View.ld x7 r0_14 (ix2 d l) = x7 (ix2 ⟨3072 + d.val, by omega⟩ l) := by
  refine ⟨?_, ?_, ?_, ?_⟩ <;> refine congrArg x7 (funext fun a => ?_) <;> match a with | ⟨0, _⟩ => exact Fin.ext (by simp) | ⟨1, _⟩ => exact Fin.ext (by simp)

/-- Reading the keys and the values of the memories. -/
theorem ld_kv (x3 : Vec Ideal S1x256x512 .bf16) (x l : Fin 256) :
    View.ld x3 r0_1 (ix3 0 x l) = x3 (ix3 0 x ⟨l.val, by omega⟩) ∧ View.ld x3 r0_2 (ix3 0 x l) = x3 (ix3 0 x ⟨256 + l.val, by omega⟩) := by
  refine ⟨?_, ?_⟩ <;> refine congrArg x3 (funext fun a => ?_) <;> match a with | ⟨0, _⟩ => exact Fin.ext (by simp) | ⟨1, _⟩ => exact Fin.ext (by simp) | ⟨2, _⟩ => exact Fin.ext (by simp)

/-- The keys and the values, their leading axis dropped. -/
theorem pay34_apply (v : Vec Ideal S1x256x256 .bf16) (x l : Fin 256) :
    k0_pay3 v (ix2 x l) = v (ix3 0 x l) ∧ k0_pay4 v (ix2 x l) = v (ix3 0 x l) := by
  constructor <;> pointwise [k0_pay3, k0_pay4]

/-- The queries as read. -/
theorem pay2_eq (v : Vec Ideal S512x256 .bf16) : k0_pay2 v = v := by
  unfold k0_pay2; exact shapeCast_self _ _

variable (x0 : Vec Ideal S512x1024 .f32) (x1 : Vec Ideal S512x512 .bf16) (x2 : Vec Ideal S512x256 .bf16) (x3 : Vec Ideal S1x256x512 .bf16) (x4 : Vec Ideal S768x1024 .bf16) (x5 : Vec Ideal S1x1024 .f32) (x6 : Vec Ideal S1024x4096 .bf16) (x7 : Vec Ideal S4096x1024 .bf16) (x8 : Vec Ideal S1x1024 .f32)

/-- The memory heads at row `r`. -/
def mo (x2 : Vec Ideal S512x256 .bf16) (x3 : Vec Ideal S1x256x512 .bf16) (r : Fin 512) (l : Fin 256) : EReal :=
  mem (fun l => x2 (ix2 r l)) (fun x l => x3 (ix3 0 x ⟨l.val, by omega⟩)) (fun x l => x3 (ix3 0 x ⟨256 + l.val, by omega⟩)) (headOf l) l

/-- Four cases of a head. -/
theorem four (f : Fin 4 → EReal) (hd : Fin 4) (z : EReal) :
    (if hd = 3 then f 3 else if hd = 2 then f 2 else if hd = 1 then f 1 else if hd = 0 then f 0 else z) = f hd := by
  fin_cases hd <;> simp

/-- The four heads put together, from any queries, keys and values. -/
theorem heads_apply (q : Vec Ideal S512x256 .bf16) (K W : Vec Ideal S1x256x256 .bf16) (r : Fin 512) (l : Fin 256) :
    (if headOf l = 3 then ∑ x, soft (fun x => k0_pay11 q (k0_pay3 K) (iota .tc S1x256 32 [1] iota_S1x256_d1_w32) (k0_pay5 (F := Ideal)) (ix2 r x)) x * k0_pay4 W (ix2 x l)
      else k0_pay9 q (k0_pay3 K) (k0_pay4 W) (iota .tc S1x256 32 [1] iota_S1x256_d1_w32) (k0_pay5 (F := Ideal)) (k0_pay6 q K W) k0_pay7 (k0_pay8 q) (constant S512x256 .f32 0x00000000#32) (ix2 r l))
      = mem (fun l => q (ix2 r l)) (fun x l => K (ix3 0 x l)) (fun x l => W (ix3 0 x l)) (headOf l) l := by
  rw [pay9_apply, pay6_apply]
  have h : (fun x => k0_pay11 q (k0_pay3 K) (iota .tc S1x256 32 [1] iota_S1x256_d1_w32) (k0_pay5 (F := Ideal)) (ix2 r x)) = score (fun l => q (ix2 r l)) (fun x l => K (ix3 0 x l)) 3 := by
    funext x
    rw [pay11_apply]
    simp only [(pay34_apply _ _ _).1]
  rw [h]
  simp only [(pay34_apply _ _ _).1, (pay34_apply _ _ _).2]
  exact four (fun hd => mem (fun l => q (ix2 r l)) (fun x l => K (ix3 0 x l)) (fun x l => W (ix3 0 x l)) hd l) (headOf l) 0

/-- The stream after the output projection, from the blocks. -/
theorem stream_apply (r : Fin 512) (l : Fin 1024) :
    k0_pay12 (k0_pay21 x0 x1 x2 x3 x4 x5 x6 x7 x8) (k0_pay23 x0 x1 x2 x3 x4 x5 x6 x7 x8) (k0_pay24 x0 x1 x2 x3 x4 x5 x6 x7 x8) (k0_pay25 x0 x1 x2 x3 x4 x5 x6 x7 x8) (View.ld x1 r0_3) (View.ld x0 r0_4) (View.ld x4 r0_5) (ix2 r l)
      = merged (fun l => x0 (ix2 r l)) (fun l => x1 (ix2 r l)) (mo x2 x3 r) (fun x l => x4 (ix2 x l)) l := by
  rw [View.ld_unit_lit _ x1 (by decide), View.ld_unit_lit _ x0 (by decide), View.ld_unit_lit _ x4 (by decide)]
  unfold k0_pay24 k0_pay18
  rw [pay12_apply]
  refine congrArg (fun f => merged (fun l => x0 (ix2 r l)) (fun l => x1 (ix2 r l)) f (fun x l => x4 (ix2 x l)) l) (funext fun l => ?_)
  unfold k0_pay25 k0_pay23 k0_pay22 k0_pay21 k0_pay20 k0_pay19 k0_pay18
  rw [pay2_eq, View.ld_unit_lit _ x2 (by decide)]
  refine (heads_apply x2 (View.ld x3 r0_1) (View.ld x3 r0_2) r l).trans ?_
  exact congrArg₂ (fun K W => mem (fun l => x2 (ix2 r l)) K W (headOf l) l) (funext fun x => funext fun l => (ld_kv x3 x l).1)
    (funext fun x => funext fun l => (ld_kv x3 x l).2)

/-- A tile's contribution, its weights given by two arrays. -/
def part (x : Fin 1024 → EReal) (a b : Vec Ideal S1024x1024 .bf16) (l : Fin 1024) : EReal :=
  ∑ d, (max (∑ y, x y * a (ix2 y d)) 0 * max (∑ y, x y * a (ix2 y d)) 0) * b (ix2 d l)

/-- It is the network's tile when the arrays are the tiles of its weights. -/
theorem part_eq (x : Fin 1024 → EReal) (a b : Vec Ideal S1024x1024 .bf16) (w1 : Fin 1024 → Fin 4096 → EReal) (w2 : Fin 4096 → Fin 1024 → EReal)
    (o : ℕ) (ho : o + 1024 ≤ 4096) (ha : ∀ y d : Fin 1024, a (ix2 y d) = w1 y ⟨o + d.val, by omega⟩)
    (hb : ∀ d l : Fin 1024, b (ix2 d l) = w2 ⟨o + d.val, by omega⟩ l) (l : Fin 1024) : part x a b l = tile x w1 w2 o ho l := by
  unfold part tile Cert.Post.hidden
  simp only [ha, hb]

/-- What a point writes, at a row and a lane. -/
theorem out_apply (r : Fin 512) (l : Fin 1024) :
    out0_9 x0 x1 x2 x3 x4 x5 x6 x7 x8 (ix2 r l)
      = row (fun l => x0 (ix2 r l)) (fun l => x1 (ix2 r l)) (mo x2 x3 r) (fun x l => x4 (ix2 x l)) (fun l => x5 (ix2 0 l))
        (fun x l => x6 (ix2 x l)) (fun x l => x7 (ix2 x l)) (fun l => x8 (ix2 0 l)) l := by
  unfold out0_9
  rw [View.canon_cons_unit_lit _ _ _ (by decide)]
  have hN : (fun y => k0_pay26 x0 x1 x2 x3 x4 x5 x6 x7 x8 (ix2 r y))
      = rms (merged (fun l => x0 (ix2 r l)) (fun l => x1 (ix2 r l)) (mo x2 x3 r) (fun x l => x4 (ix2 x l))) (fun l => x5 (ix2 0 l)) := funext fun y => by
    unfold k0_pay26
    rw [pay13_apply, View.ld_unit_lit _ x5 (by decide)]
    exact congrArg (fun f => rms f (fun l => x5 (ix2 0 l)) y) (funext fun l => stream_apply x0 x1 x2 x3 x4 x5 x6 x7 x8 r l)
  rw [pay1_apply, View.ld_unit_lit _ x8 (by decide)]
  unfold row
  refine congrArg (fun f => rms f (fun l => x8 (ix2 0 l)) l) (funext fun l => ?_)
  rw [stream_apply, pay16_apply, mlp_tiles]
  refine congrArg (merged (fun l => x0 (ix2 r l)) (fun l => x1 (ix2 r l)) (mo x2 x3 r) (fun x l => x4 (ix2 x l)) l + ·) ?_
  rw [← hN]
  exact congrArg₂ (· + ·) (congrArg₂ (· + ·) (congrArg₂ (· + ·)
    (part_eq (fun y => k0_pay26 x0 x1 x2 x3 x4 x5 x6 x7 x8 (ix2 r y)) (View.ld x6 r0_7) (View.ld x7 r0_8) _ _ 0 (by omega) (fun y d => (ld_w1 x6 y d).1) (fun d l => (ld_w2 x7 d l).1) l)
    (part_eq (fun y => k0_pay26 x0 x1 x2 x3 x4 x5 x6 x7 x8 (ix2 r y)) (View.ld x6 r0_9) (View.ld x7 r0_10) _ _ 1024 (by omega) (fun y d => (ld_w1 x6 y d).2.1) (fun d l => (ld_w2 x7 d l).2.1) l))
    (part_eq (fun y => k0_pay26 x0 x1 x2 x3 x4 x5 x6 x7 x8 (ix2 r y)) (View.ld x6 r0_11) (View.ld x7 r0_12) _ _ 2048 (by omega) (fun y d => (ld_w1 x6 y d).2.2.1) (fun d l => (ld_w2 x7 d l).2.2.1) l))
    (part_eq (fun y => k0_pay26 x0 x1 x2 x3 x4 x5 x6 x7 x8 (ix2 r y)) (View.ld x6 r0_13) (View.ld x7 r0_14) _ _ 3072 (by omega) (fun y d => (ld_w1 x6 y d).2.2.2) (fun d l => (ld_w2 x7 d l).2.2.2) l)

end Cert.PostLastIdeal.Post

end
-- ==== Proof.Post.Final.lean ====
/-
  The output block's result array after its run, over the extended reals: row `R` and lane `l` hold `Cert.Post.row` of the
  arguments' row `R`.
-/
module

public import proofs.«01_k».proof.Proof.Post.Kernel

@[expose] public section

set_option maxRecDepth 8192

noncomputable section

namespace Cert.PostLastIdeal.Post

open Cert.PostLastIdeal Cert.PostLastIdeal.Gen Idealize.ShloMosaic Idealize.ShloMosaic.TcCoe Cert.Post

variable (m : (ℓ : Loc nD τ sig) → Buf (Elt Ideal) ℓ) (c : Dev nD)

theorem V_v4 : V m c main_v4 = shapeCast S32768x1024 (m ((c : Thread nD τ).loc main_arg0)) shapeCasts_S2x16384x1024_S32768x1024 := by
  show StableHlo.after hostOps0 _ (Proc.devRef .tc main_v4) = _
  after_results
  rfl

theorem V_v6 : V m c main_v6 = (shapeCast S32768x512 (truncf .bf16 (m ((c : Thread nD τ).loc main_arg1) : FVec Ideal S2x16384x512 .f32) bitsLt_bf16_f32) shapeCasts_S2x16384x512_S32768x512 : FVec Ideal S32768x512 .bf16) := by
  show StableHlo.after hostOps0 _ (Proc.devRef .tc main_v6) = _
  after_results
  rfl

theorem V_v3 : V m c main_v3 = (shapeCast S32768x256 (truncf .bf16 (mulf (m ((c : Thread nD τ).loc main_arg2) : FVec Ideal S2x16384x256 .f32)
    (broadcastInDim S2x16384x256 ![] bcast_S_S2x16384x256 (constant S_ .f32 0x3E000000#32))) bitsLt_bf16_f32) shapeCasts_S2x16384x256_S32768x256 : FVec Ideal S32768x256 .bf16) := by
  show StableHlo.after hostOps0 _ (Proc.devRef .tc main_v3) = _
  after_results
  rfl

theorem V_v7 : V m c main_v7 = (truncf .bf16 (m ((c : Thread nD τ).loc main_arg3) : FVec Ideal S2x256x512 .f32) bitsLt_bf16_f32 : FVec Ideal S2x256x512 .bf16) := by
  show StableHlo.after hostOps0 _ (Proc.devRef .tc main_v7) = _
  after_results

theorem V_v8 : V m c main_v8 = (truncf .bf16 (m ((c : Thread nD τ).loc main_arg4) : FVec Ideal S768x1024 .f32) bitsLt_bf16_f32 : FVec Ideal S768x1024 .bf16) := by
  show StableHlo.after hostOps0 _ (Proc.devRef .tc main_v8) = _
  after_results

theorem V_v9 : V m c main_v9 = (truncf .bf16 (m ((c : Thread nD τ).loc main_arg6) : FVec Ideal S1024x4096 .f32) bitsLt_bf16_f32 : FVec Ideal S1024x4096 .bf16) := by
  show StableHlo.after hostOps0 _ (Proc.devRef .tc main_v9) = _
  after_results

theorem V_v10 : V m c main_v10 = (truncf .bf16 (m ((c : Thread nD τ).loc main_arg7) : FVec Ideal S4096x1024 .f32) bitsLt_bf16_f32 : FVec Ideal S4096x1024 .bf16) := by
  show StableHlo.after hostOps0 _ (Proc.devRef .tc main_v10) = _
  after_results

theorem V_v11 : V m c main_v11 = shapeCast S1x1024 (m ((c : Thread nD τ).loc main_arg5)) shapeCasts_S1024_S1x1024 := by
  show StableHlo.after hostOps0 _ (Proc.devRef .tc main_v11) = _
  after_results
  rfl

theorem V_v12 : V m c main_v12 = shapeCast S1x1024 (m ((c : Thread nD τ).loc main_arg8)) shapeCasts_S1024_S1x1024 := by
  show StableHlo.after hostOps0 _ (Proc.devRef .tc main_v12) = _
  after_results
  rfl

/-- Batch, and position within it, of a row. -/
def bOf (R : Fin 32768) : Fin 2 := ⟨R.val / 16384, by omega⟩
def sOf (R : Fin 32768) : Fin 16384 := ⟨R.val % 16384, by omega⟩

/-- Point `t`'s row `r`. -/
def rowAt (t : Fin cfg0.N) (r : Fin 512) : Fin 32768 := ⟨512 * t.val + r.val, by have := t.isLt; have h : cfg0.N = 64 := N_0; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem iblk0_apply (t : Fin cfg0.N) (r : Fin 512) (l : Fin 1024) : iblk m c 0 t (ix2 r l) = V m c main_v4 (ix2 (rowAt t r) l) := by
  show V m c main_v4 (((cfg0.win 0).blk t).view.emb (ix2 r l)) = _
  refine congrArg (V m c main_v4) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (t : Fin cfg0.N) (r : Fin 512) (l : Fin 512) : iblk m c 1 t (ix2 r l) = V m c main_v6 (ix2 (rowAt t r) l) := by
  show V m c main_v6 (((cfg0.win 1).blk t).view.emb (ix2 r l)) = _
  refine congrArg (V m c main_v6) (funext fun a => Fin.ext ?_)
  obtain ⟨e0, e1⟩ := idx1 t
  match a with
  | ⟨0, _⟩ => show win0_1.index t (0 : Fin 2) * 512 + 1 * r.val = 512 * t.val + r.val; omega
  | ⟨1, _⟩ => show win0_1.index t (1 : Fin 2) * 512 + 1 * l.val = l.val; omega

theorem iblk2_apply (t : Fin cfg0.N) (r : Fin 512) (l : Fin 256) : iblk m c 2 t (ix2 r l) = V m c main_v3 (ix2 (rowAt t r) l) := by
  show V m c main_v3 (((cfg0.win 2).blk t).view.emb (ix2 r l)) = _
  refine congrArg (V m c main_v3) (funext fun a => Fin.ext ?_)
  obtain ⟨e0, e1⟩ := idx2 t
  match a with
  | ⟨0, _⟩ => show win0_2.index t (0 : Fin 2) * 512 + 1 * r.val = 512 * t.val + r.val; omega
  | ⟨1, _⟩ => show win0_2.index t (1 : Fin 2) * 256 + 1 * l.val = l.val; omega

theorem iblk3_apply (t : Fin cfg0.N) (r : Fin 512) (x : Fin 256) (l : Fin 512) : iblk m c 3 t (ix3 0 x l) = V m c main_v7 (ix3 (bOf (rowAt t r)) x l) := by
  show V m c main_v7 (((cfg0.win 3).blk t).view.emb (ix3 0 x l)) = _
  refine congrArg (V m c main_v7) (funext fun a => Fin.ext ?_)
  obtain ⟨e0, e1, e2⟩ := idx3 t
  match a with
  | ⟨0, _⟩ =>
    show win0_3.index t (0 : Fin 3) * 1 + 1 * 0 = (512 * t.val + r.val) / 16384
    have := r.isLt
    omega
  | ⟨1, _⟩ => show win0_3.index t (1 : Fin 3) * 256 + 1 * x.val = x.val; omega
  | ⟨2, _⟩ => show win0_3.index t (2 : Fin 3) * 512 + 1 * l.val = l.val; omega

theorem iblk4_apply (t : Fin cfg0.N) (x : Fin 768) (l : Fin 1024) : iblk m c 4 t (ix2 x l) = V m c main_v8 (ix2 x l) := by
  show V m c main_v8 (((cfg0.win 4).blk t).view.emb (ix2 x l)) = _
  refine congrArg (V m c main_v8) (funext fun a => Fin.ext ?_)
  obtain ⟨e0, e1⟩ := idx4 t
  match a with
  | ⟨0, _⟩ => show win0_4.index t (0 : Fin 2) * 768 + 1 * x.val = x.val; omega
  | ⟨1, _⟩ => show win0_4.index t (1 : Fin 2) * 1024 + 1 * l.val = l.val; omega

theorem iblk5_apply (t : Fin cfg0.N) (l : Fin 1024) : iblk m c 5 t (ix2 0 l) = V m c main_v11 (ix2 0 l) := by
  show V m c main_v11 (((cfg0.win 5).blk t).view.emb (ix2 0 l)) = _
  refine congrArg (V m c main_v11) (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * l.val = l.val; omega

theorem iblk6_apply (t : Fin cfg0.N) (x : Fin 1024) (l : Fin 4096) : iblk m c 6 t (ix2 x l) = V m c main_v9 (ix2 x l) := by
  show V m c main_v9 (((cfg0.win 6).blk t).view.emb (ix2 x l)) = _
  refine congrArg (V m c main_v9) (funext fun a => Fin.ext ?_)
  obtain ⟨e0, e1⟩ := idx6 t
  match a with
  | ⟨0, _⟩ => show win0_6.index t (0 : Fin 2) * 1024 + 1 * x.val = x.val; omega
  | ⟨1, _⟩ => show win0_6.index t (1 : Fin 2) * 4096 + 1 * l.val = l.val; omega

theorem iblk7_apply (t : Fin cfg0.N) (x : Fin 4096) (l : Fin 1024) : iblk m c 7 t (ix2 x l) = V m c main_v10 (ix2 x l) := by
  show V m c main_v10 (((cfg0.win 7).blk t).view.emb (ix2 x l)) = _
  refine congrArg (V m c main_v10) (funext fun a => Fin.ext ?_)
  obtain ⟨e0, e1⟩ := idx7 t
  match a with
  | ⟨0, _⟩ => show win0_7.index t (0 : Fin 2) * 4096 + 1 * x.val = x.val; omega
  | ⟨1, _⟩ => show win0_7.index t (1 : Fin 2) * 1024 + 1 * l.val = l.val; omega

theorem iblk8_apply (t : Fin cfg0.N) (l : Fin 1024) : iblk m c 8 t (ix2 0 l) = V m c main_v12 (ix2 0 l) := by
  show V m c main_v12 (((cfg0.win 8).blk t).view.emb (ix2 0 l)) = _
  refine congrArg (V m c main_v12) (funext fun a => Fin.ext ?_)
  obtain ⟨e0, e1⟩ := idx8 t
  match a with
  | ⟨0, _⟩ => show win0_8.index t (0 : Fin 2) * 1 + 1 * 0 = 0; omega
  | ⟨1, _⟩ => show win0_8.index t (1 : Fin 2) * 1024 + 1 * l.val = l.val; omega

theorem emb9 (t : Fin cfg0.N) (r : Fin 512) (l : Fin 1024) : ((cfg0.win 9).blk t).view.emb (ix2 r l) = ix2 (rowAt t r) l := by
  refine funext fun a => Fin.ext ?_
  obtain ⟨e0, e1⟩ := idx9 t
  match a with
  | ⟨0, _⟩ => show win0_9.index t (0 : Fin 2) * 512 + 1 * r.val = 512 * t.val + r.val; omega
  | ⟨1, _⟩ => show win0_9.index t (1 : Fin 2) * 1024 + 1 * l.val = l.val; omega

/-- The arguments. -/
abbrev aH : FVec Ideal S2x16384x1024 .f32 := m ((c : Thread nD τ).loc main_arg0)
abbrev aMix : FVec Ideal S2x16384x512 .f32 := m ((c : Thread nD τ).loc main_arg1)
abbrev aQ : FVec Ideal S2x16384x256 .f32 := m ((c : Thread nD τ).loc main_arg2)
abbrev aKv : FVec Ideal S2x256x512 .f32 := m ((c : Thread nD τ).loc main_arg3)
abbrev aWo : FVec Ideal S768x1024 .f32 := m ((c : Thread nD τ).loc main_arg4)
abbrev aG2 : FVec Ideal S1024 .f32 := m ((c : Thread nD τ).loc main_arg5)
abbrev aW1 : FVec Ideal S1024x4096 .f32 := m ((c : Thread nD τ).loc main_arg6)
abbrev aW2 : FVec Ideal S4096x1024 .f32 := m ((c : Thread nD τ).loc main_arg7)
abbrev aGf : FVec Ideal S1024 .f32 := m ((c : Thread nD τ).loc main_arg8)

/-- Rows of a batch, one after another. -/
theorem rows4 (x : FVec Ideal S2x16384x1024 .f32) (R : Fin 32768) (l : Fin 1024) :
    shapeCast S32768x1024 x shapeCasts_S2x16384x1024_S32768x1024 (ix2 R l) = x (ix3 (bOf R) (sOf R) l) := by
  pointwise [bOf, sOf]
theorem rows6 (x : FVec Ideal S2x16384x512 .f32) (R : Fin 32768) (l : Fin 512) :
    shapeCast S32768x512 (truncf .bf16 x bitsLt_bf16_f32) shapeCasts_S2x16384x512_S32768x512 (ix2 R l) = x (ix3 (bOf R) (sOf R) l) := by
  pointwise [bOf, sOf]
theorem rows3 (x : FVec Ideal S2x16384x256 .f32) (R : Fin 32768) (l : Fin 256) :
    shapeCast S32768x256 (truncf .bf16 (mulf x (broadcastInDim S2x16384x256 ![] bcast_S_S2x16384x256 (constant S_ .f32 0x3E000000#32))) bitsLt_bf16_f32)
      shapeCasts_S2x16384x256_S32768x256 (ix2 R l) = x (ix3 (bOf R) (sOf R) l) * Ideal.ofBits .f32 0x3E000000#32 := by
  pointwise [bOf, sOf]
theorem rows11 (x : FVec Ideal S1024 .f32) (l : Fin 1024) : shapeCast S1x1024 x shapeCasts_S1024_S1x1024 (ix2 0 l) = x (ix1 l) := by
  pointwise

theorem v4_apply (R : Fin 32768) (l : Fin 1024) : V m c main_v4 (ix2 R l) = aH m c (ix3 (bOf R) (sOf R) l) :=
  (congrFun (V_v4 m c) _).trans (rows4 _ R l)
theorem v6_apply (R : Fin 32768) (l : Fin 512) : V m c main_v6 (ix2 R l) = aMix m c (ix3 (bOf R) (sOf R) l) :=
  (congrFun (V_v6 m c) _).trans (rows6 _ R l)
theorem v3_apply (R : Fin 32768) (l : Fin 256) : V m c main_v3 (ix2 R l) = aQ m c (ix3 (bOf R) (sOf R) l) * Ideal.ofBits .f32 0x3E000000#32 :=
  (congrFun (V_v3 m c) _).trans (rows3 _ R l)
theorem v11_apply (l : Fin 1024) : V m c main_v11 (ix2 0 l) = aG2 m c (ix1 l) := (congrFun (V_v11 m c) _).trans (rows11 _ l)
theorem v12_apply (l : Fin 1024) : V m c main_v12 (ix2 0 l) = aGf m c (ix1 l) := (congrFun (V_v12 m c) _).trans (rows11 _ l)
theorem v7_apply (b : Fin 2) (x : Fin 256) (l : Fin 512) : V m c main_v7 (ix3 b x l) = aKv m c (ix3 b x l) := congrFun (V_v7 m c) _
theorem v8_apply (x : Fin 768) (l : Fin 1024) : V m c main_v8 (ix2 x l) = aWo m c (ix2 x l) := congrFun (V_v8 m c) _
theorem v9_apply (x : Fin 1024) (l : Fin 4096) : V m c main_v9 (ix2 x l) = aW1 m c (ix2 x l) := congrFun (V_v9 m c) _
theorem v10_apply (x : Fin 4096) (l : Fin 1024) : V m c main_v10 (ix2 x l) = aW2 m c (ix2 x l) := congrFun (V_v10 m c) _

/-- The result: row `R` of it is the row of the arguments' row, the queries scaled. -/
def out (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gf : FVec Ideal S1024 .f32) (R : Fin 32768) (l : Fin 1024) : EReal :=
  row (fun l => h (ix3 (bOf R) (sOf R) l)) (fun l => mix (ix3 (bOf R) (sOf R) l))
    (fun l => mem (fun l => q (ix3 (bOf R) (sOf R) l) * Ideal.ofBits .f32 0x3E000000#32) (fun x l => kv (ix3 (bOf R) x ⟨l.val, by omega⟩))
      (fun x l => kv (ix3 (bOf R) x ⟨256 + l.val, by omega⟩)) (headOf l) l)
    (fun x l => wo (ix2 x l)) (fun l => g2 (ix1 l)) (fun x l => w1 (ix2 x l)) (fun x l => w2 (ix2 x l)) (fun l => gf (ix1 l)) l

/-- The result array after the run, at a row and a lane. -/
theorem final_apply (R : Fin 32768) (l : Fin 1024) :
    (dats m 0 c).arrAt 9 cfg0.N (ix2 R l) = out (aH m c) (aMix m c) (aQ m c) (aKv m c) (aWo m c) (aG2 m c) (aW1 m c) (aW2 m c) (aGf m c) R l := by
  have hN : cfg0.N = 64 := N_0
  have ht : R.val / 512 < cfg0.N := by have := R.isLt; omega
  have hR : R = rowAt ⟨R.val / 512, ht⟩ ⟨R.val % 512, by omega⟩ := Fin.ext (by show R.val = 512 * (R.val / 512) + R.val % 512; omega)
  generalize (⟨R.val / 512, ht⟩ : Fin cfg0.N) = t at hR
  generalize (⟨R.val % 512, _⟩ : Fin 512) = r at hR
  have b := congrFun (Value.blocks9 m c t (flush0_9 t)) (ix2 r l)
  rw [Value.flushed9] at b
  have b' : (dats m 0 c).arrAt 9 cfg0.N (((cfg0.win 9).blk t).view.emb (ix2 r l))
      = out0_9 (iblk m c 0 t) (iblk m c 1 t) (iblk m c 2 t) (iblk m c 3 t) (iblk m c 4 t) (iblk m c 5 t) (iblk m c 6 t) (iblk m c 7 t) (iblk m c 8 t) (ix2 r l) := b
  rw [emb9, ← hR, out_apply] at b'
  refine b'.trans ?_
  unfold out mo
  have e0 : (fun l => iblk m c 0 t (ix2 r l)) = fun l => aH m c (ix3 (bOf R) (sOf R) l) := funext fun l => by rw [iblk0_apply, ← hR, v4_apply]
  have e1 : (fun l => iblk m c 1 t (ix2 r l)) = fun l => aMix m c (ix3 (bOf R) (sOf R) l) := funext fun l => by rw [iblk1_apply, ← hR, v6_apply]
  have e2 : (fun l => iblk m c 2 t (ix2 r l)) = fun l => aQ m c (ix3 (bOf R) (sOf R) l) * Ideal.ofBits .f32 0x3E000000#32 := funext fun l => by rw [iblk2_apply, ← hR, v3_apply]
  have e3 : ∀ (x : Fin 256) (l : Fin 512), iblk m c 3 t (ix3 0 x l) = aKv m c (ix3 (bOf R) x l) := fun x l => by rw [iblk3_apply m c t r, ← hR, v7_apply]
  have e4 : (fun x l => iblk m c 4 t (ix2 x l)) = fun x l => aWo m c (ix2 x l) := funext fun x => funext fun l => by rw [iblk4_apply, v8_apply]
  have e5 : (fun l => iblk m c 5 t (ix2 0 l)) = fun l => aG2 m c (ix1 l) := funext fun l => by rw [iblk5_apply, v11_apply]
  have e6 : (fun x l => iblk m c 6 t (ix2 x l)) = fun x l => aW1 m c (ix2 x l) := funext fun x => funext fun l => by rw [iblk6_apply, v9_apply]
  have e7 : (fun x l => iblk m c 7 t (ix2 x l)) = fun x l => aW2 m c (ix2 x l) := funext fun x => funext fun l => by rw [iblk7_apply, v10_apply]
  have e8 : (fun l => iblk m c 8 t (ix2 0 l)) = fun l => aGf m c (ix1 l) := funext fun l => by rw [iblk8_apply, v12_apply]
  rw [e0, e1, e2, e4, e5, e6, e7, e8]
  simp only [e3]

end Cert.PostLastIdeal.Post

end
-- ==== Proof.Post.Stages.lean ====
/-
  The stages of the reference's result.
-/
module

public import proofs.«01_k».proof.Proof.Gen.PostRefIdeal.Run
public import proofs.«01_k».proof.Proof.Post.Math

@[expose] public section

set_option maxRecDepth 8192

noncomputable section

namespace Cert.PostRefIdeal.Post

open Cert.PostRefIdeal Cert.PostRefIdeal.Gen Idealize.ShloMosaic Idealize.ShloMosaic.TcCoe Cert.Post

/-- The scaled logits. -/
def vS (q : FVec Ideal S2x16384x256 .f32) (kv : FVec Ideal S2x256x512 .f32) : FVec Ideal S2x4x16384x256 .f32 :=
  mulf (Host.dotGeneral dot_S2x16384x4x64_S2x256x4x64_S2x4x16384x256_3_3_1_1_02_02 none (shapeCast _ q shapeCasts_S2x16384x256_S2x16384x4x64) (shapeCast _ (extractStridedSlice S2x256x256 ![0, 0, 0] kv slices_S2x256x512_S2x256x256_0_0_0) shapeCasts_S2x256x256_S2x256x4x64)) (broadcastInDim S2x4x16384x256 ![] bcast_S_S2x4x16384x256 (constant S_ .f32 0x3E000000#32))

/-- Their exponentials, each row's maximum taken off. -/
def vE (s : FVec Ideal S2x4x16384x256 .f32) : FVec Ideal S2x4x16384x256 .f32 :=
  Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf s (constant S_ .f32 0xFF800000#32) reducesTo_S2x4x16384x256_S2x4x16384_d3 h_S_)))))

/-- The softmax. -/
def vP (e : FVec Ideal S2x4x16384x256 .f32) : FVec Ideal S2x4x16384x256 .f32 :=
  Host.divf e (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd e (constant S_ .f32 0x00000000#32) reducesTo_S2x4x16384x256_S2x4x16384_d3 h_S_)))

/-- The memories' values under it. -/
def vM (p : FVec Ideal S2x4x16384x256 .f32) (kv : FVec Ideal S2x256x512 .f32) : FVec Ideal S2x16384x256 .f32 :=
  shapeCast _ (transpose S2x16384x4x64 [0, 3, 1, 2] (Host.dotGeneral dot_S2x256x4x64_S2x4x16384x256_S2x4x64x16384_1_3_3_2_02_01 none (shapeCast _ (extractStridedSlice S2x256x256 ![0, 0, 256] kv slices_S2x256x512_S2x256x256_0_0_256) shapeCasts_S2x256x256_S2x256x4x64) p) transposes_S2x4x64x16384_S2x16384x4x64_0_3_1_2) shapeCasts_S2x16384x4x64_S2x16384x256

/-- The stream after the output projection. -/
def vH (h : FVec Ideal S2x16384x1024 .f32) (mix : FVec Ideal S2x16384x512 .f32) (mo : FVec Ideal S2x16384x256 .f32) (wo : FVec Ideal S768x1024 .f32) : FVec Ideal S2x16384x1024 .f32 :=
  addf h (Host.dotGeneral dot_S2x16384x768_S768x1024_S2x16384x1024_2_0_01_1_n_n none (concatenate S2x16384x768 2 [⟨S2x16384x512, mix⟩, ⟨S2x16384x256, mo⟩] concatenates_S2x16384x512_S2x16384x256_S2x16384x768_d2) wo)

/-- A normalised stream. -/
def vN (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The hidden units. -/
def vF (x : FVec Ideal S2x16384x1024 .f32) (w1 : FVec Ideal S1024x4096 .f32) : FVec Ideal S2x16384x4096 .f32 :=
  maximumf (Host.dotGeneral dot_S2x16384x1024_S1024x4096_S2x16384x4096_2_0_01_1_n_n none x w1) (broadcastInDim S2x16384x4096 ![] bcast_S_S2x16384x4096 (constant S_ .f32 0x00000000#32))

/-- The stream after the network. -/
def vO (h : FVec Ideal S2x16384x1024 .f32) (f : FVec Ideal S2x16384x4096 .f32) (w2 : FVec Ideal S4096x1024 .f32) : FVec Ideal S2x16384x1024 .f32 :=
  addf h (Host.dotGeneral dot_S2x16384x4096_S4096x1024_S2x16384x1024_2_0_01_1_n_n none (mulf f f) w2)

end Cert.PostRefIdeal.Post

end
-- ==== Proof.Post.Ref.lean ====
/-
  The stages of the reference's result at an index, over the extended reals.
-/
module

public import proofs.«01_k».proof.Proof.Gen.PostRefIdeal.Run
public import proofs.«01_k».proof.Proof.Post.Stages

@[expose] public section

set_option maxRecDepth 8192

noncomputable section

namespace Cert.PostRefIdeal.Post

open Cert.PostRefIdeal Cert.PostRefIdeal.Gen Idealize.ShloMosaic Idealize.ShloMosaic.TcCoe Cert.Post

/-- A scaled logit. -/
theorem vS_apply (q : FVec Ideal S2x16384x256 .f32) (kv : FVec Ideal S2x256x512 .f32) (b : Fin 2) (hd : Fin 4) (s : Fin 16384) (x : Fin 256) :
    vS q kv (ix4 b hd s x) = score (fun l => q (ix3 b s l)) (fun x l => kv (ix3 b x ⟨l.val, by omega⟩)) hd x * Ideal.ofBits .f32 0x3E000000#32 := by
  pointwise [vS, score, lane]
  simp only [show ∀ d : Fin 64, hd.val * 64 + d.val = 64 * hd.val + d.val from fun d => by omega]

/-- A row's maximum. -/
theorem vX_apply (v : FVec Ideal S2x4x16384x256 .f32) (b : Fin 2) (hd : Fin 4) (s : Fin 16384) :
    (Host.reduce FloatOps.maximumf v (constant S_ .f32 0xFF800000#32) reducesTo_S2x4x16384x256_S2x4x16384_d3 h_S_ : FVec Ideal S2x4x16384 .f32) (ix3 b hd s) = Finset.fold max (Ideal.ofBits FTy.f32 4286578688#32) (fun y => v (ix4 b hd s y)) Finset.univ := by
  pointwise []

/-- An exponential of a difference. -/
theorem vEx_apply (v : FVec Ideal S2x4x16384x256 .f32) (u : FVec Ideal S2x4x16384 .f32) (b : Fin 2) (hd : Fin 4) (s : Fin 16384) (x : Fin 256) :
    (Host.exp (subf v (broadcastInDim S2x4x16384x256 ![0, 1, 2, 3] bcast_S2x4x16384x1_S2x4x16384x256_0_1_2_3 (broadcastInDim S2x4x16384x1 ![0, 1, 2] bcast_S2x4x16384_S2x4x16384x1_0_1_2 u))) : FVec Ideal S2x4x16384x256 .f32) (ix4 b hd s x) = Ideal.exp (v (ix4 b hd s x) - u (ix3 b hd s)) := by
  pointwise []

/-- A maximum with the least of the format. -/
theorem vMx_apply (u : FVec Ideal S2x4x16384 .f32) (b : Fin 2) (hd : Fin 4) (s : Fin 16384) :
    (maximumf (broadcastInDim S2x4x16384 ![] bcast_S_S2x4x16384 (constant S_ .f32 0xFF800000#32)) u : FVec Ideal S2x4x16384 .f32) (ix3 b hd s) = max (Ideal.ofBits FTy.f32 4286578688#32) (u (ix3 b hd s)) := by
  pointwise []

/-- An exponential. -/
theorem vE_apply (v : FVec Ideal S2x4x16384x256 .f32) (b : Fin 2) (hd : Fin 4) (s : Fin 16384) (x : Fin 256) :
    vE v (ix4 b hd s x) = Ideal.exp (v (ix4 b hd s x) - Finset.fold max (Ideal.ofBits FTy.f32 4286578688#32) (fun y => v (ix4 b hd s y)) Finset.univ) := by
  unfold vE
  rw [vEx_apply, vMx_apply, vX_apply, max_eq_right ((Finset.le_fold_max _).mpr (Or.inl le_rfl))]

/-- A weight. -/
theorem vP_apply (v : FVec Ideal S2x4x16384x256 .f32) (b : Fin 2) (hd : Fin 4) (s : Fin 16384) (x : Fin 256) :
    vP v (ix4 b hd s x) = Ideal.div (v (ix4 b hd s x)) (∑ z, v (ix4 b hd s z)) := by
  pointwise [vP]

/-- The values of the memories under the weights. -/
theorem vM_apply (p : FVec Ideal S2x4x16384x256 .f32) (kv : FVec Ideal S2x256x512 .f32) (b : Fin 2) (s : Fin 16384) (l : Fin 256) :
    vM p kv (ix3 b s l) = ∑ x, p (ix4 b (headOf l) s x) * kv (ix3 b x ⟨256 + l.val, by omega⟩) := by
  pointwise [vM, headOf]
  exact Finset.sum_congr rfl fun x _ => mul_comm _ _

/-- The stream after the output projection. -/
theorem vH_apply (h : FVec Ideal S2x16384x1024 .f32) (mix : FVec Ideal S2x16384x512 .f32) (mo : FVec Ideal S2x16384x256 .f32) (wo : FVec Ideal S768x1024 .f32) (b : Fin 2) (s : Fin 16384) (l : Fin 1024) :
    vH h mix mo wo (ix3 b s l) = merged (fun l => h (ix3 b s l)) (fun l => mix (ix3 b s l)) (fun l => mo (ix3 b s l)) (fun x l => wo (ix2 x l)) l := by
  pointwise [vH, merged]

/-- The normalised stream. -/
theorem vN_apply (x : FVec Ideal S2x16384x1024 .f32) (g : FVec Ideal S1024 .f32) (b : Fin 2) (s : Fin 16384) (l : Fin 1024) :
    vN x g (ix3 b s l) = rms (fun l => x (ix3 b s l)) (fun l => g (ix1 l)) l := by
  pointwise [vN, rms]

/-- The stream after the network. -/
theorem vO_apply (h : FVec Ideal S2x16384x1024 .f32) (x : FVec Ideal S2x16384x1024 .f32) (w1 : FVec Ideal S1024x4096 .f32) (w2 : FVec Ideal S4096x1024 .f32) (b : Fin 2) (s : Fin 16384) (l : Fin 1024) :
    vO h (vF x w1) w2 (ix3 b s l) = h (ix3 b s l) + mlp (fun l => x (ix3 b s l)) (fun x l => w1 (ix2 x l)) (fun x l => w2 (ix2 x l)) l := by
  pointwise [vO, vF, mlp, Cert.Post.hidden]

end Cert.PostRefIdeal.Post

end
-- ==== Proof.Post.RefEq.lean ====
/-
  The reference's result is its stages, one after another.
-/
module

public import proofs.«01_k».proof.Proof.Gen.PostRefIdeal.Run
public import proofs.«01_k».proof.Proof.Post.Stages

@[expose] public section

set_option maxRecDepth 8192

noncomputable section

namespace Cert.PostRefIdeal.Post

open Cert.PostRefIdeal Cert.PostRefIdeal.Gen Idealize.ShloMosaic Idealize.ShloMosaic.TcCoe Cert.Post

variable (m : (ℓ : Loc nD τ sig) → Buf (Elt Ideal) ℓ) (c : Dev nD)

/-- The result, stage by stage. -/
theorem res_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gf : FVec Ideal S1024 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2)
    (h8 : m ((c.tc : Thread nD τ).loc main_arg8) = gf) :
    Value.res_main_v56 m c = shapeCast _ (vN (vO (vH h mix (vM (vP (vE (vS q kv))) kv) wo)
      (vF (vN (vH h mix (vM (vP (vE (vS q kv))) kv) wo) g2) w1) w2) gf) shapeCasts_S2x16384x1024_S32768x1024 := by
  subst h0 h1 h2 h3 h4 h5 h6 h7 h8
  rfl

end Cert.PostRefIdeal.Post

end
-- ==== Proof.Post.Algebraic.lean ====
/-
  The output block computes its reference's result, over the extended reals.
-/
module

public import proofs.«01_k».proof.Defs
public import proofs.«01_k».proof.Proof.Post.Final
public import proofs.«01_k».proof.Proof.Post.Ref
public import proofs.«01_k».proof.Proof.Post.RefEq

@[expose] public section

set_option maxRecDepth 8192

noncomputable section

namespace Cert.PostRefIdeal.Post

open Cert.PostRefIdeal Cert.PostRefIdeal.Gen Idealize.ShloMosaic Idealize.ShloMosaic.TcCoe Cert.Post Cert.PostLastIdeal.Post

/-- The word of the logits' scale is one eighth. -/
theorem eighth : Ideal.ofBits .f32 0x3E000000#32 = (((1 / 8 : ℝ)) : EReal) := by
  simp [Ideal.ofBits, Ideal.ieee, -EReal.coe_mul]; norm_num

/-- Rows of a batch, one after another. -/
theorem rows (x : FVec Ideal S2x16384x1024 .f32) (R : Fin 32768) (l : Fin 1024) :
    shapeCast S32768x1024 x shapeCasts_S2x16384x1024_S32768x1024 (ix2 R l) = x (ix3 (bOf R) (sOf R) l) := by
  pointwise [bOf, sOf]

/-- The reference's memory heads at a row are those of the scaled queries. -/
theorem memory_apply (q : FVec Ideal S2x16384x256 .f32) (kv : FVec Ideal S2x256x512 .f32) (b : Fin 2) (s : Fin 16384) (l : Fin 256) :
    vM (vP (vE (vS q kv))) kv (ix3 b s l)
      = mem (fun l => q (ix3 b s l) * Ideal.ofBits .f32 0x3E000000#32) (fun x l => kv (ix3 b x ⟨l.val, by omega⟩)) (fun x l => kv (ix3 b x ⟨256 + l.val, by omega⟩)) (headOf l) l := by
  rw [vM_apply]
  unfold mem
  refine Finset.sum_congr rfl fun x _ => congrArg (· * kv (ix3 b x ⟨256 + l.val, by omega⟩)) ?_
  have h : (fun x => vS q kv (ix4 b (headOf l) s x)) = score (fun l => q (ix3 b s l) * Ideal.ofBits .f32 0x3E000000#32) (fun x l => kv (ix3 b x ⟨l.val, by omega⟩)) (headOf l) :=
    funext fun x => by rw [vS_apply, eighth, score_scale _ _ _ (by norm_num)]
  rw [vP_apply]
  unfold soft
  rw [← h]
  simp only [vE_apply]

/-- The reference's result at a row and a lane. -/
theorem ref_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gf : FVec Ideal S1024 .f32) (R : Fin 32768) (l : Fin 1024) :
    shapeCast S32768x1024 (vN (vO (vH h mix (vM (vP (vE (vS q kv))) kv) wo)
      (vF (vN (vH h mix (vM (vP (vE (vS q kv))) kv) wo) g2) w1) w2) gf) shapeCasts_S2x16384x1024_S32768x1024 (ix2 R l)
      = out h mix q kv wo g2 w1 w2 gf R l := by
  rw [rows, vN_apply]
  simp only [vO_apply, vN_apply, vH_apply, memory_apply]
  rfl

end Cert.PostRefIdeal.Post

namespace Cert.PostLastIdeal.Post

open Idealize.ShloMosaic Idealize.ShloMosaic.TcCoe Idealize.SL.Sem

/-- Both run to equal results. -/
theorem algebraic : Cert.algebraic_PostLastIdeal_PostRefIdeal := by
  intro m g m' g' _ hm
  refine ⟨fun c => (Cert.PostLastIdeal.Gen.dats m 0 c).arrAt 9 Cert.PostLastIdeal.cfg0.N, Cert.PostLastIdeal.Value.run_blocks m g, ?_⟩
  refine (θ_run Cert.PostRefIdeal.defs _ _).mono (fun r h c => ⟨(h c).1.trans ?_, (h c).2⟩) (Cert.PostRefIdeal.Value.run (F := Ideal) m' g')
  obtain ⟨h0, h1, h2, h3, h4, h5, h6, h7, h8⟩ := hm c
  rw [Cert.PostRefIdeal.Post.res_eq m' c _ _ _ _ _ _ _ _ _ h0 h1 h2 h3 h4 h5 h6 h7 h8]
  funext i
  obtain ⟨R, l, rfl⟩ : ∃ (R : Fin 32768) (l : Fin 1024), i = ix2 R l := ⟨i 0, i 1, by funext a; match a with | ⟨0, _⟩ => rfl | ⟨1, _⟩ => rfl⟩
  refine (Cert.PostRefIdeal.Post.ref_apply _ _ _ _ _ _ _ _ _ R l).trans (final_apply m c R l).symm

end Cert.PostLastIdeal.Post

end
-- ==== Proof.Mid.Math.lean ====
/-
  What an earlier layer's output block computes, row by row over the extended reals: the stream as on the last layer but
  without the final normalisation, and the next layer's projection of it.
-/
module

public import proofs.«01_k».proof.Proof.Post.Math

@[expose] public section

noncomputable section

namespace Cert.Post

open Idealize.ShloMosaic

/-- The stream after the network. -/
def next (h : Fin 1024 → EReal) (mix : Fin 512 → EReal) (mo : Fin 256 → EReal) (wo : Fin 768 → Fin 1024 → EReal)
    (g2 : Fin 1024 → EReal) (w1 : Fin 1024 → Fin 4096 → EReal) (w2 : Fin 4096 → Fin 1024 → EReal) (l : Fin 1024) : EReal :=
  merged h mix mo wo l + mlp (rms (merged h mix mo wo) g2) w1 w2 l

/-- A row's product with the next layer's weights. -/
def proj {n : ℕ} (x : Fin 1024 → EReal) (w : Fin 1024 → Fin n → EReal) (l : Fin n) : EReal := ∑ y, x y * w y l

/-- Weights whose lane is scaled by a real number give a product scaled by it. -/
theorem proj_lane {n : ℕ} (x : Fin 1024 → EReal) (w : Fin 1024 → Fin n → EReal) (s : Fin n → EReal) (r : ℝ) (hr : 0 ≤ r) (l : Fin n)
    (h : s l = (r : EReal)) : proj x (fun y l => w y l * s l) l = proj x w l * s l := by
  unfold proj
  rw [h, ← sum_scale _ _ r hr]
  refine Finset.sum_congr rfl fun y _ => ?_
  show x y * (w y l * s l) = x y * w y l * (r : EReal)
  rw [h, mul_assoc]

/-- Weights scaled by a real number give a product scaled by it. -/
theorem proj_scale {n : ℕ} (x : Fin 1024 → EReal) (w : Fin 1024 → Fin n → EReal) (r : ℝ) (hr : 0 ≤ r) (l : Fin n) :
    proj x (fun y l => w y l * (r : EReal)) l = proj x w l * (r : EReal) :=
  proj_lane x w (fun _ => (r : EReal)) r hr l rfl

/-- The word of the scale is one eighth. -/
theorem eighth_word : Ideal.ofBits .f32 0x3E000000#32 = (((1 / 8 : ℝ)) : EReal) := by
  simp [Ideal.ofBits, Ideal.ieee, -EReal.coe_mul]; norm_num

end Cert.Post

end
-- ==== Proof.Mid.Kernel.lean ====
/-
  What one point of the grid of an earlier layer's output block computes from its blocks, over the extended reals: row `r`
  of its block of the stream is `Cert.Post.next` of row `r` of the input blocks, and its blocks of the next layer's queries
  are the normalised row's products with the next layer's weights.
-/
module

public import proofs.«01_k».proof.Proof.Gen.PostMidIdeal.Frame
public import proofs.«01_k».proof.Proof.Gen.PostMidIdeal.Value
public import proofs.«01_k».proof.Proof.Mid.Math
public import Idealize.ShloMosaic.Lib.Pipeline.ValueKit.Basic

@[expose] public section

set_option maxRecDepth 8192

noncomputable section

namespace Cert.PostMidIdeal.Mid

open Cert.PostMidIdeal Cert.PostMidIdeal.Gen Idealize.ShloMosaic Idealize.ShloMosaic.TcCoe Cert.Post

/-- The test whether a lane belongs to head 0. -/
theorem bits0 : ∀ l : Fin 256, IntOp.andi (IntOp.cmpi .sge (BitVec.ofNat 32 l.val) 0#32) (IntOp.cmpi .slt (BitVec.ofNat 32 l.val) 64#32) = if headOf l = 0 then 1#1 else 0#1 := by
  decide +kernel
/-- The test whether a lane belongs to head 1. -/
theorem bits1 : ∀ l : Fin 256, IntOp.andi (IntOp.cmpi .sge (BitVec.ofNat 32 l.val) 64#32) (IntOp.cmpi .slt (BitVec.ofNat 32 l.val) 128#32) = if headOf l = 1 then 1#1 else 0#1 := by
  decide +kernel
/-- The test whether a lane belongs to head 2. -/
theorem bits2 : ∀ l : Fin 256, IntOp.andi (IntOp.cmpi .sge (BitVec.ofNat 32 l.val) 128#32) (IntOp.cmpi .slt (BitVec.ofNat 32 l.val) 192#32) = if headOf l = 2 then 1#1 else 0#1 := by
  decide +kernel
/-- The test whether a lane belongs to head 3. -/
theorem bits3 : ∀ l : Fin 256, IntOp.andi (IntOp.cmpi .sge (BitVec.ofNat 32 l.val) 192#32) (IntOp.cmpi .slt (BitVec.ofNat 32 l.val) 256#32) = if headOf l = 3 then 1#1 else 0#1 := by
  decide +kernel

/-- A choice by a test's bit is a choice by the test. -/
theorem select_bit (p : Prop) [Decidable p] (a b : EReal) : Scalar.select (if p then 1#1 else 0#1) a b = if p then a else b := by
  by_cases h : p <;> simp [h, Scalar.select]

/-- Logits of queries masked to a head's lanes. -/
theorem masked (q : Fin 256 → EReal) (K : Fin 256 → Fin 256 → EReal) (hd : Fin 4) (y : Fin 256) :
    (∑ x, (if headOf x = hd then q x else 0) * K y x) = score q K hd y := by
  simp only [ite_mul, zero_mul]
  exact sum_head (fun x => q x * K y x) hd

/-- Head 0 at its own lanes. -/
theorem pay9_apply (v0 : Vec Ideal S512x256 .bf16) (v2 v4 : Vec Ideal S1x256x256 .bf16) (r : Fin 512) (l : Fin 256) :
    k0_pay9 v0 v2 v4 (ix2 r l) = if headOf l = 0 then mem (fun l => v0 (ix2 r l)) (fun x l => v2 (ix3 0 x l)) (fun x l => v4 (ix3 0 x l)) 0 l else 0 := by
  pointwise [k0_pay9, k0_pay5, k0_pay6, k0_pay7, k0_pay8]
  simp only [bits0, select_bit]
  simp only [mem, soft, ← masked, ite_mul, zero_mul]

/-- Heads 1 and 2 at theirs, over what stood there. -/
theorem pay12_apply (v1 : FVec Ideal S512x256 .bf16) (v3 v5 : FVec Ideal S256x256 .bf16) (v31 : FVec Ideal S512x256 .f32) (r : Fin 512) (l : Fin 256) :
    k0_pay12 v1 v3 v5 (iota .tc S1x256 32 [1] iota_S1x256_d1_w32) (k0_pay8 (F := Ideal)) v31 k0_pay10 (k0_pay11 v1) (constant S512x256 .f32 0x00000000#32) (ix2 r l)
      = if headOf l = 2 then mem (fun l => v1 (ix2 r l)) (fun x l => v3 (ix2 x l)) (fun x l => v5 (ix2 x l)) 2 l
        else if headOf l = 1 then mem (fun l => v1 (ix2 r l)) (fun x l => v3 (ix2 x l)) (fun x l => v5 (ix2 x l)) 1 l else v31 (ix2 r l) := by
  pointwise [k0_pay12, k0_pay10, k0_pay11, k0_pay5, k0_pay8]
  simp only [bits1, bits2, select_bit]
  simp only [mem, soft, ← masked, ite_mul, zero_mul]

/-- The logits of head 3. -/
theorem pay14_apply (v1 : FVec Ideal S512x256 .bf16) (v3 : FVec Ideal S256x256 .bf16) (r : Fin 512) (x : Fin 256) :
    k0_pay14 v1 v3 (iota .tc S1x256 32 [1] iota_S1x256_d1_w32) (k0_pay8 (F := Ideal)) (ix2 r x) = score (fun l => v1 (ix2 r l)) (fun x l => v3 (ix2 x l)) 3 x := by
  pointwise [k0_pay14, k0_pay13, k0_pay8]
  simp only [bits3, select_bit]
  simp only [← masked, ite_mul, zero_mul]

/-- The stream after the output projection, with head 3 put at its lanes. -/
theorem pay15_apply (v5 : FVec Ideal S256x256 .bf16) (v77 v86 : FVec Ideal S512x256 .f32) (v101 : Vec Ideal S512x512 .bf16) (v105 : Vec Ideal S512x1024 .f32) (v107 : Vec Ideal S768x1024 .bf16) (r : Fin 512) (l : Fin 1024) :
    k0_pay15 v5 v77 (k0_pay13 (iota .tc S1x256 32 [1] iota_S1x256_d1_w32)) v86 v101 v105 v107 (ix2 r l)
      = merged (fun l => v105 (ix2 r l)) (fun l => v101 (ix2 r l))
        (fun l => if headOf l = 3 then ∑ x, soft (fun x => v86 (ix2 r x)) x * v5 (ix2 x l) else v77 (ix2 r l)) (fun x l => v107 (ix2 x l)) l := by
  pointwise [k0_pay15, k0_pay13]
  simp only [bits3, select_bit]
  simp only [merged, soft]

/-- The normalised stream. -/
theorem pay16_apply (v5 : FVec Ideal S256x256 .bf16) (v77 v86 : FVec Ideal S512x256 .f32) (v82 : IVec S1x256 1) (v101 : Vec Ideal S512x512 .bf16) (v105 : Vec Ideal S512x1024 .f32) (v107 : Vec Ideal S768x1024 .bf16) (v111 : Vec Ideal S1x1024 .f32) (r : Fin 512) (l : Fin 1024) :
    k0_pay16 v5 v77 v82 v86 v101 v105 v107 v111 (ix2 r l)
      = rms (fun l => k0_pay15 v5 v77 v82 v86 v101 v105 v107 (ix2 r l)) (fun l => v111 (ix2 0 l)) l := by
  unfold k0_pay16
  generalize k0_pay15 v5 v77 v82 v86 v101 v105 v107 = X
  pointwise [rms]

/-- The first three tiles of the network. -/
theorem pay19_apply (v125 : FVec Ideal S512x1024 .bf16) (v128 v134 v138 v145 v149 v156 : Vec Ideal S1024x1024 .bf16) (r : Fin 512) (l : Fin 1024) :
    k0_pay19 v125 (k0_pay17 (F := Ideal)) (k0_pay18 v128) (constant S512x1024 .f32 0x00000000#32) v134 v138 v145 v149 v156 (ix2 r l)
      = (∑ d, (max (∑ y, v125 (ix2 r y) * v128 (ix2 y d)) 0 * max (∑ y, v125 (ix2 r y) * v128 (ix2 y d)) 0) * v134 (ix2 d l))
        + (∑ d, (max (∑ y, v125 (ix2 r y) * v138 (ix2 y d)) 0 * max (∑ y, v125 (ix2 r y) * v138 (ix2 y d)) 0) * v145 (ix2 d l))
        + (∑ d, (max (∑ y, v125 (ix2 r y) * v149 (ix2 y d)) 0 * max (∑ y, v125 (ix2 r y) * v149 (ix2 y d)) 0) * v156 (ix2 d l)) := by
  pointwise [k0_pay19, k0_pay17, k0_pay18]

/-- The last tile and the residual. -/
theorem pay1_apply (v110 v159 : FVec Ideal S512x1024 .f32) (v125 : FVec Ideal S512x1024 .bf16) (v160 v167 : Vec Ideal S1024x1024 .bf16) (r : Fin 512) (l : Fin 1024) :
    k0_pay1 v110 v159 (k0_pay20 v125 v160) v167 (ix2 r l)
      = v110 (ix2 r l) + (v159 (ix2 r l) + (∑ d, (max (∑ y, v125 (ix2 r y) * v160 (ix2 y d)) 0 * max (∑ y, v125 (ix2 r y) * v160 (ix2 y d)) 0) * v167 (ix2 d l))) := by
  pointwise [k0_pay1, k0_pay20]

/-- The next layer's projection of the normalised stream. -/
theorem pay2_apply (v110 v159 : FVec Ideal S512x1024 .f32) (v166 : FVec Ideal S512x1024 .bf16) (v167 : Vec Ideal S1024x1024 .bf16) (v172 : Vec Ideal S1x1024 .f32) (v187 : Vec Ideal S1024x768 .bf16) (r : Fin 512) (l : Fin 768) :
    k0_pay2 v110 v159 v166 v167 v172 v187 (ix2 r l)
      = proj (rms (fun l => k0_pay1 v110 v159 v166 v167 (ix2 r l)) (fun l => v172 (ix2 0 l))) (fun x l => v187 (ix2 x l)) l := by
  unfold k0_pay2
  generalize k0_pay1 v110 v159 v166 v167 = X
  pointwise [rms, proj]

/-- Its lanes for the attention's queries. -/
theorem pay3_apply (v110 v159 : FVec Ideal S512x1024 .f32) (v166 : FVec Ideal S512x1024 .bf16) (v167 : Vec Ideal S1024x1024 .bf16) (v172 : Vec Ideal S1x1024 .f32) (v187 : Vec Ideal S1024x768 .bf16) (r : Fin 512) (l : Fin 512) :
    k0_pay3 v110 v159 v166 v167 v172 v187 (ix2 r l) = k0_pay2 v110 v159 v166 v167 v172 v187 (ix2 r ⟨l.val, by omega⟩) := by
  unfold k0_pay3
  generalize k0_pay2 v110 v159 v166 v167 v172 v187 = X
  pointwise []

/-- Its lanes for the memory queries. -/
theorem pay4_apply (v110 v159 : FVec Ideal S512x1024 .f32) (v166 : FVec Ideal S512x1024 .bf16) (v167 : Vec Ideal S1024x1024 .bf16) (v172 : Vec Ideal S1x1024 .f32) (v187 : Vec Ideal S1024x768 .bf16) (r : Fin 512) (l : Fin 256) :
    k0_pay4 v110 v159 v166 v167 v172 v187 (ix2 r l) = k0_pay2 v110 v159 v166 v167 v172 v187 (ix2 r ⟨512 + l.val, by omega⟩) := by
  unfold k0_pay4
  generalize k0_pay2 v110 v159 v166 v167 v172 v187 = X
  pointwise []

/-- Reading a tile of the first weights. -/
theorem ld_w1 (x6 : Vec Ideal S1024x4096 .bf16) (y d : Fin 1024) :
    View.ld x6 r0_7 (ix2 y d) = x6 (ix2 y ⟨0 + d.val, by omega⟩) ∧ View.ld x6 r0_9 (ix2 y d) = x6 (ix2 y ⟨1024 + d.val, by omega⟩)
      ∧ View.ld x6 r0_11 (ix2 y d) = x6 (ix2 y ⟨2048 + d.val, by omega⟩) ∧ View.ld x6 r0_13 (ix2 y d) = x6 (ix2 y ⟨3072 + d.val, by omega⟩) := by
  refine ⟨?_, ?_, ?_, ?_⟩ <;> refine congrArg x6 (funext fun a => ?_) <;> match a with | ⟨0, _⟩ => exact Fin.ext (by simp) | ⟨1, _⟩ => exact Fin.ext (by simp)

/-- Reading a tile of the second weights. -/
theorem ld_w2 (x7 : Vec Ideal S4096x1024 .bf16) (d l : Fin 1024) :
    View.ld x7 r0_8 (ix2 d l) = x7 (ix2 ⟨0 + d.val, by omega⟩ l) ∧ View.ld x7 r0_10 (ix2 d l) = x7 (ix2 ⟨1024 + d.val, by omega⟩ l)
      ∧ View.ld x7 r0_12 (ix2 d l) = x7 (ix2 ⟨2048 + d.val, by omega⟩ l) ∧ View.ld x7 r0_14 (ix2 d l) = x7 (ix2 ⟨3072 + d.val, by omega⟩ l) := by
  refine ⟨?_, ?_, ?_, ?_⟩ <;> refine congrArg x7 (funext fun a => ?_) <;> match a with | ⟨0, _⟩ => exact Fin.ext (by simp) | ⟨1, _⟩ => exact Fin.ext (by simp)

/-- Reading the keys and the values of the memories. -/
theorem ld_kv (x3 : Vec Ideal S1x256x512 .bf16) (x l : Fin 256) :
    View.ld x3 r0_1 (ix3 0 x l) = x3 (ix3 0 x ⟨l.val, by omega⟩) ∧ View.ld x3 r0_2 (ix3 0 x l) = x3 (ix3 0 x ⟨256 + l.val, by omega⟩) := by
  refine ⟨?_, ?_⟩ <;> refine congrArg x3 (funext fun a => ?_) <;> match a with | ⟨0, _⟩ => exact Fin.ext (by simp) | ⟨1, _⟩ => exact Fin.ext (by simp) | ⟨2, _⟩ => exact Fin.ext (by simp)

/-- The keys and the values, their leading axis dropped. -/
theorem pay67_apply (v : Vec Ideal S1x256x256 .bf16) (x l : Fin 256) :
    k0_pay6 v (ix2 x l) = v (ix3 0 x l) ∧ k0_pay7 v (ix2 x l) = v (ix3 0 x l) := by
  constructor <;> pointwise [k0_pay6, k0_pay7]

/-- The queries as read. -/
theorem pay5_eq (v : Vec Ideal S512x256 .bf16) : k0_pay5 v = v := by
  unfold k0_pay5; exact shapeCast_self _ _

variable (x0 : Vec Ideal S512x1024 .f32) (x1 : Vec Ideal S512x512 .bf16) (x2 : Vec Ideal S512x256 .bf16) (x3 : Vec Ideal S1x256x512 .bf16) (x4 : Vec Ideal S768x1024 .bf16) (x5 : Vec Ideal S1x1024 .f32) (x6 : Vec Ideal S1024x4096 .bf16) (x7 : Vec Ideal S4096x1024 .bf16) (x8 : Vec Ideal S1x1024 .f32) (x9 : Vec Ideal S1x1024 .f32) (x10 : Vec Ideal S1024x768 .bf16)

/-- The memory heads at row `r`. -/
def mo (x2 : Vec Ideal S512x256 .bf16) (x3 : Vec Ideal S1x256x512 .bf16) (r : Fin 512) (l : Fin 256) : EReal :=
  mem (fun l => x2 (ix2 r l)) (fun x l => x3 (ix3 0 x ⟨l.val, by omega⟩)) (fun x l => x3 (ix3 0 x ⟨256 + l.val, by omega⟩)) (headOf l) l

/-- Four cases of a head. -/
theorem four (f : Fin 4 → EReal) (hd : Fin 4) (z : EReal) :
    (if hd = 3 then f 3 else if hd = 2 then f 2 else if hd = 1 then f 1 else if hd = 0 then f 0 else z) = f hd := by
  fin_cases hd <;> simp

/-- The four heads put together, from any queries, keys and values. -/
theorem heads_apply (q : Vec Ideal S512x256 .bf16) (K W : Vec Ideal S1x256x256 .bf16) (r : Fin 512) (l : Fin 256) :
    (if headOf l = 3 then ∑ x, soft (fun x => k0_pay14 q (k0_pay6 K) (iota .tc S1x256 32 [1] iota_S1x256_d1_w32) (k0_pay8 (F := Ideal)) (ix2 r x)) x * k0_pay7 W (ix2 x l)
      else k0_pay12 q (k0_pay6 K) (k0_pay7 W) (iota .tc S1x256 32 [1] iota_S1x256_d1_w32) (k0_pay8 (F := Ideal)) (k0_pay9 q K W) k0_pay10 (k0_pay11 q) (constant S512x256 .f32 0x00000000#32) (ix2 r l))
      = mem (fun l => q (ix2 r l)) (fun x l => K (ix3 0 x l)) (fun x l => W (ix3 0 x l)) (headOf l) l := by
  rw [pay12_apply, pay9_apply]
  have h : (fun x => k0_pay14 q (k0_pay6 K) (iota .tc S1x256 32 [1] iota_S1x256_d1_w32) (k0_pay8 (F := Ideal)) (ix2 r x)) = score (fun l => q (ix2 r l)) (fun x l => K (ix3 0 x l)) 3 := by
    funext x
    rw [pay14_apply]
    simp only [(pay67_apply _ _ _).1]
  rw [h]
  simp only [(pay67_apply _ _ _).1, (pay67_apply _ _ _).2]
  exact four (fun hd => mem (fun l => q (ix2 r l)) (fun x l => K (ix3 0 x l)) (fun x l => W (ix3 0 x l)) hd l) (headOf l) 0

/-- The stream after the output projection, from the blocks. -/
theorem stream_apply (r : Fin 512) (l : Fin 1024) :
    k0_pay29 x0 x1 x2 x3 x4 x5 x6 x7 x8 x9 x10 (ix2 r l)
      = merged (fun l => x0 (ix2 r l)) (fun l => x1 (ix2 r l)) (mo x2 x3 r) (fun x l => x4 (ix2 x l)) l := by
  unfold k0_pay29
  rw [View.ld_unit_lit _ x1 (by decide), View.ld_unit_lit _ x0 (by decide), View.ld_unit_lit _ x4 (by decide)]
  unfold k0_pay27 k0_pay21
  rw [pay15_apply]
  refine congrArg (fun f => merged (fun l => x0 (ix2 r l)) (fun l => x1 (ix2 r l)) f (fun x l => x4 (ix2 x l)) l) (funext fun l => ?_)
  unfold k0_pay28 k0_pay26 k0_pay25 k0_pay24 k0_pay23 k0_pay22 k0_pay21
  rw [pay5_eq, View.ld_unit_lit _ x2 (by decide)]
  refine (heads_apply x2 (View.ld x3 r0_1) (View.ld x3 r0_2) r l).trans ?_
  exact congrArg₂ (fun K W => mem (fun l => x2 (ix2 r l)) K W (headOf l) l) (funext fun x => funext fun l => (ld_kv x3 x l).1)
    (funext fun x => funext fun l => (ld_kv x3 x l).2)

/-- A tile's contribution, its weights given by two arrays. -/
def part (x : Fin 1024 → EReal) (a b : Vec Ideal S1024x1024 .bf16) (l : Fin 1024) : EReal :=
  ∑ d, (max (∑ y, x y * a (ix2 y d)) 0 * max (∑ y, x y * a (ix2 y d)) 0) * b (ix2 d l)

/-- It is the network's tile when the arrays are the tiles of its weights. -/
theorem part_eq (x : Fin 1024 → EReal) (a b : Vec Ideal S1024x1024 .bf16) (w1 : Fin 1024 → Fin 4096 → EReal) (w2 : Fin 4096 → Fin 1024 → EReal)
    (o : ℕ) (ho : o + 1024 ≤ 4096) (ha : ∀ y d : Fin 1024, a (ix2 y d) = w1 y ⟨o + d.val, by omega⟩)
    (hb : ∀ d l : Fin 1024, b (ix2 d l) = w2 ⟨o + d.val, by omega⟩ l) (l : Fin 1024) : part x a b l = tile x w1 w2 o ho l := by
  unfold part tile Cert.Post.hidden
  simp only [ha, hb]

/-- The stream a point computes, at a row and a lane. -/
theorem next_apply (r : Fin 512) (l : Fin 1024) :
    k0_pay1 (k0_pay29 x0 x1 x2 x3 x4 x5 x6 x7 x8 x9 x10) (k0_pay31 x0 x1 x2 x3 x4 x5 x6 x7 x8 x9 x10) (k0_pay32 x0 x1 x2 x3 x4 x5 x6 x7 x8 x9 x10) (View.ld x7 r0_14) (ix2 r l)
      = next (fun l => x0 (ix2 r l)) (fun l => x1 (ix2 r l)) (mo x2 x3 r) (fun x l => x4 (ix2 x l)) (fun l => x5 (ix2 0 l))
        (fun x l => x6 (ix2 x l)) (fun x l => x7 (ix2 x l)) l := by
  have hN : (fun y => k0_pay30 x0 x1 x2 x3 x4 x5 x6 x7 x8 x9 x10 (ix2 r y))
      = rms (merged (fun l => x0 (ix2 r l)) (fun l => x1 (ix2 r l)) (mo x2 x3 r) (fun x l => x4 (ix2 x l))) (fun l => x5 (ix2 0 l)) := funext fun y => by
    unfold k0_pay30
    rw [pay16_apply, View.ld_unit_lit _ x5 (by decide)]
    exact congrArg (fun f => rms f (fun l => x5 (ix2 0 l)) y) (funext fun l => stream_apply x0 x1 x2 x3 x4 x5 x6 x7 x8 x9 x10 r l)
  unfold k0_pay32 k0_pay31 next
  rw [pay1_apply, stream_apply, pay19_apply, mlp_tiles]
  refine congrArg (merged (fun l => x0 (ix2 r l)) (fun l => x1 (ix2 r l)) (mo x2 x3 r) (fun x l => x4 (ix2 x l)) l + ·) ?_
  rw [← hN]
  exact congrArg₂ (· + ·) (congrArg₂ (· + ·) (congrArg₂ (· + ·)
    (part_eq (fun y => k0_pay30 x0 x1 x2 x3 x4 x5 x6 x7 x8 x9 x10 (ix2 r y)) (View.ld x6 r0_7) (View.ld x7 r0_8) _ _ 0 (by omega) (fun y d => (ld_w1 x6 y d).1) (fun d l => (ld_w2 x7 d l).1) l)
    (part_eq (fun y => k0_pay30 x0 x1 x2 x3 x4 x5 x6 x7 x8 x9 x10 (ix2 r y)) (View.ld x6 r0_9) (View.ld x7 r0_10) _ _ 1024 (by omega) (fun y d => (ld_w1 x6 y d).2.1) (fun d l => (ld_w2 x7 d l).2.1) l))
    (part_eq (fun y => k0_pay30 x0 x1 x2 x3 x4 x5 x6 x7 x8 x9 x10 (ix2 r y)) (View.ld x6 r0_11) (View.ld x7 r0_12) _ _ 2048 (by omega) (fun y d => (ld_w1 x6 y d).2.2.1) (fun d l => (ld_w2 x7 d l).2.2.1) l))
    (part_eq (fun y => k0_pay30 x0 x1 x2 x3 x4 x5 x6 x7 x8 x9 x10 (ix2 r y)) (View.ld x6 r0_13) (View.ld x7 r0_14) _ _ 3072 (by omega) (fun y d => (ld_w1 x6 y d).2.2.2) (fun d l => (ld_w2 x7 d l).2.2.2) l)

/-- What a point writes of the stream. -/
theorem out11_apply (r : Fin 512) (l : Fin 1024) :
    out0_11 x0 x1 x2 x3 x4 x5 x6 x7 x8 x9 x10 (ix2 r l)
      = next (fun l => x0 (ix2 r l)) (fun l => x1 (ix2 r l)) (mo x2 x3 r) (fun x l => x4 (ix2 x l)) (fun l => x5 (ix2 0 l))
        (fun x l => x6 (ix2 x l)) (fun x l => x7 (ix2 x l)) l := by
  unfold out0_11
  rw [View.canon_cons_unit_lit _ _ _ (by decide)]
  exact next_apply x0 x1 x2 x3 x4 x5 x6 x7 x8 x9 x10 r l

/-- The next layer's projection a point computes. -/
theorem proj_apply (r : Fin 512) (l : Fin 768) :
    k0_pay2 (k0_pay29 x0 x1 x2 x3 x4 x5 x6 x7 x8 x9 x10) (k0_pay31 x0 x1 x2 x3 x4 x5 x6 x7 x8 x9 x10) (k0_pay32 x0 x1 x2 x3 x4 x5 x6 x7 x8 x9 x10) (View.ld x7 r0_14) (View.ld x9 r0_6) (View.ld x10 r0_15) (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) l := by
  rw [pay2_apply, View.ld_unit_lit _ x9 (by decide), View.ld_unit_lit _ x10 (by decide)]
  exact congrArg (fun f => proj (rms f (fun l => x9 (ix2 0 l))) (fun x l => x10 (ix2 x l)) l) (funext fun l => next_apply x0 x1 x2 x3 x4 x5 x6 x7 x8 x9 x10 r l)

/-- What a point writes of the attention's queries. -/
theorem out12_apply (r : Fin 512) (l : Fin 512) :
    out0_12 x0 x1 x2 x3 x4 x5 x6 x7 x8 x9 x10 (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) ⟨l.val, by omega⟩ := by
  unfold out0_12
  rw [View.canon_cons_unit_lit _ _ _ (by decide), pay3_apply]
  exact proj_apply x0 x1 x2 x3 x4 x5 x6 x7 x8 x9 x10 r _

/-- What a point writes of the memory queries. -/
theorem out13_apply (r : Fin 512) (l : Fin 256) :
    out0_13 x0 x1 x2 x3 x4 x5 x6 x7 x8 x9 x10 (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) ⟨512 + l.val, by omega⟩ := by
  unfold out0_13
  rw [View.canon_cons_unit_lit _ _ _ (by decide), pay4_apply]
  exact proj_apply x0 x1 x2 x3 x4 x5 x6 x7 x8 x9 x10 r _

end Cert.PostMidIdeal.Mid

end
-- ==== Proof.Mid.Final.lean ====
/-
  The result arrays of an earlier layer's output block after its run, over the extended reals: row `R` of the stream is
  `Cert.Post.next` of the arguments' row `R`, and row `R` of the next layer's queries is its normalised row's product with
  the next layer's weights.
-/
module

public import proofs.«01_k».proof.Proof.Mid.Kernel

@[expose] public section

set_option maxRecDepth 8192

noncomputable section

namespace Cert.PostMidIdeal.Mid

open Cert.PostMidIdeal Cert.PostMidIdeal.Gen Idealize.ShloMosaic Idealize.ShloMosaic.TcCoe Cert.Post

variable (m : (ℓ : Loc nD τ sig) → Buf (Elt Ideal) ℓ) (c : Dev nD)

theorem V_v7 : V m c main_v7 = shapeCast S32768x1024 (m ((c : Thread nD τ).loc main_arg0)) shapeCasts_S2x16384x1024_S32768x1024 := by
  show StableHlo.after hostOps0 _ (Proc.devRef .tc main_v7) = _
  after_results
  rfl

theorem V_v9 : V m c main_v9 = (shapeCast S32768x512 (truncf .bf16 (m ((c : Thread nD τ).loc main_arg1) : FVec Ideal S2x16384x512 .f32) bitsLt_bf16_f32) shapeCasts_S2x16384x512_S32768x512 : FVec Ideal S32768x512 .bf16) := by
  show StableHlo.after hostOps0 _ (Proc.devRef .tc main_v9) = _
  after_results
  rfl

theorem V_v3 : V m c main_v3 = (shapeCast S32768x256 (truncf .bf16 (mulf (m ((c : Thread nD τ).loc main_arg2) : FVec Ideal S2x16384x256 .f32)
    (broadcastInDim S2x16384x256 ![] bcast_S_S2x16384x256 (constant S_ .f32 0x3E000000#32))) bitsLt_bf16_f32) shapeCasts_S2x16384x256_S32768x256 : FVec Ideal S32768x256 .bf16) := by
  show StableHlo.after hostOps0 _ (Proc.devRef .tc main_v3) = _
  after_results
  rfl

theorem V_v10 : V m c main_v10 = (truncf .bf16 (m ((c : Thread nD τ).loc main_arg3) : FVec Ideal S2x256x512 .f32) bitsLt_bf16_f32 : FVec Ideal S2x256x512 .bf16) := by
  show StableHlo.after hostOps0 _ (Proc.devRef .tc main_v10) = _
  after_results

theorem V_v11 : V m c main_v11 = (truncf .bf16 (m ((c : Thread nD τ).loc main_arg4) : FVec Ideal S768x1024 .f32) bitsLt_bf16_f32 : FVec Ideal S768x1024 .bf16) := by
  show StableHlo.after hostOps0 _ (Proc.devRef .tc main_v11) = _
  after_results

theorem V_v12 : V m c main_v12 = (truncf .bf16 (m ((c : Thread nD τ).loc main_arg6) : FVec Ideal S1024x4096 .f32) bitsLt_bf16_f32 : FVec Ideal S1024x4096 .bf16) := by
  show StableHlo.after hostOps0 _ (Proc.devRef .tc main_v12) = _
  after_results

theorem V_v13 : V m c main_v13 = (truncf .bf16 (m ((c : Thread nD τ).loc main_arg7) : FVec Ideal S4096x1024 .f32) bitsLt_bf16_f32 : FVec Ideal S4096x1024 .bf16) := by
  show StableHlo.after hostOps0 _ (Proc.devRef .tc main_v13) = _
  after_results

theorem V_v14 : V m c main_v14 = shapeCast S1x1024 (m ((c : Thread nD τ).loc main_arg5)) shapeCasts_S1024_S1x1024 := by
  show StableHlo.after hostOps0 _ (Proc.devRef .tc main_v14) = _
  after_results
  rfl

theorem V_v16 : V m c main_v16 = shapeCast S1x1024 (m ((c : Thread nD τ).loc main_arg9)) shapeCasts_S1024_S1x1024 := by
  show StableHlo.after hostOps0 _ (Proc.devRef .tc main_v16) = _
  after_results
  rfl

theorem V_v6 : V m c main_v6 = (truncf .bf16 (mulf (m ((c : Thread nD τ).loc main_arg10) : FVec Ideal S1024x768 .f32)
    (broadcastInDim S1024x768 ![] bcast_S_S1024x768 (constant S_ .f32 0x3E000000#32))) bitsLt_bf16_f32 : FVec Ideal S1024x768 .bf16) := by
  show StableHlo.after hostOps0 _ (Proc.devRef .tc main_v6) = _
  after_results

/-- Batch, and position within it, of a row. -/
def bOf (R : Fin 32768) : Fin 2 := ⟨R.val / 16384, by omega⟩
def sOf (R : Fin 32768) : Fin 16384 := ⟨R.val % 16384, by omega⟩

/-- Point `t`'s row `r`. -/
def rowAt (t : Fin cfg0.N) (r : Fin 512) : Fin 32768 := ⟨512 * t.val + r.val, by have := t.isLt; have h : cfg0.N = 64 := N_0; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)

theorem iblk0_apply (t : Fin cfg0.N) (r : Fin 512) (l : Fin 1024) : iblk m c 0 t (ix2 r l) = V m c main_v7 (ix2 (rowAt t r) l) := by
  show V m c main_v7 (((cfg0.win 0).blk t).view.emb (ix2 r l)) = _
  refine congrArg (V m c main_v7) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (t : Fin cfg0.N) (r : Fin 512) (l : Fin 512) : iblk m c 1 t (ix2 r l) = V m c main_v9 (ix2 (rowAt t r) l) := by
  show V m c main_v9 (((cfg0.win 1).blk t).view.emb (ix2 r l)) = _
  refine congrArg (V m c main_v9) (funext fun a => Fin.ext ?_)
  obtain ⟨e0, e1⟩ := idx1 t
  match a with
  | ⟨0, _⟩ => show win0_1.index t (0 : Fin 2) * 512 + 1 * r.val = 512 * t.val + r.val; omega
  | ⟨1, _⟩ => show win0_1.index t (1 : Fin 2) * 512 + 1 * l.val = l.val; omega

theorem iblk2_apply (t : Fin cfg0.N) (r : Fin 512) (l : Fin 256) : iblk m c 2 t (ix2 r l) = V m c main_v3 (ix2 (rowAt t r) l) := by
  show V m c main_v3 (((cfg0.win 2).blk t).view.emb (ix2 r l)) = _
  refine congrArg (V m c main_v3) (funext fun a => Fin.ext ?_)
  obtain ⟨e0, e1⟩ := idx2 t
  match a with
  | ⟨0, _⟩ => show win0_2.index t (0 : Fin 2) * 512 + 1 * r.val = 512 * t.val + r.val; omega
  | ⟨1, _⟩ => show win0_2.index t (1 : Fin 2) * 256 + 1 * l.val = l.val; omega

theorem iblk3_apply (t : Fin cfg0.N) (r : Fin 512) (x : Fin 256) (l : Fin 512) : iblk m c 3 t (ix3 0 x l) = V m c main_v10 (ix3 (bOf (rowAt t r)) x l) := by
  show V m c main_v10 (((cfg0.win 3).blk t).view.emb (ix3 0 x l)) = _
  refine congrArg (V m c main_v10) (funext fun a => Fin.ext ?_)
  obtain ⟨e0, e1, e2⟩ := idx3 t
  match a with
  | ⟨0, _⟩ =>
    show win0_3.index t (0 : Fin 3) * 1 + 1 * 0 = (512 * t.val + r.val) / 16384
    have := r.isLt
    omega
  | ⟨1, _⟩ => show win0_3.index t (1 : Fin 3) * 256 + 1 * x.val = x.val; omega
  | ⟨2, _⟩ => show win0_3.index t (2 : Fin 3) * 512 + 1 * l.val = l.val; omega

theorem iblk4_apply (t : Fin cfg0.N) (x : Fin 768) (l : Fin 1024) : iblk m c 4 t (ix2 x l) = V m c main_v11 (ix2 x l) := by
  show V m c main_v11 (((cfg0.win 4).blk t).view.emb (ix2 x l)) = _
  refine congrArg (V m c main_v11) (funext fun a => Fin.ext ?_)
  obtain ⟨e0, e1⟩ := idx4 t
  match a with
  | ⟨0, _⟩ => show win0_4.index t (0 : Fin 2) * 768 + 1 * x.val = x.val; omega
  | ⟨1, _⟩ => show win0_4.index t (1 : Fin 2) * 1024 + 1 * l.val = l.val; omega

theorem iblk5_apply (t : Fin cfg0.N) (l : Fin 1024) : iblk m c 5 t (ix2 0 l) = V m c main_v14 (ix2 0 l) := by
  show V m c main_v14 (((cfg0.win 5).blk t).view.emb (ix2 0 l)) = _
  refine congrArg (V m c main_v14) (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * l.val = l.val; omega

theorem iblk6_apply (t : Fin cfg0.N) (x : Fin 1024) (l : Fin 4096) : iblk m c 6 t (ix2 x l) = V m c main_v12 (ix2 x l) := by
  show V m c main_v12 (((cfg0.win 6).blk t).view.emb (ix2 x l)) = _
  refine congrArg (V m c main_v12) (funext fun a => Fin.ext ?_)
  obtain ⟨e0, e1⟩ := idx6 t
  match a with
  | ⟨0, _⟩ => show win0_6.index t (0 : Fin 2) * 1024 + 1 * x.val = x.val; omega
  | ⟨1, _⟩ => show win0_6.index t (1 : Fin 2) * 4096 + 1 * l.val = l.val; omega

theorem iblk7_apply (t : Fin cfg0.N) (x : Fin 4096) (l : Fin 1024) : iblk m c 7 t (ix2 x l) = V m c main_v13 (ix2 x l) := by
  show V m c main_v13 (((cfg0.win 7).blk t).view.emb (ix2 x l)) = _
  refine congrArg (V m c main_v13) (funext fun a => Fin.ext ?_)
  obtain ⟨e0, e1⟩ := idx7 t
  match a with
  | ⟨0, _⟩ => show win0_7.index t (0 : Fin 2) * 4096 + 1 * x.val = x.val; omega
  | ⟨1, _⟩ => show win0_7.index t (1 : Fin 2) * 1024 + 1 * l.val = l.val; omega

theorem iblk9_apply (t : Fin cfg0.N) (l : Fin 1024) : iblk m c 9 t (ix2 0 l) = V m c main_v16 (ix2 0 l) := by
  show V m c main_v16 (((cfg0.win 9).blk t).view.emb (ix2 0 l)) = _
  refine congrArg (V m c main_v16) (funext fun a => Fin.ext ?_)
  obtain ⟨e0, e1⟩ := idx9 t
  match a with
  | ⟨0, _⟩ => show win0_9.index t (0 : Fin 2) * 1 + 1 * 0 = 0; omega
  | ⟨1, _⟩ => show win0_9.index t (1 : Fin 2) * 1024 + 1 * l.val = l.val; omega

theorem emb11 (t : Fin cfg0.N) (r : Fin 512) (l : Fin 1024) : ((cfg0.win 11).blk t).view.emb (ix2 r l) = ix2 (rowAt t r) l := by
  refine funext fun a => Fin.ext ?_
  obtain ⟨e0, e1⟩ := idx11 t
  match a with
  | ⟨0, _⟩ => show win0_11.index t (0 : Fin 2) * 512 + 1 * r.val = 512 * t.val + r.val; omega
  | ⟨1, _⟩ => show win0_11.index t (1 : Fin 2) * 1024 + 1 * l.val = l.val; omega

theorem iblk10_apply (t : Fin cfg0.N) (x : Fin 1024) (l : Fin 768) : iblk m c 10 t (ix2 x l) = V m c main_v6 (ix2 x l) := by
  show V m c main_v6 (((cfg0.win 10).blk t).view.emb (ix2 x l)) = _
  refine congrArg (V m c main_v6) (funext fun a => Fin.ext ?_)
  obtain ⟨e0, e1⟩ := idx10 t
  match a with
  | ⟨0, _⟩ => show win0_10.index t (0 : Fin 2) * 1024 + 1 * x.val = x.val; omega
  | ⟨1, _⟩ => show win0_10.index t (1 : Fin 2) * 768 + 1 * l.val = l.val; omega

theorem emb12 (t : Fin cfg0.N) (r : Fin 512) (l : Fin 512) : ((cfg0.win 12).blk t).view.emb (ix2 r l) = ix2 (rowAt t r) l := by
  refine funext fun a => Fin.ext ?_
  obtain ⟨e0, e1⟩ := idx12 t
  match a with
  | ⟨0, _⟩ => show win0_12.index t (0 : Fin 2) * 512 + 1 * r.val = 512 * t.val + r.val; omega
  | ⟨1, _⟩ => show win0_12.index t (1 : Fin 2) * 512 + 1 * l.val = l.val; omega

theorem emb13 (t : Fin cfg0.N) (r : Fin 512) (l : Fin 256) : ((cfg0.win 13).blk t).view.emb (ix2 r l) = ix2 (rowAt t r) l := by
  refine funext fun a => Fin.ext ?_
  obtain ⟨e0, e1⟩ := idx13 t
  match a with
  | ⟨0, _⟩ => show win0_13.index t (0 : Fin 2) * 512 + 1 * r.val = 512 * t.val + r.val; omega
  | ⟨1, _⟩ => show win0_13.index t (1 : Fin 2) * 256 + 1 * l.val = l.val; omega

/-- The arguments. -/
abbrev aH : FVec Ideal S2x16384x1024 .f32 := m ((c : Thread nD τ).loc main_arg0)
abbrev aMix : FVec Ideal S2x16384x512 .f32 := m ((c : Thread nD τ).loc main_arg1)
abbrev aQ : FVec Ideal S2x16384x256 .f32 := m ((c : Thread nD τ).loc main_arg2)
abbrev aKv : FVec Ideal S2x256x512 .f32 := m ((c : Thread nD τ).loc main_arg3)
abbrev aWo : FVec Ideal S768x1024 .f32 := m ((c : Thread nD τ).loc main_arg4)
abbrev aG2 : FVec Ideal S1024 .f32 := m ((c : Thread nD τ).loc main_arg5)
abbrev aW1 : FVec Ideal S1024x4096 .f32 := m ((c : Thread nD τ).loc main_arg6)
abbrev aW2 : FVec Ideal S4096x1024 .f32 := m ((c : Thread nD τ).loc main_arg7)
abbrev aGn : FVec Ideal S1024 .f32 := m ((c : Thread nD τ).loc main_arg9)
abbrev aWn : FVec Ideal S1024x768 .f32 := m ((c : Thread nD τ).loc main_arg10)

/-- Rows of a batch, one after another. -/
theorem rows4 (x : FVec Ideal S2x16384x1024 .f32) (R : Fin 32768) (l : Fin 1024) :
    shapeCast S32768x1024 x shapeCasts_S2x16384x1024_S32768x1024 (ix2 R l) = x (ix3 (bOf R) (sOf R) l) := by
  pointwise [bOf, sOf]
theorem rows6 (x : FVec Ideal S2x16384x512 .f32) (R : Fin 32768) (l : Fin 512) :
    shapeCast S32768x512 (truncf .bf16 x bitsLt_bf16_f32) shapeCasts_S2x16384x512_S32768x512 (ix2 R l) = x (ix3 (bOf R) (sOf R) l) := by
  pointwise [bOf, sOf]
theorem rows3 (x : FVec Ideal S2x16384x256 .f32) (R : Fin 32768) (l : Fin 256) :
    shapeCast S32768x256 (truncf .bf16 (mulf x (broadcastInDim S2x16384x256 ![] bcast_S_S2x16384x256 (constant S_ .f32 0x3E000000#32))) bitsLt_bf16_f32)
      shapeCasts_S2x16384x256_S32768x256 (ix2 R l) = x (ix3 (bOf R) (sOf R) l) * Ideal.ofBits .f32 0x3E000000#32 := by
  pointwise [bOf, sOf]
theorem rows11 (x : FVec Ideal S1024 .f32) (l : Fin 1024) : shapeCast S1x1024 x shapeCasts_S1024_S1x1024 (ix2 0 l) = x (ix1 l) := by
  pointwise

theorem weights6 (x : FVec Ideal S1024x768 .f32) (i : Fin 1024) (l : Fin 768) :
    truncf .bf16 (mulf x (broadcastInDim S1024x768 ![] bcast_S_S1024x768 (constant S_ .f32 0x3E000000#32))) bitsLt_bf16_f32 (ix2 i l)
      = x (ix2 i l) * Ideal.ofBits .f32 0x3E000000#32 := by
  pointwise []

theorem v7_apply (R : Fin 32768) (l : Fin 1024) : V m c main_v7 (ix2 R l) = aH m c (ix3 (bOf R) (sOf R) l) :=
  (congrFun (V_v7 m c) _).trans (rows4 _ R l)
theorem v9_apply (R : Fin 32768) (l : Fin 512) : V m c main_v9 (ix2 R l) = aMix m c (ix3 (bOf R) (sOf R) l) :=
  (congrFun (V_v9 m c) _).trans (rows6 _ R l)
theorem v3_apply (R : Fin 32768) (l : Fin 256) : V m c main_v3 (ix2 R l) = aQ m c (ix3 (bOf R) (sOf R) l) * Ideal.ofBits .f32 0x3E000000#32 :=
  (congrFun (V_v3 m c) _).trans (rows3 _ R l)
theorem v14_apply (l : Fin 1024) : V m c main_v14 (ix2 0 l) = aG2 m c (ix1 l) := (congrFun (V_v14 m c) _).trans (rows11 _ l)
theorem v16_apply (l : Fin 1024) : V m c main_v16 (ix2 0 l) = aGn m c (ix1 l) := (congrFun (V_v16 m c) _).trans (rows11 _ l)
theorem v10_apply (b : Fin 2) (x : Fin 256) (l : Fin 512) : V m c main_v10 (ix3 b x l) = aKv m c (ix3 b x l) := congrFun (V_v10 m c) _
theorem v11_apply (x : Fin 768) (l : Fin 1024) : V m c main_v11 (ix2 x l) = aWo m c (ix2 x l) := congrFun (V_v11 m c) _
theorem v12_apply (x : Fin 1024) (l : Fin 4096) : V m c main_v12 (ix2 x l) = aW1 m c (ix2 x l) := congrFun (V_v12 m c) _
theorem v13_apply (x : Fin 4096) (l : Fin 1024) : V m c main_v13 (ix2 x l) = aW2 m c (ix2 x l) := congrFun (V_v13 m c) _

theorem v6_apply (x : Fin 1024) (l : Fin 768) : V m c main_v6 (ix2 x l) = aWn m c (ix2 x l) * Ideal.ofBits .f32 0x3E000000#32 :=
  (congrFun (V_v6 m c) _).trans (weights6 _ x l)

/-- Row `R` of the stream, the queries scaled. -/
def out (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (R : Fin 32768) (l : Fin 1024) : EReal :=
  next (fun l => h (ix3 (bOf R) (sOf R) l)) (fun l => mix (ix3 (bOf R) (sOf R) l))
    (fun l => mem (fun l => q (ix3 (bOf R) (sOf R) l) * Ideal.ofBits .f32 0x3E000000#32) (fun x l => kv (ix3 (bOf R) x ⟨l.val, by omega⟩))
      (fun x l => kv (ix3 (bOf R) x ⟨256 + l.val, by omega⟩)) (headOf l) l)
    (fun x l => wo (ix2 x l)) (fun l => g2 (ix1 l)) (fun x l => w1 (ix2 x l)) (fun x l => w2 (ix2 x l)) l

/-- Row `R` of the next layer's queries, its weights scaled. -/
def outP (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x768 .f32) (R : Fin 32768) (l : Fin 768) : EReal :=
  proj (rms (out h mix q kv wo g2 w1 w2 R) (fun l => gn (ix1 l))) (fun x l => wn (ix2 x l) * Ideal.ofBits .f32 0x3E000000#32) l

variable (t : Fin cfg0.N) (r : Fin 512)

/-- What a point's blocks give for the stream is the arguments' row. -/
theorem row_eq (l : Fin 1024) :
    next (fun l => iblk m c 0 t (ix2 r l)) (fun l => iblk m c 1 t (ix2 r l)) (mo (iblk m c 2 t) (iblk m c 3 t) r) (fun x l => iblk m c 4 t (ix2 x l)) (fun l => iblk m c 5 t (ix2 0 l))
      (fun x l => iblk m c 6 t (ix2 x l)) (fun x l => iblk m c 7 t (ix2 x l)) l
      = out (aH m c) (aMix m c) (aQ m c) (aKv m c) (aWo m c) (aG2 m c) (aW1 m c) (aW2 m c) (rowAt t r) l := by
  unfold out mo
  have e0 : (fun l => iblk m c 0 t (ix2 r l)) = fun l => aH m c (ix3 (bOf (rowAt t r)) (sOf (rowAt t r)) l) := funext fun l => by rw [iblk0_apply, v7_apply]
  have e1 : (fun l => iblk m c 1 t (ix2 r l)) = fun l => aMix m c (ix3 (bOf (rowAt t r)) (sOf (rowAt t r)) l) := funext fun l => by rw [iblk1_apply, v9_apply]
  have e2 : (fun l => iblk m c 2 t (ix2 r l)) = fun l => aQ m c (ix3 (bOf (rowAt t r)) (sOf (rowAt t r)) l) * Ideal.ofBits .f32 0x3E000000#32 := funext fun l => by rw [iblk2_apply, v3_apply]
  have e3 : ∀ (x : Fin 256) (l : Fin 512), iblk m c 3 t (ix3 0 x l) = aKv m c (ix3 (bOf (rowAt t r)) x l) := fun x l => by rw [iblk3_apply m c t r, v10_apply]
  have e4 : (fun x l => iblk m c 4 t (ix2 x l)) = fun x l => aWo m c (ix2 x l) := funext fun x => funext fun l => by rw [iblk4_apply, v11_apply]
  have e5 : (fun l => iblk m c 5 t (ix2 0 l)) = fun l => aG2 m c (ix1 l) := funext fun l => by rw [iblk5_apply, v14_apply]
  have e6 : (fun x l => iblk m c 6 t (ix2 x l)) = fun x l => aW1 m c (ix2 x l) := funext fun x => funext fun l => by rw [iblk6_apply, v12_apply]
  have e7 : (fun x l => iblk m c 7 t (ix2 x l)) = fun x l => aW2 m c (ix2 x l) := funext fun x => funext fun l => by rw [iblk7_apply, v13_apply]
  rw [e0, e1, e2, e4, e5, e6, e7]
  simp only [e3]

/-- And for the projection. -/
theorem proj_eq (l : Fin 768) :
    proj (rms (next (fun l => iblk m c 0 t (ix2 r l)) (fun l => iblk m c 1 t (ix2 r l)) (mo (iblk m c 2 t) (iblk m c 3 t) r) (fun x l => iblk m c 4 t (ix2 x l)) (fun l => iblk m c 5 t (ix2 0 l))
      (fun x l => iblk m c 6 t (ix2 x l)) (fun x l => iblk m c 7 t (ix2 x l))) (fun l => iblk m c 9 t (ix2 0 l))) (fun x l => iblk m c 10 t (ix2 x l)) l
      = outP (aH m c) (aMix m c) (aQ m c) (aKv m c) (aWo m c) (aG2 m c) (aW1 m c) (aW2 m c) (aGn m c) (aWn m c) (rowAt t r) l := by
  unfold outP
  have e9 : (fun l => iblk m c 9 t (ix2 0 l)) = fun l => aGn m c (ix1 l) := funext fun l => by rw [iblk9_apply, v16_apply]
  have e10 : (fun x l => iblk m c 10 t (ix2 x l)) = fun x l => aWn m c (ix2 x l) * Ideal.ofBits .f32 0x3E000000#32 := funext fun x => funext fun l => by rw [iblk10_apply, v6_apply]
  rw [e9, e10]
  exact congrArg (fun f => proj (rms f (fun l => aGn m c (ix1 l))) (fun x l => aWn m c (ix2 x l) * Ideal.ofBits .f32 0x3E000000#32) l) (funext fun l => row_eq m c t r l)

/-- Every row is some point's. -/
theorem row_of (R : Fin 32768) : ∃ (t : Fin cfg0.N) (r : Fin 512), R = rowAt t r := by
  have hN : cfg0.N = 64 := N_0
  have ht : R.val / 512 < cfg0.N := by have := R.isLt; omega
  exact ⟨⟨R.val / 512, ht⟩, ⟨R.val % 512, by omega⟩, Fin.ext (by show R.val = 512 * (R.val / 512) + R.val % 512; omega)⟩

/-- The stream after the run, at a row and a lane. -/
theorem final11_apply (R : Fin 32768) (l : Fin 1024) :
    (dats m 0 c).arrAt 11 cfg0.N (ix2 R l) = out (aH m c) (aMix m c) (aQ m c) (aKv m c) (aWo m c) (aG2 m c) (aW1 m c) (aW2 m c) R l := by
  obtain ⟨t, r, rfl⟩ := row_of R
  have b := congrFun (Value.blocks11 m c t (flush0_11 t)) (ix2 r l)
  rw [Value.flushed11] at b
  have b' : (dats m 0 c).arrAt 11 cfg0.N (((cfg0.win 11).blk t).view.emb (ix2 r l))
      = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb11, out11_apply] at b'
  exact b'.trans (row_eq m c t r _)

/-- The queries of the attention after the run, at a row and a lane. -/
theorem final12_apply (R : Fin 32768) (l : Fin 512) :
    (dats m 0 c).arrAt 12 cfg0.N (ix2 R l) = outP (aH m c) (aMix m c) (aQ m c) (aKv m c) (aWo m c) (aG2 m c) (aW1 m c) (aW2 m c) (aGn m c) (aWn m c) R ⟨l.val, by omega⟩ := by
  obtain ⟨t, r, rfl⟩ := row_of R
  have b := congrFun (Value.blocks12 m c t (flush0_12 t)) (ix2 r l)
  rw [Value.flushed12] at b
  have b' : (dats m 0 c).arrAt 12 cfg0.N (((cfg0.win 12).blk t).view.emb (ix2 r l))
      = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb12, out12_apply] at b'
  exact b'.trans (proj_eq m c t r _)

/-- The memory queries after the run, at a row and a lane. -/
theorem final13_apply (R : Fin 32768) (l : Fin 256) :
    (dats m 0 c).arrAt 13 cfg0.N (ix2 R l) = outP (aH m c) (aMix m c) (aQ m c) (aKv m c) (aWo m c) (aG2 m c) (aW1 m c) (aW2 m c) (aGn m c) (aWn m c) R ⟨512 + l.val, by omega⟩ := by
  obtain ⟨t, r, rfl⟩ := row_of R
  have b := congrFun (Value.blocks13 m c t (flush0_13 t)) (ix2 r l)
  rw [Value.flushed13] at b
  have b' : (dats m 0 c).arrAt 13 cfg0.N (((cfg0.win 13).blk t).view.emb (ix2 r l))
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb13, out13_apply] at b'
  exact b'.trans (proj_eq m c t r _)

end Cert.PostMidIdeal.Mid

end
-- ==== Proof.Mid.Stages.lean ====
/-
  The stages of the reference's results, for an earlier layer's output block.
-/
module

public import proofs.«01_k».proof.Proof.Gen.PostMidRefIdeal.Run
public import proofs.«01_k».proof.Proof.Mid.Math

@[expose] public section

set_option maxRecDepth 8192

noncomputable section

namespace Cert.PostMidRefIdeal.Mid

open Cert.PostMidRefIdeal Cert.PostMidRefIdeal.Gen Idealize.ShloMosaic Idealize.ShloMosaic.TcCoe Cert.Post

/-- The scaled logits. -/
def vS (q : FVec Ideal S2x16384x256 .f32) (kv : FVec Ideal S2x256x512 .f32) : FVec Ideal S2x4x16384x256 .f32 :=
  mulf (Host.dotGeneral dot_S2x16384x4x64_S2x256x4x64_S2x4x16384x256_3_3_1_1_02_02 none (shapeCast _ q shapeCasts_S2x16384x256_S2x16384x4x64) (shapeCast _ (extractStridedSlice S2x256x256 ![0, 0, 0] kv slices_S2x256x512_S2x256x256_0_0_0) shapeCasts_S2x256x256_S2x256x4x64)) (broadcastInDim S2x4x16384x256 ![] bcast_S_S2x4x16384x256 (constant S_ .f32 0x3E000000#32))

/-- Their exponentials, each row's maximum taken off. -/
def vE (s : FVec Ideal S2x4x16384x256 .f32) : FVec Ideal S2x4x16384x256 .f32 :=
  Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf s (constant S_ .f32 0xFF800000#32) reducesTo_S2x4x16384x256_S2x4x16384_d3 h_S_)))))

/-- The softmax. -/
def vP (e : FVec Ideal S2x4x16384x256 .f32) : FVec Ideal S2x4x16384x256 .f32 :=
  Host.divf e (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd e (constant S_ .f32 0x00000000#32) reducesTo_S2x4x16384x256_S2x4x16384_d3 h_S_)))

/-- The memories' values under it. -/
def vM (p : FVec Ideal S2x4x16384x256 .f32) (kv : FVec Ideal S2x256x512 .f32) : FVec Ideal S2x16384x256 .f32 :=
  shapeCast _ (transpose S2x16384x4x64 [0, 3, 1, 2] (Host.dotGeneral dot_S2x256x4x64_S2x4x16384x256_S2x4x64x16384_1_3_3_2_02_01 none (shapeCast _ (extractStridedSlice S2x256x256 ![0, 0, 256] kv slices_S2x256x512_S2x256x256_0_0_256) shapeCasts_S2x256x256_S2x256x4x64) p) transposes_S2x4x64x16384_S2x16384x4x64_0_3_1_2) shapeCasts_S2x16384x4x64_S2x16384x256

/-- The stream after the output projection. -/
def vH (h : FVec Ideal S2x16384x1024 .f32) (mix : FVec Ideal S2x16384x512 .f32) (mo : FVec Ideal S2x16384x256 .f32) (wo : FVec Ideal S768x1024 .f32) : FVec Ideal S2x16384x1024 .f32 :=
  addf h (Host.dotGeneral dot_S2x16384x768_S768x1024_S2x16384x1024_2_0_01_1_n_n none (concatenate S2x16384x768 2 [⟨S2x16384x512, mix⟩, ⟨S2x16384x256, mo⟩] concatenates_S2x16384x512_S2x16384x256_S2x16384x768_d2) wo)

/-- A normalised stream. -/
def vN (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The hidden units. -/
def vF (x : FVec Ideal S2x16384x1024 .f32) (w1 : FVec Ideal S1024x4096 .f32) : FVec Ideal S2x16384x4096 .f32 :=
  maximumf (Host.dotGeneral dot_S2x16384x1024_S1024x4096_S2x16384x4096_2_0_01_1_n_n none x w1) (broadcastInDim S2x16384x4096 ![] bcast_S_S2x16384x4096 (constant S_ .f32 0x00000000#32))

/-- The stream after the network. -/
def vO (h : FVec Ideal S2x16384x1024 .f32) (f : FVec Ideal S2x16384x4096 .f32) (w2 : FVec Ideal S4096x1024 .f32) : FVec Ideal S2x16384x1024 .f32 :=
  addf h (Host.dotGeneral dot_S2x16384x4096_S4096x1024_S2x16384x1024_2_0_01_1_n_n none (mulf f f) w2)

/-- The next layer's projection, scaled, as rows. -/
def vJ (x : FVec Ideal S2x16384x1024 .f32) (w : FVec Ideal S1024x768 .f32) : FVec Ideal S32768x768 .bf16 :=
  truncf .bf16 (shapeCast S32768x768 (mulf (Host.dotGeneral dot_S2x16384x1024_S1024x768_S2x16384x768_2_0_01_1_n_n none x w) (broadcastInDim S2x16384x768 ![] bcast_S_S2x16384x768 (constant S_ .f32 0x3E000000#32))) shapeCasts_S2x16384x768_S32768x768) bitsLt_bf16_f32

end Cert.PostMidRefIdeal.Mid

end
-- ==== Proof.Mid.Ref.lean ====
/-
  The stages of the reference's results at an index, for an earlier layer's output block, over the extended reals.
-/
module

public import proofs.«01_k».proof.Proof.Gen.PostMidRefIdeal.Run
public import proofs.«01_k».proof.Proof.Mid.Stages

@[expose] public section

set_option maxRecDepth 8192

noncomputable section

namespace Cert.PostMidRefIdeal.Mid

open Cert.PostMidRefIdeal Cert.PostMidRefIdeal.Gen Idealize.ShloMosaic Idealize.ShloMosaic.TcCoe Cert.Post

/-- A scaled logit. -/
theorem vS_apply (q : FVec Ideal S2x16384x256 .f32) (kv : FVec Ideal S2x256x512 .f32) (b : Fin 2) (hd : Fin 4) (s : Fin 16384) (x : Fin 256) :
    vS q kv (ix4 b hd s x) = score (fun l => q (ix3 b s l)) (fun x l => kv (ix3 b x ⟨l.val, by omega⟩)) hd x * Ideal.ofBits .f32 0x3E000000#32 := by
  pointwise [vS, score, lane]
  simp only [show ∀ d : Fin 64, hd.val * 64 + d.val = 64 * hd.val + d.val from fun d => by omega]

/-- A row's maximum. -/
theorem vX_apply (v : FVec Ideal S2x4x16384x256 .f32) (b : Fin 2) (hd : Fin 4) (s : Fin 16384) :
    (Host.reduce FloatOps.maximumf v (constant S_ .f32 0xFF800000#32) reducesTo_S2x4x16384x256_S2x4x16384_d3 h_S_ : FVec Ideal S2x4x16384 .f32) (ix3 b hd s) = Finset.fold max (Ideal.ofBits FTy.f32 4286578688#32) (fun y => v (ix4 b hd s y)) Finset.univ := by
  pointwise []

/-- An exponential of a difference. -/
theorem vEx_apply (v : FVec Ideal S2x4x16384x256 .f32) (u : FVec Ideal S2x4x16384 .f32) (b : Fin 2) (hd : Fin 4) (s : Fin 16384) (x : Fin 256) :
    (Host.exp (subf v (broadcastInDim S2x4x16384x256 ![0, 1, 2, 3] bcast_S2x4x16384x1_S2x4x16384x256_0_1_2_3 (broadcastInDim S2x4x16384x1 ![0, 1, 2] bcast_S2x4x16384_S2x4x16384x1_0_1_2 u))) : FVec Ideal S2x4x16384x256 .f32) (ix4 b hd s x) = Ideal.exp (v (ix4 b hd s x) - u (ix3 b hd s)) := by
  pointwise []

/-- A maximum with the least of the format. -/
theorem vMx_apply (u : FVec Ideal S2x4x16384 .f32) (b : Fin 2) (hd : Fin 4) (s : Fin 16384) :
    (maximumf (broadcastInDim S2x4x16384 ![] bcast_S_S2x4x16384 (constant S_ .f32 0xFF800000#32)) u : FVec Ideal S2x4x16384 .f32) (ix3 b hd s) = max (Ideal.ofBits FTy.f32 4286578688#32) (u (ix3 b hd s)) := by
  pointwise []

/-- An exponential. -/
theorem vE_apply (v : FVec Ideal S2x4x16384x256 .f32) (b : Fin 2) (hd : Fin 4) (s : Fin 16384) (x : Fin 256) :
    vE v (ix4 b hd s x) = Ideal.exp (v (ix4 b hd s x) - Finset.fold max (Ideal.ofBits FTy.f32 4286578688#32) (fun y => v (ix4 b hd s y)) Finset.univ) := by
  unfold vE
  rw [vEx_apply, vMx_apply, vX_apply, max_eq_right ((Finset.le_fold_max _).mpr (Or.inl le_rfl))]

/-- A weight. -/
theorem vP_apply (v : FVec Ideal S2x4x16384x256 .f32) (b : Fin 2) (hd : Fin 4) (s : Fin 16384) (x : Fin 256) :
    vP v (ix4 b hd s x) = Ideal.div (v (ix4 b hd s x)) (∑ z, v (ix4 b hd s z)) := by
  pointwise [vP]

/-- The values of the memories under the weights. -/
theorem vM_apply (p : FVec Ideal S2x4x16384x256 .f32) (kv : FVec Ideal S2x256x512 .f32) (b : Fin 2) (s : Fin 16384) (l : Fin 256) :
    vM p kv (ix3 b s l) = ∑ x, p (ix4 b (headOf l) s x) * kv (ix3 b x ⟨256 + l.val, by omega⟩) := by
  pointwise [vM, headOf]
  exact Finset.sum_congr rfl fun x _ => mul_comm _ _

/-- The stream after the output projection. -/
theorem vH_apply (h : FVec Ideal S2x16384x1024 .f32) (mix : FVec Ideal S2x16384x512 .f32) (mo : FVec Ideal S2x16384x256 .f32) (wo : FVec Ideal S768x1024 .f32) (b : Fin 2) (s : Fin 16384) (l : Fin 1024) :
    vH h mix mo wo (ix3 b s l) = merged (fun l => h (ix3 b s l)) (fun l => mix (ix3 b s l)) (fun l => mo (ix3 b s l)) (fun x l => wo (ix2 x l)) l := by
  pointwise [vH, merged]

/-- The normalised stream. -/
theorem vN_apply (x : FVec Ideal S2x16384x1024 .f32) (g : FVec Ideal S1024 .f32) (b : Fin 2) (s : Fin 16384) (l : Fin 1024) :
    vN x g (ix3 b s l) = rms (fun l => x (ix3 b s l)) (fun l => g (ix1 l)) l := by
  pointwise [vN, rms]

/-- The stream after the network. -/
theorem vO_apply (h : FVec Ideal S2x16384x1024 .f32) (x : FVec Ideal S2x16384x1024 .f32) (w1 : FVec Ideal S1024x4096 .f32) (w2 : FVec Ideal S4096x1024 .f32) (b : Fin 2) (s : Fin 16384) (l : Fin 1024) :
    vO h (vF x w1) w2 (ix3 b s l) = h (ix3 b s l) + mlp (fun l => x (ix3 b s l)) (fun x l => w1 (ix2 x l)) (fun x l => w2 (ix2 x l)) l := by
  pointwise [vO, vF, mlp, Cert.Post.hidden]

/-- The next layer's projection. -/
theorem vJ_apply (x : FVec Ideal S2x16384x1024 .f32) (w : FVec Ideal S1024x768 .f32) (R : Fin 32768) (l : Fin 768) :
    vJ x w (ix2 R l) = proj (fun l => x (ix3 ⟨R.val / 16384, by omega⟩ ⟨R.val % 16384, by omega⟩ l)) (fun y l => w (ix2 y l)) l * Ideal.ofBits .f32 0x3E000000#32 := by
  pointwise [vJ, proj]

end Cert.PostMidRefIdeal.Mid

end
-- ==== Proof.Mid.RefEq.lean ====
/-
  The reference's results are its stages, one after another.
-/
module

public import proofs.«01_k».proof.Proof.Gen.PostMidRefIdeal.Run
public import proofs.«01_k».proof.Proof.Mid.Stages

@[expose] public section

set_option maxRecDepth 8192

noncomputable section

namespace Cert.PostMidRefIdeal.Mid

open Cert.PostMidRefIdeal Cert.PostMidRefIdeal.Gen Idealize.ShloMosaic Idealize.ShloMosaic.TcCoe Cert.Post

variable (m : (ℓ : Loc nD τ sig) → Buf (Elt Ideal) ℓ) (c : Dev nD)

/-- The stream, stage by stage. -/
theorem res61_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) :
    Value.res_main_v61 m c = shapeCast _ (vO (vH h mix (vM (vP (vE (vS q kv))) kv) wo) (vF (vN (vH h mix (vM (vP (vE (vS q kv))) kv) wo) g2) w1) w2) shapeCasts_S2x16384x1024_S32768x1024 := by
  subst h0 h1 h2 h3 h4 h5 h6 h7
  rfl

/-- The attention's queries, stage by stage. -/
theorem res62_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x768 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) (h9 : m ((c.tc : Thread nD τ).loc main_arg9) = gn)
    (h10 : m ((c.tc : Thread nD τ).loc main_arg10) = wn) :
    Value.res_main_v62 m c = extractStridedSlice S32768x512 ![0, 0] (vJ (vN (vO (vH h mix (vM (vP (vE (vS q kv))) kv) wo) (vF (vN (vH h mix (vM (vP (vE (vS q kv))) kv) wo) g2) w1) w2) gn) wn) slices_S32768x768_S32768x512_0_0 := by
  subst h0 h1 h2 h3 h4 h5 h6 h7 h9 h10
  rfl

/-- The memory queries, stage by stage. -/
theorem res63_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x768 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) (h9 : m ((c.tc : Thread nD τ).loc main_arg9) = gn)
    (h10 : m ((c.tc : Thread nD τ).loc main_arg10) = wn) :
    Value.res_main_v63 m c = extractStridedSlice S32768x256 ![0, 512] (vJ (vN (vO (vH h mix (vM (vP (vE (vS q kv))) kv) wo) (vF (vN (vH h mix (vM (vP (vE (vS q kv))) kv) wo) g2) w1) w2) gn) wn) slices_S32768x768_S32768x256_0_512 := by
  subst h0 h1 h2 h3 h4 h5 h6 h7 h9 h10
  rfl

end Cert.PostMidRefIdeal.Mid

end
-- ==== Proof.Mid.Algebraic.lean ====
/-
  An earlier layer's output block computes its reference's results, over the extended reals.
-/
module

public import proofs.«01_k».proof.Defs
public import proofs.«01_k».proof.Proof.Mid.Final
public import proofs.«01_k».proof.Proof.Mid.Ref
public import proofs.«01_k».proof.Proof.Mid.RefEq

@[expose] public section

set_option maxRecDepth 8192

noncomputable section

namespace Cert.PostMidRefIdeal.Mid

open Cert.PostMidRefIdeal Cert.PostMidRefIdeal.Gen Idealize.ShloMosaic Idealize.ShloMosaic.TcCoe Cert.Post Cert.PostMidIdeal.Mid

/-- Rows of a batch, one after another. -/
theorem rows (x : FVec Ideal S2x16384x1024 .f32) (R : Fin 32768) (l : Fin 1024) :
    shapeCast S32768x1024 x shapeCasts_S2x16384x1024_S32768x1024 (ix2 R l) = x (ix3 (bOf R) (sOf R) l) := by
  pointwise [bOf, sOf]

/-- The reference's memory heads at a row are those of the scaled queries. -/
theorem memory_apply (q : FVec Ideal S2x16384x256 .f32) (kv : FVec Ideal S2x256x512 .f32) (b : Fin 2) (s : Fin 16384) (l : Fin 256) :
    vM (vP (vE (vS q kv))) kv (ix3 b s l)
      = mem (fun l => q (ix3 b s l) * Ideal.ofBits .f32 0x3E000000#32) (fun x l => kv (ix3 b x ⟨l.val, by omega⟩)) (fun x l => kv (ix3 b x ⟨256 + l.val, by omega⟩)) (headOf l) l := by
  rw [vM_apply]
  unfold mem
  refine Finset.sum_congr rfl fun x _ => congrArg (· * kv (ix3 b x ⟨256 + l.val, by omega⟩)) ?_
  have h : (fun x => vS q kv (ix4 b (headOf l) s x)) = score (fun l => q (ix3 b s l) * Ideal.ofBits .f32 0x3E000000#32) (fun x l => kv (ix3 b x ⟨l.val, by omega⟩)) (headOf l) :=
    funext fun x => by rw [vS_apply, eighth_word, score_scale _ _ _ (by norm_num)]
  rw [vP_apply]
  unfold soft
  rw [← h]
  simp only [vE_apply]

/-- The reference's stream, batch by batch. -/
theorem stream_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (R : Fin 32768) (l : Fin 1024) :
    (vO (vH h mix (vM (vP (vE (vS q kv))) kv) wo) (vF (vN (vH h mix (vM (vP (vE (vS q kv))) kv) wo) g2) w1) w2) (ix3 (bOf R) (sOf R) l)
      = out h mix q kv wo g2 w1 w2 R l := by
  simp only [vO_apply, vN_apply, vH_apply, memory_apply]
  rfl

/-- The reference's stream at a row and a lane. -/
theorem ref_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (R : Fin 32768) (l : Fin 1024) :
    shapeCast S32768x1024 (vO (vH h mix (vM (vP (vE (vS q kv))) kv) wo) (vF (vN (vH h mix (vM (vP (vE (vS q kv))) kv) wo) g2) w1) w2) shapeCasts_S2x16384x1024_S32768x1024 (ix2 R l)
      = out h mix q kv wo g2 w1 w2 R l := by
  rw [rows, stream_apply]

/-- The reference's projection at a row and a lane. -/
theorem refP_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x768 .f32) (R : Fin 32768) (l : Fin 768) :
    vJ (vN (vO (vH h mix (vM (vP (vE (vS q kv))) kv) wo) (vF (vN (vH h mix (vM (vP (vE (vS q kv))) kv) wo) g2) w1) w2) gn) wn (ix2 R l)
      = outP h mix q kv wo g2 w1 w2 gn wn R l := by
  rw [vJ_apply]
  unfold outP
  rw [eighth_word, proj_scale _ _ _ (by norm_num)]
  refine congrArg (· * _) (congrArg (fun f => proj f (fun x l => wn (ix2 x l)) l) (funext fun y => ?_))
  refine (vN_apply _ gn (bOf R) (sOf R) y).trans ?_
  exact congrArg (fun f => rms f (fun l => gn (ix1 l)) y) (funext fun l => stream_apply h mix q kv wo g2 w1 w2 R l)

/-- The first lanes of the projection. -/
theorem cut0 (x : FVec Ideal S32768x768 .bf16) (R : Fin 32768) (l : Fin 512) :
    extractStridedSlice S32768x512 ![0, 0] x slices_S32768x768_S32768x512_0_0 (ix2 R l) = x (ix2 R ⟨l.val, by omega⟩) := by
  pointwise []

/-- Its last lanes. -/
theorem cut1 (x : FVec Ideal S32768x768 .bf16) (R : Fin 32768) (l : Fin 256) :
    extractStridedSlice S32768x256 ![0, 512] x slices_S32768x768_S32768x256_0_512 (ix2 R l) = x (ix2 R ⟨512 + l.val, by omega⟩) := by
  pointwise []

end Cert.PostMidRefIdeal.Mid

namespace Cert.PostMidIdeal.Mid

open Idealize.ShloMosaic Idealize.ShloMosaic.TcCoe Idealize.SL.Sem

/-- Both run to equal results. -/
theorem algebraic : Cert.algebraic_PostMidIdeal_PostMidRefIdeal := by
  intro m g m' g' _ hm
  refine ⟨fun c => (Cert.PostMidIdeal.Gen.dats m 0 c).arrAt 11 Cert.PostMidIdeal.cfg0.N, fun c => (Cert.PostMidIdeal.Gen.dats m 0 c).arrAt 12 Cert.PostMidIdeal.cfg0.N,
    fun c => (Cert.PostMidIdeal.Gen.dats m 0 c).arrAt 13 Cert.PostMidIdeal.cfg0.N, Cert.PostMidIdeal.Value.run_blocks m g, ?_⟩
  refine (θ_run Cert.PostMidRefIdeal.defs _ _).mono (fun r h c => ⟨(h c).1.trans ?_, (h c).2.1.trans ?_, (h c).2.2.1.trans ?_, (h c).2.2.2⟩) (Cert.PostMidRefIdeal.Value.run (F := Ideal) m' g')
  all_goals obtain ⟨h0, h1, h2, h3, h4, h5, h6, h7, h8, h9, h10⟩ := hm c
  · rw [Cert.PostMidRefIdeal.Mid.res61_eq m' c _ _ _ _ _ _ _ _ h0 h1 h2 h3 h4 h5 h6 h7]
    funext i
    obtain ⟨R, l, rfl⟩ : ∃ (R : Fin 32768) (l : Fin 1024), i = ix2 R l := ⟨i 0, i 1, by funext a; match a with | ⟨0, _⟩ => rfl | ⟨1, _⟩ => rfl⟩
    exact (Cert.PostMidRefIdeal.Mid.ref_apply _ _ _ _ _ _ _ _ R l).trans (final11_apply m c R l).symm
  · rw [Cert.PostMidRefIdeal.Mid.res62_eq m' c _ _ _ _ _ _ _ _ _ _ h0 h1 h2 h3 h4 h5 h6 h7 h9 h10]
    funext i
    obtain ⟨R, l, rfl⟩ : ∃ (R : Fin 32768) (l : Fin 512), i = ix2 R l := ⟨i 0, i 1, by funext a; match a with | ⟨0, _⟩ => rfl | ⟨1, _⟩ => rfl⟩
    exact (Cert.PostMidRefIdeal.Mid.cut0 _ R l).trans ((Cert.PostMidRefIdeal.Mid.refP_apply _ _ _ _ _ _ _ _ _ _ R _).trans (final12_apply m c R l).symm)
  · rw [Cert.PostMidRefIdeal.Mid.res63_eq m' c _ _ _ _ _ _ _ _ _ _ h0 h1 h2 h3 h4 h5 h6 h7 h9 h10]
    funext i
    obtain ⟨R, l, rfl⟩ : ∃ (R : Fin 32768) (l : Fin 256), i = ix2 R l := ⟨i 0, i 1, by funext a; match a with | ⟨0, _⟩ => rfl | ⟨1, _⟩ => rfl⟩
    exact (Cert.PostMidRefIdeal.Mid.cut1 _ R l).trans ((Cert.PostMidRefIdeal.Mid.refP_apply _ _ _ _ _ _ _ _ _ _ R _).trans (final13_apply m c R l).symm)

end Cert.PostMidIdeal.Mid

end
-- ==== Proof.First.Kernel.lean ====
/-
  What one point of the grid of the first layer's output block computes from its blocks, over the extended reals: row `r`
  of its block of the stream is `Cert.Post.next` of row `r` of the input blocks, and its blocks of the next layer's queries,
  keys and values are the normalised row's products with the next layer's weights.
-/
module

public import proofs.«01_k».proof.Proof.Gen.PostFirstIdeal.Frame
public import proofs.«01_k».proof.Proof.Gen.PostFirstIdeal.Value
public import proofs.«01_k».proof.Proof.Mid.Math
public import Idealize.ShloMosaic.Lib.Pipeline.ValueKit.Basic

@[expose] public section

set_option maxRecDepth 8192

noncomputable section

namespace Cert.PostFirstIdeal.First

open Cert.PostFirstIdeal Cert.PostFirstIdeal.Gen Idealize.ShloMosaic Idealize.ShloMosaic.TcCoe Cert.Post

/-- The test whether a lane belongs to head 0. -/
theorem bits0 : ∀ l : Fin 256, IntOp.andi (IntOp.cmpi .sge (BitVec.ofNat 32 l.val) 0#32) (IntOp.cmpi .slt (BitVec.ofNat 32 l.val) 64#32) = if headOf l = 0 then 1#1 else 0#1 := by
  decide +kernel
/-- The test whether a lane belongs to head 1. -/
theorem bits1 : ∀ l : Fin 256, IntOp.andi (IntOp.cmpi .sge (BitVec.ofNat 32 l.val) 64#32) (IntOp.cmpi .slt (BitVec.ofNat 32 l.val) 128#32) = if headOf l = 1 then 1#1 else 0#1 := by
  decide +kernel
/-- The test whether a lane belongs to head 2. -/
theorem bits2 : ∀ l : Fin 256, IntOp.andi (IntOp.cmpi .sge (BitVec.ofNat 32 l.val) 128#32) (IntOp.cmpi .slt (BitVec.ofNat 32 l.val) 192#32) = if headOf l = 2 then 1#1 else 0#1 := by
  decide +kernel
/-- The test whether a lane belongs to head 3. -/
theorem bits3 : ∀ l : Fin 256, IntOp.andi (IntOp.cmpi .sge (BitVec.ofNat 32 l.val) 192#32) (IntOp.cmpi .slt (BitVec.ofNat 32 l.val) 256#32) = if headOf l = 3 then 1#1 else 0#1 := by
  decide +kernel

/-- A choice by a test's bit is a choice by the test. -/
theorem select_bit (p : Prop) [Decidable p] (a b : EReal) : Scalar.select (if p then 1#1 else 0#1) a b = if p then a else b := by
  by_cases h : p <;> simp [h, Scalar.select]

/-- Logits of queries masked to a head's lanes. -/
theorem masked (q : Fin 256 → EReal) (K : Fin 256 → Fin 256 → EReal) (hd : Fin 4) (y : Fin 256) :
    (∑ x, (if headOf x = hd then q x else 0) * K y x) = score q K hd y := by
  simp only [ite_mul, zero_mul]
  exact sum_head (fun x => q x * K y x) hd

/-- Head 0 at its own lanes. -/
theorem pay5_apply (v0 : Vec Ideal S512x256 .bf16) (v2 v4 : Vec Ideal S1x256x256 .bf16) (r : Fin 512) (l : Fin 256) :
    k0_pay5 v0 v2 v4 (ix2 r l) = if headOf l = 0 then mem (fun l => v0 (ix2 r l)) (fun x l => v2 (ix3 0 x l)) (fun x l => v4 (ix3 0 x l)) 0 l else 0 := by
  pointwise [k0_pay5, k0_pay1, k0_pay2, k0_pay3, k0_pay4]
  simp only [bits0, select_bit]
  simp only [mem, soft, ← masked, ite_mul, zero_mul]

/-- Heads 1 and 2 at theirs, over what stood there. -/
theorem pay8_apply (v1 : FVec Ideal S512x256 .bf16) (v3 v5 : FVec Ideal S256x256 .bf16) (v31 : FVec Ideal S512x256 .f32) (r : Fin 512) (l : Fin 256) :
    k0_pay8 v1 v3 v5 (iota .tc S1x256 32 [1] iota_S1x256_d1_w32) (k0_pay4 (F := Ideal)) v31 k0_pay6 (k0_pay7 v1) (constant S512x256 .f32 0x00000000#32) (ix2 r l)
      = if headOf l = 2 then mem (fun l => v1 (ix2 r l)) (fun x l => v3 (ix2 x l)) (fun x l => v5 (ix2 x l)) 2 l
        else if headOf l = 1 then mem (fun l => v1 (ix2 r l)) (fun x l => v3 (ix2 x l)) (fun x l => v5 (ix2 x l)) 1 l else v31 (ix2 r l) := by
  pointwise [k0_pay8, k0_pay6, k0_pay7, k0_pay1, k0_pay4]
  simp only [bits1, bits2, select_bit]
  simp only [mem, soft, ← masked, ite_mul, zero_mul]

/-- The logits of head 3. -/
theorem pay10_apply (v1 : FVec Ideal S512x256 .bf16) (v3 : FVec Ideal S256x256 .bf16) (r : Fin 512) (x : Fin 256) :
    k0_pay10 v1 v3 (iota .tc S1x256 32 [1] iota_S1x256_d1_w32) (k0_pay4 (F := Ideal)) (ix2 r x) = score (fun l => v1 (ix2 r l)) (fun x l => v3 (ix2 x l)) 3 x := by
  pointwise [k0_pay10, k0_pay9, k0_pay4]
  simp only [bits3, select_bit]
  simp only [← masked, ite_mul, zero_mul]

/-- The stream after the output projection, with head 3 put at its lanes. -/
theorem pay11_apply (v5 : FVec Ideal S256x256 .bf16) (v77 v86 : FVec Ideal S512x256 .f32) (v101 : Vec Ideal S512x512 .bf16) (v105 : Vec Ideal S512x1024 .f32) (v107 : Vec Ideal S768x1024 .bf16) (r : Fin 512) (l : Fin 1024) :
    k0_pay11 v5 v77 (k0_pay9 (iota .tc S1x256 32 [1] iota_S1x256_d1_w32)) v86 v101 v105 v107 (ix2 r l)
      = merged (fun l => v105 (ix2 r l)) (fun l => v101 (ix2 r l))
        (fun l => if headOf l = 3 then ∑ x, soft (fun x => v86 (ix2 r x)) x * v5 (ix2 x l) else v77 (ix2 r l)) (fun x l => v107 (ix2 x l)) l := by
  pointwise [k0_pay11, k0_pay9]
  simp only [bits3, select_bit]
  simp only [merged, soft]

/-- The normalised stream. -/
theorem pay12_apply (v5 : FVec Ideal S256x256 .bf16) (v77 v86 : FVec Ideal S512x256 .f32) (v82 : IVec S1x256 1) (v101 : Vec Ideal S512x512 .bf16) (v105 : Vec Ideal S512x1024 .f32) (v107 : Vec Ideal S768x1024 .bf16) (v111 : Vec Ideal S1x1024 .f32) (r : Fin 512) (l : Fin 1024) :
    k0_pay12 v5 v77 v82 v86 v101 v105 v107 v111 (ix2 r l)
      = rms (fun l => k0_pay11 v5 v77 v82 v86 v101 v105 v107 (ix2 r l)) (fun l => v111 (ix2 0 l)) l := by
  unfold k0_pay12
  generalize k0_pay11 v5 v77 v82 v86 v101 v105 v107 = X
  pointwise [rms]

/-- The first three tiles of the network. -/
theorem pay15_apply (v125 : FVec Ideal S512x1024 .bf16) (v128 v134 v138 v145 v149 v156 : Vec Ideal S1024x1024 .bf16) (r : Fin 512) (l : Fin 1024) :
    k0_pay15 v125 (k0_pay13 (F := Ideal)) (k0_pay14 v128) (constant S512x1024 .f32 0x00000000#32) v134 v138 v145 v149 v156 (ix2 r l)
      = (∑ d, (max (∑ y, v125 (ix2 r y) * v128 (ix2 y d)) 0 * max (∑ y, v125 (ix2 r y) * v128 (ix2 y d)) 0) * v134 (ix2 d l))
        + (∑ d, (max (∑ y, v125 (ix2 r y) * v138 (ix2 y d)) 0 * max (∑ y, v125 (ix2 r y) * v138 (ix2 y d)) 0) * v145 (ix2 d l))
        + (∑ d, (max (∑ y, v125 (ix2 r y) * v149 (ix2 y d)) 0 * max (∑ y, v125 (ix2 r y) * v149 (ix2 y d)) 0) * v156 (ix2 d l)) := by
  pointwise [k0_pay15, k0_pay13, k0_pay14]

/-- The last tile and the residual. -/
theorem pay17_apply (v110 v159 : FVec Ideal S512x1024 .f32) (v125 : FVec Ideal S512x1024 .bf16) (v160 v167 : Vec Ideal S1024x1024 .bf16) (r : Fin 512) (l : Fin 1024) :
    k0_pay17 v110 v159 (k0_pay16 v125 v160) v167 (ix2 r l)
      = v110 (ix2 r l) + (v159 (ix2 r l) + (∑ d, (max (∑ y, v125 (ix2 r y) * v160 (ix2 y d)) 0 * max (∑ y, v125 (ix2 r y) * v160 (ix2 y d)) 0) * v167 (ix2 d l))) := by
  pointwise [k0_pay17, k0_pay16]

/-- The next layer's projection of the normalised stream. -/
theorem pay18_apply (v110 v159 : FVec Ideal S512x1024 .f32) (v166 : FVec Ideal S512x1024 .bf16) (v167 : Vec Ideal S1024x1024 .bf16) (v172 : Vec Ideal S1x1024 .f32) (v187 : Vec Ideal S1024x1792 .bf16) (r : Fin 512) (l : Fin 1792) :
    k0_pay18 v110 v159 v166 v167 v172 v187 (ix2 r l)
      = proj (rms (fun l => k0_pay17 v110 v159 v166 v167 (ix2 r l)) (fun l => v172 (ix2 0 l))) (fun x l => v187 (ix2 x l)) l := by
  unfold k0_pay18
  generalize k0_pay17 v110 v159 v166 v167 = X
  pointwise [rms, proj]

/-- The named constant is `1 / log 2`. -/
theorem log2e_eq : (Named.named κ "log2e" 0x3FB8AA3B#32 : Ideal .f32) = (((Real.log 2)⁻¹ : ℝ) : EReal) :=
  IdealRules.named_const.ideal_named_scalar _ _ _ _ rfl

/-- Its lanes for the attention's queries, over `log 2`. -/
theorem pay19_apply (v110 v159 : FVec Ideal S512x1024 .f32) (v166 : FVec Ideal S512x1024 .bf16) (v167 : Vec Ideal S1024x1024 .bf16) (v172 : Vec Ideal S1x1024 .f32) (v187 : Vec Ideal S1024x1792 .bf16) (r : Fin 512) (l : Fin 512) :
    k0_pay19 v110 v159 v166 v167 v172 v187 (ix2 r l) = k0_pay18 v110 v159 v166 v167 v172 v187 (ix2 r ⟨l.val, by omega⟩) * (((Real.log 2)⁻¹ : ℝ) : EReal) := by
  rw [← log2e_eq]
  unfold k0_pay19
  generalize k0_pay18 v110 v159 v166 v167 v172 v187 = X
  pointwise []

/-- Its lanes for the keys. -/
theorem pay20_apply (v110 v159 : FVec Ideal S512x1024 .f32) (v166 : FVec Ideal S512x1024 .bf16) (v167 : Vec Ideal S1024x1024 .bf16) (v172 : Vec Ideal S1x1024 .f32) (v187 : Vec Ideal S1024x1792 .bf16) (r : Fin 512) (l : Fin 512) :
    k0_pay20 v110 v159 v166 v167 v172 v187 (ix2 r l) = k0_pay18 v110 v159 v166 v167 v172 v187 (ix2 r ⟨512 + l.val, by omega⟩) := by
  unfold k0_pay20
  generalize k0_pay18 v110 v159 v166 v167 v172 v187 = X
  pointwise []

/-- Its lanes for the values. -/
theorem pay21_apply (v110 v159 : FVec Ideal S512x1024 .f32) (v166 : FVec Ideal S512x1024 .bf16) (v167 : Vec Ideal S1024x1024 .bf16) (v172 : Vec Ideal S1x1024 .f32) (v187 : Vec Ideal S1024x1792 .bf16) (r : Fin 512) (l : Fin 512) :
    k0_pay21 v110 v159 v166 v167 v172 v187 (ix2 r l) = k0_pay18 v110 v159 v166 v167 v172 v187 (ix2 r ⟨1024 + l.val, by omega⟩) := by
  unfold k0_pay21
  generalize k0_pay18 v110 v159 v166 v167 v172 v187 = X
  pointwise []

/-- Its lanes for the memory queries. -/
theorem pay22_apply (v110 v159 : FVec Ideal S512x1024 .f32) (v166 : FVec Ideal S512x1024 .bf16) (v167 : Vec Ideal S1024x1024 .bf16) (v172 : Vec Ideal S1x1024 .f32) (v187 : Vec Ideal S1024x1792 .bf16) (r : Fin 512) (l : Fin 256) :
    k0_pay22 v110 v159 v166 v167 v172 v187 (ix2 r l) = k0_pay18 v110 v159 v166 v167 v172 v187 (ix2 r ⟨1536 + l.val, by omega⟩) := by
  unfold k0_pay22
  generalize k0_pay18 v110 v159 v166 v167 v172 v187 = X
  pointwise []

/-- Reading a tile of the first weights. -/
theorem ld_w1 (x6 : Vec Ideal S1024x4096 .bf16) (y d : Fin 1024) :
    View.ld x6 r0_7 (ix2 y d) = x6 (ix2 y ⟨0 + d.val, by omega⟩) ∧ View.ld x6 r0_9 (ix2 y d) = x6 (ix2 y ⟨1024 + d.val, by omega⟩)
      ∧ View.ld x6 r0_11 (ix2 y d) = x6 (ix2 y ⟨2048 + d.val, by omega⟩) ∧ View.ld x6 r0_13 (ix2 y d) = x6 (ix2 y ⟨3072 + d.val, by omega⟩) := by
  refine ⟨?_, ?_, ?_, ?_⟩ <;> refine congrArg x6 (funext fun a => ?_) <;> match a with | ⟨0, _⟩ => exact Fin.ext (by simp) | ⟨1, _⟩ => exact Fin.ext (by simp)

/-- Reading a tile of the second weights. -/
theorem ld_w2 (x7 : Vec Ideal S4096x1024 .bf16) (d l : Fin 1024) :
    View.ld x7 r0_8 (ix2 d l) = x7 (ix2 ⟨0 + d.val, by omega⟩ l) ∧ View.ld x7 r0_10 (ix2 d l) = x7 (ix2 ⟨1024 + d.val, by omega⟩ l)
      ∧ View.ld x7 r0_12 (ix2 d l) = x7 (ix2 ⟨2048 + d.val, by omega⟩ l) ∧ View.ld x7 r0_14 (ix2 d l) = x7 (ix2 ⟨3072 + d.val, by omega⟩ l) := by
  refine ⟨?_, ?_, ?_, ?_⟩ <;> refine congrArg x7 (funext fun a => ?_) <;> match a with | ⟨0, _⟩ => exact Fin.ext (by simp) | ⟨1, _⟩ => exact Fin.ext (by simp)

/-- Reading the keys and the values of the memories. -/
theorem ld_kv (x3 : Vec Ideal S1x256x512 .bf16) (x l : Fin 256) :
    View.ld x3 r0_1 (ix3 0 x l) = x3 (ix3 0 x ⟨l.val, by omega⟩) ∧ View.ld x3 r0_2 (ix3 0 x l) = x3 (ix3 0 x ⟨256 + l.val, by omega⟩) := by
  refine ⟨?_, ?_⟩ <;> refine congrArg x3 (funext fun a => ?_) <;> match a with | ⟨0, _⟩ => exact Fin.ext (by simp) | ⟨1, _⟩ => exact Fin.ext (by simp) | ⟨2, _⟩ => exact Fin.ext (by simp)

/-- The keys and the values, their leading axis dropped. -/
theorem pay23_apply (v : Vec Ideal S1x256x256 .bf16) (x l : Fin 256) :
    k0_pay2 v (ix2 x l) = v (ix3 0 x l) ∧ k0_pay3 v (ix2 x l) = v (ix3 0 x l) := by
  constructor <;> pointwise [k0_pay2, k0_pay3]

/-- The queries as read. -/
theorem pay1_eq (v : Vec Ideal S512x256 .bf16) : k0_pay1 v = v := by
  unfold k0_pay1; exact shapeCast_self _ _

variable (x0 : Vec Ideal S512x1024 .f32) (x1 : Vec Ideal S512x512 .bf16) (x2 : Vec Ideal S512x256 .bf16) (x3 : Vec Ideal S1x256x512 .bf16) (x4 : Vec Ideal S768x1024 .bf16) (x5 : Vec Ideal S1x1024 .f32) (x6 : Vec Ideal S1024x4096 .bf16) (x7 : Vec Ideal S4096x1024 .bf16) (x8 : Vec Ideal S1x1024 .f32) (x9 : Vec Ideal S1x1024 .f32) (x10 : Vec Ideal S1024x1792 .bf16)

/-- The memory heads at row `r`. -/
def mo (x2 : Vec Ideal S512x256 .bf16) (x3 : Vec Ideal S1x256x512 .bf16) (r : Fin 512) (l : Fin 256) : EReal :=
  mem (fun l => x2 (ix2 r l)) (fun x l => x3 (ix3 0 x ⟨l.val, by omega⟩)) (fun x l => x3 (ix3 0 x ⟨256 + l.val, by omega⟩)) (headOf l) l

/-- Four cases of a head. -/
theorem four (f : Fin 4 → EReal) (hd : Fin 4) (z : EReal) :
    (if hd = 3 then f 3 else if hd = 2 then f 2 else if hd = 1 then f 1 else if hd = 0 then f 0 else z) = f hd := by
  fin_cases hd <;> simp

/-- The four heads put together, from any queries, keys and values. -/
theorem heads_apply (q : Vec Ideal S512x256 .bf16) (K W : Vec Ideal S1x256x256 .bf16) (r : Fin 512) (l : Fin 256) :
    (if headOf l = 3 then ∑ x, soft (fun x => k0_pay10 q (k0_pay2 K) (iota .tc S1x256 32 [1] iota_S1x256_d1_w32) (k0_pay4 (F := Ideal)) (ix2 r x)) x * k0_pay3 W (ix2 x l)
      else k0_pay8 q (k0_pay2 K) (k0_pay3 W) (iota .tc S1x256 32 [1] iota_S1x256_d1_w32) (k0_pay4 (F := Ideal)) (k0_pay5 q K W) k0_pay6 (k0_pay7 q) (constant S512x256 .f32 0x00000000#32) (ix2 r l))
      = mem (fun l => q (ix2 r l)) (fun x l => K (ix3 0 x l)) (fun x l => W (ix3 0 x l)) (headOf l) l := by
  rw [pay8_apply, pay5_apply]
  have h : (fun x => k0_pay10 q (k0_pay2 K) (iota .tc S1x256 32 [1] iota_S1x256_d1_w32) (k0_pay4 (F := Ideal)) (ix2 r x)) = score (fun l => q (ix2 r l)) (fun x l => K (ix3 0 x l)) 3 := by
    funext x
    rw [pay10_apply]
    simp only [(pay23_apply _ _ _).1]
  rw [h]
  simp only [(pay23_apply _ _ _).1, (pay23_apply _ _ _).2]
  exact four (fun hd => mem (fun l => q (ix2 r l)) (fun x l => K (ix3 0 x l)) (fun x l => W (ix3 0 x l)) hd l) (headOf l) 0

/-- The stream after the output projection, from the blocks. -/
theorem stream_apply (r : Fin 512) (l : Fin 1024) :
    k0_pay31 x0 x1 x2 x3 x4 x5 x6 x7 x8 x9 x10 (ix2 r l)
      = merged (fun l => x0 (ix2 r l)) (fun l => x1 (ix2 r l)) (mo x2 x3 r) (fun x l => x4 (ix2 x l)) l := by
  unfold k0_pay31
  rw [View.ld_unit_lit _ x1 (by decide), View.ld_unit_lit _ x0 (by decide), View.ld_unit_lit _ x4 (by decide)]
  unfold k0_pay29 k0_pay23
  rw [pay11_apply]
  refine congrArg (fun f => merged (fun l => x0 (ix2 r l)) (fun l => x1 (ix2 r l)) f (fun x l => x4 (ix2 x l)) l) (funext fun l => ?_)
  unfold k0_pay30 k0_pay28 k0_pay27 k0_pay26 k0_pay25 k0_pay24 k0_pay23
  rw [pay1_eq, View.ld_unit_lit _ x2 (by decide)]
  refine (heads_apply x2 (View.ld x3 r0_1) (View.ld x3 r0_2) r l).trans ?_
  exact congrArg₂ (fun K W => mem (fun l => x2 (ix2 r l)) K W (headOf l) l) (funext fun x => funext fun l => (ld_kv x3 x l).1)
    (funext fun x => funext fun l => (ld_kv x3 x l).2)

/-- A tile's contribution, its weights given by two arrays. -/
def part (x : Fin 1024 → EReal) (a b : Vec Ideal S1024x1024 .bf16) (l : Fin 1024) : EReal :=
  ∑ d, (max (∑ y, x y * a (ix2 y d)) 0 * max (∑ y, x y * a (ix2 y d)) 0) * b (ix2 d l)

/-- It is the network's tile when the arrays are the tiles of its weights. -/
theorem part_eq (x : Fin 1024 → EReal) (a b : Vec Ideal S1024x1024 .bf16) (w1 : Fin 1024 → Fin 4096 → EReal) (w2 : Fin 4096 → Fin 1024 → EReal)
    (o : ℕ) (ho : o + 1024 ≤ 4096) (ha : ∀ y d : Fin 1024, a (ix2 y d) = w1 y ⟨o + d.val, by omega⟩)
    (hb : ∀ d l : Fin 1024, b (ix2 d l) = w2 ⟨o + d.val, by omega⟩ l) (l : Fin 1024) : part x a b l = tile x w1 w2 o ho l := by
  unfold part tile Cert.Post.hidden
  simp only [ha, hb]

/-- The stream a point computes, at a row and a lane. -/
theorem next_apply (r : Fin 512) (l : Fin 1024) :
    k0_pay17 (k0_pay31 x0 x1 x2 x3 x4 x5 x6 x7 x8 x9 x10) (k0_pay33 x0 x1 x2 x3 x4 x5 x6 x7 x8 x9 x10) (k0_pay34 x0 x1 x2 x3 x4 x5 x6 x7 x8 x9 x10) (View.ld x7 r0_14) (ix2 r l)
      = next (fun l => x0 (ix2 r l)) (fun l => x1 (ix2 r l)) (mo x2 x3 r) (fun x l => x4 (ix2 x l)) (fun l => x5 (ix2 0 l))
        (fun x l => x6 (ix2 x l)) (fun x l => x7 (ix2 x l)) l := by
  have hN : (fun y => k0_pay32 x0 x1 x2 x3 x4 x5 x6 x7 x8 x9 x10 (ix2 r y))
      = rms (merged (fun l => x0 (ix2 r l)) (fun l => x1 (ix2 r l)) (mo x2 x3 r) (fun x l => x4 (ix2 x l))) (fun l => x5 (ix2 0 l)) := funext fun y => by
    unfold k0_pay32
    rw [pay12_apply, View.ld_unit_lit _ x5 (by decide)]
    exact congrArg (fun f => rms f (fun l => x5 (ix2 0 l)) y) (funext fun l => stream_apply x0 x1 x2 x3 x4 x5 x6 x7 x8 x9 x10 r l)
  unfold k0_pay34 k0_pay33 next
  rw [pay17_apply, stream_apply, pay15_apply, mlp_tiles]
  refine congrArg (merged (fun l => x0 (ix2 r l)) (fun l => x1 (ix2 r l)) (mo x2 x3 r) (fun x l => x4 (ix2 x l)) l + ·) ?_
  rw [← hN]
  exact congrArg₂ (· + ·) (congrArg₂ (· + ·) (congrArg₂ (· + ·)
    (part_eq (fun y => k0_pay32 x0 x1 x2 x3 x4 x5 x6 x7 x8 x9 x10 (ix2 r y)) (View.ld x6 r0_7) (View.ld x7 r0_8) _ _ 0 (by omega) (fun y d => (ld_w1 x6 y d).1) (fun d l => (ld_w2 x7 d l).1) l)
    (part_eq (fun y => k0_pay32 x0 x1 x2 x3 x4 x5 x6 x7 x8 x9 x10 (ix2 r y)) (View.ld x6 r0_9) (View.ld x7 r0_10) _ _ 1024 (by omega) (fun y d => (ld_w1 x6 y d).2.1) (fun d l => (ld_w2 x7 d l).2.1) l))
    (part_eq (fun y => k0_pay32 x0 x1 x2 x3 x4 x5 x6 x7 x8 x9 x10 (ix2 r y)) (View.ld x6 r0_11) (View.ld x7 r0_12) _ _ 2048 (by omega) (fun y d => (ld_w1 x6 y d).2.2.1) (fun d l => (ld_w2 x7 d l).2.2.1) l))
    (part_eq (fun y => k0_pay32 x0 x1 x2 x3 x4 x5 x6 x7 x8 x9 x10 (ix2 r y)) (View.ld x6 r0_13) (View.ld x7 r0_14) _ _ 3072 (by omega) (fun y d => (ld_w1 x6 y d).2.2.2) (fun d l => (ld_w2 x7 d l).2.2.2) l)

/-- What a point writes of the stream. -/
theorem out11_apply (r : Fin 512) (l : Fin 1024) :
    out0_11 x0 x1 x2 x3 x4 x5 x6 x7 x8 x9 x10 (ix2 r l)
      = next (fun l => x0 (ix2 r l)) (fun l => x1 (ix2 r l)) (mo x2 x3 r) (fun x l => x4 (ix2 x l)) (fun l => x5 (ix2 0 l))
        (fun x l => x6 (ix2 x l)) (fun x l => x7 (ix2 x l)) l := by
  unfold out0_11
  rw [View.canon_cons_unit_lit _ _ _ (by decide)]
  exact next_apply x0 x1 x2 x3 x4 x5 x6 x7 x8 x9 x10 r l

/-- The next layer's projection a point computes. -/
theorem proj_apply (r : Fin 512) (l : Fin 1792) :
    k0_pay18 (k0_pay31 x0 x1 x2 x3 x4 x5 x6 x7 x8 x9 x10) (k0_pay33 x0 x1 x2 x3 x4 x5 x6 x7 x8 x9 x10) (k0_pay34 x0 x1 x2 x3 x4 x5 x6 x7 x8 x9 x10) (View.ld x7 r0_14) (View.ld x9 r0_6) (View.ld x10 r0_15) (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) l := by
  rw [pay18_apply, View.ld_unit_lit _ x9 (by decide), View.ld_unit_lit _ x10 (by decide)]
  exact congrArg (fun f => proj (rms f (fun l => x9 (ix2 0 l))) (fun x l => x10 (ix2 x l)) l) (funext fun l => next_apply x0 x1 x2 x3 x4 x5 x6 x7 x8 x9 x10 r l)

/-- What a point writes of the attention's queries. -/
theorem out12_apply (r : Fin 512) (l : Fin 512) :
    out0_12 x0 x1 x2 x3 x4 x5 x6 x7 x8 x9 x10 (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) ⟨l.val, by omega⟩ * (((Real.log 2)⁻¹ : ℝ) : EReal) := by
  unfold out0_12
  rw [View.canon_cons_unit_lit _ _ _ (by decide), pay19_apply]
  exact congrArg (· * (((Real.log 2)⁻¹ : ℝ) : EReal)) (proj_apply x0 x1 x2 x3 x4 x5 x6 x7 x8 x9 x10 r _)

/-- What a point writes of the keys. -/
theorem out13_apply (r : Fin 512) (l : Fin 512) :
    out0_13 x0 x1 x2 x3 x4 x5 x6 x7 x8 x9 x10 (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) ⟨512 + l.val, by omega⟩ := by
  unfold out0_13
  rw [View.canon_cons_unit_lit _ _ _ (by decide), pay20_apply]
  exact proj_apply x0 x1 x2 x3 x4 x5 x6 x7 x8 x9 x10 r _

/-- What a point writes of the values. -/
theorem out14_apply (r : Fin 512) (l : Fin 512) :
    out0_14 x0 x1 x2 x3 x4 x5 x6 x7 x8 x9 x10 (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) ⟨1024 + l.val, by omega⟩ := by
  unfold out0_14
  rw [View.canon_cons_unit_lit _ _ _ (by decide), pay21_apply]
  exact proj_apply x0 x1 x2 x3 x4 x5 x6 x7 x8 x9 x10 r _

/-- What a point writes of the memory queries. -/
theorem out15_apply (r : Fin 512) (l : Fin 256) :
    out0_15 x0 x1 x2 x3 x4 x5 x6 x7 x8 x9 x10 (ix2 r l)
      = proj (rms (next (fun l => x0 (ix2 r l)) (fun l => x1 (ix2 r l)) (mo x2 x3 r) (fun x l => x4 (ix2 x l)) (fun l => x5 (ix2 0 l))
        (fun x l => x6 (ix2 x l)) (fun x l => x7 (ix2 x l))) (fun l => x9 (ix2 0 l))) (fun x l => x10 (ix2 x l)) ⟨1536 + l.val, by omega⟩ := by
  unfold out0_15
  rw [View.canon_cons_unit_lit _ _ _ (by decide), pay22_apply]
  exact proj_apply x0 x1 x2 x3 x4 x5 x6 x7 x8 x9 x10 r _

end Cert.PostFirstIdeal.First

end
-- ==== Proof.First.Final.lean ====
/-
  The result arrays of the first layer's output block after its run, over the extended reals: row `R` of the stream is
  `Cert.Post.next` of the arguments' row `R`, and row `R` of the next layer's queries, keys and values is its normalised row's
  product with the next layer's weights.
-/
module

public import proofs.«01_k».proof.Proof.First.Kernel

@[expose] public section

set_option maxRecDepth 8192

noncomputable section

namespace Cert.PostFirstIdeal.First

open Cert.PostFirstIdeal Cert.PostFirstIdeal.Gen Idealize.ShloMosaic Idealize.ShloMosaic.TcCoe Cert.Post

variable (m : (ℓ : Loc nD τ sig) → Buf (Elt Ideal) ℓ) (c : Dev nD)

theorem V_v12 : V m c main_v12 = shapeCast S32768x1024 (m ((c : Thread nD τ).loc main_arg0)) shapeCasts_S2x16384x1024_S32768x1024 := by
  show StableHlo.after hostOps0 _ (Proc.devRef .tc main_v12) = _
  after_results
  rfl

theorem V_v14 : V m c main_v14 = (shapeCast S32768x512 (truncf .bf16 (m ((c : Thread nD τ).loc main_arg1) : FVec Ideal S2x16384x512 .f32) bitsLt_bf16_f32) shapeCasts_S2x16384x512_S32768x512 : FVec Ideal S32768x512 .bf16) := by
  show StableHlo.after hostOps0 _ (Proc.devRef .tc main_v14) = _
  after_results
  rfl

theorem V_v3 : V m c main_v3 = (shapeCast S32768x256 (truncf .bf16 (mulf (m ((c : Thread nD τ).loc main_arg2) : FVec Ideal S2x16384x256 .f32)
    (broadcastInDim S2x16384x256 ![] bcast_S_S2x16384x256 (constant S_ .f32 0x3E000000#32))) bitsLt_bf16_f32) shapeCasts_S2x16384x256_S32768x256 : FVec Ideal S32768x256 .bf16) := by
  show StableHlo.after hostOps0 _ (Proc.devRef .tc main_v3) = _
  after_results
  rfl

theorem V_v15 : V m c main_v15 = (truncf .bf16 (m ((c : Thread nD τ).loc main_arg3) : FVec Ideal S2x256x512 .f32) bitsLt_bf16_f32 : FVec Ideal S2x256x512 .bf16) := by
  show StableHlo.after hostOps0 _ (Proc.devRef .tc main_v15) = _
  after_results

theorem V_v16 : V m c main_v16 = (truncf .bf16 (m ((c : Thread nD τ).loc main_arg4) : FVec Ideal S768x1024 .f32) bitsLt_bf16_f32 : FVec Ideal S768x1024 .bf16) := by
  show StableHlo.after hostOps0 _ (Proc.devRef .tc main_v16) = _
  after_results

theorem V_v17 : V m c main_v17 = (truncf .bf16 (m ((c : Thread nD τ).loc main_arg6) : FVec Ideal S1024x4096 .f32) bitsLt_bf16_f32 : FVec Ideal S1024x4096 .bf16) := by
  show StableHlo.after hostOps0 _ (Proc.devRef .tc main_v17) = _
  after_results

theorem V_v18 : V m c main_v18 = (truncf .bf16 (m ((c : Thread nD τ).loc main_arg7) : FVec Ideal S4096x1024 .f32) bitsLt_bf16_f32 : FVec Ideal S4096x1024 .bf16) := by
  show StableHlo.after hostOps0 _ (Proc.devRef .tc main_v18) = _
  after_results

theorem V_v19 : V m c main_v19 = shapeCast S1x1024 (m ((c : Thread nD τ).loc main_arg5)) shapeCasts_S1024_S1x1024 := by
  show StableHlo.after hostOps0 _ (Proc.devRef .tc main_v19) = _
  after_results
  rfl

theorem V_v21 : V m c main_v21 = shapeCast S1x1024 (m ((c : Thread nD τ).loc main_arg9)) shapeCasts_S1024_S1x1024 := by
  show StableHlo.after hostOps0 _ (Proc.devRef .tc main_v21) = _
  after_results
  rfl

/-- The scale of each lane of the next layer's projection. -/
def scales : FVec Ideal S1792 .f32 :=
  concatenate S1792 0 [⟨S512, broadcastInDim S512 ![] bcast_S_S512 (constant S_ .f32 0x3E000000#32)⟩, ⟨S1024, broadcastInDim S1024 ![] bcast_S_S1024 (constant S_ .f32 0x3F800000#32)⟩, ⟨S256, broadcastInDim S256 ![] bcast_S_S256 (constant S_ .f32 0x3E000000#32)⟩] concatenates_S512_S1024_S256_S1792_d0

theorem V_v11 : V m c main_v11 = (truncf .bf16 (mulf (m ((c : Thread nD τ).loc main_arg10) : FVec Ideal S1024x1792 .f32)
    (broadcastInDim S1024x1792 ![0, 1] bcast_S1x1792_S1024x1792_0_1 (broadcastInDim S1x1792 ![1] bcast_S1792_S1x1792_1 scales))) bitsLt_bf16_f32 : FVec Ideal S1024x1792 .bf16) := by
  show StableHlo.after hostOps0 _ (Proc.devRef .tc main_v11) = _
  after_results
  rfl

/-- Batch, and position within it, of a row. -/
def bOf (R : Fin 32768) : Fin 2 := ⟨R.val / 16384, by omega⟩
def sOf (R : Fin 32768) : Fin 16384 := ⟨R.val % 16384, by omega⟩

/-- Point `t`'s row `r`. -/
def rowAt (t : Fin cfg0.N) (r : Fin 512) : Fin 32768 := ⟨512 * t.val + r.val, by have := t.isLt; have h : cfg0.N = 64 := N_0; omega⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = t.val / 32 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx15 : ∀ t : Fin cfg0.N, win0_15.index t (0 : Fin 2) = t.val ∧ win0_15.index t (1 : Fin 2) = 0 := (by decide +kernel : ∀ t : Fin grid0.N, _)

theorem iblk0_apply (t : Fin cfg0.N) (r : Fin 512) (l : Fin 1024) : iblk m c 0 t (ix2 r l) = V m c main_v12 (ix2 (rowAt t r) l) := by
  show V m c main_v12 (((cfg0.win 0).blk t).view.emb (ix2 r l)) = _
  refine congrArg (V m c main_v12) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (t : Fin cfg0.N) (r : Fin 512) (l : Fin 512) : iblk m c 1 t (ix2 r l) = V m c main_v14 (ix2 (rowAt t r) l) := by
  show V m c main_v14 (((cfg0.win 1).blk t).view.emb (ix2 r l)) = _
  refine congrArg (V m c main_v14) (funext fun a => Fin.ext ?_)
  obtain ⟨e0, e1⟩ := idx1 t
  match a with
  | ⟨0, _⟩ => show win0_1.index t (0 : Fin 2) * 512 + 1 * r.val = 512 * t.val + r.val; omega
  | ⟨1, _⟩ => show win0_1.index t (1 : Fin 2) * 512 + 1 * l.val = l.val; omega

theorem iblk2_apply (t : Fin cfg0.N) (r : Fin 512) (l : Fin 256) : iblk m c 2 t (ix2 r l) = V m c main_v3 (ix2 (rowAt t r) l) := by
  show V m c main_v3 (((cfg0.win 2).blk t).view.emb (ix2 r l)) = _
  refine congrArg (V m c main_v3) (funext fun a => Fin.ext ?_)
  obtain ⟨e0, e1⟩ := idx2 t
  match a with
  | ⟨0, _⟩ => show win0_2.index t (0 : Fin 2) * 512 + 1 * r.val = 512 * t.val + r.val; omega
  | ⟨1, _⟩ => show win0_2.index t (1 : Fin 2) * 256 + 1 * l.val = l.val; omega

theorem iblk3_apply (t : Fin cfg0.N) (r : Fin 512) (x : Fin 256) (l : Fin 512) : iblk m c 3 t (ix3 0 x l) = V m c main_v15 (ix3 (bOf (rowAt t r)) x l) := by
  show V m c main_v15 (((cfg0.win 3).blk t).view.emb (ix3 0 x l)) = _
  refine congrArg (V m c main_v15) (funext fun a => Fin.ext ?_)
  obtain ⟨e0, e1, e2⟩ := idx3 t
  match a with
  | ⟨0, _⟩ =>
    show win0_3.index t (0 : Fin 3) * 1 + 1 * 0 = (512 * t.val + r.val) / 16384
    have := r.isLt
    omega
  | ⟨1, _⟩ => show win0_3.index t (1 : Fin 3) * 256 + 1 * x.val = x.val; omega
  | ⟨2, _⟩ => show win0_3.index t (2 : Fin 3) * 512 + 1 * l.val = l.val; omega

theorem iblk4_apply (t : Fin cfg0.N) (x : Fin 768) (l : Fin 1024) : iblk m c 4 t (ix2 x l) = V m c main_v16 (ix2 x l) := by
  show V m c main_v16 (((cfg0.win 4).blk t).view.emb (ix2 x l)) = _
  refine congrArg (V m c main_v16) (funext fun a => Fin.ext ?_)
  obtain ⟨e0, e1⟩ := idx4 t
  match a with
  | ⟨0, _⟩ => show win0_4.index t (0 : Fin 2) * 768 + 1 * x.val = x.val; omega
  | ⟨1, _⟩ => show win0_4.index t (1 : Fin 2) * 1024 + 1 * l.val = l.val; omega

theorem iblk5_apply (t : Fin cfg0.N) (l : Fin 1024) : iblk m c 5 t (ix2 0 l) = V m c main_v19 (ix2 0 l) := by
  show V m c main_v19 (((cfg0.win 5).blk t).view.emb (ix2 0 l)) = _
  refine congrArg (V m c main_v19) (funext fun a => Fin.ext ?_)
  obtain ⟨e0, e1⟩ := idx5 t
  match a with
  | ⟨0, _⟩ => show win0_5.index t (0 : Fin 2) * 1 + 1 * 0 = 0; omega
  | ⟨1, _⟩ => show win0_5.index t (1 : Fin 2) * 1024 + 1 * l.val = l.val; omega

theorem iblk6_apply (t : Fin cfg0.N) (x : Fin 1024) (l : Fin 4096) : iblk m c 6 t (ix2 x l) = V m c main_v17 (ix2 x l) := by
  show V m c main_v17 (((cfg0.win 6).blk t).view.emb (ix2 x l)) = _
  refine congrArg (V m c main_v17) (funext fun a => Fin.ext ?_)
  obtain ⟨e0, e1⟩ := idx6 t
  match a with
  | ⟨0, _⟩ => show win0_6.index t (0 : Fin 2) * 1024 + 1 * x.val = x.val; omega
  | ⟨1, _⟩ => show win0_6.index t (1 : Fin 2) * 4096 + 1 * l.val = l.val; omega

theorem iblk7_apply (t : Fin cfg0.N) (x : Fin 4096) (l : Fin 1024) : iblk m c 7 t (ix2 x l) = V m c main_v18 (ix2 x l) := by
  show V m c main_v18 (((cfg0.win 7).blk t).view.emb (ix2 x l)) = _
  refine congrArg (V m c main_v18) (funext fun a => Fin.ext ?_)
  obtain ⟨e0, e1⟩ := idx7 t
  match a with
  | ⟨0, _⟩ => show win0_7.index t (0 : Fin 2) * 4096 + 1 * x.val = x.val; omega
  | ⟨1, _⟩ => show win0_7.index t (1 : Fin 2) * 1024 + 1 * l.val = l.val; omega

theorem iblk9_apply (t : Fin cfg0.N) (l : Fin 1024) : iblk m c 9 t (ix2 0 l) = V m c main_v21 (ix2 0 l) := by
  show V m c main_v21 (((cfg0.win 9).blk t).view.emb (ix2 0 l)) = _
  refine congrArg (V m c main_v21) (funext fun a => Fin.ext ?_)
  obtain ⟨e0, e1⟩ := idx9 t
  match a with
  | ⟨0, _⟩ => show win0_9.index t (0 : Fin 2) * 1 + 1 * 0 = 0; omega
  | ⟨1, _⟩ => show win0_9.index t (1 : Fin 2) * 1024 + 1 * l.val = l.val; omega

theorem emb11 (t : Fin cfg0.N) (r : Fin 512) (l : Fin 1024) : ((cfg0.win 11).blk t).view.emb (ix2 r l) = ix2 (rowAt t r) l := by
  refine funext fun a => Fin.ext ?_
  obtain ⟨e0, e1⟩ := idx11 t
  match a with
  | ⟨0, _⟩ => show win0_11.index t (0 : Fin 2) * 512 + 1 * r.val = 512 * t.val + r.val; omega
  | ⟨1, _⟩ => show win0_11.index t (1 : Fin 2) * 1024 + 1 * l.val = l.val; omega

theorem iblk10_apply (t : Fin cfg0.N) (x : Fin 1024) (l : Fin 1792) : iblk m c 10 t (ix2 x l) = V m c main_v11 (ix2 x l) := by
  show V m c main_v11 (((cfg0.win 10).blk t).view.emb (ix2 x l)) = _
  refine congrArg (V m c main_v11) (funext fun a => Fin.ext ?_)
  obtain ⟨e0, e1⟩ := idx10 t
  match a with
  | ⟨0, _⟩ => show win0_10.index t (0 : Fin 2) * 1024 + 1 * x.val = x.val; omega
  | ⟨1, _⟩ => show win0_10.index t (1 : Fin 2) * 1792 + 1 * l.val = l.val; omega

theorem emb12 (t : Fin cfg0.N) (r : Fin 512) (l : Fin 512) : ((cfg0.win 12).blk t).view.emb (ix2 r l) = ix2 (rowAt t r) l := by
  refine funext fun a => Fin.ext ?_
  obtain ⟨e0, e1⟩ := idx12 t
  match a with
  | ⟨0, _⟩ => show win0_12.index t (0 : Fin 2) * 512 + 1 * r.val = 512 * t.val + r.val; omega
  | ⟨1, _⟩ => show win0_12.index t (1 : Fin 2) * 512 + 1 * l.val = l.val; omega

theorem emb13 (t : Fin cfg0.N) (r : Fin 512) (l : Fin 512) : ((cfg0.win 13).blk t).view.emb (ix2 r l) = ix2 (rowAt t r) l := by
  refine funext fun a => Fin.ext ?_
  obtain ⟨e0, e1⟩ := idx13 t
  match a with
  | ⟨0, _⟩ => show win0_13.index t (0 : Fin 2) * 512 + 1 * r.val = 512 * t.val + r.val; omega
  | ⟨1, _⟩ => show win0_13.index t (1 : Fin 2) * 512 + 1 * l.val = l.val; omega

theorem emb14 (t : Fin cfg0.N) (r : Fin 512) (l : Fin 512) : ((cfg0.win 14).blk t).view.emb (ix2 r l) = ix2 (rowAt t r) l := by
  refine funext fun a => Fin.ext ?_
  obtain ⟨e0, e1⟩ := idx14 t
  match a with
  | ⟨0, _⟩ => show win0_14.index t (0 : Fin 2) * 512 + 1 * r.val = 512 * t.val + r.val; omega
  | ⟨1, _⟩ => show win0_14.index t (1 : Fin 2) * 512 + 1 * l.val = l.val; omega

theorem emb15 (t : Fin cfg0.N) (r : Fin 512) (l : Fin 256) : ((cfg0.win 15).blk t).view.emb (ix2 r l) = ix2 (rowAt t r) l := by
  refine funext fun a => Fin.ext ?_
  obtain ⟨e0, e1⟩ := idx15 t
  match a with
  | ⟨0, _⟩ => show win0_15.index t (0 : Fin 2) * 512 + 1 * r.val = 512 * t.val + r.val; omega
  | ⟨1, _⟩ => show win0_15.index t (1 : Fin 2) * 256 + 1 * l.val = l.val; omega

/-- The arguments. -/
abbrev aH : FVec Ideal S2x16384x1024 .f32 := m ((c : Thread nD τ).loc main_arg0)
abbrev aMix : FVec Ideal S2x16384x512 .f32 := m ((c : Thread nD τ).loc main_arg1)
abbrev aQ : FVec Ideal S2x16384x256 .f32 := m ((c : Thread nD τ).loc main_arg2)
abbrev aKv : FVec Ideal S2x256x512 .f32 := m ((c : Thread nD τ).loc main_arg3)
abbrev aWo : FVec Ideal S768x1024 .f32 := m ((c : Thread nD τ).loc main_arg4)
abbrev aG2 : FVec Ideal S1024 .f32 := m ((c : Thread nD τ).loc main_arg5)
abbrev aW1 : FVec Ideal S1024x4096 .f32 := m ((c : Thread nD τ).loc main_arg6)
abbrev aW2 : FVec Ideal S4096x1024 .f32 := m ((c : Thread nD τ).loc main_arg7)
abbrev aGn : FVec Ideal S1024 .f32 := m ((c : Thread nD τ).loc main_arg9)
abbrev aWn : FVec Ideal S1024x1792 .f32 := m ((c : Thread nD τ).loc main_arg10)

/-- Rows of a batch, one after another. -/
theorem rows4 (x : FVec Ideal S2x16384x1024 .f32) (R : Fin 32768) (l : Fin 1024) :
    shapeCast S32768x1024 x shapeCasts_S2x16384x1024_S32768x1024 (ix2 R l) = x (ix3 (bOf R) (sOf R) l) := by
  pointwise [bOf, sOf]
theorem rows6 (x : FVec Ideal S2x16384x512 .f32) (R : Fin 32768) (l : Fin 512) :
    shapeCast S32768x512 (truncf .bf16 x bitsLt_bf16_f32) shapeCasts_S2x16384x512_S32768x512 (ix2 R l) = x (ix3 (bOf R) (sOf R) l) := by
  pointwise [bOf, sOf]
theorem rows3 (x : FVec Ideal S2x16384x256 .f32) (R : Fin 32768) (l : Fin 256) :
    shapeCast S32768x256 (truncf .bf16 (mulf x (broadcastInDim S2x16384x256 ![] bcast_S_S2x16384x256 (constant S_ .f32 0x3E000000#32))) bitsLt_bf16_f32)
      shapeCasts_S2x16384x256_S32768x256 (ix2 R l) = x (ix3 (bOf R) (sOf R) l) * Ideal.ofBits .f32 0x3E000000#32 := by
  pointwise [bOf, sOf]
theorem rows11 (x : FVec Ideal S1024 .f32) (l : Fin 1024) : shapeCast S1x1024 x shapeCasts_S1024_S1x1024 (ix2 0 l) = x (ix1 l) := by
  pointwise

theorem weights11 (x : FVec Ideal S1024x1792 .f32) (y : FVec Ideal S1792 .f32) (i : Fin 1024) (l : Fin 1792) :
    truncf .bf16 (mulf x (broadcastInDim S1024x1792 ![0, 1] bcast_S1x1792_S1024x1792_0_1 (broadcastInDim S1x1792 ![1] bcast_S1792_S1x1792_1 y))) bitsLt_bf16_f32 (ix2 i l)
      = x (ix2 i l) * y (ix1 l) := by
  pointwise []

/-- The scale of a lane of the attention's queries. -/
theorem scales_q (l : Fin 512) : scales (ix1 ⟨l.val, by omega⟩) = Ideal.ofBits .f32 0x3E000000#32 := by
  pointwise [scales]
/-- Of its keys and values. -/
theorem scales_kv (l : Fin 1024) : scales (ix1 ⟨512 + l.val, by omega⟩) = 1 := by
  pointwise [scales]
/-- Of the memory queries. -/
theorem scales_m (l : Fin 256) : scales (ix1 ⟨1536 + l.val, by omega⟩) = Ideal.ofBits .f32 0x3E000000#32 := by
  pointwise [scales]
  rw [dif_neg (by omega), dif_neg (by omega)]

theorem v12_apply (R : Fin 32768) (l : Fin 1024) : V m c main_v12 (ix2 R l) = aH m c (ix3 (bOf R) (sOf R) l) :=
  (congrFun (V_v12 m c) _).trans (rows4 _ R l)
theorem v14_apply (R : Fin 32768) (l : Fin 512) : V m c main_v14 (ix2 R l) = aMix m c (ix3 (bOf R) (sOf R) l) :=
  (congrFun (V_v14 m c) _).trans (rows6 _ R l)
theorem v3_apply (R : Fin 32768) (l : Fin 256) : V m c main_v3 (ix2 R l) = aQ m c (ix3 (bOf R) (sOf R) l) * Ideal.ofBits .f32 0x3E000000#32 :=
  (congrFun (V_v3 m c) _).trans (rows3 _ R l)
theorem v19_apply (l : Fin 1024) : V m c main_v19 (ix2 0 l) = aG2 m c (ix1 l) := (congrFun (V_v19 m c) _).trans (rows11 _ l)
theorem v21_apply (l : Fin 1024) : V m c main_v21 (ix2 0 l) = aGn m c (ix1 l) := (congrFun (V_v21 m c) _).trans (rows11 _ l)
theorem v15_apply (b : Fin 2) (x : Fin 256) (l : Fin 512) : V m c main_v15 (ix3 b x l) = aKv m c (ix3 b x l) := congrFun (V_v15 m c) _
theorem v16_apply (x : Fin 768) (l : Fin 1024) : V m c main_v16 (ix2 x l) = aWo m c (ix2 x l) := congrFun (V_v16 m c) _
theorem v17_apply (x : Fin 1024) (l : Fin 4096) : V m c main_v17 (ix2 x l) = aW1 m c (ix2 x l) := congrFun (V_v17 m c) _
theorem v18_apply (x : Fin 4096) (l : Fin 1024) : V m c main_v18 (ix2 x l) = aW2 m c (ix2 x l) := congrFun (V_v18 m c) _

theorem v11_apply (x : Fin 1024) (l : Fin 1792) : V m c main_v11 (ix2 x l) = aWn m c (ix2 x l) * scales (ix1 l) :=
  (congrFun (V_v11 m c) _).trans (weights11 _ _ x l)

/-- Row `R` of the stream, the queries scaled. -/
def out (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (R : Fin 32768) (l : Fin 1024) : EReal :=
  next (fun l => h (ix3 (bOf R) (sOf R) l)) (fun l => mix (ix3 (bOf R) (sOf R) l))
    (fun l => mem (fun l => q (ix3 (bOf R) (sOf R) l) * Ideal.ofBits .f32 0x3E000000#32) (fun x l => kv (ix3 (bOf R) x ⟨l.val, by omega⟩))
      (fun x l => kv (ix3 (bOf R) x ⟨256 + l.val, by omega⟩)) (headOf l) l)
    (fun x l => wo (ix2 x l)) (fun l => g2 (ix1 l)) (fun x l => w1 (ix2 x l)) (fun x l => w2 (ix2 x l)) l

/-- Row `R` of the next layer's projection, its weights scaled. -/
def outP (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 1792) : EReal :=
  proj (rms (out h mix q kv wo g2 w1 w2 R) (fun l => gn (ix1 l))) (fun x l => wn (ix2 x l) * scales (ix1 l)) l

variable (t : Fin cfg0.N) (r : Fin 512)

/-- What a point's blocks give for the stream is the arguments' row. -/
theorem row_eq (l : Fin 1024) :
    next (fun l => iblk m c 0 t (ix2 r l)) (fun l => iblk m c 1 t (ix2 r l)) (mo (iblk m c 2 t) (iblk m c 3 t) r) (fun x l => iblk m c 4 t (ix2 x l)) (fun l => iblk m c 5 t (ix2 0 l))
      (fun x l => iblk m c 6 t (ix2 x l)) (fun x l => iblk m c 7 t (ix2 x l)) l
      = out (aH m c) (aMix m c) (aQ m c) (aKv m c) (aWo m c) (aG2 m c) (aW1 m c) (aW2 m c) (rowAt t r) l := by
  unfold out mo
  have e0 : (fun l => iblk m c 0 t (ix2 r l)) = fun l => aH m c (ix3 (bOf (rowAt t r)) (sOf (rowAt t r)) l) := funext fun l => by rw [iblk0_apply, v12_apply]
  have e1 : (fun l => iblk m c 1 t (ix2 r l)) = fun l => aMix m c (ix3 (bOf (rowAt t r)) (sOf (rowAt t r)) l) := funext fun l => by rw [iblk1_apply, v14_apply]
  have e2 : (fun l => iblk m c 2 t (ix2 r l)) = fun l => aQ m c (ix3 (bOf (rowAt t r)) (sOf (rowAt t r)) l) * Ideal.ofBits .f32 0x3E000000#32 := funext fun l => by rw [iblk2_apply, v3_apply]
  have e3 : ∀ (x : Fin 256) (l : Fin 512), iblk m c 3 t (ix3 0 x l) = aKv m c (ix3 (bOf (rowAt t r)) x l) := fun x l => by rw [iblk3_apply m c t r, v15_apply]
  have e4 : (fun x l => iblk m c 4 t (ix2 x l)) = fun x l => aWo m c (ix2 x l) := funext fun x => funext fun l => by rw [iblk4_apply, v16_apply]
  have e5 : (fun l => iblk m c 5 t (ix2 0 l)) = fun l => aG2 m c (ix1 l) := funext fun l => by rw [iblk5_apply, v19_apply]
  have e6 : (fun x l => iblk m c 6 t (ix2 x l)) = fun x l => aW1 m c (ix2 x l) := funext fun x => funext fun l => by rw [iblk6_apply, v17_apply]
  have e7 : (fun x l => iblk m c 7 t (ix2 x l)) = fun x l => aW2 m c (ix2 x l) := funext fun x => funext fun l => by rw [iblk7_apply, v18_apply]
  rw [e0, e1, e2, e4, e5, e6, e7]
  simp only [e3]

/-- And for the projection. -/
theorem proj_eq (l : Fin 1792) :
    proj (rms (next (fun l => iblk m c 0 t (ix2 r l)) (fun l => iblk m c 1 t (ix2 r l)) (mo (iblk m c 2 t) (iblk m c 3 t) r) (fun x l => iblk m c 4 t (ix2 x l)) (fun l => iblk m c 5 t (ix2 0 l))
      (fun x l => iblk m c 6 t (ix2 x l)) (fun x l => iblk m c 7 t (ix2 x l))) (fun l => iblk m c 9 t (ix2 0 l))) (fun x l => iblk m c 10 t (ix2 x l)) l
      = outP (aH m c) (aMix m c) (aQ m c) (aKv m c) (aWo m c) (aG2 m c) (aW1 m c) (aW2 m c) (aGn m c) (aWn m c) (rowAt t r) l := by
  unfold outP
  have e9 : (fun l => iblk m c 9 t (ix2 0 l)) = fun l => aGn m c (ix1 l) := funext fun l => by rw [iblk9_apply, v21_apply]
  have e10 : (fun x l => iblk m c 10 t (ix2 x l)) = fun x l => aWn m c (ix2 x l) * scales (ix1 l) := funext fun x => funext fun l => by rw [iblk10_apply, v11_apply]
  rw [e9, e10]
  exact congrArg (fun f => proj (rms f (fun l => aGn m c (ix1 l))) (fun x l => aWn m c (ix2 x l) * scales (ix1 l)) l) (funext fun l => row_eq m c t r l)

/-- Every row is some point's. -/
theorem row_of (R : Fin 32768) : ∃ (t : Fin cfg0.N) (r : Fin 512), R = rowAt t r := by
  have hN : cfg0.N = 64 := N_0
  have ht : R.val / 512 < cfg0.N := by have := R.isLt; omega
  exact ⟨⟨R.val / 512, ht⟩, ⟨R.val % 512, by omega⟩, Fin.ext (by show R.val = 512 * (R.val / 512) + R.val % 512; omega)⟩

/-- The stream after the run, at a row and a lane. -/
theorem final11_apply (R : Fin 32768) (l : Fin 1024) :
    (dats m 0 c).arrAt 11 cfg0.N (ix2 R l) = out (aH m c) (aMix m c) (aQ m c) (aKv m c) (aWo m c) (aG2 m c) (aW1 m c) (aW2 m c) R l := by
  obtain ⟨t, r, rfl⟩ := row_of R
  have b := congrFun (Value.blocks11 m c t (flush0_11 t)) (ix2 r l)
  rw [Value.flushed11] at b
  have b' : (dats m 0 c).arrAt 11 cfg0.N (((cfg0.win 11).blk t).view.emb (ix2 r l))
      = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb11, out11_apply] at b'
  exact b'.trans (row_eq m c t r _)

/-- The queries of the attention after the run, at a row and a lane. -/
theorem final12_apply (R : Fin 32768) (l : Fin 512) :
    (dats m 0 c).arrAt 12 cfg0.N (ix2 R l) = outP (aH m c) (aMix m c) (aQ m c) (aKv m c) (aWo m c) (aG2 m c) (aW1 m c) (aW2 m c) (aGn m c) (aWn m c) R ⟨l.val, by omega⟩ * (((Real.log 2)⁻¹ : ℝ) : EReal) := by
  obtain ⟨t, r, rfl⟩ := row_of R
  have b := congrFun (Value.blocks12 m c t (flush0_12 t)) (ix2 r l)
  rw [Value.flushed12] at b
  have b' : (dats m 0 c).arrAt 12 cfg0.N (((cfg0.win 12).blk t).view.emb (ix2 r l))
      = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb12, out12_apply] at b'
  exact b'.trans (congrArg (· * (((Real.log 2)⁻¹ : ℝ) : EReal)) (proj_eq m c t r _))

/-- Its keys after the run, at a row and a lane. -/
theorem final13_apply (R : Fin 32768) (l : Fin 512) :
    (dats m 0 c).arrAt 13 cfg0.N (ix2 R l) = outP (aH m c) (aMix m c) (aQ m c) (aKv m c) (aWo m c) (aG2 m c) (aW1 m c) (aW2 m c) (aGn m c) (aWn m c) R ⟨512 + l.val, by omega⟩ := by
  obtain ⟨t, r, rfl⟩ := row_of R
  have b := congrFun (Value.blocks13 m c t (flush0_13 t)) (ix2 r l)
  rw [Value.flushed13] at b
  have b' : (dats m 0 c).arrAt 13 cfg0.N (((cfg0.win 13).blk t).view.emb (ix2 r l))
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb13, out13_apply] at b'
  exact b'.trans (proj_eq m c t r _)

/-- Its values after the run, at a row and a lane. -/
theorem final14_apply (R : Fin 32768) (l : Fin 512) :
    (dats m 0 c).arrAt 14 cfg0.N (ix2 R l) = outP (aH m c) (aMix m c) (aQ m c) (aKv m c) (aWo m c) (aG2 m c) (aW1 m c) (aW2 m c) (aGn m c) (aWn m c) R ⟨1024 + l.val, by omega⟩ := by
  obtain ⟨t, r, rfl⟩ := row_of R
  have b := congrFun (Value.blocks14 m c t (flush0_14 t)) (ix2 r l)
  rw [Value.flushed14] at b
  have b' : (dats m 0 c).arrAt 14 cfg0.N (((cfg0.win 14).blk t).view.emb (ix2 r l))
      = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb14, out14_apply] at b'
  exact b'.trans (proj_eq m c t r _)

/-- The memory queries after the run, at a row and a lane. -/
theorem final15_apply (R : Fin 32768) (l : Fin 256) :
    (dats m 0 c).arrAt 15 cfg0.N (ix2 R l) = outP (aH m c) (aMix m c) (aQ m c) (aKv m c) (aWo m c) (aG2 m c) (aW1 m c) (aW2 m c) (aGn m c) (aWn m c) R ⟨1536 + l.val, by omega⟩ := by
  obtain ⟨t, r, rfl⟩ := row_of R
  have b := congrFun (Value.blocks15 m c t (flush0_15 t)) (ix2 r l)
  rw [Value.flushed15] at b
  have b' : (dats m 0 c).arrAt 15 cfg0.N (((cfg0.win 15).blk t).view.emb (ix2 r l))
      = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) := b
  rw [emb15, out15_apply] at b'
  exact b'.trans (proj_eq m c t r _)

end Cert.PostFirstIdeal.First

end
-- ==== Proof.First.Stages.lean ====
/-
  The stages of the reference's results, for the first layer's output block.
-/
module

public import proofs.«01_k».proof.Proof.Gen.PostFirstRefIdeal.Run
public import proofs.«01_k».proof.Proof.Mid.Math

@[expose] public section

set_option maxRecDepth 8192

noncomputable section

namespace Cert.PostFirstRefIdeal.First

open Cert.PostFirstRefIdeal Cert.PostFirstRefIdeal.Gen Idealize.ShloMosaic Idealize.ShloMosaic.TcCoe Cert.Post

/-- The scaled logits. -/
def vS (q : FVec Ideal S2x16384x256 .f32) (kv : FVec Ideal S2x256x512 .f32) : FVec Ideal S2x4x16384x256 .f32 :=
  mulf (Host.dotGeneral dot_S2x16384x4x64_S2x256x4x64_S2x4x16384x256_3_3_1_1_02_02 none (shapeCast _ q shapeCasts_S2x16384x256_S2x16384x4x64) (shapeCast _ (extractStridedSlice S2x256x256 ![0, 0, 0] kv slices_S2x256x512_S2x256x256_0_0_0) shapeCasts_S2x256x256_S2x256x4x64)) (broadcastInDim S2x4x16384x256 ![] bcast_S_S2x4x16384x256 (constant S_ .f32 0x3E000000#32))

/-- Their exponentials, each row's maximum taken off. -/
def vE (s : FVec Ideal S2x4x16384x256 .f32) : FVec Ideal S2x4x16384x256 .f32 :=
  Host.exp (subf s (broadcastInDim S2x4x16384x256 ![0, 1, 2, 3] bcast_S2x4x16384x1_S2x4x16384x256_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf s (constant S_ .f32 0xFF800000#32) reducesTo_S2x4x16384x256_S2x4x16384_d3 h_S_)))))

/-- The softmax. -/
def vP (e : FVec Ideal S2x4x16384x256 .f32) : FVec Ideal S2x4x16384x256 .f32 :=
  Host.divf e (broadcastInDim S2x4x16384x256 ![0, 1, 2, 3] bcast_S2x4x16384x1_S2x4x16384x256_0_1_2_3 (broadcastInDim S2x4x16384x1 ![0, 1, 2] bcast_S2x4x16384_S2x4x16384x1_0_1_2 (Host.reduceAdd e (constant S_ .f32 0x00000000#32) reducesTo_S2x4x16384x256_S2x4x16384_d3 h_S_)))

/-- The memories' values under it. -/
def vM (p : FVec Ideal S2x4x16384x256 .f32) (kv : FVec Ideal S2x256x512 .f32) : FVec Ideal S2x16384x256 .f32 :=
  shapeCast _ (transpose S2x16384x4x64 [0, 3, 1, 2] (Host.dotGeneral dot_S2x256x4x64_S2x4x16384x256_S2x4x64x16384_1_3_3_2_02_01 none (shapeCast _ (extractStridedSlice S2x256x256 ![0, 0, 256] kv slices_S2x256x512_S2x256x256_0_0_256) shapeCasts_S2x256x256_S2x256x4x64) p) transposes_S2x4x64x16384_S2x16384x4x64_0_3_1_2) shapeCasts_S2x16384x4x64_S2x16384x256

/-- The stream after the output projection. -/
def vH (h : FVec Ideal S2x16384x1024 .f32) (mix : FVec Ideal S2x16384x512 .f32) (mo : FVec Ideal S2x16384x256 .f32) (wo : FVec Ideal S768x1024 .f32) : FVec Ideal S2x16384x1024 .f32 :=
  addf h (Host.dotGeneral dot_S2x16384x768_S768x1024_S2x16384x1024_2_0_01_1_n_n none (concatenate S2x16384x768 2 [⟨S2x16384x512, mix⟩, ⟨S2x16384x256, mo⟩] concatenates_S2x16384x512_S2x16384x256_S2x16384x768_d2) wo)

/-- A normalised stream. -/
def vN (x : FVec Ideal S2x16384x1024 .f32) (g : FVec Ideal S1024 .f32) : FVec Ideal S2x16384x1024 .f32 :=
  mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The hidden units. -/
def vF (x : FVec Ideal S2x16384x1024 .f32) (w1 : FVec Ideal S1024x4096 .f32) : FVec Ideal S2x16384x4096 .f32 :=
  maximumf (Host.dotGeneral dot_S2x16384x1024_S1024x4096_S2x16384x4096_2_0_01_1_n_n none x w1) (broadcastInDim S2x16384x4096 ![] bcast_S_S2x16384x4096 (constant S_ .f32 0x00000000#32))

/-- The stream after the network. -/
def vO (h : FVec Ideal S2x16384x1024 .f32) (f : FVec Ideal S2x16384x4096 .f32) (w2 : FVec Ideal S4096x1024 .f32) : FVec Ideal S2x16384x1024 .f32 :=
  addf h (Host.dotGeneral dot_S2x16384x4096_S4096x1024_S2x16384x1024_2_0_01_1_n_n none (mulf f f) w2)

/-- The next layer's projection, as rows. -/
def vJ (x : FVec Ideal S2x16384x1024 .f32) (w : FVec Ideal S1024x1792 .f32) : FVec Ideal S32768x1792 .f32 :=
  shapeCast S32768x1792 (Host.dotGeneral dot_S2x16384x1024_S1024x1792_S2x16384x1792_2_0_01_1_n_n none x w) shapeCasts_S2x16384x1792_S32768x1792

/-- Its lanes for the attention's queries, scaled and over `log 2`. -/
def cutQ (p : FVec Ideal S32768x1792 .f32) : FVec Ideal S32768x512 .bf16 :=
  truncf .bf16 (Host.divf (mulf (extractStridedSlice S32768x512 ![0, 0] p slices_S32768x1792_S32768x512_0_0) (broadcastInDim S32768x512 ![] bcast_S_S32768x512 (constant S_ .f32 0x3E000000#32))) (broadcastInDim S32768x512 ![] bcast_S_S32768x512 (id (Host.log (constant S_ .f32 0x40000000#32))))) bitsLt_bf16_f32

/-- Its lanes for the keys. -/
def cutK (p : FVec Ideal S32768x1792 .f32) : FVec Ideal S32768x512 .bf16 :=
  truncf .bf16 (extractStridedSlice S32768x512 ![0, 512] p slices_S32768x1792_S32768x512_0_512) bitsLt_bf16_f32

/-- Its lanes for the values. -/
def cutV (p : FVec Ideal S32768x1792 .f32) : FVec Ideal S32768x512 .bf16 :=
  truncf .bf16 (extractStridedSlice S32768x512 ![0, 1024] p slices_S32768x1792_S32768x512_0_1024) bitsLt_bf16_f32

/-- Its lanes for the memory queries, scaled. -/
def cutM (p : FVec Ideal S32768x1792 .f32) : FVec Ideal S32768x256 .bf16 :=
  truncf .bf16 (mulf (extractStridedSlice S32768x256 ![0, 1536] p slices_S32768x1792_S32768x256_0_1536) (broadcastInDim S32768x256 ![] bcast_S_S32768x256 (constant S_ .f32 0x3E000000#32))) bitsLt_bf16_f32

end Cert.PostFirstRefIdeal.First

end
-- ==== Proof.First.Ref.lean ====
/-
  The stages of the reference's results at an index, for the first layer's output block, over the extended reals.
-/
module

public import proofs.«01_k».proof.Proof.Gen.PostFirstRefIdeal.Run
public import proofs.«01_k».proof.Proof.First.Stages

@[expose] public section

set_option maxRecDepth 8192

noncomputable section

namespace Cert.PostFirstRefIdeal.First

open Cert.PostFirstRefIdeal Cert.PostFirstRefIdeal.Gen Idealize.ShloMosaic Idealize.ShloMosaic.TcCoe Cert.Post

/-- A scaled logit. -/
theorem vS_apply (q : FVec Ideal S2x16384x256 .f32) (kv : FVec Ideal S2x256x512 .f32) (b : Fin 2) (hd : Fin 4) (s : Fin 16384) (x : Fin 256) :
    vS q kv (ix4 b hd s x) = score (fun l => q (ix3 b s l)) (fun x l => kv (ix3 b x ⟨l.val, by omega⟩)) hd x * Ideal.ofBits .f32 0x3E000000#32 := by
  pointwise [vS, score, lane]
  simp only [show ∀ d : Fin 64, hd.val * 64 + d.val = 64 * hd.val + d.val from fun d => by omega]

/-- A row's maximum. -/
theorem vX_apply (v : FVec Ideal S2x4x16384x256 .f32) (b : Fin 2) (hd : Fin 4) (s : Fin 16384) :
    (Host.reduce FloatOps.maximumf v (constant S_ .f32 0xFF800000#32) reducesTo_S2x4x16384x256_S2x4x16384_d3 h_S_ : FVec Ideal S2x4x16384 .f32) (ix3 b hd s) = Finset.fold max (Ideal.ofBits FTy.f32 4286578688#32) (fun y => v (ix4 b hd s y)) Finset.univ := by
  pointwise []

/-- An exponential of a difference. -/
theorem vEx_apply (v : FVec Ideal S2x4x16384x256 .f32) (u : FVec Ideal S2x4x16384 .f32) (b : Fin 2) (hd : Fin 4) (s : Fin 16384) (x : Fin 256) :
    (Host.exp (subf v (broadcastInDim S2x4x16384x256 ![0, 1, 2, 3] bcast_S2x4x16384x1_S2x4x16384x256_0_1_2_3 (broadcastInDim S2x4x16384x1 ![0, 1, 2] bcast_S2x4x16384_S2x4x16384x1_0_1_2 u))) : FVec Ideal S2x4x16384x256 .f32) (ix4 b hd s x) = Ideal.exp (v (ix4 b hd s x) - u (ix3 b hd s)) := by
  pointwise []

/-- A maximum with the least of the format. -/
theorem vMx_apply (u : FVec Ideal S2x4x16384 .f32) (b : Fin 2) (hd : Fin 4) (s : Fin 16384) :
    (maximumf (broadcastInDim S2x4x16384 ![] bcast_S_S2x4x16384 (constant S_ .f32 0xFF800000#32)) u : FVec Ideal S2x4x16384 .f32) (ix3 b hd s) = max (Ideal.ofBits FTy.f32 4286578688#32) (u (ix3 b hd s)) := by
  pointwise []

/-- An exponential. -/
theorem vE_apply (v : FVec Ideal S2x4x16384x256 .f32) (b : Fin 2) (hd : Fin 4) (s : Fin 16384) (x : Fin 256) :
    vE v (ix4 b hd s x) = Ideal.exp (v (ix4 b hd s x) - Finset.fold max (Ideal.ofBits FTy.f32 4286578688#32) (fun y => v (ix4 b hd s y)) Finset.univ) := by
  unfold vE
  rw [vEx_apply, vMx_apply, vX_apply, max_eq_right ((Finset.le_fold_max _).mpr (Or.inl le_rfl))]

/-- A weight. -/
theorem vP_apply (v : FVec Ideal S2x4x16384x256 .f32) (b : Fin 2) (hd : Fin 4) (s : Fin 16384) (x : Fin 256) :
    vP v (ix4 b hd s x) = Ideal.div (v (ix4 b hd s x)) (∑ z, v (ix4 b hd s z)) := by
  pointwise [vP]

/-- The values of the memories under the weights. -/
theorem vM_apply (p : FVec Ideal S2x4x16384x256 .f32) (kv : FVec Ideal S2x256x512 .f32) (b : Fin 2) (s : Fin 16384) (l : Fin 256) :
    vM p kv (ix3 b s l) = ∑ x, p (ix4 b (headOf l) s x) * kv (ix3 b x ⟨256 + l.val, by omega⟩) := by
  pointwise [vM, headOf]
  exact Finset.sum_congr rfl fun x _ => mul_comm _ _

/-- The stream after the output projection. -/
theorem vH_apply (h : FVec Ideal S2x16384x1024 .f32) (mix : FVec Ideal S2x16384x512 .f32) (mo : FVec Ideal S2x16384x256 .f32) (wo : FVec Ideal S768x1024 .f32) (b : Fin 2) (s : Fin 16384) (l : Fin 1024) :
    vH h mix mo wo (ix3 b s l) = merged (fun l => h (ix3 b s l)) (fun l => mix (ix3 b s l)) (fun l => mo (ix3 b s l)) (fun x l => wo (ix2 x l)) l := by
  pointwise [vH, merged]

/-- The normalised stream. -/
theorem vN_apply (x : FVec Ideal S2x16384x1024 .f32) (g : FVec Ideal S1024 .f32) (b : Fin 2) (s : Fin 16384) (l : Fin 1024) :
    vN x g (ix3 b s l) = rms (fun l => x (ix3 b s l)) (fun l => g (ix1 l)) l := by
  pointwise [vN, rms]

/-- The stream after the network. -/
theorem vO_apply (h : FVec Ideal S2x16384x1024 .f32) (x : FVec Ideal S2x16384x1024 .f32) (w1 : FVec Ideal S1024x4096 .f32) (w2 : FVec Ideal S4096x1024 .f32) (b : Fin 2) (s : Fin 16384) (l : Fin 1024) :
    vO h (vF x w1) w2 (ix3 b s l) = h (ix3 b s l) + mlp (fun l => x (ix3 b s l)) (fun x l => w1 (ix2 x l)) (fun x l => w2 (ix2 x l)) l := by
  pointwise [vO, vF, mlp, Cert.Post.hidden]

/-- The next layer's projection. -/
theorem vJ_apply (x : FVec Ideal S2x16384x1024 .f32) (w : FVec Ideal S1024x1792 .f32) (R : Fin 32768) (l : Fin 1792) :
    vJ x w (ix2 R l) = proj (fun l => x (ix3 ⟨R.val / 16384, by omega⟩ ⟨R.val % 16384, by omega⟩ l)) (fun y l => w (ix2 y l)) l := by
  pointwise [vJ, proj]

/-- Its lanes for the attention's queries. -/
theorem cutQ_apply (p : FVec Ideal S32768x1792 .f32) (R : Fin 32768) (l : Fin 512) :
    cutQ p (ix2 R l) = Ideal.div (p (ix2 R ⟨l.val, by omega⟩) * Ideal.ofBits .f32 0x3E000000#32) (Ideal.log (Ideal.ofBits .f32 0x40000000#32)) := by
  pointwise [cutQ]
  rfl

/-- For the keys. -/
theorem cutK_apply (p : FVec Ideal S32768x1792 .f32) (R : Fin 32768) (l : Fin 512) :
    cutK p (ix2 R l) = p (ix2 R ⟨512 + l.val, by omega⟩) := by
  pointwise [cutK]

/-- For the values. -/
theorem cutV_apply (p : FVec Ideal S32768x1792 .f32) (R : Fin 32768) (l : Fin 512) :
    cutV p (ix2 R l) = p (ix2 R ⟨1024 + l.val, by omega⟩) := by
  pointwise [cutV]

/-- For the memory queries. -/
theorem cutM_apply (p : FVec Ideal S32768x1792 .f32) (R : Fin 32768) (l : Fin 256) :
    cutM p (ix2 R l) = p (ix2 R ⟨1536 + l.val, by omega⟩) * Ideal.ofBits .f32 0x3E000000#32 := by
  pointwise [cutM]

end Cert.PostFirstRefIdeal.First

end
-- ==== Proof.First.RefEq.lean ====
/-
  The reference's results are its stages, one after another.
-/
module

public import proofs.«01_k».proof.Proof.Gen.PostFirstRefIdeal.Run
public import proofs.«01_k».proof.Proof.First.Stages

@[expose] public section

set_option maxRecDepth 8192

noncomputable section

namespace Cert.PostFirstRefIdeal.First

open Cert.PostFirstRefIdeal Cert.PostFirstRefIdeal.Gen Idealize.ShloMosaic Idealize.ShloMosaic.TcCoe Cert.Post

variable (m : (ℓ : Loc nD τ sig) → Buf (Elt Ideal) ℓ) (c : Dev nD)

/-- The stream, stage by stage. -/
theorem res70_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) :
    Value.res_main_v70 m c = shapeCast _ (vO (vH h mix (vM (vP (vE (vS q kv))) kv) wo) (vF (vN (vH h mix (vM (vP (vE (vS q kv))) kv) wo) g2) w1) w2) shapeCasts_S2x16384x1024_S32768x1024 := by
  subst h0 h1 h2 h3 h4 h5 h6 h7
  rfl

/-- The attention's queries, stage by stage. -/
theorem res65_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) (h9 : m ((c.tc : Thread nD τ).loc main_arg9) = gn)
    (h10 : m ((c.tc : Thread nD τ).loc main_arg10) = wn) :
    Value.res_main_v65 m c = cutQ (vJ (vN (vO (vH h mix (vM (vP (vE (vS q kv))) kv) wo) (vF (vN (vH h mix (vM (vP (vE (vS q kv))) kv) wo) g2) w1) w2) gn) wn) := by
  subst h0 h1 h2 h3 h4 h5 h6 h7 h9 h10
  rfl

/-- The keys, stage by stage. -/
theorem res67_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) (h9 : m ((c.tc : Thread nD τ).loc main_arg9) = gn)
    (h10 : m ((c.tc : Thread nD τ).loc main_arg10) = wn) :
    Value.res_main_v67 m c = cutK (vJ (vN (vO (vH h mix (vM (vP (vE (vS q kv))) kv) wo) (vF (vN (vH h mix (vM (vP (vE (vS q kv))) kv) wo) g2) w1) w2) gn) wn) := by
  subst h0 h1 h2 h3 h4 h5 h6 h7 h9 h10
  rfl

/-- The values, stage by stage. -/
theorem res69_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) (h9 : m ((c.tc : Thread nD τ).loc main_arg9) = gn)
    (h10 : m ((c.tc : Thread nD τ).loc main_arg10) = wn) :
    Value.res_main_v69 m c = cutV (vJ (vN (vO (vH h mix (vM (vP (vE (vS q kv))) kv) wo) (vF (vN (vH h mix (vM (vP (vE (vS q kv))) kv) wo) g2) w1) w2) gn) wn) := by
  subst h0 h1 h2 h3 h4 h5 h6 h7 h9 h10
  rfl

/-- The memory queries, stage by stage. -/
theorem res74_eq (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32)
    (h0 : m ((c.tc : Thread nD τ).loc main_arg0) = h) (h1 : m ((c.tc : Thread nD τ).loc main_arg1) = mix)
    (h2 : m ((c.tc : Thread nD τ).loc main_arg2) = q) (h3 : m ((c.tc : Thread nD τ).loc main_arg3) = kv)
    (h4 : m ((c.tc : Thread nD τ).loc main_arg4) = wo) (h5 : m ((c.tc : Thread nD τ).loc main_arg5) = g2)
    (h6 : m ((c.tc : Thread nD τ).loc main_arg6) = w1) (h7 : m ((c.tc : Thread nD τ).loc main_arg7) = w2) (h9 : m ((c.tc : Thread nD τ).loc main_arg9) = gn)
    (h10 : m ((c.tc : Thread nD τ).loc main_arg10) = wn) :
    Value.res_main_v74 m c = cutM (vJ (vN (vO (vH h mix (vM (vP (vE (vS q kv))) kv) wo) (vF (vN (vH h mix (vM (vP (vE (vS q kv))) kv) wo) g2) w1) w2) gn) wn) := by
  subst h0 h1 h2 h3 h4 h5 h6 h7 h9 h10
  rfl

end Cert.PostFirstRefIdeal.First

end
-- ==== Proof.First.Algebraic.lean ====
/-
  The first layer's output block computes its reference's results, over the extended reals.
-/
module

public import proofs.«01_k».proof.Defs
public import proofs.«01_k».proof.Proof.First.Final
public import proofs.«01_k».proof.Proof.First.Ref
public import proofs.«01_k».proof.Proof.First.RefEq

@[expose] public section

set_option maxRecDepth 8192

noncomputable section

namespace Cert.PostFirstRefIdeal.First

open Cert.PostFirstRefIdeal Cert.PostFirstRefIdeal.Gen Idealize.ShloMosaic Idealize.ShloMosaic.TcCoe Cert.Post Cert.PostFirstIdeal.First

/-- Rows of a batch, one after another. -/
theorem rows (x : FVec Ideal S2x16384x1024 .f32) (R : Fin 32768) (l : Fin 1024) :
    shapeCast S32768x1024 x shapeCasts_S2x16384x1024_S32768x1024 (ix2 R l) = x (ix3 (bOf R) (sOf R) l) := by
  pointwise [bOf, sOf]

/-- The reference's memory heads at a row are those of the scaled queries. -/
theorem memory_apply (q : FVec Ideal S2x16384x256 .f32) (kv : FVec Ideal S2x256x512 .f32) (b : Fin 2) (s : Fin 16384) (l : Fin 256) :
    vM (vP (vE (vS q kv))) kv (ix3 b s l)
      = mem (fun l => q (ix3 b s l) * Ideal.ofBits .f32 0x3E000000#32) (fun x l => kv (ix3 b x ⟨l.val, by omega⟩)) (fun x l => kv (ix3 b x ⟨256 + l.val, by omega⟩)) (headOf l) l := by
  rw [vM_apply]
  unfold mem
  refine Finset.sum_congr rfl fun x _ => congrArg (· * kv (ix3 b x ⟨256 + l.val, by omega⟩)) ?_
  have h : (fun x => vS q kv (ix4 b (headOf l) s x)) = score (fun l => q (ix3 b s l) * Ideal.ofBits .f32 0x3E000000#32) (fun x l => kv (ix3 b x ⟨l.val, by omega⟩)) (headOf l) :=
    funext fun x => by rw [vS_apply, eighth_word, score_scale _ _ _ (by norm_num)]
  rw [vP_apply]
  unfold soft
  rw [← h]
  simp only [vE_apply]

/-- The reference's stream, batch by batch. -/
theorem stream_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (R : Fin 32768) (l : Fin 1024) :
    (vO (vH h mix (vM (vP (vE (vS q kv))) kv) wo) (vF (vN (vH h mix (vM (vP (vE (vS q kv))) kv) wo) g2) w1) w2) (ix3 (bOf R) (sOf R) l)
      = out h mix q kv wo g2 w1 w2 R l := by
  simp only [vO_apply, vN_apply, vH_apply, memory_apply]
  rfl

/-- The reference's stream at a row and a lane. -/
theorem ref_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (R : Fin 32768) (l : Fin 1024) :
    shapeCast S32768x1024 (vO (vH h mix (vM (vP (vE (vS q kv))) kv) wo) (vF (vN (vH h mix (vM (vP (vE (vS q kv))) kv) wo) g2) w1) w2) shapeCasts_S2x16384x1024_S32768x1024 (ix2 R l)
      = out h mix q kv wo g2 w1 w2 R l := by
  rw [rows, stream_apply]

/-- The reference's projection at a row and a lane whose scale is a real number, scaled. -/
theorem refP_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 1792)
    (r : ℝ) (hr : 0 ≤ r) (hs : scales (ix1 l) = (r : EReal)) :
    vJ (vN (vO (vH h mix (vM (vP (vE (vS q kv))) kv) wo) (vF (vN (vH h mix (vM (vP (vE (vS q kv))) kv) wo) g2) w1) w2) gn) wn (ix2 R l) * (r : EReal)
      = outP h mix q kv wo g2 w1 w2 gn wn R l := by
  rw [vJ_apply]
  unfold outP
  rw [proj_lane _ _ (fun l => scales (ix1 l)) r hr l hs, hs]
  refine congrArg (· * _) (congrArg (fun f => proj f (fun x l => wn (ix2 x l)) l) (funext fun y => ?_))
  refine (vN_apply _ gn (bOf R) (sOf R) y).trans ?_
  exact congrArg (fun f => rms f (fun l => gn (ix1 l)) y) (funext fun l => stream_apply h mix q kv wo g2 w1 w2 R l)

/-- The word of two. -/
theorem two_word : Ideal.ofBits .f32 0x40000000#32 = ((2 : ℝ) : EReal) := by
  simp [Ideal.ofBits, Ideal.ieee, -EReal.coe_mul]; norm_num

/-- Over `log 2` is times its inverse. -/
theorem over_log (x : EReal) : Ideal.div x (Ideal.log (Ideal.ofBits .f32 0x40000000#32)) = x * (((Real.log 2)⁻¹ : ℝ) : EReal) := by
  have h2 : (0 : ℝ) < Real.log 2 := Real.log_pos (by norm_num)
  have e : Ideal.log ((2 : ℝ) : EReal) = ((Real.log 2 : ℝ) : EReal) := if_neg (by norm_num)
  rw [two_word, e, Ideal.div_coe h2.ne', one_div]

/-- The attention's queries. -/
theorem refQ_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 512) :
    cutQ (vJ (vN (vO (vH h mix (vM (vP (vE (vS q kv))) kv) wo) (vF (vN (vH h mix (vM (vP (vE (vS q kv))) kv) wo) g2) w1) w2) gn) wn) (ix2 R l)
      = outP h mix q kv wo g2 w1 w2 gn wn R ⟨l.val, by omega⟩ * (((Real.log 2)⁻¹ : ℝ) : EReal) := by
  rw [cutQ_apply, over_log, eighth_word]
  exact congrArg (· * (((Real.log 2)⁻¹ : ℝ) : EReal)) (refP_apply h mix q kv wo g2 w1 w2 gn wn R _ _ (by norm_num) ((scales_q l).trans eighth_word))

/-- A lane whose scale is one. -/
theorem ref1_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 1792)
    (hs : scales (ix1 l) = 1) :
    vJ (vN (vO (vH h mix (vM (vP (vE (vS q kv))) kv) wo) (vF (vN (vH h mix (vM (vP (vE (vS q kv))) kv) wo) g2) w1) w2) gn) wn (ix2 R l)
      = outP h mix q kv wo g2 w1 w2 gn wn R l := by
  have e := refP_apply h mix q kv wo g2 w1 w2 gn wn R l 1 zero_le_one (hs.trans EReal.coe_one.symm)
  rwa [EReal.coe_one, mul_one] at e

/-- The keys. -/
theorem refK_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 512) :
    cutK (vJ (vN (vO (vH h mix (vM (vP (vE (vS q kv))) kv) wo) (vF (vN (vH h mix (vM (vP (vE (vS q kv))) kv) wo) g2) w1) w2) gn) wn) (ix2 R l)
      = outP h mix q kv wo g2 w1 w2 gn wn R ⟨512 + l.val, by omega⟩ := by
  rw [cutK_apply]
  exact ref1_apply h mix q kv wo g2 w1 w2 gn wn R _ (scales_kv ⟨l.val, by omega⟩)

/-- The values. -/
theorem refV_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 512) :
    cutV (vJ (vN (vO (vH h mix (vM (vP (vE (vS q kv))) kv) wo) (vF (vN (vH h mix (vM (vP (vE (vS q kv))) kv) wo) g2) w1) w2) gn) wn) (ix2 R l)
      = outP h mix q kv wo g2 w1 w2 gn wn R ⟨1024 + l.val, by omega⟩ := by
  rw [cutV_apply]
  refine ref1_apply h mix q kv wo g2 w1 w2 gn wn R _ ?_
  have e : (⟨1024 + l.val, by omega⟩ : Fin 1792) = ⟨512 + (512 + l.val), by omega⟩ := Fin.ext (by show 1024 + l.val = 512 + (512 + l.val); omega)
  rw [e]
  exact scales_kv ⟨512 + l.val, by omega⟩

/-- The memory queries. -/
theorem refM_apply (h : FVec Ideal S2x16384x1024 .f32) (mix : FVec Ideal S2x16384x512 .f32) (q : FVec Ideal S2x16384x256 .f32)
    (kv : FVec Ideal S2x256x512 .f32) (wo : FVec Ideal S768x1024 .f32) (g2 : FVec Ideal S1024 .f32) (w1 : FVec Ideal S1024x4096 .f32)
    (w2 : FVec Ideal S4096x1024 .f32) (gn : FVec Ideal S1024 .f32) (wn : FVec Ideal S1024x1792 .f32) (R : Fin 32768) (l : Fin 256) :
    cutM (vJ (vN (vO (vH h mix (vM (vP (vE (vS q kv))) kv) wo) (vF (vN (vH h mix (vM (vP (vE (vS q kv))) kv) wo) g2) w1) w2) gn) wn) (ix2 R l)
      = outP h mix q kv wo g2 w1 w2 gn wn R ⟨1536 + l.val, by omega⟩ := by
  rw [cutM_apply, eighth_word]
  exact refP_apply h mix q kv wo g2 w1 w2 gn wn R _ _ (by norm_num) ((scales_m l).trans eighth_word)

end Cert.PostFirstRefIdeal.First

namespace Cert.PostFirstIdeal.First

open Idealize.ShloMosaic Idealize.ShloMosaic.TcCoe Idealize.SL.Sem

/-- Both run to equal results. -/
theorem algebraic : Cert.algebraic_PostFirstIdeal_PostFirstRefIdeal := by
  intro m g m' g' _ hm
  refine ⟨fun c => (Cert.PostFirstIdeal.Gen.dats m 0 c).arrAt 11 Cert.PostFirstIdeal.cfg0.N, fun c => (Cert.PostFirstIdeal.Gen.dats m 0 c).arrAt 12 Cert.PostFirstIdeal.cfg0.N, fun c => (Cert.PostFirstIdeal.Gen.dats m 0 c).arrAt 13 Cert.PostFirstIdeal.cfg0.N, fun c => (Cert.PostFirstIdeal.Gen.dats m 0 c).arrAt 14 Cert.PostFirstIdeal.cfg0.N, fun c => (Cert.PostFirstIdeal.Gen.dats m 0 c).arrAt 15 Cert.PostFirstIdeal.cfg0.N, Cert.PostFirstIdeal.Value.run_blocks m g, ?_⟩
  refine (θ_run Cert.PostFirstRefIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.PostFirstRefIdeal.Value.run (F := Ideal) m' g')
  all_goals obtain ⟨h0, h1, h2, h3, h4, h5, h6, h7, h8, h9, h10⟩ := hm c
  · rw [Cert.PostFirstRefIdeal.First.res70_eq m' c _ _ _ _ _ _ _ _ h0 h1 h2 h3 h4 h5 h6 h7]
    funext i
    obtain ⟨R, l, rfl⟩ : ∃ (R : Fin 32768) (l : Fin 1024), i = ix2 R l := ⟨i 0, i 1, by funext a; match a with | ⟨0, _⟩ => rfl | ⟨1, _⟩ => rfl⟩
    exact (Cert.PostFirstRefIdeal.First.ref_apply _ _ _ _ _ _ _ _ R l).trans (final11_apply m c R l).symm
  · rw [Cert.PostFirstRefIdeal.First.res65_eq m' c _ _ _ _ _ _ _ _ _ _ h0 h1 h2 h3 h4 h5 h6 h7 h9 h10]
    funext i
    obtain ⟨R, l, rfl⟩ : ∃ (R : Fin 32768) (l : Fin 512), i = ix2 R l := ⟨i 0, i 1, by funext a; match a with | ⟨0, _⟩ => rfl | ⟨1, _⟩ => rfl⟩
    exact (Cert.PostFirstRefIdeal.First.refQ_apply _ _ _ _ _ _ _ _ _ _ R l).trans (final12_apply m c R l).symm
  · rw [Cert.PostFirstRefIdeal.First.res67_eq m' c _ _ _ _ _ _ _ _ _ _ h0 h1 h2 h3 h4 h5 h6 h7 h9 h10]
    funext i
    obtain ⟨R, l, rfl⟩ : ∃ (R : Fin 32768) (l : Fin 512), i = ix2 R l := ⟨i 0, i 1, by funext a; match a with | ⟨0, _⟩ => rfl | ⟨1, _⟩ => rfl⟩
    exact (Cert.PostFirstRefIdeal.First.refK_apply _ _ _ _ _ _ _ _ _ _ R l).trans (final13_apply m c R l).symm
  · rw [Cert.PostFirstRefIdeal.First.res69_eq m' c _ _ _ _ _ _ _ _ _ _ h0 h1 h2 h3 h4 h5 h6 h7 h9 h10]
    funext i
    obtain ⟨R, l, rfl⟩ : ∃ (R : Fin 32768) (l : Fin 512), i = ix2 R l := ⟨i 0, i 1, by funext a; match a with | ⟨0, _⟩ => rfl | ⟨1, _⟩ => rfl⟩
    exact (Cert.PostFirstRefIdeal.First.refV_apply _ _ _ _ _ _ _ _ _ _ R l).trans (final14_apply m c R l).symm
  · rw [Cert.PostFirstRefIdeal.First.res74_eq m' c _ _ _ _ _ _ _ _ _ _ h0 h1 h2 h3 h4 h5 h6 h7 h9 h10]
    funext i
    obtain ⟨R, l, rfl⟩ : ∃ (R : Fin 32768) (l : Fin 256), i = ix2 R l := ⟨i 0, i 1, by funext a; match a with | ⟨0, _⟩ => rfl | ⟨1, _⟩ => rfl⟩
    exact (Cert.PostFirstRefIdeal.First.refM_apply _ _ _ _ _ _ _ _ _ _ R l).trans (final15_apply m c R l).symm

end Cert.PostFirstIdeal.First

end
-- ==== Proof.Norm.Final.lean ====
/-
  The result arrays of the first layer's normalisation and projection after its run, over the extended reals: row `R` of the
  queries, keys, values and memory queries is the normalised row's product with the scaled weights.
-/
module

public import proofs.«01_k».proof.Proof.Gen.NormProjIdeal.Frame
public import proofs.«01_k».proof.Proof.Gen.NormProjIdeal.Value
public import proofs.«01_k».proof.Proof.First.Final
public import Idealize.ShloMosaic.Lib.Pipeline.ValueKit.Basic

@[expose] public section

set_option maxRecDepth 8192

noncomputable section

namespace Cert.NormProjIdeal.Norm

open Cert.NormProjIdeal Cert.NormProjIdeal.Gen Idealize.ShloMosaic Idealize.ShloMosaic.TcCoe Cert.Post
open Cert.PostFirstIdeal.First (bOf sOf scales weights11 rows4 rows11)

/-- The named constant is `1 / log 2`. -/
theorem log2e_eq : (Named.named κ "log2e" 0x3FB8AA3B#32 : Ideal .f32) = (((Real.log 2)⁻¹ : ℝ) : EReal) :=
  IdealRules.named_const.ideal_named_scalar _ _ _ _ rfl

/-- The projection of a normalised block of rows. -/
theorem pay1_apply (v0 : Vec Ideal S512x1024 .f32) (v2 : Vec Ideal S1x1024 .f32) (v17 : Vec Ideal S1024x1792 .bf16) (r : Fin 512) (l : Fin 1792) :
    k0_pay1 v0 v2 v17 (ix2 r l) = proj (rms (fun l => v0 (ix2 r l)) (fun l => v2 (ix2 0 l))) (fun x l => v17 (ix2 x l)) l := by
  pointwise [k0_pay1, rms, proj]

/-- Its lanes for the attention's queries, over `log 2`. -/
theorem pay2_apply (v0 : Vec Ideal S512x1024 .f32) (v2 : Vec Ideal S1x1024 .f32) (v17 : Vec Ideal S1024x1792 .bf16) (r : Fin 512) (l : Fin 512) :
    k0_pay2 v0 v2 v17 (ix2 r l) = k0_pay1 v0 v2 v17 (ix2 r ⟨l.val, by omega⟩) * (((Real.log 2)⁻¹ : ℝ) : EReal) := by
  rw [← log2e_eq]
  unfold k0_pay2
  generalize k0_pay1 v0 v2 v17 = X
  pointwise []

/-- Its lanes for the keys. -/
theorem pay3_apply (v0 : Vec Ideal S512x1024 .f32) (v2 : Vec Ideal S1x1024 .f32) (v17 : Vec Ideal S1024x1792 .bf16) (r : Fin 512) (l : Fin 512) :
    k0_pay3 v0 v2 v17 (ix2 r l) = k0_pay1 v0 v2 v17 (ix2 r ⟨512 + l.val, by omega⟩) := by
  unfold k0_pay3
  generalize k0_pay1 v0 v2 v17 = X
  pointwise []

/-- Its lanes for the values. -/
theorem pay4_apply (v0 : Vec Ideal S512x1024 .f32) (v2 : Vec Ideal S1x1024 .f32) (v17 : Vec Ideal S1024x1792 .bf16) (r : Fin 512) (l : Fin 512) :
    k0_pay4 v0 v2 v17 (ix2 r l) = k0_pay1 v0 v2 v17 (ix2 r ⟨1024 + l.val, by omega⟩) := by
  unfold k0_pay4
  generalize k0_pay1 v0 v2 v17 = X
  pointwise []

/-- Its lanes for the memory queries. -/
theorem pay5_apply (v0 : Vec Ideal S512x1024 .f32) (v2 : Vec Ideal S1x1024 .f32) (v17 : Vec Ideal S1024x1792 .bf16) (r : Fin 512) (l : Fin 256) :
    k0_pay5 v0 v2 v17 (ix2 r l) = k0_pay1 v0 v2 v17 (ix2 r ⟨1536 + l.val, by omega⟩) := by
  unfold k0_pay5
  generalize k0_pay1 v0 v2 v17 = X
  pointwise []

section Point

variable (x0 : Vec Ideal S512x1024 .f32) (x1 : Vec Ideal S1x1024 .f32) (x2 : Vec Ideal S1024x1792 .bf16)

/-- What a point writes of the attention's queries. -/
theorem out3_apply (r : Fin 512) (l : Fin 512) :
    out0_3 x0 x1 x2 (ix2 r l)
      = proj (rms (fun l => x0 (ix2 r l)) (fun l => x1 (ix2 0 l))) (fun x l => x2 (ix2 x l)) ⟨l.val, by omega⟩ * (((Real.log 2)⁻¹ : ℝ) : EReal) := by
  unfold out0_3
  rw [View.canon_cons_unit_lit _ _ _ (by decide), pay2_apply, pay1_apply, View.ld_unit_lit _ x0 (by decide), View.ld_unit_lit _ x1 (by decide), View.ld_unit_lit _ x2 (by decide)]

/-- What a point writes of the keys. -/
theorem out4_apply (r : Fin 512) (l : Fin 512) :
    out0_4 x0 x1 x2 (ix2 r l)
      = proj (rms (fun l => x0 (ix2 r l)) (fun l => x1 (ix2 0 l))) (fun x l => x2 (ix2 x l)) ⟨512 + l.val, by omega⟩ := by
  unfold out0_4
  rw [View.canon_cons_unit_lit _ _ _ (by decide), pay3_apply, pay1_apply, View.ld_unit_lit _ x0 (by decide), View.ld_unit_lit _ x1 (by decide), View.ld_unit_lit _ x2 (by decide)]

/-- What a point writes of the values. -/
theorem out5_apply (r : Fin 512) (l : Fin 512) :
    out0_5 x0 x1 x2 (ix2 r l)
      = proj (rms (fun l => x0 (ix2 r l)) (fun l => x1 (ix2 0 l))) (fun x l => x2 (ix2 x l)) ⟨1024 + l.val, by omega⟩ := by
  unfold out0_5
  rw [View.canon_cons_unit_lit _ _ _ (by decide), pay4_apply, pay1_apply, View.ld_unit_lit _ x0 (by decide), View.ld_unit_lit _ x1 (by decide), View.ld_unit_lit _ x2 (by decide)]

/-- What a point writes of the memory queries. -/
theorem out6_apply (r : Fin 512) (l : Fin 256) :
    out0_6 x0 x1 x2 (ix2 r l)
      = proj (rms (fun l => x0 (ix2 r l)) (fun l => x1 (ix2 0 l))) (fun x l => x2 (ix2 x l)) ⟨1536 + l.val, by omega⟩ := by
  unfold out0_6
  rw [View.canon_cons_unit_lit _ _ _ (by decide), pay5_apply, pay1_apply, View.ld_unit_lit _ x0 (by decide), View.ld_unit_lit _ x1 (by decide), View.ld_unit_lit _ x2 (by decide)]

end Point

variable (m : (ℓ : Loc nD τ sig) → Buf (Elt Ideal) ℓ) (c : Dev nD)

theorem V_v8 : V m c main_v8 = shapeCast S32768x1024 (m ((c : Thread nD τ).loc main_arg0)) shapeCasts_S2x16384x1024_S32768x1024 := by
  show StableHlo.after hostOps0 _ (Proc.devRef .tc main_v8) = _
  after_results
  rfl

theorem V_v9 : V m c main_v9 = shapeCast S1x1024 (m ((c : Thread nD τ).loc main_arg1)) shapeCasts_S1024_S1x1024 := by
  show StableHlo.after hostOps0 _ (Proc.devRef .tc main_v9) = _
  after_results
  rfl

theorem V_v7 : V m c main_v7 = (truncf .bf16 (mulf (m ((c : Thread nD τ).loc main_arg2) : FVec Ideal S1024x1792 .f32)
    (broadcastInDim S1024x1792 ![0, 1] bcast_S1x1792_S1024x1792_0_1 (broadcastInDim S1x1792 ![1] bcast_S1792_S1x1792_1 scales))) bitsLt_bf16_f32 : FVec Ideal S1024x1792 .bf16) := by
  show StableHlo.after hostOps0 _ (Proc.devRef .tc main_v7) = _
  after_results
  rfl

/-- Point `t`'s row `r`. -/
def rowAt (t : Fin cfg0.N) (r : Fin 512) : Fin 32768 := ⟨512 * t.val + r.val, by have := t.isLt; have h : cfg0.N = 64 := N_0; omega⟩

/-- Every row is some point's. -/
theorem row_of (R : Fin 32768) : ∃ (t : Fin cfg0.N) (r : Fin 512), R = rowAt t r := by
  have hN : cfg0.N = 64 := N_0
  have ht : R.val / 512 < cfg0.N := by have := R.isLt; omega
  exact ⟨⟨R.val / 512, ht⟩, ⟨R.val % 512, by omega⟩, Fin.ext (by show R.val = 512 * (R.val / 512) + R.val % 512; omega)⟩

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem iblk0_apply (t : Fin cfg0.N) (r : Fin 512) (l : Fin 1024) : iblk m c 0 t (ix2 r l) = V m c main_v8 (ix2 (rowAt t r) l) := by
  show V m c main_v8 (((cfg0.win 0).blk t).view.emb (ix2 r l)) = _
  refine congrArg (V m c main_v8) (funext fun a => Fin.ext ?_)
  obtain ⟨e0, e1⟩ := idx0 t
  match a with
  | ⟨0, _⟩ => show win0_0.index t (0 : Fin 2) * 512 + 1 * r.val = 512 * t.val + r.val; omega
  | ⟨1, _⟩ => show win0_0.index t (1 : Fin 2) * 1024 + 1 * l.val = l.val; omega

theorem iblk1_apply (t : Fin cfg0.N) (l : Fin 1024) : iblk m c 1 t (ix2 0 l) = V m c main_v9 (ix2 0 l) := by
  show V m c main_v9 (((cfg0.win 1).blk t).view.emb (ix2 0 l)) = _
  refine congrArg (V m c main_v9) (funext fun a => Fin.ext ?_)
  obtain ⟨e0, e1⟩ := idx1 t
  match a with
  | ⟨0, _⟩ => show win0_1.index t (0 : Fin 2) * 1 + 1 * 0 = 0; omega
  | ⟨1, _⟩ => show win0_1.index t (1 : Fin 2) * 1024 + 1 * l.val = l.val; omega

theorem iblk2_apply (t : Fin cfg0.N) (x : Fin 1024) (l : Fin 1792) : iblk m c 2 t (ix2 x l) = V m c main_v7 (ix2 x l) := by
  show V m c main_v7 (((cfg0.win 2).blk t).view.emb (ix2 x l)) = _
  refine congrArg (V m c main_v7) (funext fun a => Fin.ext ?_)
  obtain ⟨e0, e1⟩ := idx2 t
  match a with
  | ⟨0, _⟩ => show win0_2.index t (0 : Fin 2) * 1024 + 1 * x.val = x.val; omega
  | ⟨1, _⟩ => show win0_2.index t (1 : Fin 2) * 1792 + 1 * l.val = l.val; omega

theorem emb3 (t : Fin cfg0.N) (r : Fin 512) (l : Fin 512) : ((cfg0.win 3).blk t).view.emb (ix2 r l) = ix2 (rowAt t r) l := by
  refine funext fun a => Fin.ext ?_
  obtain ⟨e0, e1⟩ := idx3 t
  match a with
  | ⟨0, _⟩ => show win0_3.index t (0 : Fin 2) * 512 + 1 * r.val = 512 * t.val + r.val; omega
  | ⟨1, _⟩ => show win0_3.index t (1 : Fin 2) * 512 + 1 * l.val = l.val; omega

theorem emb4 (t : Fin cfg0.N) (r : Fin 512) (l : Fin 512) : ((cfg0.win 4).blk t).view.emb (ix2 r l) = ix2 (rowAt t r) l := by
  refine funext fun a => Fin.ext ?_
  obtain ⟨e0, e1⟩ := idx4 t
  match a with
  | ⟨0, _⟩ => show win0_4.index t (0 : Fin 2) * 512 + 1 * r.val = 512 * t.val + r.val; omega
  | ⟨1, _⟩ => show win0_4.index t (1 : Fin 2) * 512 + 1 * l.val = l.val; omega

theorem emb5 (t : Fin cfg0.N) (r : Fin 512) (l : Fin 512) : ((cfg0.win 5).blk t).view.emb (ix2 r l) = ix2 (rowAt t r) l := by
  refine funext fun a => Fin.ext ?_
  obtain ⟨e0, e1⟩ := idx5 t
  match a with
  | ⟨0, _⟩ => show win0_5.index t (0 : Fin 2) * 512 + 1 * r.val = 512 * t.val + r.val; omega
  | ⟨1, _⟩ => show win0_5.index t (1 : Fin 2) * 512 + 1 * l.val = l.val; omega

theorem emb6 (t : Fin cfg0.N) (r : Fin 512) (l : Fin 256) : ((cfg0.win 6).blk t).view.emb (ix2 r l) = ix2 (rowAt t r) l := by
  refine funext fun a => Fin.ext ?_
  obtain ⟨e0, e1⟩ := idx6 t
  match a with
  | ⟨0, _⟩ => show win0_6.index t (0 : Fin 2) * 512 + 1 * r.val = 512 * t.val + r.val; omega
  | ⟨1, _⟩ => show win0_6.index t (1 : Fin 2) * 256 + 1 * l.val = l.val; omega

/-- The arguments. -/
abbrev aX : FVec Ideal S2x16384x1024 .f32 := m ((c : Thread nD τ).loc main_arg0)
abbrev aG : FVec Ideal S1024 .f32 := m ((c : Thread nD τ).loc main_arg1)
abbrev aW : FVec Ideal S1024x1792 .f32 := m ((c : Thread nD τ).loc main_arg2)

theorem v8_apply (R : Fin 32768) (l : Fin 1024) : V m c main_v8 (ix2 R l) = aX m c (ix3 (bOf R) (sOf R) l) :=
  (congrFun (V_v8 m c) _).trans (rows4 _ R l)
theorem v9_apply (l : Fin 1024) : V m c main_v9 (ix2 0 l) = aG m c (ix1 l) := (congrFun (V_v9 m c) _).trans (rows11 _ l)
theorem v7_apply (x : Fin 1024) (l : Fin 1792) : V m c main_v7 (ix2 x l) = aW m c (ix2 x l) * scales (ix1 l) :=
  (congrFun (V_v7 m c) _).trans (weights11 _ _ x l)

/-- Row `R` of the projection, its weights scaled. -/
def outP (x : FVec Ideal S2x16384x1024 .f32) (g : FVec Ideal S1024 .f32) (w : FVec Ideal S1024x1792 .f32) (R : Fin 32768) (l : Fin 1792) : EReal :=
  proj (rms (fun l => x (ix3 (bOf R) (sOf R) l)) (fun l => g (ix1 l))) (fun y l => w (ix2 y l) * scales (ix1 l)) l

/-- What a point's blocks give is the arguments' row. -/
theorem proj_eq (t : Fin cfg0.N) (r : Fin 512) (l : Fin 1792) :
    proj (rms (fun l => iblk m c 0 t (ix2 r l)) (fun l => iblk m c 1 t (ix2 0 l))) (fun x l => iblk m c 2 t (ix2 x l)) l
      = outP (aX m c) (aG m c) (aW m c) (rowAt t r) l := by
  unfold outP
  have e0 : (fun l => iblk m c 0 t (ix2 r l)) = fun l => aX m c (ix3 (bOf (rowAt t r)) (sOf (rowAt t r)) l) := funext fun l => by rw [iblk0_apply, v8_apply]
  have e1 : (fun l => iblk m c 1 t (ix2 0 l)) = fun l => aG m c (ix1 l) := funext fun l => by rw [iblk1_apply, v9_apply]
  have e2 : (fun x l => iblk m c 2 t (ix2 x l)) = fun x l => aW m c (ix2 x l) * scales (ix1 l) := funext fun x => funext fun l => by rw [iblk2_apply, v7_apply]
  rw [e0, e1, e2]

/-- The attention's queries after the run, at a row and a lane. -/
theorem final3_apply (R : Fin 32768) (l : Fin 512) :
    (dats m 0 c).arrAt 3 cfg0.N (ix2 R l) = outP (aX m c) (aG m c) (aW m c) R ⟨l.val, by omega⟩ * (((Real.log 2)⁻¹ : ℝ) : EReal) := by
  obtain ⟨t, r, rfl⟩ := row_of R
  have b := congrFun (Value.blocks3 m c t (flush0_3 t)) (ix2 r l)
  rw [Value.flushed3] at b
  have b' : (dats m 0 c).arrAt 3 cfg0.N (((cfg0.win 3).blk t).view.emb (ix2 r l)) = out0_3 (iblk m c 0 t) (iblk m c 1 t) (iblk m c 2 t) (ix2 r l) := b
  rw [emb3, out3_apply] at b'
  exact b'.trans (congrArg (· * (((Real.log 2)⁻¹ : ℝ) : EReal)) (proj_eq m c t r _))

/-- The keys after the run, at a row and a lane. -/
theorem final4_apply (R : Fin 32768) (l : Fin 512) :
    (dats m 0 c).arrAt 4 cfg0.N (ix2 R l) = outP (aX m c) (aG m c) (aW m c) R ⟨512 + l.val, by omega⟩ := by
  obtain ⟨t, r, rfl⟩ := row_of R
  have b := congrFun (Value.blocks4 m c t (flush0_4 t)) (ix2 r l)
  rw [Value.flushed4] at b
  have b' : (dats m 0 c).arrAt 4 cfg0.N (((cfg0.win 4).blk t).view.emb (ix2 r l)) = out0_4 (iblk m c 0 t) (iblk m c 1 t) (iblk m c 2 t) (ix2 r l) := b
  rw [emb4, out4_apply] at b'
  exact b'.trans (proj_eq m c t r _)

/-- The values after the run, at a row and a lane. -/
theorem final5_apply (R : Fin 32768) (l : Fin 512) :
    (dats m 0 c).arrAt 5 cfg0.N (ix2 R l) = outP (aX m c) (aG m c) (aW m c) R ⟨1024 + l.val, by omega⟩ := by
  obtain ⟨t, r, rfl⟩ := row_of R
  have b := congrFun (Value.blocks5 m c t (flush0_5 t)) (ix2 r l)
  rw [Value.flushed5] at b
  have b' : (dats m 0 c).arrAt 5 cfg0.N (((cfg0.win 5).blk t).view.emb (ix2 r l)) = out0_5 (iblk m c 0 t) (iblk m c 1 t) (iblk m c 2 t) (ix2 r l) := b
  rw [emb5, out5_apply] at b'
  exact b'.trans (proj_eq m c t r _)

/-- The memory queries after the run, at a row and a lane. -/
theorem final6_apply (R : Fin 32768) (l : Fin 256) :
    (dats m 0 c).arrAt 6 cfg0.N (ix2 R l) = outP (aX m c) (aG m c) (aW m c) R ⟨1536 + l.val, by omega⟩ := by
  obtain ⟨t, r, rfl⟩ := row_of R
  have b := congrFun (Value.blocks6 m c t (flush0_6 t)) (ix2 r l)
  rw [Value.flushed6] at b
  have b' : (dats m 0 c).arrAt 6 cfg0.N (((cfg0.win 6).blk t).view.emb (ix2 r l)) = out0_6 (iblk m c 0 t) (iblk m c 1 t) (iblk m c 2 t) (ix2 r l) := b
  rw [emb6, out6_apply] at b'
  exact b'.trans (proj_eq m c t r _)

end Cert.NormProjIdeal.Norm

end
-- ==== Proof.Norm.Algebraic.lean ====
/-
  The first layer's normalisation and projection compute their reference's results, over the extended reals.
-/
module

public import proofs.«01_k».proof.Defs
public import proofs.«01_k».proof.Proof.Gen.NormProjRefIdeal.Run
public import proofs.«01_k».proof.Proof.Norm.Final
public import proofs.«01_k».proof.Proof.First.Algebraic

@[expose] public section

set_option maxRecDepth 8192

noncomputable section

namespace Cert.NormProjRefIdeal.Norm

open Cert.NormProjRefIdeal Cert.NormProjRefIdeal.Gen Idealize.ShloMosaic Idealize.ShloMosaic.TcCoe Cert.Post Cert.NormProjIdeal.Norm
open Cert.PostFirstIdeal.First (bOf sOf scales scales_q scales_kv scales_m)
open Cert.PostFirstRefIdeal.First (vN vJ cutQ cutK cutV cutM vN_apply vJ_apply cutQ_apply cutK_apply cutV_apply cutM_apply over_log)

/-- The reference's projection at a row and a lane whose scale is a real number, scaled. -/
theorem refP_apply (x : FVec Ideal S2x16384x1024 .f32) (g : FVec Ideal S1024 .f32) (w : FVec Ideal S1024x1792 .f32) (R : Fin 32768) (l : Fin 1792)
    (r : ℝ) (hr : 0 ≤ r) (hs : scales (ix1 l) = (r : EReal)) :
    vJ (vN x g) w (ix2 R l) * (r : EReal) = outP x g w R l := by
  rw [vJ_apply]
  unfold outP
  rw [proj_lane _ _ (fun l => scales (ix1 l)) r hr l hs, hs]
  refine congrArg (· * _) (congrArg (fun f => proj f (fun x l => w (ix2 x l)) l) (funext fun y => ?_))
  exact vN_apply x g (bOf R) (sOf R) y

/-- A lane whose scale is one. -/
theorem ref1_apply (x : FVec Ideal S2x16384x1024 .f32) (g : FVec Ideal S1024 .f32) (w : FVec Ideal S1024x1792 .f32) (R : Fin 32768) (l : Fin 1792) (hs : scales (ix1 l) = 1) :
    vJ (vN x g) w (ix2 R l) = outP x g w R l := by
  have e := refP_apply x g w R l 1 zero_le_one (hs.trans EReal.coe_one.symm)
  rwa [EReal.coe_one, mul_one] at e

/-- The attention's queries. -/
theorem refQ_apply (x : FVec Ideal S2x16384x1024 .f32) (g : FVec Ideal S1024 .f32) (w : FVec Ideal S1024x1792 .f32) (R : Fin 32768) (l : Fin 512) :
    cutQ (vJ (vN x g) w) (ix2 R l) = outP x g w R ⟨l.val, by omega⟩ * (((Real.log 2)⁻¹ : ℝ) : EReal) := by
  rw [cutQ_apply, over_log, eighth_word]
  exact congrArg (· * (((Real.log 2)⁻¹ : ℝ) : EReal)) (refP_apply x g w R _ _ (by norm_num) ((scales_q l).trans eighth_word))

/-- The keys. -/
theorem refK_apply (x : FVec Ideal S2x16384x1024 .f32) (g : FVec Ideal S1024 .f32) (w : FVec Ideal S1024x1792 .f32) (R : Fin 32768) (l : Fin 512) :
    cutK (vJ (vN x g) w) (ix2 R l) = outP x g w R ⟨512 + l.val, by omega⟩ := by
  rw [cutK_apply]
  exact ref1_apply x g w R _ (scales_kv ⟨l.val, by omega⟩)

/-- The values. -/
theorem refV_apply (x : FVec Ideal S2x16384x1024 .f32) (g : FVec Ideal S1024 .f32) (w : FVec Ideal S1024x1792 .f32) (R : Fin 32768) (l : Fin 512) :
    cutV (vJ (vN x g) w) (ix2 R l) = outP x g w R ⟨1024 + l.val, by omega⟩ := by
  rw [cutV_apply]
  refine ref1_apply x g w R _ ?_
  have e : (⟨1024 + l.val, by omega⟩ : Fin 1792) = ⟨512 + (512 + l.val), by omega⟩ := Fin.ext (by show 1024 + l.val = 512 + (512 + l.val); omega)
  rw [e]
  exact scales_kv ⟨512 + l.val, by omega⟩

/-- The memory queries. -/
theorem refM_apply (x : FVec Ideal S2x16384x1024 .f32) (g : FVec Ideal S1024 .f32) (w : FVec Ideal S1024x1792 .f32) (R : Fin 32768) (l : Fin 256) :
    cutM (vJ (vN x g) w) (ix2 R l) = outP x g w R ⟨1536 + l.val, by omega⟩ := by
  rw [cutM_apply, eighth_word]
  exact refP_apply x g w R _ _ (by norm_num) ((scales_m l).trans eighth_word)

/-- A function of equal arguments. -/
theorem args_eq {β : Type} (f : FVec Ideal S2x16384x1024 .f32 → FVec Ideal S1024 .f32 → FVec Ideal S1024x1792 .f32 → β)
    (m : (ℓ : Loc nD τ sig) → Buf (Elt Ideal) ℓ) (c : Dev nD) (x : FVec Ideal S2x16384x1024 .f32) (g : FVec Ideal S1024 .f32) (w : FVec Ideal S1024x1792 .f32)
    (h0 : m ((c.tc : Thread nD τ).loc main_arg0) = x) (h1 : m ((c.tc : Thread nD τ).loc main_arg1) = g) (h2 : m ((c.tc : Thread nD τ).loc main_arg2) = w) :
    f (m ((c.tc : Thread nD τ).loc main_arg0)) (m ((c.tc : Thread nD τ).loc main_arg1)) (m ((c.tc : Thread nD τ).loc main_arg2)) = f x g w := by
  subst h0 h1 h2
  rfl

end Cert.NormProjRefIdeal.Norm

namespace Cert.NormProjIdeal.Norm

open Idealize.ShloMosaic Idealize.ShloMosaic.TcCoe Idealize.SL.Sem
open Cert.PostFirstRefIdeal.First (vN vJ cutQ cutK cutV cutM)

/-- Both run to equal results. -/
theorem algebraic : Cert.algebraic_NormProjIdeal_NormProjRefIdeal := by
  intro m g m' g' _ hm
  refine ⟨fun c => (Cert.NormProjIdeal.Gen.dats m 0 c).arrAt 3 Cert.NormProjIdeal.cfg0.N, fun c => (Cert.NormProjIdeal.Gen.dats m 0 c).arrAt 4 Cert.NormProjIdeal.cfg0.N, fun c => (Cert.NormProjIdeal.Gen.dats m 0 c).arrAt 5 Cert.NormProjIdeal.cfg0.N, fun c => (Cert.NormProjIdeal.Gen.dats m 0 c).arrAt 6 Cert.NormProjIdeal.cfg0.N, Cert.NormProjIdeal.Value.run_blocks m g, ?_⟩
  refine (θ_run Cert.NormProjRefIdeal.defs _ _).mono (fun r h c => ⟨(h c).1.trans ?_, (h c).2.1.trans ?_, (h c).2.2.1.trans ?_, (h c).2.2.2.1.trans ?_, (h c).2.2.2.2⟩) (Cert.NormProjRefIdeal.Value.run (F := Ideal) m' g')
  all_goals obtain ⟨h0, h1, h2⟩ := hm c
  · refine (Cert.NormProjRefIdeal.Norm.args_eq (fun x g w => cutQ (vJ (vN x g) w)) m' c _ _ _ h0 h1 h2).trans ?_
    funext i
    obtain ⟨R, l, rfl⟩ : ∃ (R : Fin 32768) (l : Fin 512), i = ix2 R l := ⟨i 0, i 1, by funext a; match a with | ⟨0, _⟩ => rfl | ⟨1, _⟩ => rfl⟩
    exact (Cert.NormProjRefIdeal.Norm.refQ_apply _ _ _ R l).trans (final3_apply m c R l).symm
  · refine (Cert.NormProjRefIdeal.Norm.args_eq (fun x g w => cutK (vJ (vN x g) w)) m' c _ _ _ h0 h1 h2).trans ?_
    funext i
    obtain ⟨R, l, rfl⟩ : ∃ (R : Fin 32768) (l : Fin 512), i = ix2 R l := ⟨i 0, i 1, by funext a; match a with | ⟨0, _⟩ => rfl | ⟨1, _⟩ => rfl⟩
    exact (Cert.NormProjRefIdeal.Norm.refK_apply _ _ _ R l).trans (final4_apply m c R l).symm
  · refine (Cert.NormProjRefIdeal.Norm.args_eq (fun x g w => cutV (vJ (vN x g) w)) m' c _ _ _ h0 h1 h2).trans ?_
    funext i
    obtain ⟨R, l, rfl⟩ : ∃ (R : Fin 32768) (l : Fin 512), i = ix2 R l := ⟨i 0, i 1, by funext a; match a with | ⟨0, _⟩ => rfl | ⟨1, _⟩ => rfl⟩
    exact (Cert.NormProjRefIdeal.Norm.refV_apply _ _ _ R l).trans (final5_apply m c R l).symm
  · refine (Cert.NormProjRefIdeal.Norm.args_eq (fun x g w => cutM (vJ (vN x g) w)) m' c _ _ _ h0 h1 h2).trans ?_
    funext i
    obtain ⟨R, l, rfl⟩ : ∃ (R : Fin 32768) (l : Fin 256), i = ix2 R l := ⟨i 0, i 1, by funext a; match a with | ⟨0, _⟩ => rfl | ⟨1, _⟩ => rfl⟩
    exact (Cert.NormProjRefIdeal.Norm.refM_apply _ _ _ R l).trans (final6_apply m c R l).symm

end Cert.NormProjIdeal.Norm

end
-- ==== Proof.MemKv.Final.lean ====
/-
  The memories' keys and values after their call's run, over the extended reals: for layer `L`, row `R` is the normalised
  memory's product with the layer's weights.
-/
module

public import proofs.«01_k».proof.Proof.Gen.MemKvIdeal.Frame
public import proofs.«01_k».proof.Proof.Gen.MemKvIdeal.Value
public import proofs.«01_k».proof.Proof.Mid.Math
public import Idealize.ShloMosaic.Lib.Pipeline.ValueKit.Basic

@[expose] public section

set_option maxRecDepth 8192

noncomputable section

namespace Cert.MemKvIdeal.Mem

open Cert.MemKvIdeal Cert.MemKvIdeal.Gen Idealize.ShloMosaic Idealize.ShloMosaic.TcCoe Cert.Post

/-- The projection of a normalised block of rows. -/
theorem pay1_apply (v0 : Vec Ideal S512x1024 .f32) (v2 : Vec Ideal S1x1x1024 .f32) (v17 : Vec Ideal S1x1024x512 .bf16) (r : Fin 512) (l : Fin 512) :
    k0_pay1 v0 v2 v17 (ix3 0 r l) = proj (rms (fun l => v0 (ix2 r l)) (fun l => v2 (ix3 0 0 l))) (fun x l => v17 (ix3 0 x l)) l := by
  pointwise [k0_pay1, rms, proj]

/-- What a point writes. -/
theorem out3_apply (x0 : Vec Ideal S512x1024 .f32) (x1 : Vec Ideal S1x1x1024 .f32) (x2 : Vec Ideal S1x1024x512 .bf16) (r : Fin 512) (l : Fin 512) :
    out0_3 x0 x1 x2 (ix3 0 r l) = proj (rms (fun l => x0 (ix2 r l)) (fun l => x1 (ix3 0 0 l))) (fun x l => x2 (ix3 0 x l)) l := by
  unfold out0_3
  rw [View.canon_cons_unit_lit _ _ _ (by decide), pay1_apply, View.ld_unit_lit _ x0 (by decide), View.ld_unit_lit _ x1 (by decide), View.ld_unit_lit _ x2 (by decide)]

variable (m : (ℓ : Loc nD τ sig) → Buf (Elt Ideal) ℓ) (c : Dev nD)

theorem V_v0 : V m c main_v0 = shapeCast S512x1024 (m ((c : Thread nD τ).loc main_arg0)) shapeCasts_S2x256x1024_S512x1024 := by
  show StableHlo.after hostOps0 _ (Proc.devRef .tc main_v0) = _
  after_results
  rfl

theorem V_v1 : V m c main_v1 = (truncf .bf16 (m ((c : Thread nD τ).loc main_arg2) : FVec Ideal S4x1024x512 .f32) bitsLt_bf16_f32 : FVec Ideal S4x1024x512 .bf16) := by
  show StableHlo.after hostOps0 _ (Proc.devRef .tc main_v1) = _
  after_results

theorem V_v2 : V m c main_v2 = shapeCast S4x1x1024 (m ((c : Thread nD τ).loc main_arg1)) shapeCasts_S4x1024_S4x1x1024 := by
  show StableHlo.after hostOps0 _ (Proc.devRef .tc main_v2) = _
  after_results
  rfl

/-- Batch, and position within it, of a memory. -/
def bOf (R : Fin 512) : Fin 2 := ⟨R.val / 256, by omega⟩
def sOf (R : Fin 512) : Fin 256 := ⟨R.val % 256, by omega⟩

/-- Point `t`'s layer. -/
def layerAt (t : Fin cfg0.N) : Fin 4 := ⟨t.val, by have := t.isLt; have h : cfg0.N = 4 := N_0; omega⟩

/-- Every layer is some point's. -/
theorem layer_of (L : Fin 4) : ∃ t : Fin cfg0.N, L = layerAt t :=
  ⟨⟨L.val, by have h : cfg0.N = 4 := N_0; omega⟩, rfl⟩

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 0 := (by decide +kernel : ∀ t : Fin grid0.N, _)
theorem idx3 : ∀ t : Fin cfg0.N, win0_3.index t (0 : Fin 3) = t.val ∧ win0_3.index t (1 : Fin 3) = 0 ∧ win0_3.index t (2 : Fin 3) = 0 := (by decide +kernel : ∀ t : Fin grid0.N, _)

theorem iblk0_apply (t : Fin cfg0.N) (r : Fin 512) (l : Fin 1024) : iblk m c 0 t (ix2 r l) = V m c main_v0 (ix2 r l) := by
  show V m c main_v0 (((cfg0.win 0).blk t).view.emb (ix2 r l)) = _
  refine congrArg (V m c main_v0) (funext fun a => Fin.ext ?_)
  obtain ⟨e0, e1⟩ := idx0 t
  match a with
  | ⟨0, _⟩ => show win0_0.index t (0 : Fin 2) * 512 + 1 * r.val = r.val; omega
  | ⟨1, _⟩ => show win0_0.index t (1 : Fin 2) * 1024 + 1 * l.val = l.val; omega

theorem iblk1_apply (t : Fin cfg0.N) (l : Fin 1024) : iblk m c 1 t (ix3 0 0 l) = V m c main_v2 (ix3 (layerAt t) 0 l) := by
  show V m c main_v2 (((cfg0.win 1).blk t).view.emb (ix3 0 0 l)) = _
  refine congrArg (V m c main_v2) (funext fun a => Fin.ext ?_)
  obtain ⟨e0, e1, e2⟩ := idx1 t
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 1024 + 1 * l.val = l.val; omega

theorem iblk2_apply (t : Fin cfg0.N) (x : Fin 1024) (l : Fin 512) : iblk m c 2 t (ix3 0 x l) = V m c main_v1 (ix3 (layerAt t) x l) := by
  show V m c main_v1 (((cfg0.win 2).blk t).view.emb (ix3 0 x l)) = _
  refine congrArg (V m c main_v1) (funext fun a => Fin.ext ?_)
  obtain ⟨e0, e1, e2⟩ := idx2 t
  match a with
  | ⟨0, _⟩ => show win0_2.index t (0 : Fin 3) * 1 + 1 * 0 = t.val; omega
  | ⟨1, _⟩ => show win0_2.index t (1 : Fin 3) * 1024 + 1 * x.val = x.val; omega
  | ⟨2, _⟩ => show win0_2.index t (2 : Fin 3) * 512 + 1 * l.val = l.val; omega

theorem emb3 (t : Fin cfg0.N) (r : Fin 512) (l : Fin 512) : ((cfg0.win 3).blk t).view.emb (ix3 0 r l) = ix3 (layerAt t) r l := by
  refine funext fun a => Fin.ext ?_
  obtain ⟨e0, e1, e2⟩ := idx3 t
  match a with
  | ⟨0, _⟩ => show win0_3.index t (0 : Fin 3) * 1 + 1 * 0 = t.val; omega
  | ⟨1, _⟩ => show win0_3.index t (1 : Fin 3) * 512 + 1 * r.val = r.val; omega
  | ⟨2, _⟩ => show win0_3.index t (2 : Fin 3) * 512 + 1 * l.val = l.val; omega

/-- The arguments. -/
abbrev aM : FVec Ideal S2x256x1024 .f32 := m ((c : Thread nD τ).loc main_arg0)
abbrev aG : FVec Ideal S4x1024 .f32 := m ((c : Thread nD τ).loc main_arg1)
abbrev aW : FVec Ideal S4x1024x512 .f32 := m ((c : Thread nD τ).loc main_arg2)

/-- Memories of a batch, one after another. -/
theorem rows (x : FVec Ideal S2x256x1024 .f32) (R : Fin 512) (l : Fin 1024) :
    shapeCast S512x1024 x shapeCasts_S2x256x1024_S512x1024 (ix2 R l) = x (ix3 (bOf R) (sOf R) l) := by
  pointwise [bOf, sOf]
theorem gains (x : FVec Ideal S4x1024 .f32) (L : Fin 4) (l : Fin 1024) :
    shapeCast S4x1x1024 x shapeCasts_S4x1024_S4x1x1024 (ix3 L 0 l) = x (ix2 L l) := by
  pointwise []

theorem v0_apply (R : Fin 512) (l : Fin 1024) : V m c main_v0 (ix2 R l) = aM m c (ix3 (bOf R) (sOf R) l) :=
  (congrFun (V_v0 m c) _).trans (rows _ R l)
theorem v2_apply (L : Fin 4) (l : Fin 1024) : V m c main_v2 (ix3 L 0 l) = aG m c (ix2 L l) := (congrFun (V_v2 m c) _).trans (gains _ L l)
theorem v1_apply (L : Fin 4) (x : Fin 1024) (l : Fin 512) : V m c main_v1 (ix3 L x l) = aW m c (ix3 L x l) := congrFun (V_v1 m c) _

/-- Layer `L`'s row `R`. -/
def out (x : FVec Ideal S2x256x1024 .f32) (g : FVec Ideal S4x1024 .f32) (w : FVec Ideal S4x1024x512 .f32) (L : Fin 4) (R : Fin 512) (l : Fin 512) : EReal :=
  proj (rms (fun l => x (ix3 (bOf R) (sOf R) l)) (fun l => g (ix2 L l))) (fun y l => w (ix3 L y l)) l

/-- The result after the run, at a layer, a row and a lane. -/
theorem final3_apply (L : Fin 4) (R : Fin 512) (l : Fin 512) :
    (dats m 0 c).arrAt 3 cfg0.N (ix3 L R l) = out (aM m c) (aG m c) (aW m c) L R l := by
  obtain ⟨t, rfl⟩ := layer_of L
  have b := congrFun (Value.blocks3 m c t (flush0_3 t)) (ix3 0 R l)
  rw [Value.flushed3] at b
  have b' : (dats m 0 c).arrAt 3 cfg0.N (((cfg0.win 3).blk t).view.emb (ix3 0 R l)) = out0_3 (iblk m c 0 t) (iblk m c 1 t) (iblk m c 2 t) (ix3 0 R l) := b
  rw [emb3, out3_apply] at b'
  refine b'.trans ?_
  unfold out
  have e0 : (fun l => iblk m c 0 t (ix2 R l)) = fun l => aM m c (ix3 (bOf R) (sOf R) l) := funext fun l => by rw [iblk0_apply, v0_apply]
  have e1 : (fun l => iblk m c 1 t (ix3 0 0 l)) = fun l => aG m c (ix2 (layerAt t) l) := funext fun l => by rw [iblk1_apply, v2_apply]
  have e2 : (fun x l => iblk m c 2 t (ix3 0 x l)) = fun x l => aW m c (ix3 (layerAt t) x l) := funext fun x => funext fun l => by rw [iblk2_apply, v1_apply]
  rw [e0, e1, e2]

end Cert.MemKvIdeal.Mem

end
-- ==== Proof.MemKv.Algebraic.lean ====
/-
  The call that computes the memories' keys and values computes its reference's result, over the extended reals.
-/
module

public import proofs.«01_k».proof.Defs
public import proofs.«01_k».proof.Proof.Gen.MemKvRefIdeal.Run
public import proofs.«01_k».proof.Proof.MemKv.Final

@[expose] public section

set_option maxRecDepth 8192

noncomputable section

namespace Cert.MemKvRefIdeal.Mem

open Cert.MemKvRefIdeal Cert.MemKvRefIdeal.Gen Idealize.ShloMosaic Idealize.ShloMosaic.TcCoe Cert.Post Cert.MemKvIdeal.Mem

/-- A memory over its root mean square. -/
def vN (x : FVec Ideal S2x256x1024 .f32) : FVec Ideal S2x256x1024 .f32 :=
  mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))

/-- The same times each layer's gains. -/
def vG (x : FVec Ideal S2x256x1024 .f32) (g : FVec Ideal S4x1024 .f32) : FVec Ideal S4x2x256x1024 .f32 :=
  mulf (broadcastInDim S4x2x256x1024 ![0, 1, 2, 3] bcast_S1x2x256x1024_S4x2x256x1024_0_1_2_3 (broadcastInDim S1x2x256x1024 ![1, 2, 3] bcast_S2x256x1024_S1x2x256x1024_1_2_3 x)) (broadcastInDim S4x2x256x1024 ![0, 1, 2, 3] bcast_S4x1x1x1024_S4x2x256x1024_0_1_2_3 (broadcastInDim S4x1x1x1024 ![0, 3] bcast_S4x1024_S4x1x1x1024_0_3 g))

/-- Each layer's product with its weights, as rows. -/
def vJ (x : FVec Ideal S4x2x256x1024 .f32) (w : FVec Ideal S4x1024x512 .f32) : FVec Ideal S4x512x512 .bf16 :=
  truncf .bf16 (shapeCast S4x512x512 (Host.dotGeneral dot_S4x2x256x1024_S4x1024x512_S4x2x256x512_3_1_12_2_0_0 none x w) shapeCasts_S4x2x256x512_S4x512x512) bitsLt_bf16_f32

theorem vN_apply (x : FVec Ideal S2x256x1024 .f32) (b : Fin 2) (s : Fin 256) (l : Fin 1024) :
    vN x (ix3 b s l) = x (ix3 b s l) * Ideal.rsqrt (Ideal.div (∑ y : Fin 1024, x (ix3 b s y) * x (ix3 b s y)) (Ideal.ofBits FTy.f32 1149239296#32) + Ideal.ofBits FTy.f32 897988541#32) := by
  pointwise [vN]

theorem vG_apply (x : FVec Ideal S2x256x1024 .f32) (g : FVec Ideal S4x1024 .f32) (L : Fin 4) (b : Fin 2) (s : Fin 256) (l : Fin 1024) :
    vG x g (ix4 L b s l) = x (ix3 b s l) * g (ix2 L l) := by
  pointwise [vG]

theorem vJ_apply (x : FVec Ideal S4x2x256x1024 .f32) (w : FVec Ideal S4x1024x512 .f32) (L : Fin 4) (R : Fin 512) (l : Fin 512) :
    vJ x w (ix3 L R l) = proj (fun y => x (ix4 L (bOf R) (sOf R) y)) (fun y l => w (ix3 L y l)) l := by
  pointwise [vJ, proj, bOf, sOf]

/-- The reference's result at a layer, a row and a lane. -/
theorem ref_apply (x : FVec Ideal S2x256x1024 .f32) (g : FVec Ideal S4x1024 .f32) (w : FVec Ideal S4x1024x512 .f32) (L : Fin 4) (R : Fin 512) (l : Fin 512) :
    vJ (vG (vN x) g) w (ix3 L R l) = out x g w L R l := by
  rw [vJ_apply]
  simp only [vG_apply, vN_apply]
  rfl

/-- The reference's stages of equal arguments. -/
theorem args_eq (m : (ℓ : Loc nD τ sig) → Buf (Elt Ideal) ℓ) (c : Dev nD) (x : FVec Ideal S2x256x1024 .f32) (g : FVec Ideal S4x1024 .f32) (w : FVec Ideal S4x1024x512 .f32)
    (h0 : m ((c.tc : Thread nD τ).loc main_arg0) = x) (h1 : m ((c.tc : Thread nD τ).loc main_arg1) = g) (h2 : m ((c.tc : Thread nD τ).loc main_arg2) = w) :
    vJ (vG (vN (m ((c.tc : Thread nD τ).loc main_arg0))) (m ((c.tc : Thread nD τ).loc main_arg1))) (m ((c.tc : Thread nD τ).loc main_arg2)) = vJ (vG (vN x) g) w := by
  subst h0 h1 h2
  rfl

end Cert.MemKvRefIdeal.Mem

namespace Cert.MemKvIdeal.Mem

open Idealize.ShloMosaic Idealize.ShloMosaic.TcCoe Idealize.SL.Sem

/-- Both run to equal results. -/
theorem algebraic : Cert.algebraic_MemKvIdeal_MemKvRefIdeal := by
  intro m g m' g' _ hm
  refine ⟨fun c => (Cert.MemKvIdeal.Gen.dats m 0 c).arrAt 3 Cert.MemKvIdeal.cfg0.N, Cert.MemKvIdeal.Value.run_blocks m g, ?_⟩
  refine (θ_run Cert.MemKvRefIdeal.defs _ _).mono (fun r h c => ⟨(h c).1.trans ?_, (h c).2⟩) (Cert.MemKvRefIdeal.Value.run (F := Ideal) m' g')
  obtain ⟨h0, h1, h2⟩ := hm c
  refine (Cert.MemKvRefIdeal.Mem.args_eq m' c _ _ _ h0 h1 h2).trans ?_
  funext i
  obtain ⟨L, R, l, rfl⟩ : ∃ (L : Fin 4) (R : Fin 512) (l : Fin 512), i = ix3 L R l := ⟨i 0, i 1, i 2, by funext a; match a with | ⟨0, _⟩ => rfl | ⟨1, _⟩ => rfl | ⟨2, _⟩ => rfl⟩
  exact (Cert.MemKvRefIdeal.Mem.ref_apply _ _ _ L R l).trans (final3_apply m c L R l).symm

end Cert.MemKvIdeal.Mem

end
-- ==== Proof.lean ====
/-
  The claims of this directory, put together: the attention call (`Kernel`, at machine floats and over the reals), its
  reference, the output block on the last layer (`PostLast`, likewise) and its reference, the output block on the layers
  before one that reads the shared keys (`PostMid`, likewise) and its reference, the output block on the first layer
  (`PostFirst`, likewise) and its reference, the first layer's projection (`NormProj`, likewise) and its reference, and the
  memories' keys and values (`MemKv`, likewise) and its reference each run to their end without a fault, leave their arguments as they were and
  every counter at zero; the constants named over the reals in the attention call, in the first layer's output block and in
  the projection are those of the float text; and over the reals each of the six computes what its reference computes, the attention where its
  queries and keys are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.PostLast
public import proofs.«01_k».proof.Proof.Gen.PostLast.Frame
public import proofs.«01_k».proof.Proof.Gen.PostLastIdeal
public import proofs.«01_k».proof.Proof.Gen.PostLastIdeal.Frame
public import proofs.«01_k».proof.Proof.Gen.PostLastIdeal.Value
public import proofs.«01_k».proof.Proof.Gen.PostRefIdeal
public import proofs.«01_k».proof.Proof.Gen.PostRefIdeal.Run
public import proofs.«01_k».proof.Proof.Gen.PostMid
public import proofs.«01_k».proof.Proof.Gen.PostMid.Frame
public import proofs.«01_k».proof.Proof.Gen.PostMidIdeal
public import proofs.«01_k».proof.Proof.Gen.PostMidIdeal.Frame
public import proofs.«01_k».proof.Proof.Gen.PostMidIdeal.Value
public import proofs.«01_k».proof.Proof.Gen.PostMidRefIdeal
public import proofs.«01_k».proof.Proof.Gen.PostMidRefIdeal.Run
public import proofs.«01_k».proof.Proof.Gen.PostFirst
public import proofs.«01_k».proof.Proof.Gen.PostFirst.Frame
public import proofs.«01_k».proof.Proof.Gen.PostFirstIdeal
public import proofs.«01_k».proof.Proof.Gen.PostFirstIdeal.Frame
public import proofs.«01_k».proof.Proof.Gen.PostFirstIdeal.Value
public import proofs.«01_k».proof.Proof.Gen.PostFirstRefIdeal
public import proofs.«01_k».proof.Proof.Gen.PostFirstRefIdeal.Run
public import proofs.«01_k».proof.Proof.Gen.NormProj
public import proofs.«01_k».proof.Proof.Gen.NormProj.Frame
public import proofs.«01_k».proof.Proof.Gen.NormProjIdeal
public import proofs.«01_k».proof.Proof.Gen.NormProjIdeal.Frame
public import proofs.«01_k».proof.Proof.Gen.NormProjIdeal.Value
public import proofs.«01_k».proof.Proof.Gen.NormProjRefIdeal
public import proofs.«01_k».proof.Proof.Gen.NormProjRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Stick.Launch
public import proofs.«01_k».proof.Proof.Stick.Algebraic
public import proofs.«01_k».proof.Proof.Float.Launch
public import proofs.«01_k».proof.Proof.Post.Algebraic
public import proofs.«01_k».proof.Proof.Mid.Algebraic
public import proofs.«01_k».proof.Proof.First.Algebraic
public import proofs.«01_k».proof.Proof.Norm.Algebraic
public import proofs.«01_k».proof.Proof.MemKv.Algebraic
public import Idealize.ShloMosaic.Adequacy
public import Idealize.ShloMosaic.Init

@[expose] public section

noncomputable section

namespace Cert.Proof

open Idealize.ShloMosaic Idealize.SL.Sem

/-- The reference of the attention call over the reals ends, its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the output block over the reals ends, its arguments unchanged. -/
theorem frame_post_reference : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The reference of the earlier layers' output block over the reals ends, its arguments unchanged. -/
theorem frame_mid_reference : Cert.quiescent_PostMidRefIdeal := fun m ρ _ =>
  (θ_run Cert.PostMidRefIdeal.defs _ _).mono (fun r h => ⟨fun c => (h c).2.2.2, sem_eq_zero_of_no_sems (by decide) r.2⟩)
    (Cert.PostMidRefIdeal.Value.run (F := Ideal) m ρ)

/-- The reference of the first layer's output block over the reals ends, its arguments unchanged. -/
theorem frame_first_reference : Cert.quiescent_PostFirstRefIdeal := fun m ρ _ =>
  (θ_run Cert.PostFirstRefIdeal.defs _ _).mono (fun r h => ⟨fun c => (h c).2.2.2.2.2, sem_eq_zero_of_no_sems (by decide) r.2⟩)
    (Cert.PostFirstRefIdeal.Value.run (F := Ideal) m ρ)

/-- The reference of the projection over the reals ends, its arguments unchanged. -/
theorem frame_norm_reference : Cert.quiescent_NormProjRefIdeal := fun m ρ _ =>
  (θ_run Cert.NormProjRefIdeal.defs _ _).mono (fun r h => ⟨fun c => (h c).2.2.2.2, sem_eq_zero_of_no_sems (by decide) r.2⟩)
    (Cert.NormProjRefIdeal.Value.run (F := Ideal) m ρ)

/-- The reference of the memories' keys and values over the reals ends, its arguments unchanged. -/
theorem frame_mem_reference : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- The two named constants of the attention call: `log2e` is `1 / log 2` and `spent` stands for infinity. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "spent" .f32 0x43200000#32 ⊤ rfl⟩

/-- The named constant of the first layer's output block. -/
theorem preserves_first : Cert.preserves_PostFirst_PostFirstIdeal :=
  IdealRules.named_const.statement Cert.PostFirstIdeal.κ "log2e" .f32 0x3FB8AA3B#32 (((Real.log 2)⁻¹ : ℝ) : EReal) rfl

/-- The named constant of the projection. -/
theorem preserves_norm : Cert.preserves_NormProj_NormProjIdeal :=
  IdealRules.named_const.statement Cert.NormProjIdeal.κ "log2e" .f32 0x3FB8AA3B#32 (((Real.log 2)⁻¹ : ℝ) : EReal) rfl

/-- All the claims. -/
theorem claim : Cert.Claim :=
  ⟨Cert.Kernel.Gen.facts, Cert.KernelIdeal.Gen.facts, Cert.ReferenceIdeal.Gen.facts, Cert.PostLast.Gen.facts,
    Cert.PostLastIdeal.Gen.facts, Cert.PostRefIdeal.Gen.facts, Cert.PostMid.Gen.facts,
    Cert.PostMidIdeal.Gen.facts, Cert.PostMidRefIdeal.Gen.facts, Cert.PostFirst.Gen.facts,
    Cert.PostFirstIdeal.Gen.facts, Cert.PostFirstRefIdeal.Gen.facts, Cert.NormProj.Gen.facts,
    Cert.NormProjIdeal.Gen.facts, Cert.NormProjRefIdeal.Gen.facts, Cert.MemKv.Gen.facts, Cert.MemKvIdeal.Gen.facts,
    Cert.MemKvRefIdeal.Gen.facts, Cert.Pre_finite_qk.Stick.facts,
    fun m ρ _ => Cert.Kernel.Stick.frame m ρ, fun m ρ _ => Cert.KernelIdeal.Stick.frame m ρ,
    fun m ρ _ => Cert.KernelIdeal.Stick.frame m ρ, frame_reference, fun m ρ _ => frame_reference m ρ trivial,
    fun m ρ _ => Cert.PostLast.Gen.frame m ρ, fun m ρ _ => Cert.PostLastIdeal.Gen.frame m ρ, frame_post_reference,
    fun m ρ _ => Cert.PostMid.Gen.frame m ρ, fun m ρ _ => Cert.PostMidIdeal.Gen.frame m ρ, frame_mid_reference,
    fun m ρ _ => Cert.PostFirst.Gen.frame m ρ, fun m ρ _ => Cert.PostFirstIdeal.Gen.frame m ρ, frame_first_reference,
    fun m ρ _ => Cert.NormProj.Gen.frame m ρ, fun m ρ _ => Cert.NormProjIdeal.Gen.frame m ρ, frame_norm_reference,
    fun m ρ _ => Cert.MemKv.Gen.frame m ρ, fun m ρ _ => Cert.MemKvIdeal.Gen.frame m ρ, frame_mem_reference,
    preserves, Cert.KernelIdeal.Stick.algebraic, trivial, Cert.PostLastIdeal.Post.algebraic, trivial,
    Cert.PostMidIdeal.Mid.algebraic, preserves_first, Cert.PostFirstIdeal.First.algebraic, preserves_norm,
    Cert.NormProjIdeal.Norm.algebraic, trivial, Cert.MemKvIdeal.Mem.algebraic⟩

end Cert.Proof

end
